-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v16)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v71) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)) →
    ∃ (v0 : (c : Dev Cert.FirstIdeal.nD) → Buf (Elt Ideal) ((c.tc : Thread Cert.FirstIdeal.nD Cert.FirstIdeal.τ).loc Cert.FirstIdeal.main_v6)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v6) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v28) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v6)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v6) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v41) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v9)) (v1 : (c : Dev Cert.InprojIdeal.nD) → Buf (Elt Ideal) ((c.tc : Thread Cert.InprojIdeal.nD Cert.InprojIdeal.τ).loc Cert.InprojIdeal.main_v12)) (v2 : (c : Dev Cert.InprojIdeal.nD) → Buf (Elt Ideal) ((c.tc : Thread Cert.InprojIdeal.nD Cert.InprojIdeal.τ).loc Cert.InprojIdeal.main_v15)) (v3 : (c : Dev Cert.InprojIdeal.nD) → Buf (Elt Ideal) ((c.tc : Thread Cert.InprojIdeal.nD Cert.InprojIdeal.τ).loc Cert.InprojIdeal.main_v18)) (v4 : (c : Dev Cert.InprojIdeal.nD) → Buf (Elt Ideal) ((c.tc : Thread Cert.InprojIdeal.nD Cert.InprojIdeal.τ).loc Cert.InprojIdeal.main_v22)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9) = v0 c
          ∧ r.2.mem ((c.tc : Thread Cert.InprojIdeal.nD Cert.InprojIdeal.τ).loc Cert.InprojIdeal.main_v12) = v1 c
          ∧ r.2.mem ((c.tc : Thread Cert.InprojIdeal.nD Cert.InprojIdeal.τ).loc Cert.InprojIdeal.main_v15) = v2 c
          ∧ r.2.mem ((c.tc : Thread Cert.InprojIdeal.nD Cert.InprojIdeal.τ).loc Cert.InprojIdeal.main_v18) = v3 c
          ∧ r.2.mem ((c.tc : Thread Cert.InprojIdeal.nD Cert.InprojIdeal.τ).loc Cert.InprojIdeal.main_v22) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v18) = v0 c
          ∧ r.2.mem ((c.tc : Thread Cert.InprojRefIdeal.nD Cert.InprojRefIdeal.τ).loc Cert.InprojRefIdeal.main_v19) = v1 c
          ∧ r.2.mem ((c.tc : Thread Cert.InprojRefIdeal.nD Cert.InprojRefIdeal.τ).loc Cert.InprojRefIdeal.main_v20) = v2 c
          ∧ r.2.mem ((c.tc : Thread Cert.InprojRefIdeal.nD Cert.InprojRefIdeal.τ).loc Cert.InprojRefIdeal.main_v21) = v3 c
          ∧ r.2.mem ((c.tc : Thread Cert.InprojRefIdeal.nD Cert.InprojRefIdeal.τ).loc Cert.InprojRefIdeal.main_v27) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def Claim : Prop :=
  ∃ (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hFirst : Cert.First.Facts) (hFirstIdeal : Cert.FirstIdeal.Facts) (hFirstRefIdeal : Cert.FirstRefIdeal.Facts) (hLast : Cert.Last.Facts) (hLastIdeal : Cert.LastIdeal.Facts) (hLastRefIdeal : Cert.LastRefIdeal.Facts) (hInproj : Cert.Inproj.Facts) (hInprojIdeal : Cert.InprojIdeal.Facts) (hInprojRefIdeal : Cert.InprojRefIdeal.Facts),
    quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_First (hFirst := hFirst)
    ∧ quiescent_FirstIdeal (hFirstIdeal := hFirstIdeal)
    ∧ quiescent_FirstRefIdeal (hFirstRefIdeal := hFirstRefIdeal)
    ∧ quiescent_Last (hLast := hLast)
    ∧ quiescent_LastIdeal (hLastIdeal := hLastIdeal)
    ∧ quiescent_LastRefIdeal (hLastRefIdeal := hLastRefIdeal)
    ∧ quiescent_Inproj (hInproj := hInproj)
    ∧ quiescent_InprojIdeal (hInprojIdeal := hInprojIdeal)
    ∧ quiescent_InprojRefIdeal (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_First_FirstIdeal
    ∧ algebraic_FirstIdeal_FirstRefIdeal (hFirstIdeal := hFirstIdeal) (hFirstRefIdeal := hFirstRefIdeal)
    ∧ preserves_Last_LastIdeal
    ∧ algebraic_LastIdeal_LastRefIdeal (hLastIdeal := hLastIdeal) (hLastRefIdeal := hLastRefIdeal)
    ∧ preserves_Inproj_InprojIdeal
    ∧ algebraic_InprojIdeal_InprojRefIdeal (hInprojIdeal := hInprojIdeal) (hInprojRefIdeal := hInprojRefIdeal)
-- ==== Merge.lean ====
abbrev S2x8192x1024 : Shape := ⟨3, ![2, 8192, 1024]⟩
abbrev S2x8192x512 : Shape := ⟨3, ![2, 8192, 512]⟩
abbrev S4x1024 : Shape := ⟨2, ![4, 1024]⟩
abbrev S4x1024x5640 : Shape := ⟨3, ![4, 1024, 5640]⟩
abbrev S4x512 : Shape := ⟨2, ![4, 512]⟩
abbrev S4x512x512 : Shape := ⟨3, ![4, 512, 512]⟩
abbrev S4x512x1024 : Shape := ⟨3, ![4, 512, 1024]⟩
abbrev S4x1024x1024 : Shape := ⟨3, ![4, 1024, 1024]⟩
abbrev S512x32x1024 : Shape := ⟨3, ![512, 32, 1024]⟩
abbrev S32x512x1024 : Shape := ⟨3, ![32, 512, 1024]⟩
abbrev S16384x1024 : Shape := ⟨2, ![16384, 1024]⟩
abbrev S512x32x512 : Shape := ⟨3, ![512, 32, 512]⟩
abbrev S32x512x512 : Shape := ⟨3, ![32, 512, 512]⟩
abbrev S4x5640x1024 : Shape := ⟨3, ![4, 5640, 1024]⟩
abbrev S4x1x1024 : Shape := ⟨3, ![4, 1, 1024]⟩
abbrev S4x512x1 : Shape := ⟨3, ![4, 512, 1]⟩
abbrev S512x1024 : Shape := ⟨2, ![512, 1024]⟩
abbrev S1x512x512 : Shape := ⟨3, ![1, 512, 512]⟩
abbrev S1x1x1024 : Shape := ⟨3, ![1, 1, 1024]⟩
abbrev S1x2048x1024 : Shape := ⟨3, ![1, 2048, 1024]⟩
abbrev S1x512x1 : Shape := ⟨3, ![1, 512, 1]⟩
abbrev S1x512x1024 : Shape := ⟨3, ![1, 512, 1024]⟩
abbrev S1x1024x1024 : Shape := ⟨3, ![1, 1024, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S512x1 : Shape := ⟨2, ![512, 1]⟩
abbrev S256x512 : Shape := ⟨2, ![256, 512]⟩
abbrev S512x512 : Shape := ⟨2, ![512, 512]⟩
abbrev S1024x1024 : Shape := ⟨2, ![1024, 1024]⟩

abbrev nBuf : Space → Nat
  | .hbm => 29
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x1024, .f32⟩
  | .hbm, ⟨4, _⟩ => ⟨S4x1024, .f32⟩
  | .hbm, ⟨5, _⟩ => ⟨S4x1024x5640, .f32⟩
  | .hbm, ⟨6, _⟩ => ⟨S4x512, .f32⟩
  | .hbm, ⟨7, _⟩ => ⟨S4x512x512, .f32⟩
  | .hbm, ⟨8, _⟩ => ⟨S4x512x512, .f32⟩
  | .hbm, ⟨9, _⟩ => ⟨S4x512x1024, .f32⟩
  | .hbm, ⟨10, _⟩ => ⟨S4x1024x1024, .f32⟩
  | .hbm, ⟨11, _⟩ => ⟨S4x1024x1024, .f32⟩
  | .hbm, ⟨12, _⟩ => ⟨S512x32x1024, .f32⟩
  | .hbm, ⟨13, _⟩ => ⟨S32x512x1024, .f32⟩
  | .hbm, ⟨14, _⟩ => ⟨S16384x1024, .f32⟩
  | .hbm, ⟨15, _⟩ => ⟨S512x32x512, .f32⟩
  | .hbm, ⟨16, _⟩ => ⟨S32x512x512, .f32⟩
  | .hbm, ⟨17, _⟩ => ⟨S512x32x512, .f32⟩
  | .hbm, ⟨18, _⟩ => ⟨S32x512x512, .f32⟩
  | .hbm, ⟨19, _⟩ => ⟨S512x32x1024, .f32⟩
  | .hbm, ⟨20, _⟩ => ⟨S32x512x1024, .f32⟩
  | .hbm, ⟨21, _⟩ => ⟨S16384x1024, .f32⟩
  | .hbm, ⟨22, _⟩ => ⟨S4x5640x1024, .f32⟩
  | .hbm, ⟨23, _⟩ => ⟨S4x1x1024, .f32⟩
  | .hbm, ⟨24, _⟩ => ⟨S4x512x1, .f32⟩
  | .hbm, ⟨25, _⟩ => ⟨S16384x1024, .f32⟩
  | .hbm, ⟨26, _⟩ => ⟨S32x512x1024, .f32⟩
  | .hbm, ⟨27, _⟩ => ⟨S512x32x1024, .f32⟩
  | .hbm, ⟨28, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x2048x1024, .f32⟩
  | .local _ .vmem, ⟨10, _⟩ => ⟨S1x512x1, .f32⟩
  | .local _ .vmem, ⟨11, _⟩ => ⟨S1x512x512, .f32⟩
  | .local _ .vmem, ⟨12, _⟩ => ⟨S1x512x512, .f32⟩
  | .local _ .vmem, ⟨13, _⟩ => ⟨S1x512x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S512x1024, .f32⟩
  | .local _ .vmem, ⟨17, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c3592_i32 : BitVec 32 := 3592#32
  let c0_i32 : BitVec 32 := 0#32
  let c0_i32_0 : BitVec 32 := 0#32
  ![c3_i32.toNat, c3592_i32.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S2x8192x1024 : Shape := ⟨3, ![2, 8192, 1024]⟩
abbrev S2x8192x512 : Shape := ⟨3, ![2, 8192, 512]⟩
abbrev S4x1024 : Shape := ⟨2, ![4, 1024]⟩
abbrev S4x1024x5640 : Shape := ⟨3, ![4, 1024, 5640]⟩
abbrev S4x512 : Shape := ⟨2, ![4, 512]⟩
abbrev S4x512x512 : Shape := ⟨3, ![4, 512, 512]⟩
abbrev S4x512x1024 : Shape := ⟨3, ![4, 512, 1024]⟩
abbrev S4x1024x1024 : Shape := ⟨3, ![4, 1024, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x5640 : Shape := ⟨3, ![1, 1024, 5640]⟩
abbrev S1024x5640 : Shape := ⟨2, ![1024, 5640]⟩
abbrev S2x8192x5640 : Shape := ⟨3, ![2, 8192, 5640]⟩
abbrev S1x512 : Shape := ⟨2, ![1, 512]⟩
abbrev S512 : Shape := ⟨1, ![512]⟩
abbrev S1x1x512 : Shape := ⟨3, ![1, 1, 512]⟩
abbrev S1x512x512 : Shape := ⟨3, ![1, 512, 512]⟩
abbrev S512x512 : Shape := ⟨2, ![512, 512]⟩
abbrev S2x8192x2048 : Shape := ⟨3, ![2, 8192, 2048]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 95
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x1024, .f32⟩
  | .hbm, ⟨4, _⟩ => ⟨S4x1024, .f32⟩
  | .hbm, ⟨5, _⟩ => ⟨S4x1024x5640, .f32⟩
  | .hbm, ⟨6, _⟩ => ⟨S4x512, .f32⟩
  | .hbm, ⟨7, _⟩ => ⟨S4x512x512, .f32⟩
  | .hbm, ⟨8, _⟩ => ⟨S4x512x512, .f32⟩
  | .hbm, ⟨9, _⟩ => ⟨S4x512x1024, .f32⟩
  | .hbm, ⟨10, _⟩ => ⟨S4x1024x1024, .f32⟩
  | .hbm, ⟨11, _⟩ => ⟨S4x1024x1024, .f32⟩
  | .hbm, ⟨12, _⟩ => ⟨S1x1024, .f32⟩
  | .hbm, ⟨13, _⟩ => ⟨S1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S1x1024x5640, .f32⟩
  | .hbm, ⟨31, _⟩ => ⟨S1024x5640, .f32⟩
  | .hbm, ⟨32, _⟩ => ⟨S2x8192x5640, .f32⟩
  | .hbm, ⟨33, _⟩ => ⟨S1x512, .f32⟩
  | .hbm, ⟨34, _⟩ => ⟨S512, .f32⟩
  | .hbm, ⟨35, _⟩ => ⟨S1x1x512, .f32⟩
  | .hbm, ⟨36, _⟩ => ⟨S2x8192x512, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S2x8192x512, .f32⟩
  | .hbm, ⟨41, _⟩ => ⟨S_, .f32⟩
  | .hbm, ⟨42, _⟩ => ⟨S2x8192x512, .f32⟩
  | .hbm, ⟨43, _⟩ => ⟨S2x8192x512, .f32⟩
  | .hbm, ⟨44, _⟩ => ⟨S2x8192x512, .f32⟩
  | .hbm, ⟨45, _⟩ => ⟨S_, .f32⟩
  | .hbm, ⟨46, _⟩ => ⟨S2x8192x512, .f32⟩
  | .hbm, ⟨47, _⟩ => ⟨S2x8192x512, .f32⟩
  | .hbm, ⟨48, _⟩ => ⟨S2x8192x512, .f32⟩
  | .hbm, ⟨49, _⟩ => ⟨S_, .f32⟩
  | .hbm, ⟨50, _⟩ => ⟨S2x8192x512, .f32⟩
  | .hbm, ⟨51, _⟩ => ⟨S2x8192x512, .f32⟩
  | .hbm, ⟨52, _⟩ => ⟨S_, .f32⟩
  | .hbm, ⟨53, _⟩ => ⟨S2x8192x512, .f32⟩
  | .hbm, ⟨54, _⟩ => ⟨S2x8192x512, .f32⟩
  | .hbm, ⟨55, _⟩ => ⟨S2x8192x512, .f32⟩
  | .hbm, ⟨56, _⟩ => ⟨S1x512x512, .f32⟩
  | .hbm, ⟨57, _⟩ => ⟨S512x512, .f32⟩
  | .hbm, ⟨58, _⟩ => ⟨S2x8192x512, .f32⟩
  | .hbm, ⟨59, _⟩ => ⟨S1x512x512, .f32⟩
  | .hbm, ⟨60, _⟩ => ⟨S512x512, .f32⟩
  | .hbm, ⟨61, _⟩ => ⟨S2x8192x512, .f32⟩
  | .hbm, ⟨62, _⟩ => ⟨S2x8192x512, .f32⟩
  | .hbm, ⟨63, _⟩ => ⟨S2x8192x512, .f32⟩
  | .hbm, ⟨64, _⟩ => ⟨S_, .f32⟩
  | .hbm, ⟨65, _⟩ => ⟨S2x8192x512, .f32⟩
  | .hbm, ⟨66, _⟩ => ⟨S2x8192x512, .f32⟩
  | .hbm, ⟨67, _⟩ => ⟨S_, .f32⟩
  | .hbm, ⟨68, _⟩ => ⟨S2x8192x512, .f32⟩
  | .hbm, ⟨69, _⟩ => ⟨S2x8192x512, .f32⟩
  | .hbm, ⟨70, _⟩ => ⟨S2x8192x512, .f32⟩
  | .hbm, ⟨71, _⟩ => ⟨S2x8192x2048, .f32⟩
  | .hbm, ⟨72, _⟩ => ⟨S2x8192x2048, .f32⟩
  | .hbm, ⟨73, _⟩ => ⟨S2x8192x2048, .f32⟩
  | .hbm, ⟨74, _⟩ => ⟨S_, .f32⟩
  | .hbm, ⟨75, _⟩ => ⟨S2x8192x2048, .f32⟩
  | .hbm, ⟨76, _⟩ => ⟨S2x8192x2048, .f32⟩
  | .hbm, ⟨77, _⟩ => ⟨S_, .f32⟩
  | .hbm, ⟨78, _⟩ => ⟨S2x8192x2048, .f32⟩
  | .hbm, ⟨79, _⟩ => ⟨S2x8192x2048, .f32⟩
  | .hbm, ⟨80, _⟩ => ⟨S2x8192x1024, .f32⟩
  | .hbm, ⟨81, _⟩ => ⟨S1x512x1024, .f32⟩
  | .hbm, ⟨82, _⟩ => ⟨S512x1024, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S1x1024x1024, .f32⟩
  | .hbm, ⟨87, _⟩ => ⟨S1024x1024, .f32⟩
  | .hbm, ⟨88, _⟩ => ⟨S2x8192x1024, .f32⟩
  | .hbm, ⟨89, _⟩ => ⟨S2x8192x1024, .f32⟩
  | .hbm, ⟨90, _⟩ => ⟨S2x8192x1024, .f32⟩
  | .hbm, ⟨91, _⟩ => ⟨S1x1024x1024, .f32⟩
  | .hbm, ⟨92, _⟩ => ⟨S1024x1024, .f32⟩
  | .hbm, ⟨93, _⟩ => ⟨S2x8192x1024, .f32⟩
  | .hbm, ⟨94, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== Ffn.lean ====
abbrev S2x8192x1024 : Shape := ⟨3, ![2, 8192, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S16384x1024 : Shape := ⟨2, ![16384, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S1024x2816 : Shape := ⟨2, ![1024, 2816]⟩
abbrev S2816x1024 : Shape := ⟨2, ![2816, 1024]⟩
abbrev S3x11 : Shape := ⟨2, ![3, 11]⟩
abbrev S1x1 : Shape := ⟨2, ![1, 1]⟩
abbrev S_ : Shape := ⟨0, ![]⟩
abbrev S1024x256 : Shape := ⟨2, ![1024, 256]⟩
abbrev S1x1024x256 : Shape := ⟨3, ![1, 1024, 256]⟩
abbrev S256x1024 : Shape := ⟨2, ![256, 1024]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩

abbrev nBuf : Space → Nat
  | .hbm => 11
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S16384x1024, .f32⟩
  | .hbm, ⟨7, _⟩ => ⟨S4x1x1024, .f32⟩
  | .hbm, ⟨8, _⟩ => ⟨S1x1024, .f32⟩
  | .hbm, ⟨9, _⟩ => ⟨S16384x1024, .f32⟩
  | .hbm, ⟨10, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1024x2816, .f32⟩
  | .local _ .vmem, ⟨7, _⟩ => ⟨S1024x2816, .f32⟩
  | .local _ .vmem, ⟨8, _⟩ => ⟨S2816x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .ne arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnRefIdeal.lean ====
abbrev S2x8192x1024 : Shape := ⟨3, ![2, 8192, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x8192x2816 : Shape := ⟨3, ![2, 8192, 2816]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S_, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x1024, .f32⟩
  | .hbm, ⟨43, _⟩ => ⟨S_, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== First.lean ====
abbrev S2x8192x1024 : Shape := ⟨3, ![2, 8192, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S512x32x1024 : Shape := ⟨3, ![512, 32, 1024]⟩
abbrev S4x1x1024 : Shape := ⟨3, ![4, 1, 1024]⟩
abbrev S1x1024 : Shape := ⟨2, ![1, 1024]⟩
abbrev S16384x1024 : Shape := ⟨2, ![16384, 1024]⟩
abbrev S1x1x1024 : Shape := ⟨3, ![1, 1, 1024]⟩
abbrev S512x1024 : Shape := ⟨2, ![512, 1024]⟩
abbrev S1024x2816 : Shape := ⟨2, ![1024, 2816]⟩
abbrev S2816x1024 : Shape := ⟨2, ![2816, 1024]⟩
abbrev S3x11 : Shape := ⟨2, ![3, 11]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S512x1x1024 : Shape := ⟨3, ![512, 1, 1024]⟩
abbrev S1x1 : Shape := ⟨2, ![1, 1]⟩
abbrev S1024x256 : Shape := ⟨2, ![1024, 256]⟩
abbrev S1x1024x256 : Shape := ⟨3, ![1, 1024, 256]⟩
abbrev S256x1024 : Shape := ⟨2, ![256, 1024]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩
abbrev S32x512x1024 : Shape := ⟨3, ![32, 512, 1024]⟩

abbrev nBuf : Space → Nat
  | .hbm => 13
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S512x32x1024, .f32⟩
  | .hbm, ⟨7, _⟩ => ⟨S4x1x1024, .f32⟩
  | .hbm, ⟨8, _⟩ => ⟨S1x1024, .f32⟩
  | .hbm, ⟨9, _⟩ => ⟨S16384x1024, .f32⟩
  | .hbm, ⟨10, _⟩ => ⟨S32x512x1024, .f32⟩
  | .hbm, ⟨11, _⟩ => ⟨S512x32x1024, .f32⟩
  | .hbm, ⟨12, _⟩ => ⟨S2x8192x1024, .f32⟩
  | .local _ .vmem, ⟨0, _⟩ => ⟨S1x1x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S1024x2816, .f32⟩
  | .local _ .vmem, ⟨5, _⟩ => ⟨S1024x2816, .f32⟩
  | .local _ .vmem, ⟨6, _⟩ => ⟨S2816x1024, .f32⟩
  | .local _ .vmem, ⟨7, _⟩ => ⟨S2x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c1_i32 : BitVec 32 := 1#32
  let v4 : BitVec 32 := Scalar.addi arg0 c1_i32
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let c1_i32_11 : BitVec 32 := 1#32
  let arg0 : BitVec 32 := BitVec.ofNat 32 (i 0).val
  let c2_i32 : BitVec 32 := 2#32
  let v0 : BitVec 32 := Scalar.remsi arg0 c2_i32
  let v21 : BitVec 32 := Scalar.subi c1_i32_11 v0
  ![v21.toNat]
def k0_off2 (i : grid0.Coords) : Fin 3 → Nat :=
  let c1_i32_11 : BitVec 32 := 1#32
  let arg0 : BitVec 32 := BitVec.ofNat 32 (i 0).val
  let c2_i32 : BitVec 32 := 2#32
  let v0 : BitVec 32 := Scalar.remsi arg0 c2_i32
  let v21 : BitVec 32 := Scalar.subi c1_i32_11 v0
  let c0_i32_12 : BitVec 32 := 0#32
  let c0_i32_13 : BitVec 32 := 0#32
  ![v21.toNat, 0, 0]
def k0_off3 (i : grid0.Coords) : Fin 3 → Nat :=
  let c0_i32_14 : BitVec 32 := 0#32
  let arg0 : BitVec 32 := BitVec.ofNat 32 (i 0).val
  let c1_i32_10 : BitVec 32 := 1#32
  let v20 : BitVec 32 := Scalar.addi arg0 c1_i32_10
  let c0_i32_15 : BitVec 32 := 0#32
  ![0, v20.toNat, 0]
def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_2 : BitVec 32 := 0#32
  let c0_i32_3 : BitVec 32 := 0#32
  ![v0.toNat, 0, 0]
def k0_off6 (i : grid0.Coords) : Fin 3 → Nat :=
  let c0_i32_4 : BitVec 32 := 0#32
  let arg0 : BitVec 32 := BitVec.ofNat 32 (i 0).val
  let c0_i32_5 : BitVec 32 := 0#32
  ![0, arg0.toNat, 0]
def k0_cond3 (i : grid0.Coords) : BitVec 1 :=
  let arg0 : BitVec 32 := BitVec.ofNat 32 (i 0).val
  let c0_i32_6 : BitVec 32 := 0#32
  let v14 : BitVec 1 := Scalar.cmpi .eq arg0 c0_i32_6
  let v15 : BitVec 32 := Scalar.extui v14
  let c0_i32_7 : BitVec 32 := 0#32
  let v16 : BitVec 1 := Scalar.cmpi .ne v15 c0_i32_7
  v16

def k0_off7 (i : grid0.Coords) : Fin 3 → Nat :=
  let arg0 : BitVec 32 := BitVec.ofNat 32 (i 0).val
  let c2_i32 : BitVec 32 := 2#32
  let v0 : BitVec 32 := Scalar.remsi arg0 c2_i32
  let v185 : Index := Scalar.indexCast v0
  let c0 : Index := 0#32
  let c0_223 : Index := 0#32
  ![v185.toNat, 0, 0]
def k0_cond4 (i : grid0.Coords) : BitVec 1 :=
  let arg0 : BitVec 32 := BitVec.ofNat 32 (i 0).val
  let c0_i32_8 : BitVec 32 := 0#32
  let v17 : BitVec 1 := Scalar.cmpi .ne arg0 c0_i32_8
  let v18 : BitVec 32 := Scalar.extui v17
  let c0_i32_9 : BitVec 32 := 0#32
  let v19 : BitVec 1 := Scalar.cmpi .ne v18 c0_i32_9
  v19

def k0_off8 (i : grid0.Coords) : Fin 3 → Nat :=
  let arg0 : BitVec 32 := BitVec.ofNat 32 (i 0).val
  let c2_i32 : BitVec 32 := 2#32
  let v0 : BitVec 32 := Scalar.remsi arg0 c2_i32
  let v20 : Index := Scalar.indexCast v0
  let c0 : Index := 0#32
  let c0_10 : Index := 0#32
  ![v20.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstRefIdeal.lean ====
abbrev S2x8192x1024 : Shape := ⟨3, ![2, 8192, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x8192x2816 : Shape := ⟨3, ![2, 8192, 2816]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S_, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x1024, .f32⟩
  | .hbm, ⟨43, _⟩ => ⟨S_, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Last.lean ====
abbrev S2x8192x1024 : Shape := ⟨3, ![2, 8192, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S512x32x1024 : Shape := ⟨3, ![512, 32, 1024]⟩
abbrev S32x512x1024 : Shape := ⟨3, ![32, 512, 1024]⟩
abbrev S16384x1024 : Shape := ⟨2, ![16384, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S1024x2816 : Shape := ⟨2, ![1024, 2816]⟩
abbrev S2816x1024 : Shape := ⟨2, ![2816, 1024]⟩
abbrev S3x11 : Shape := ⟨2, ![3, 11]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S512x1x1024 : Shape := ⟨3, ![512, 1, 1024]⟩
abbrev S1x512x1024 : Shape := ⟨3, ![1, 512, 1024]⟩
abbrev S1x1 : Shape := ⟨2, ![1, 1]⟩
abbrev S1024x256 : Shape := ⟨2, ![1024, 256]⟩
abbrev S1x1024x256 : Shape := ⟨3, ![1, 1024, 256]⟩
abbrev S256x1024 : Shape := ⟨2, ![256, 1024]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩

abbrev nBuf : Space → Nat
  | .hbm => 13
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S512x32x1024, .f32⟩
  | .hbm, ⟨7, _⟩ => ⟨S32x512x1024, .f32⟩
  | .hbm, ⟨8, _⟩ => ⟨S16384x1024, .f32⟩
  | .hbm, ⟨9, _⟩ => ⟨S4x1x1024, .f32⟩
  | .hbm, ⟨10, _⟩ => ⟨S1x1024, .f32⟩
  | .hbm, ⟨11, _⟩ => ⟨S512x32x1024, .f32⟩
  | .hbm, ⟨12, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024, .f32⟩
  | .local _ .vmem, ⟨4, _⟩ => ⟨S1024x2816, .f32⟩
  | .local _ .vmem, ⟨5, _⟩ => ⟨S1024x2816, .f32⟩
  | .local _ .vmem, ⟨6, _⟩ => ⟨S2816x1024, .f32⟩
  | .local _ .vmem, ⟨7, _⟩ => ⟨S2x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch4 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c2_i32_0 : BitVec 32 := 2#32
  let v1 : BitVec 1 := Scalar.cmpi .sge arg0 c2_i32_0
  let v2 : BitVec 32 := Scalar.extui v1
  let c0_i32 : BitVec 32 := 0#32
  let v3 : BitVec 1 := Scalar.cmpi .ne v2 c0_i32
  v3

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 3 → Nat :=
  let c0_i32_11 : BitVec 32 := 0#32
  let arg0 : BitVec 32 := BitVec.ofNat 32 (i 0).val
  let c2_i32_10 : BitVec 32 := 2#32
  let v19 : BitVec 32 := Scalar.subi arg0 c2_i32_10
  let c0_i32_12 : BitVec 32 := 0#32
  ![0, v19.toNat, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_13 : BitVec 32 := 0#32
  let c0_i32_14 : BitVec 32 := 0#32
  ![v0.toNat, 0, 0]
def k0_cond2 (i : grid0.Coords) : BitVec 1 :=
  let arg0 : BitVec 32 := BitVec.ofNat 32 (i 0).val
  let c0_i32_1 : BitVec 32 := 0#32
  let v4 : BitVec 1 := Scalar.cmpi .eq arg0 c0_i32_1
  let v5 : BitVec 32 := Scalar.extui v4
  let c0_i32_2 : BitVec 32 := 0#32
  let v6 : BitVec 1 := Scalar.cmpi .ne v5 c0_i32_2
  v6

def k0_off4 (i : grid0.Coords) : Fin 3 → Nat :=
  let arg0 : BitVec 32 := BitVec.ofNat 32 (i 0).val
  let c2_i32 : BitVec 32 := 2#32
  let v0 : BitVec 32 := Scalar.remsi arg0 c2_i32
  let v538 : Index := Scalar.indexCast v0
  let c0_555 : Index := 0#32
  let c0_556 : Index := 0#32
  ![v538.toNat, 0, 0]
def k0_cond3 (i : grid0.Coords) : BitVec 1 :=
  let arg0 : BitVec 32 := BitVec.ofNat 32 (i 0).val
  let c0_i32_3 : BitVec 32 := 0#32
  let v7 : BitVec 1 := Scalar.cmpi .ne arg0 c0_i32_3
  let v8 : BitVec 32 := Scalar.extui v7
  let c0_i32_4 : BitVec 32 := 0#32
  let v9 : BitVec 1 := Scalar.cmpi .ne v8 c0_i32_4
  v9

def k0_off5 (i : grid0.Coords) : Fin 3 → Nat :=
  let arg0 : BitVec 32 := BitVec.ofNat 32 (i 0).val
  let c2_i32 : BitVec 32 := 2#32
  let v0 : BitVec 32 := Scalar.remsi arg0 c2_i32
  let v208 : Index := Scalar.indexCast v0
  let c0_112 : Index := 0#32
  let c0_113 : Index := 0#32
  ![v208.toNat, 0, 0]
def k0_off6 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off7 (i : grid0.Coords) : Fin 3 → Nat :=
  let c0_i32_5 : BitVec 32 := 0#32
  let arg0 : BitVec 32 := BitVec.ofNat 32 (i 0).val
  let c0_i32_6 : BitVec 32 := 0#32
  ![0, arg0.toNat, 0]
def k0_off8 (i : grid0.Coords) : Fin 3 → Nat :=
  let arg0 : BitVec 32 := BitVec.ofNat 32 (i 0).val
  let c2_i32 : BitVec 32 := 2#32
  let v0 : BitVec 32 := Scalar.remsi arg0 c2_i32
  let c0_i32_7 : BitVec 32 := 0#32
  let c0_i32_8 : BitVec 32 := 0#32
  ![v0.toNat, 0, 0]
def k0_cond4 (i : grid0.Coords) : BitVec 1 :=
  let arg0 : BitVec 32 := BitVec.ofNat 32 (i 0).val
  let c31_i32 : BitVec 32 := 31#32
  let v16 : BitVec 1 := Scalar.cmpi .eq arg0 c31_i32
  let v17 : BitVec 32 := Scalar.extui v16
  let c0_i32_9 : BitVec 32 := 0#32
  let v18 : BitVec 1 := Scalar.cmpi .ne v17 c0_i32_9
  v18

def k0_off9 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off10 (i : grid0.Coords) : Fin 3 → Nat :=
  let c0_i32_10 : BitVec 32 := 0#32
  let arg0 : BitVec 32 := BitVec.ofNat 32 (i 0).val
  let c0_i32_11 : BitVec 32 := 0#32
  ![0, arg0.toNat, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let c0_i32_12 : BitVec 32 := 0#32
  let c0_i32_13 : BitVec 32 := 0#32
  ![v0.toNat, 0, 0]
def k0_cond5 (i : grid0.Coords) : BitVec 1 :=
  let arg0 : BitVec 32 := BitVec.ofNat 32 (i 0).val
  let c1_i32 : BitVec 32 := 1#32
  let v25 : BitVec 1 := Scalar.cmpi .sge arg0 c1_i32
  let v26 : BitVec 32 := Scalar.extui v25
  let c0_i32_14 : BitVec 32 := 0#32
  let v27 : BitVec 1 := Scalar.cmpi .ne v26 c0_i32_14
  v27

def k0_off12 (i : grid0.Coords) : Fin 1 → Nat :=
  let c1_i32_16 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_16 v0
  ![v29.toNat]
def k0_off13 (i : grid0.Coords) : Fin 3 → Nat :=
  let c0_i32_17 : BitVec 32 := 0#32
  let arg0 : BitVec 32 := BitVec.ofNat 32 (i 0).val
  let c1_i32_15 : BitVec 32 := 1#32
  let v28 : BitVec 32 := Scalar.subi arg0 c1_i32_15
  let c0_i32_18 : BitVec 32 := 0#32
  ![0, v28.toNat, 0]
def k0_off14 (i : grid0.Coords) : Fin 3 → Nat :=
  let c1_i32_16 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_16 v0
  let c0_i32_19 : BitVec 32 := 0#32
  let c0_i32_20 : BitVec 32 := 0#32
  ![v29.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== LastRefIdeal.lean ====
abbrev S2x8192x1024 : Shape := ⟨3, ![2, 8192, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x8192x2816 : Shape := ⟨3, ![2, 8192, 2816]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S_, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x1024, .f32⟩
  | .hbm, ⟨43, _⟩ => ⟨S_, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S_, .f32⟩
  | .hbm, ⟨49, _⟩ => ⟨S2x8192, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x1, .f32⟩
  | .hbm, ⟨58, _⟩ => ⟨S2x8192x1024, .f32⟩
  | .hbm, ⟨59, _⟩ => ⟨S2x8192x1024, .f32⟩
  | .hbm, ⟨60, _⟩ => ⟨S1x1x1024, .f32⟩
  | .hbm, ⟨61, _⟩ => ⟨S2x8192x1024, .f32⟩
  | .hbm, ⟨62, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Inproj.lean ====
abbrev S2x8192x1024 : Shape := ⟨3, ![2, 8192, 1024]⟩
abbrev S4x1024 : Shape := ⟨2, ![4, 1024]⟩
abbrev S4x1024x5640 : Shape := ⟨3, ![4, 1024, 5640]⟩
abbrev S4x8 : Shape := ⟨2, ![4, 8]⟩
abbrev S512x32x1024 : Shape := ⟨3, ![512, 32, 1024]⟩
abbrev S32x512x1024 : Shape := ⟨3, ![32, 512, 1024]⟩
abbrev S16384x1024 : Shape := ⟨2, ![16384, 1024]⟩
abbrev S_ : Shape := ⟨0, ![]⟩
abbrev S4x128 : Shape := ⟨2, ![4, 128]⟩
abbrev S4x1x128 : Shape := ⟨3, ![4, 1, 128]⟩
abbrev S4x5640x1024 : Shape := ⟨3, ![4, 5640, 1024]⟩
abbrev S4x1x1024 : Shape := ⟨3, ![4, 1, 1024]⟩
abbrev S32x512x512 : Shape := ⟨3, ![32, 512, 512]⟩
abbrev S16384x128 : Shape := ⟨2, ![16384, 128]⟩
abbrev S512x1024 : Shape := ⟨2, ![512, 1024]⟩
abbrev S1x1x1024 : Shape := ⟨3, ![1, 1, 1024]⟩
abbrev S1x3712x1024 : Shape := ⟨3, ![1, 3712, 1024]⟩
abbrev S1x1x128 : Shape := ⟨3, ![1, 1, 128]⟩
abbrev S1x512x512 : Shape := ⟨3, ![1, 512, 512]⟩
abbrev S512x128 : Shape := ⟨2, ![512, 128]⟩
abbrev S1x1024 : Shape := ⟨2, ![1, 1024]⟩
abbrev S512 : Shape := ⟨1, ![512]⟩
abbrev S512x1 : Shape := ⟨2, ![512, 1]⟩
abbrev S1x512x1024 : Shape := ⟨3, ![1, 512, 1024]⟩
abbrev S512x512 : Shape := ⟨2, ![512, 512]⟩
abbrev S1x1024x1024 : Shape := ⟨3, ![1, 1024, 1024]⟩
abbrev S1024x1024 : Shape := ⟨2, ![1024, 1024]⟩
abbrev S1x128x1024 : Shape := ⟨3, ![1, 128, 1024]⟩
abbrev S128x1024 : Shape := ⟨2, ![128, 1024]⟩
abbrev S1x128 : Shape := ⟨2, ![1, 128]⟩
abbrev S512x32x512 : Shape := ⟨3, ![512, 32, 512]⟩
abbrev S2x8192x512 : Shape := ⟨3, ![2, 8192, 512]⟩
abbrev S32x512x128 : Shape := ⟨3, ![32, 512, 128]⟩
abbrev S512x32x128 : Shape := ⟨3, ![512, 32, 128]⟩
abbrev S2x8192x128 : Shape := ⟨3, ![2, 8192, 128]⟩
abbrev S2x8192x8 : Shape := ⟨3, ![2, 8192, 8]⟩

abbrev nBuf : Space → Nat
  | .hbm => 33
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S4x1024x5640, .f32⟩
  | .hbm, ⟨3, _⟩ => ⟨S4x8, .f32⟩
  | .hbm, ⟨4, _⟩ => ⟨S512x32x1024, .f32⟩
  | .hbm, ⟨5, _⟩ => ⟨S32x512x1024, .f32⟩
  | .hbm, ⟨6, _⟩ => ⟨S16384x1024, .f32⟩
  | .hbm, ⟨7, _⟩ => ⟨S_, .i32⟩
  | .hbm, ⟨8, _⟩ => ⟨S_, .f32⟩
  | .hbm, ⟨9, _⟩ => ⟨S4x128, .f32⟩
  | .hbm, ⟨10, _⟩ => ⟨S4x1x128, .f32⟩
  | .hbm, ⟨11, _⟩ => ⟨S4x5640x1024, .f32⟩
  | .hbm, ⟨12, _⟩ => ⟨S4x1x1024, .f32⟩
  | .hbm, ⟨13, _⟩ => ⟨S32x512x512, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x128, .f32⟩
  | .hbm, ⟨18, _⟩ => ⟨S512x32x512, .f32⟩
  | .hbm, ⟨19, _⟩ => ⟨S2x8192x512, .f32⟩
  | .hbm, ⟨20, _⟩ => ⟨S32x512x1024, .f32⟩
  | .hbm, ⟨21, _⟩ => ⟨S512x32x1024, .f32⟩
  | .hbm, ⟨22, _⟩ => ⟨S2x8192x1024, .f32⟩
  | .hbm, ⟨23, _⟩ => ⟨S32x512x1024, .f32⟩
  | .hbm, ⟨24, _⟩ => ⟨S512x32x1024, .f32⟩
  | .hbm, ⟨25, _⟩ => ⟨S2x8192x1024, .f32⟩
  | .hbm, ⟨26, _⟩ => ⟨S32x512x1024, .f32⟩
  | .hbm, ⟨27, _⟩ => ⟨S512x32x1024, .f32⟩
  | .hbm, ⟨28, _⟩ => ⟨S2x8192x1024, .f32⟩
  | .hbm, ⟨29, _⟩ => ⟨S32x512x128, .f32⟩
  | .hbm, ⟨30, _⟩ => ⟨S512x32x128, .f32⟩
  | .hbm, ⟨31, _⟩ => ⟨S2x8192x128, .f32⟩
  | .hbm, ⟨32, _⟩ => ⟨S2x8192x8, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x3712x1024, .f32⟩
  | .local _ .vmem, ⟨4, _⟩ => ⟨S1x1x128, .f32⟩
  | .local _ .vmem, ⟨5, _⟩ => ⟨S1x512x512, .f32⟩
  | .local _ .vmem, ⟨6, _⟩ => ⟨S1x512x512, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x128, .f32⟩
  | .local _ .vmem, ⟨14, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3712x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojRefIdeal.lean ====
abbrev S2x8192x1024 : Shape := ⟨3, ![2, 8192, 1024]⟩
abbrev S4x1024 : Shape := ⟨2, ![4, 1024]⟩
abbrev S4x1024x5640 : Shape := ⟨3, ![4, 1024, 5640]⟩
abbrev S4x8 : Shape := ⟨2, ![4, 8]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x5640 : Shape := ⟨3, ![1, 1024, 5640]⟩
abbrev S1024x5640 : Shape := ⟨2, ![1024, 5640]⟩
abbrev S2x8192x5640 : Shape := ⟨3, ![2, 8192, 5640]⟩
abbrev S2x8192x512 : Shape := ⟨3, ![2, 8192, 512]⟩
abbrev S2x8192x8 : Shape := ⟨3, ![2, 8192, 8]⟩
abbrev S1x8 : Shape := ⟨2, ![1, 8]⟩
abbrev S8 : Shape := ⟨1, ![8]⟩
abbrev S1x1x8 : Shape := ⟨3, ![1, 1, 8]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S4x1024x5640, .f32⟩
  | .hbm, ⟨3, _⟩ => ⟨S4x8, .f32⟩
  | .hbm, ⟨4, _⟩ => ⟨S1x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1x1024x5640, .f32⟩
  | .hbm, ⟨23, _⟩ => ⟨S1024x5640, .f32⟩
  | .hbm, ⟨24, _⟩ => ⟨S2x8192x5640, .f32⟩
  | .hbm, ⟨25, _⟩ => ⟨S2x8192x512, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x8, .f32⟩
  | .hbm, ⟨30, _⟩ => ⟨S1x8, .f32⟩
  | .hbm, ⟨31, _⟩ => ⟨S8, .f32⟩
  | .hbm, ⟨32, _⟩ => ⟨S1x1x8, .f32⟩
  | .hbm, ⟨33, _⟩ => ⟨S2x8192x8, .f32⟩
  | .hbm, ⟨34, _⟩ => ⟨S2x8192x8, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Spec.lean ====
/- What one token's row becomes, over the extended reals: the root-mean-square norm, the tanh form of gelu and the
   merge of the two branches. Every function here takes plain rows and matrices, so that the kernel's blocks and the
   reference's arrays are both read against it. -/
module

public import Idealize.ShloMosaic.PureOps.Ideal

@[expose] public section

noncomputable section

namespace Cert.Spec

open Idealize.ShloMosaic

/-- Entry `k` of the row `x` after the root-mean-square norm with weights `g`: `x k / √(mean x² + ε) · g k`. -/
def rmsAt (x g : Fin 1024 → EReal) (k : Fin 1024) : EReal :=
  x k * Ideal.rsqrt (Ideal.div (∑ i, x i * x i) (Ideal.ofBits FTy.f32 0x44800000#32) + Ideal.ofBits FTy.f32 0x358637BD#32) * g k

/-- The tanh form of gelu. -/
def geluAt (v : EReal) : EReal :=
  Ideal.ofBits FTy.f32 0x3F000000#32 * v *
    (1 + Ideal.tanh (Ideal.ofBits FTy.f32 0x3F4C422A#32 * (v + Ideal.ofBits FTy.f32 0x3D372713#32 * (v * v * v))))

/-- Entry `o` of the first branch after its gated linear unit: `(z · V) σ(z · G)` with `z = gelu (y + d u)`. -/
def gluAt (y u d : Fin 512 → EReal) (gv gg : Fin 512 → Fin 512 → EReal) (o : Fin 512) : EReal :=
  (∑ i, geluAt (y i + d i * u i) * gv i o) * Ideal.logistic (∑ i, geluAt (y i + d i * u i) * gg i o)

/-- Entry `p` of the gated sum of the two branches; `wg` holds the rows of the two gates, one after the other. -/
def mixAt (x : Fin 1024 → EReal) (y u : Fin 512 → EReal) (yml g : Fin 1024 → EReal) (wg : Fin 2048 → Fin 1024 → EReal)
    (d : Fin 512 → EReal) (gv gg : Fin 512 → Fin 512 → EReal) (wbs : Fin 512 → Fin 1024 → EReal)
    (wbm : Fin 1024 → Fin 1024 → EReal) (p : Fin 1024) : EReal :=
  Ideal.logistic (∑ k, rmsAt x g k * wg ⟨p.val, by omega⟩ k) * (∑ o, gluAt y u d gv gg o * wbs o p)
    + Ideal.logistic (∑ k, rmsAt x g k * wg ⟨1024 + p.val, by omega⟩ k) * (∑ k, yml k * wbm k p)

/-- Entry `j` of the token's row after the merge: the row itself plus the projected mix. -/
def mergeAt (x : Fin 1024 → EReal) (y u : Fin 512 → EReal) (yml g : Fin 1024 → EReal) (wg : Fin 2048 → Fin 1024 → EReal)
    (d : Fin 512 → EReal) (gv gg : Fin 512 → Fin 512 → EReal) (wbs : Fin 512 → Fin 1024 → EReal)
    (wbm wo : Fin 1024 → Fin 1024 → EReal) (j : Fin 1024) : EReal :=
  x j + ∑ p, mixAt x y u yml g wg d gv gg wbs wbm p * wo p j

end Cert.Spec

end
end
-- ==== Proof.MergeBlock.lean ====
/- What one grid point of the merge stores: each row of the block is the per-token function `Spec.mergeAt` of the same
   row of the input blocks. The body stores the block in two halves of 256 rows; both hold the same function. -/
module

public import proofs.«01_k».proof.Proof.Gen.MergeIdeal.Frame
public import proofs.«01_k».proof.Proof.Spec
public import Idealize.ShloMosaic.Lib.Pipeline.ValueKit
public import Idealize.ShloMosaic.Lib.Pointwise

@[expose] public section

set_option maxRecDepth 16384

noncomputable section

namespace Cert.MergeIdeal.Value

open Idealize.ShloMosaic Idealize.ShloMosaic.TcCoe Idealize.SL.Sem
open Cert.MergeIdeal Cert.MergeIdeal.Gen Cert.Spec

section Block

variable (x0 : Vec Ideal S512x1024 .f32) (x1 x2 : Vec Ideal S1x512x512 .f32) (x3 : Vec Ideal S512x1024 .f32)
  (x4 : Vec Ideal S1x1x1024 .f32) (x5 : Vec Ideal S1x2048x1024 .f32) (x6 : Vec Ideal S1x512x1 .f32)
  (x7 x8 : Vec Ideal S1x512x512 .f32) (x9 : Vec Ideal S1x512x1024 .f32) (x10 x11 : Vec Ideal S1x1024x1024 .f32)

/-- Row `r` of the block after the merge, from the input blocks. -/
def rowAt (r : Fin 512) (j : Fin 1024) : EReal :=
  mergeAt (fun k => x0 (ix2 r k)) (fun i => x1 (ix3 0 i r)) (fun i => x2 (ix3 0 i r)) (fun k => x3 (ix2 r k))
    (fun k => x4 (ix3 0 0 k)) (fun n k => x5 (ix3 0 n k)) (fun i => x6 (ix3 0 i 0)) (fun i o => x7 (ix3 0 i o))
    (fun i o => x8 (ix3 0 i o)) (fun o p => x9 (ix3 0 o p)) (fun k p => x10 (ix3 0 k p)) (fun p j => x11 (ix3 0 p j)) j

/-- What the body leaves in the output block, at row `r` and column `j`. -/
theorem block_at (r : Fin 512) (j : Fin 1024) :
    out0_12 x0 x1 x2 x3 x4 x5 x6 x7 x8 x9 x10 x11 (ix2 r j) = rowAt x0 x1 x2 x3 x4 x5 x6 x7 x8 x9 x10 x11 r j := by
  unfold_out out0_12
  canon_tiles q h
  · obtain ⟨a, b, rfl⟩ : ∃ (a : Fin 256) (b : Fin 1024), q = ix2 a b := ⟨q 0, q 1, by blk_ext⟩
    have hr : r = ⟨256 + a.val, Nat.add_lt_add_left a.isLt 256⟩ := Fin.ext (by simpa using h0)
    have hj : j = b := Fin.ext (by simpa using h1)
    subst hr hj
    unfold rowAt mergeAt mixAt gluAt geluAt rmsAt
    pointwise [k0_pay1, k0_pay12, k0_pay13, k0_pay14, k0_pay15, k0_pay16]
  · obtain ⟨a, b, rfl⟩ : ∃ (a : Fin 256) (b : Fin 1024), q = ix2 a b := ⟨q 0, q 1, by blk_ext⟩
    have hr : r = ⟨a.val, Nat.lt_trans a.isLt (by decide)⟩ := Fin.ext (by simpa using h0)
    have hj : j = b := Fin.ext (by simpa using h1)
    subst hr hj
    unfold rowAt mergeAt mixAt gluAt geluAt rmsAt
    pointwise [k0_pay2, k0_pay3, k0_pay4, k0_pay5, k0_pay6, k0_pay7, k0_pay8, k0_pay9, k0_pay10, k0_pay11]

end Block

end Cert.MergeIdeal.Value

end
end
-- ==== Proof.MergeReads.lean ====
/- What the merge's windows hold at a grid point, read back to the arguments. Row `r` of the block at point `t` is the
   token at place `(r % 256) * 32 + t` of batch row `r / 256`. -/
module

public import proofs.«01_k».proof.Proof.MergeBlock

@[expose] public section

set_option maxRecDepth 16384

noncomputable section

namespace Cert.MergeIdeal.Value

open Idealize.ShloMosaic Idealize.ShloMosaic.TcCoe Idealize.SL.Sem
open Cert.MergeIdeal Cert.MergeIdeal.Gen Cert.Spec

variable (m : (ℓ : Loc nD τ sig) → Buf (Elt Ideal) ℓ) (c : Dev nD) (t : Fin cfg0.N)

/-- The batch row of a block's row. -/
def tokB (r : Fin 512) : Fin 2 := ⟨r.val / 256, by omega⟩

/-- The place in the sequence of a block's row. -/
def tokL (t : Fin cfg0.N) (r : Fin 512) : Fin 8192 :=
  ⟨(r.val % 256) * 32 + t.val, by have : t.val < 32 := t.isLt; omega⟩

/-- Every window's block index, in closed form. -/
theorem idx : ∀ t : Fin cfg0.N, win0_0.index t = ![t.val, 0] ∧ win0_1.index t = ![t.val, 0, 0] ∧ win0_2.index t = ![t.val, 0, 0]
    ∧ win0_3.index t = ![t.val, 0] ∧ win0_4.index t = ![3, 0, 0] ∧ win0_5.index t = ![3, 3592, 0] ∧ win0_6.index t = ![3, 0, 0]
    ∧ win0_7.index t = ![3, 0, 0] ∧ win0_8.index t = ![3, 0, 0] ∧ win0_9.index t = ![3, 0, 0] ∧ win0_10.index t = ![3, 0, 0]
    ∧ win0_11.index t = ![3, 0, 0] ∧ win0_12.index t = ![t.val, 0] :=
  (by decide +kernel : ∀ t : Fin grid0.N, _)

/-- Row `r` of the block at point `t`, as a row of the whole array. -/
def rowOf (t : Fin cfg0.N) (r : Fin 512) : Fin 16384 := ⟨t.val * 512 + r.val, by have : t.val < 32 := t.isLt; omega⟩

/-- The tokens ordered by their place in a chunk of 32, read at a row. -/
theorem order_at (x : FVec Ideal S2x8192x1024 .f32) (r : Fin 512) (k : Fin 1024) :
    shapeCast S16384x1024 (transpose S32x512x1024 [1, 0, 2] (shapeCast S512x32x1024 x shapeCasts_S2x8192x1024_S512x32x1024)
      transposes_S512x32x1024_S32x512x1024_1_0_2) shapeCasts_S32x512x1024_S16384x1024 (ix2 (rowOf t r) k)
      = x (ix3 (tokB r) (tokL t r) k) := by
  pointwise [rowOf, tokB, tokL]

/-- The same of a branch's tokens, one slab of columns per place. -/
theorem slab_at (x : FVec Ideal S2x8192x512 .f32) (r i : Fin 512) :
    transpose S32x512x512 [1, 2, 0] (shapeCast S512x32x512 x shapeCasts_S2x8192x512_S512x32x512)
      transposes_S512x32x512_S32x512x512_1_2_0 (ix3 (⟨t.val, t.isLt⟩ : Fin 32) i r) = x (ix3 (tokB r) (tokL t r) i) := by
  pointwise [tokB, tokL]

theorem entry0 : V m c main_v2 = shapeCast S16384x1024 (transpose S32x512x1024 [1, 0, 2]
    (shapeCast S512x32x1024 (m ((c : Thread nD τ).loc main_arg0)) shapeCasts_S2x8192x1024_S512x32x1024)
    transposes_S512x32x1024_S32x512x1024_1_0_2) shapeCasts_S32x512x1024_S16384x1024 := by
  unfold V V0
  simp only [List.flatten_cons, List.flatten_nil, List.append_nil, hostOps0]
  after_results
  rfl

theorem entry1 : V m c main_v4 = transpose S32x512x512 [1, 2, 0]
    (shapeCast S512x32x512 (m ((c : Thread nD τ).loc main_arg1)) shapeCasts_S2x8192x512_S512x32x512)
    transposes_S512x32x512_S32x512x512_1_2_0 := by
  unfold V V0
  simp only [List.flatten_cons, List.flatten_nil, List.append_nil, hostOps0]
  after_results
  rfl

theorem entry2 : V m c main_v6 = transpose S32x512x512 [1, 2, 0]
    (shapeCast S512x32x512 (m ((c : Thread nD τ).loc main_arg2)) shapeCasts_S2x8192x512_S512x32x512)
    transposes_S512x32x512_S32x512x512_1_2_0 := by
  unfold V V0
  simp only [List.flatten_cons, List.flatten_nil, List.append_nil, hostOps0]
  after_results
  rfl

theorem entry3 : V m c main_v9 = shapeCast S16384x1024 (transpose S32x512x1024 [1, 0, 2]
    (shapeCast S512x32x1024 (m ((c : Thread nD τ).loc main_arg3)) shapeCasts_S2x8192x1024_S512x32x1024)
    transposes_S512x32x1024_S32x512x1024_1_0_2) shapeCasts_S32x512x1024_S16384x1024 := by
  unfold V V0
  simp only [List.flatten_cons, List.flatten_nil, List.append_nil, hostOps0]
  after_results
  rfl

theorem entry4 : V m c main_v11 = broadcastInDim S4x1x1024 ![0, 2] bcast_S4x1024_S4x1x1024_0_2 (m ((c : Thread nD τ).loc main_arg4)) := by
  unfold V V0
  simp only [List.flatten_cons, List.flatten_nil, List.append_nil, hostOps0]
  after_results
  try rfl

theorem entry5 : V m c main_v10 = transpose S4x5640x1024 [0, 2, 1] (m ((c : Thread nD τ).loc main_arg5)) transposes_S4x1024x5640_S4x5640x1024_0_2_1 := by
  unfold V V0
  simp only [List.flatten_cons, List.flatten_nil, List.append_nil, hostOps0]
  after_results
  try rfl

theorem entry6 : V m c main_v12 = broadcastInDim S4x512x1 ![0, 1] bcast_S4x512_S4x512x1_0_1 (m ((c : Thread nD τ).loc main_arg6)) := by
  unfold V V0
  simp only [List.flatten_cons, List.flatten_nil, List.append_nil, hostOps0]
  after_results
  try rfl

theorem read0 (r : Fin 512) (k : Fin 1024) : iblk m c 0 t (ix2 r k) = m ((c : Thread nD τ).loc main_arg0) (ix3 (tokB r) (tokL t r) k) := by
  have e : iblk m c 0 t (ix2 r k) = V m c main_v2 (ix2 (rowOf t r) k) := by blk_ext [iblk, idx t, rowOf]
  rw [e, entry0]
  exact order_at t _ r k

theorem read3 (r : Fin 512) (k : Fin 1024) : iblk m c 3 t (ix2 r k) = m ((c : Thread nD τ).loc main_arg3) (ix3 (tokB r) (tokL t r) k) := by
  have e : iblk m c 3 t (ix2 r k) = V m c main_v9 (ix2 (rowOf t r) k) := by blk_ext [iblk, idx t, rowOf]
  rw [e, entry3]
  exact order_at t _ r k

theorem read1 (r i : Fin 512) : iblk m c 1 t (ix3 0 i r) = m ((c : Thread nD τ).loc main_arg1) (ix3 (tokB r) (tokL t r) i) := by
  have e : iblk m c 1 t (ix3 0 i r) = V m c main_v4 (ix3 (⟨t.val, t.isLt⟩ : Fin 32) i r) := by blk_ext [iblk, idx t]
  rw [e, entry1]
  exact slab_at t _ r i

theorem read2 (r i : Fin 512) : iblk m c 2 t (ix3 0 i r) = m ((c : Thread nD τ).loc main_arg2) (ix3 (tokB r) (tokL t r) i) := by
  have e : iblk m c 2 t (ix3 0 i r) = V m c main_v6 (ix3 (⟨t.val, t.isLt⟩ : Fin 32) i r) := by blk_ext [iblk, idx t]
  rw [e, entry2]
  exact slab_at t _ r i

theorem read4 (k : Fin 1024) : iblk m c 4 t (ix3 0 0 k) = m ((c : Thread nD τ).loc main_arg4) (ix2 3 k) := by
  have e : iblk m c 4 t (ix3 0 0 k) = V m c main_v11 (ix3 (3 : Fin 4) (0 : Fin 1) k) := by blk_ext [iblk, idx t]
  rw [e, entry4]
  pointwise

/-- The gates' window starts at an element of its own choice, row 3592 of layer 3: its block sits there. -/
theorem elem_at (y : ((cfg0.win 5).xblock (cfg0.grid.coords t)).Idx) (a : Fin 3) :
    ((((cfg0.win 5).blk t).view.emb y a : Fin _) : Nat) = win0_5.index t a + (y a).val := by
  show ((win0_5.rect t).emb y a : Nat) = _
  rw [Pipeline.Window.rect_emb_val_off]

theorem read5 (n : Fin 2048) (k : Fin 1024) : iblk m c 5 t (ix3 0 n k) = m ((c : Thread nD τ).loc main_arg5) (ix3 3 k ⟨3592 + n.val, by omega⟩) := by
  have e : iblk m c 5 t (ix3 0 n k) = V m c main_v10 (ix3 (3 : Fin 4) (⟨3592 + n.val, by omega⟩ : Fin 5640) k) := by
    show V m c main_v10 (((cfg0.win 5).blk t).view.emb (ix3 0 n k)) = _
    refine congrArg (V m c main_v10) (funext fun a => Fin.ext ((elem_at t _ a).trans ?_))
    rw [(idx t).2.2.2.2.2.1]
    match a with
    | ⟨0, _⟩ => rfl
    | ⟨1, _⟩ => rfl
    | ⟨2, _⟩ => exact Nat.zero_add _
  rw [e, entry5]
  pointwise

theorem read6 (i : Fin 512) : iblk m c 6 t (ix3 0 i 0) = m ((c : Thread nD τ).loc main_arg6) (ix2 3 i) := by
  have e : iblk m c 6 t (ix3 0 i 0) = V m c main_v12 (ix3 (3 : Fin 4) i (0 : Fin 1)) := by blk_ext [iblk, idx t]
  rw [e, entry6]
  pointwise

theorem read7 (i o : Fin 512) : iblk m c 7 t (ix3 0 i o) = m ((c : Thread nD τ).loc main_arg7) (ix3 3 i o) := by
  blk_ext [iblk, V_main_arg7, idx t]

theorem read8 (i o : Fin 512) : iblk m c 8 t (ix3 0 i o) = m ((c : Thread nD τ).loc main_arg8) (ix3 3 i o) := by
  blk_ext [iblk, V_main_arg8, idx t]

theorem read9 (o : Fin 512) (p : Fin 1024) : iblk m c 9 t (ix3 0 o p) = m ((c : Thread nD τ).loc main_arg9) (ix3 3 o p) := by
  blk_ext [iblk, V_main_arg9, idx t]

theorem read10 (k p : Fin 1024) : iblk m c 10 t (ix3 0 k p) = m ((c : Thread nD τ).loc main_arg10) (ix3 3 k p) := by
  blk_ext [iblk, V_main_arg10, idx t]

theorem read11 (p j : Fin 1024) : iblk m c 11 t (ix3 0 p j) = m ((c : Thread nD τ).loc main_arg11) (ix3 3 p j) := by
  blk_ext [iblk, V_main_arg11, idx t]

end Cert.MergeIdeal.Value

end
end
-- ==== Proof.MergeArray.lean ====
/- The merge's output array and result: every block holds the per-token function of its tokens, so the array does, and
   the result, which orders the rows back by token, does too. -/
module

public import proofs.«01_k».proof.Proof.MergeReads

@[expose] public section

set_option maxRecDepth 16384

noncomputable section

namespace Cert.MergeIdeal.Value

open Idealize.ShloMosaic Idealize.ShloMosaic.TcCoe Idealize.SL.Sem
open Cert.MergeIdeal Cert.MergeIdeal.Gen Cert.Spec

variable (m : (ℓ : Loc nD τ sig) → Buf (Elt Ideal) ℓ) (c : Dev nD) (t : Fin cfg0.N)

/-- Entry `j` of token `(b, l)` after the merge, from the arguments. -/
def tokenAt (b : Fin 2) (l : Fin 8192) (j : Fin 1024) : EReal :=
  mergeAt (fun k => m ((c : Thread nD τ).loc main_arg0) (ix3 b l k)) (fun i => m ((c : Thread nD τ).loc main_arg1) (ix3 b l i))
    (fun i => m ((c : Thread nD τ).loc main_arg2) (ix3 b l i)) (fun k => m ((c : Thread nD τ).loc main_arg3) (ix3 b l k))
    (fun k => m ((c : Thread nD τ).loc main_arg4) (ix2 3 k)) (fun n k => m ((c : Thread nD τ).loc main_arg5) (ix3 3 k ⟨3592 + n.val, by omega⟩))
    (fun i => m ((c : Thread nD τ).loc main_arg6) (ix2 3 i)) (fun i o => m ((c : Thread nD τ).loc main_arg7) (ix3 3 i o))
    (fun i o => m ((c : Thread nD τ).loc main_arg8) (ix3 3 i o)) (fun o p => m ((c : Thread nD τ).loc main_arg9) (ix3 3 o p))
    (fun k p => m ((c : Thread nD τ).loc main_arg10) (ix3 3 k p)) (fun p j => m ((c : Thread nD τ).loc main_arg11) (ix3 3 p j)) j

/-- What the body leaves in the output block at point `t`: each row is its token's. -/
theorem point (r : Fin 512) (j : Fin 1024) :
    out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 r j) = tokenAt m c (tokB r) (tokL t r) j := by
  rw [block_at]
  unfold rowAt tokenAt
  simp only [read0, read1, read2, read3, read4, read5, read6, read7, read8, read9, read10, read11]

/-- Row `i` of the output array is the token at place `(i % 256) * 32 + i / 512` of batch row `i % 512 / 256`. -/
def arrayAt (i : S16384x1024.Idx) : EReal :=
  tokenAt m c ⟨(i 0).val % 512 / 256, by omega⟩ ⟨(i 0).val % 256 * 32 + (i 0).val / 512, by have : (i 0).val < 16384 := (i 0).isLt; omega⟩ (i 1)

theorem arrayAt_row (r : Fin 512) (j : Fin 1024) : arrayAt m c (ix2 (rowOf t r) j) = tokenAt m c (tokB r) (tokL t r) j := by
  have ht : t.val < 32 := t.isLt
  have hb : (⟨(rowOf t r).val % 512 / 256, by omega⟩ : Fin 2) = tokB r := Fin.ext (by simp only [rowOf, tokB]; omega)
  have hl : (⟨(rowOf t r).val % 256 * 32 + (rowOf t r).val / 512, by have := (rowOf t r).isLt; omega⟩ : Fin 8192) = tokL t r :=
    Fin.ext (by simp only [rowOf, tokL]; omega)
  exact congrArg₂ (fun b l => tokenAt m c b l j) hb hl

/-- The output array after the grid. -/
theorem final : (dats m 0 c).arrAt 12 (cfgs 0).N = arrayAt m c := by
  refine (dats m 0 c).arrAt_eq_of_covers 12 _ (by decide +kernel) fun t hf y => ?_
  blk_simp
  rw [after0_12]
  obtain ⟨r, j, rfl⟩ : ∃ (r : Fin 512) (j : Fin 1024), y = ix2 r j := ⟨y 0, y 1, by blk_ext⟩
  rw [point]
  have e : ((cfg0.win 12).blk t).view.emb (ix2 r j) = (ix2 (rowOf t r) j : S16384x1024.Idx) := by blk_ext [idx t, rowOf]
  exact (arrayAt_row m c t r j).symm.trans (congrArg (arrayAt m c) e.symm)

/-- The result: every token's row after the merge. -/
def resultAt : S2x8192x1024.Idx → EReal := fun i => tokenAt m c (i 0) (i 1) (i 2)

/-- The output array's rows ordered by token are the result. -/
theorem order_back : shapeCast S2x8192x1024 (transpose S512x32x1024 [1, 0, 2]
    (shapeCast S32x512x1024 (arrayAt m c : FVec Ideal S16384x1024 .f32) shapeCasts_S16384x1024_S32x512x1024)
    transposes_S32x512x1024_S512x32x1024_1_0_2) shapeCasts_S512x32x1024_S2x8192x1024 = resultAt m c := by
  funext i
  obtain ⟨b, l, j, rfl⟩ : ∃ (b : Fin 2) (l : Fin 8192) (j : Fin 1024), i = ix3 b l j := ⟨i 0, i 1, i 2, by blk_ext⟩
  generalize hA : arrayAt m c = A
  pointwise
  subst hA
  unfold arrayAt resultAt
  have hl := l.isLt
  have hb := b.isLt
  have h1 : l.val % 32 < 32 := Nat.mod_lt _ (by decide)
  have h2 : l.val / 32 < 256 := by omega
  have h3 := Nat.div_add_mod l.val 32
  refine congrArg₂ (fun b l => tokenAt m c b l j) (Fin.ext ?_) (Fin.ext ?_)
  · show (l.val % 32 * 512 + (b.val * 256 + l.val / 32)) % 512 / 256 = b.val
    generalize l.val % 32 = r at *
    generalize l.val / 32 = q at *
    have e : r * 512 + (b.val * 256 + q) = 512 * r + (b.val * 256 + q) := by omega
    rw [e, Nat.mul_add_mod]
    omega
  · show (l.val % 32 * 512 + (b.val * 256 + l.val / 32)) % 256 * 32 + (l.val % 32 * 512 + (b.val * 256 + l.val / 32)) / 512 = l.val
    generalize l.val % 32 = r at *
    generalize l.val / 32 = q at *
    have e : (r * 512 + (b.val * 256 + q)) % 256 = q := by omega
    have e' : (r * 512 + (b.val * 256 + q)) / 512 = r := by omega
    rw [e, e']
    omega

/-- The result buffer when the program ends. -/
theorem tail : Pipeline.afterTail₀ cfgs (dats m) 0 (V0 m) [hostOps1] c main_v16 = resultAt m c := by
  unfold Pipeline.afterTail₀
  simp only [List.flatten_cons, List.flatten_nil, List.append_nil, hostOps1]
  after_results
  have e := (Pipeline.withArrays_arr spec0 (by decide) c (V0 m c) (fun w => (dats m 0 c).arrAt w (cfgs 0).N) 12).trans (final m c)
  refine Eq.trans ?_ (order_back m c)
  rw [← e]
  rfl

variable (ρ : Dev nD → PrngReg)

/-- The run: the result buffer ends at every token's row after the merge, the arguments as launched. -/
theorem run : θ_run defs (onTc (τ := τ) (main (F := Ideal))) ⟨m, fun _ => 0, ρ⟩ (fun r => ∀ c : Dev nD,
    r.2.mem ((c.tc : Thread nD τ).loc main_v16) = resultAt m c) :=
  θ_run_mono (run_main m ρ) fun r h c => ((h c).2 main_v16 (by decide)).trans (tail m c)

end Cert.MergeIdeal.Value

end
end
-- ==== Proof.MergeRef.lean ====
/- What the merge's reference computes, read at one entry: the per-token function `Spec.mergeAt` of that token's rows
   and of layer 3's weights. Each array on the way is read at an index of its own first. -/
module

public import proofs.«01_k».proof.Proof.Gen.MergeRefIdeal.Read
public import proofs.«01_k».proof.Proof.Spec
public import Idealize.ShloMosaic.Lib.Pipeline.ValueKit
public import Idealize.ShloMosaic.Lib.Pointwise

@[expose] public section

set_option maxRecDepth 16384

noncomputable section

namespace Cert.MergeRefIdeal.Value

open Idealize.ShloMosaic Idealize.ShloMosaic.TcCoe Idealize.SL.Sem
open Cert.MergeRefIdeal Cert.MergeRefIdeal.Gen Cert.MergeRefIdeal.Read Cert.Spec

/-- The normed row. -/
theorem norm_at (x0 : FVec Ideal S2x8192x1024 .f32) (x4 : FVec Ideal S4x1024 .f32) (b : Fin 2) (l : Fin 8192) (k : Fin 1024) :
    val_main_v14 (F := Ideal) x0 x4 (ix3 b l k) = rmsAt (fun i => x0 (ix3 b l i)) (fun i => x4 (ix2 3 i)) k := by
  unfold rmsAt
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

/-- The first branch's gelu. -/
theorem gelu_at (x1 x2 : FVec Ideal S2x8192x512 .f32) (x6 : FVec Ideal S4x512 .f32) (b : Fin 2) (l : Fin 8192) (i : Fin 512) :
    val_main_v36 (F := Ideal) x1 x2 x6 (ix3 b l i) = geluAt (x1 (ix3 b l i) + x6 (ix2 3 i) * x2 (ix3 b l i)) := by
  unfold geluAt
  pointwise [val_main_v36, val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_cst_2, val_main_cst_3, val_main_cst_4, val_main_cst_5]
  rw [mul_left_comm, ← mul_assoc]

/-- The first branch after its gated linear unit. -/
theorem glu_at (x1 x2 : FVec Ideal S2x8192x512 .f32) (x6 : FVec Ideal S4x512 .f32) (x7 x8 : FVec Ideal S4x512x512 .f32)
    (b : Fin 2) (l : Fin 8192) (o : Fin 512) :
    val_main_v49 (F := Ideal) x1 x2 x6 x7 x8 (ix3 b l o) = gluAt (fun i => x1 (ix3 b l i)) (fun i => x2 (ix3 b l i))
      (fun i => x6 (ix2 3 i)) (fun i o => x7 (ix3 3 i o)) (fun i o => x8 (ix3 3 i o)) o := by
  unfold gluAt Ideal.logistic
  pointwise [val_main_v49, val_main_v48, val_main_v47, val_main_v46, val_main_v45, val_main_v44, val_main_v43, val_main_v42,
    val_main_v41, val_main_v40, val_main_v39, val_main_v38, val_main_v37, val_main_cst_6, val_main_cst_7]
  simp only [gelu_at]

/-- The gates. -/
theorem gate_at (x0 : FVec Ideal S2x8192x1024 .f32) (x4 : FVec Ideal S4x1024 .f32) (x5 : FVec Ideal S4x1024x5640 .f32)
    (b : Fin 2) (l : Fin 8192) (n : Fin 2048) :
    val_main_v56 (F := Ideal) x0 x4 x5 (ix3 b l n) = Ideal.logistic (∑ k, rmsAt (fun i => x0 (ix3 b l i)) (fun i => x4 (ix2 3 i)) k
      * x5 (ix3 3 k ⟨3592 + n.val, by omega⟩)) := by
  unfold Ideal.logistic
  pointwise [val_main_v56, val_main_v55, val_main_v54, val_main_v53, val_main_v52, val_main_v51, val_main_v50, val_main_v17,
    val_main_v16, val_main_v15, val_main_cst_8, val_main_cst_9]
  simp only [norm_at]

/-- The gated sum of the two branches. -/
theorem mix_at (x0 : FVec Ideal S2x8192x1024 .f32) (x1 x2 : FVec Ideal S2x8192x512 .f32) (x3 : FVec Ideal S2x8192x1024 .f32)
    (x4 : FVec Ideal S4x1024 .f32) (x5 : FVec Ideal S4x1024x5640 .f32) (x6 : FVec Ideal S4x512 .f32)
    (x7 x8 : FVec Ideal S4x512x512 .f32) (x9 : FVec Ideal S4x512x1024 .f32) (x10 : FVec Ideal S4x1024x1024 .f32)
    (b : Fin 2) (l : Fin 8192) (p : Fin 1024) :
    val_main_v67 (F := Ideal) x0 x1 x2 x3 x4 x5 x6 x7 x8 x9 x10 (ix3 b l p) = mixAt (fun k => x0 (ix3 b l k))
      (fun i => x1 (ix3 b l i)) (fun i => x2 (ix3 b l i)) (fun k => x3 (ix3 b l k)) (fun i => x4 (ix2 3 i))
      (fun n k => x5 (ix3 3 k ⟨3592 + n.val, by omega⟩)) (fun i => x6 (ix2 3 i)) (fun i o => x7 (ix3 3 i o))
      (fun i o => x8 (ix3 3 i o)) (fun o p => x9 (ix3 3 o p)) (fun k p => x10 (ix3 3 k p)) p := by
  unfold mixAt
  pointwise [val_main_v67, val_main_v66, val_main_v65, val_main_v64, val_main_v63, val_main_v62, val_main_v61, val_main_v60,
    val_main_v59, val_main_v58, val_main_v57]
  simp only [gate_at, glu_at]

/-- The reference's result. -/
theorem ref_at (x0 : FVec Ideal S2x8192x1024 .f32) (x1 x2 : FVec Ideal S2x8192x512 .f32) (x3 : FVec Ideal S2x8192x1024 .f32)
    (x4 : FVec Ideal S4x1024 .f32) (x5 : FVec Ideal S4x1024x5640 .f32) (x6 : FVec Ideal S4x512 .f32)
    (x7 x8 : FVec Ideal S4x512x512 .f32) (x9 : FVec Ideal S4x512x1024 .f32) (x10 x11 : FVec Ideal S4x1024x1024 .f32)
    (b : Fin 2) (l : Fin 8192) (j : Fin 1024) :
    val_main_v71 (F := Ideal) x0 x1 x2 x3 x4 x5 x6 x7 x8 x9 x10 x11 (ix3 b l j) = mergeAt (fun k => x0 (ix3 b l k))
      (fun i => x1 (ix3 b l i)) (fun i => x2 (ix3 b l i)) (fun k => x3 (ix3 b l k)) (fun i => x4 (ix2 3 i))
      (fun n k => x5 (ix3 3 k ⟨3592 + n.val, by omega⟩)) (fun i => x6 (ix2 3 i)) (fun i o => x7 (ix3 3 i o))
      (fun i o => x8 (ix3 3 i o)) (fun o p => x9 (ix3 3 o p)) (fun k p => x10 (ix3 3 k p)) (fun p j => x11 (ix3 3 p j)) j := by
  unfold mergeAt
  pointwise [val_main_v71, val_main_v70, val_main_v69, val_main_v68]
  simp only [mix_at]

end Cert.MergeRefIdeal.Value

end
end
-- ==== Proof.MergeEq.lean ====
/- The merge's reference and its kernel give the same result from the same arguments. -/
module

public import proofs.«01_k».proof.Proof.MergeArray
public import proofs.«01_k».proof.Proof.MergeRef
public import proofs.«01_k».proof.Proof.Gen.MergeRefIdeal.Run

@[expose] public section

set_option maxRecDepth 16384

noncomputable section

namespace Cert.MergeEq

open Idealize.ShloMosaic Idealize.ShloMosaic.TcCoe Idealize.SL.Sem

variable (m : (ℓ : Loc Cert.MergeIdeal.nD Cert.MergeIdeal.τ Cert.MergeIdeal.sig) → Buf (Elt Ideal) ℓ)
  (m' : (ℓ : Loc Cert.MergeRefIdeal.nD Cert.MergeRefIdeal.τ Cert.MergeRefIdeal.sig) → Buf (Elt Ideal) ℓ) (c : Dev Cert.MergeIdeal.nD)

/-- The reference's result is the kernel's, where the arguments agree. -/
theorem result_eq
    (h0 : m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0))
    (h1 : m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1))
    (h2 : m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2))
    (h3 : m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3))
    (h4 : m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4))
    (h5 : m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5))
    (h6 : m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6))
    (h7 : m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7))
    (h8 : m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8))
    (h9 : m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9))
    (h10 : m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10))
    (h11 : m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) :
    Cert.MergeRefIdeal.Value.res_main_v71 m' c = Cert.MergeIdeal.Value.resultAt m c := by
  refine (Cert.MergeRefIdeal.Read.val_main_v71_eq m' c).trans ?_
  funext i
  obtain ⟨b, l, j, rfl⟩ : ∃ (b : Fin 2) (l : Fin 8192) (j : Fin 1024), i = ix3 b l j := ⟨i 0, i 1, i 2, by blk_ext⟩
  refine (Cert.MergeRefIdeal.Value.ref_at _ _ _ _ _ _ _ _ _ _ _ _ b l j).trans ?_
  rw [h0, h1, h2, h3, h4, h5, h6, h7, h8, h9, h10, h11]
  rfl

end Cert.MergeEq

end
end
-- ==== Proof.FfnSpec.lean ====
/- The feed-forward half step for one token, and the sum over the hidden features taken in eleven chunks of 256. -/
module

public import proofs.«01_k».proof.Proof.Spec
public import Idealize.ShloMosaic.Lib.Pipeline.ValueKit
public import Idealize.ShloMosaic.Lib.Pointwise

@[expose] public section

set_option maxRecDepth 16384

noncomputable section

namespace Cert.Spec

open Idealize.ShloMosaic

/-- Hidden feature of the gated unit from its two projections: `a σ(a) b`. -/
def gateAt (a b : EReal) : EReal := a * Ideal.logistic a * b

/-- Hidden feature `f` of the token whose normed row is `h`. -/
def hidAt (h : Fin 1024 → EReal) (wg wu : Fin 1024 → Fin 2816 → EReal) (f : Fin 2816) : EReal :=
  gateAt (∑ k, h k * wg k f) (∑ k, h k * wu k f)

/-- Entry `j` of the token's row after the half step: the row plus half the gated unit of its norm. -/
def ffnAt (x g : Fin 1024 → EReal) (wg wu : Fin 1024 → Fin 2816 → EReal) (wd : Fin 2816 → Fin 1024 → EReal) (j : Fin 1024) : EReal :=
  x j + Ideal.ofBits FTy.f32 0x3F000000#32 * ∑ f, hidAt (rmsAt x g) wg wu f * wd f j

/-- The summands of chunk `n`, the 256 entries from `o`. -/
def chunkAt (a : Fin 2816 → EReal) (o : Nat) (ho : o + 256 ≤ 2816) : EReal := ∑ i : Fin 256, a ⟨o + i.val, by omega⟩

/-- The sum over all 2816 entries is the sum of the eleven chunks, added one after the other. -/
theorem sum_chunks (a : Fin 2816 → EReal) :
    ∑ f, a f = chunkAt a 0 (by decide) + chunkAt a 256 (by decide) + chunkAt a 512 (by decide) + chunkAt a 768 (by decide)
      + chunkAt a 1024 (by decide) + chunkAt a 1280 (by decide) + chunkAt a 1536 (by decide) + chunkAt a 1792 (by decide)
      + chunkAt a 2048 (by decide) + chunkAt a 2304 (by decide) + chunkAt a 2560 (by decide) := by
  have e : ∑ f, a f = ∑ p : Fin 11 × Fin 256, a (finProdFinEquiv p) := (Equiv.sum_comp (finProdFinEquiv (m := 11) (n := 256)) a).symm
  have h : ∀ n : Fin 11, (∑ i : Fin 256, a (finProdFinEquiv (n, i))) = chunkAt a (256 * n.val) (by omega) := fun n =>
    Finset.sum_congr rfl fun i _ => congrArg a (Fin.ext (by simp [finProdFinEquiv]; omega))
  rw [e, Fintype.sum_prod_type]
  simp only [h]
  simp only [Fin.sum_univ_castSucc, Fin.sum_univ_zero, zero_add]
  rfl

end Cert.Spec

end
end
-- ==== Proof.FfnPay.lean ====
/- Entries of the values the feed-forward kernel's body computes: the normed rows, and the accumulated product of one or several chunks of hidden features. -/
module

public import proofs.«01_k».proof.Proof.Gen.FfnIdeal.Skeleton
public import proofs.«01_k».proof.Proof.FfnSpec
public import Idealize.ShloMosaic.Lib.Pipeline.ValueKit
public import Idealize.ShloMosaic.Lib.Pointwise

@[expose] public section

set_option maxRecDepth 16384

noncomputable section

namespace Cert.FfnIdeal.Value

open Idealize.ShloMosaic
open Cert.FfnIdeal Cert.FfnIdeal.Gen Cert.Spec

/-- Row `r` of the normed block against column `i` of a chunk of a weight. -/
def projAt (h : FVec Ideal S512x1024 .bf16) (w : Vec Ideal S1024x256 .f32) (r : Fin 512) (i : Fin 256) : EReal := ∑ k : Fin 1024, h (ix2 r k) * w (ix2 k i)

/-- What one chunk of 256 hidden features adds to entry `(r, j)`. -/
def stepAt (h : FVec Ideal S512x1024 .bf16) (wg wu : Vec Ideal S1024x256 .f32) (wd : Vec Ideal S256x1024 .f32) (r : Fin 512) (j : Fin 1024) : EReal :=
  ∑ i : Fin 256, gateAt (projAt h wg r i) (projAt h wu r i) * wd (ix2 i j)

theorem norm4 (x : Vec Ideal S512x1024 .f32) (g : Vec Ideal S1x1x1024 .f32) (r : Fin 512) (j : Fin 1024) :
    (k0_pay4 x g : FVec Ideal S512x1024 .bf16) (ix2 r j) = rmsAt (fun k => x (ix2 r k)) (fun k => g (ix3 0 0 k)) j := by
  unfold rmsAt
  pointwise [k0_pay4, k0_pay3]

theorem norm19 (x : Vec Ideal S512x1024 .f32) (g : Vec Ideal S1x1x1024 .f32) (r : Fin 512) (j : Fin 1024) :
    (k0_pay19 x g : FVec Ideal S512x1024 .bf16) (ix2 r j) = rmsAt (fun k => x (ix2 r k)) (fun k => g (ix3 0 0 k)) j := by
  unfold rmsAt
  pointwise [k0_pay19, k0_pay18]

theorem step6 (h : FVec Ideal S512x1024 .bf16) (a : FVec Ideal S512x1024 .f32) (wg wu : Vec Ideal S1024x256 .f32) (wd : Vec Ideal S256x1024 .f32) (r : Fin 512) (j : Fin 1024) :
    k0_pay6 h a wg wu wd (ix2 r j) = a (ix2 r j) + stepAt h wg wu wd r j := by
  unfold stepAt gateAt projAt
  pointwise [k0_pay6]

theorem step7 (h : FVec Ideal S512x1024 .bf16) (a : FVec Ideal S512x1024 .f32) (wg wu : Vec Ideal S1024x256 .f32) (wd : Vec Ideal S256x1024 .f32) (r : Fin 512) (j : Fin 1024) :
    k0_pay7 h a wg wu wd (ix2 r j) = a (ix2 r j) + stepAt h wg wu wd r j := by
  unfold stepAt gateAt projAt
  pointwise [k0_pay7]

theorem step8 (h : FVec Ideal S512x1024 .bf16) (a : FVec Ideal S512x1024 .f32) (wg wu : Vec Ideal S1024x256 .f32) (wd : Vec Ideal S256x1024 .f32) (r : Fin 512) (j : Fin 1024) :
    k0_pay8 h a wg wu wd (ix2 r j) = a (ix2 r j) + stepAt h wg wu wd r j := by
  unfold stepAt gateAt projAt
  pointwise [k0_pay8]

theorem step9 (h : FVec Ideal S512x1024 .bf16) (a : FVec Ideal S512x1024 .f32) (wg wu : Vec Ideal S1024x256 .f32) (wd : Vec Ideal S256x1024 .f32) (r : Fin 512) (j : Fin 1024) :
    k0_pay9 h a wg wu wd (ix2 r j) = a (ix2 r j) + stepAt h wg wu wd r j := by
  unfold stepAt gateAt projAt
  pointwise [k0_pay9]

theorem step10 (h : FVec Ideal S512x1024 .bf16) (a : FVec Ideal S512x1024 .f32) (wg wu : Vec Ideal S1024x256 .f32) (wd : Vec Ideal S256x1024 .f32) (r : Fin 512) (j : Fin 1024) :
    k0_pay10 h a wg wu wd (ix2 r j) = a (ix2 r j) + stepAt h wg wu wd r j := by
  unfold stepAt gateAt projAt
  pointwise [k0_pay10]

theorem step11 (h : FVec Ideal S512x1024 .bf16) (a : FVec Ideal S512x1024 .f32) (wg wu : Vec Ideal S1024x256 .f32) (wd : Vec Ideal S256x1024 .f32) (r : Fin 512) (j : Fin 1024) :
    k0_pay11 h a wg wu wd (ix2 r j) = a (ix2 r j) + stepAt h wg wu wd r j := by
  unfold stepAt gateAt projAt
  pointwise [k0_pay11]

theorem step12 (h : FVec Ideal S512x1024 .bf16) (a : FVec Ideal S512x1024 .f32) (wg wu : Vec Ideal S1024x256 .f32) (wd : Vec Ideal S256x1024 .f32) (r : Fin 512) (j : Fin 1024) :
    k0_pay12 h a wg wu wd (ix2 r j) = a (ix2 r j) + stepAt h wg wu wd r j := by
  unfold stepAt gateAt projAt
  pointwise [k0_pay12]

theorem step13 (h : FVec Ideal S512x1024 .bf16) (a : FVec Ideal S512x1024 .f32) (wg wu : Vec Ideal S1024x256 .f32) (wd : Vec Ideal S256x1024 .f32) (r : Fin 512) (j : Fin 1024) :
    k0_pay13 h a wg wu wd (ix2 r j) = a (ix2 r j) + stepAt h wg wu wd r j := by
  unfold stepAt gateAt projAt
  pointwise [k0_pay13]

theorem step14 (h : FVec Ideal S512x1024 .bf16) (a : FVec Ideal S512x1024 .f32) (wg wu : Vec Ideal S1024x256 .f32) (wd : Vec Ideal S256x1024 .f32) (r : Fin 512) (j : Fin 1024) :
    k0_pay14 h a wg wu wd (ix2 r j) = a (ix2 r j) + stepAt h wg wu wd r j := by
  unfold stepAt gateAt projAt
  pointwise [k0_pay14]

theorem step15 (h : FVec Ideal S512x1024 .bf16) (a : FVec Ideal S512x1024 .f32) (wg wu : Vec Ideal S1024x256 .f32) (wd : Vec Ideal S256x1024 .f32) (r : Fin 512) (j : Fin 1024) :
    k0_pay15 h a wg wu wd (ix2 r j) = a (ix2 r j) + stepAt h wg wu wd r j := by
  unfold stepAt gateAt projAt
  pointwise [k0_pay15]

theorem step16 (h : FVec Ideal S512x1024 .bf16) (a : FVec Ideal S512x1024 .f32) (wg wu : Vec Ideal S1024x256 .f32) (wd : Vec Ideal S256x1024 .f32) (r : Fin 512) (j : Fin 1024) :
    k0_pay16 h a wg wu wd (ix2 r j) = a (ix2 r j) + stepAt h wg wu wd r j := by
  unfold stepAt gateAt projAt
  pointwise [k0_pay16]

theorem zero5 (r : Fin 512) (j : Fin 1024) : (k0_pay5 : FVec Ideal S512x1024 .f32) (ix2 r j) = 0 := by
  pointwise [k0_pay5]

theorem out1 (x a : FVec Ideal S512x1024 .f32) (r : Fin 512) (j : Fin 1024) :
    k0_pay1 x a k0_pay17 (ix2 r j) = x (ix2 r j) + Ideal.ofBits FTy.f32 0x3F000000#32 * a (ix2 r j) := by
  pointwise [k0_pay1, k0_pay17]

theorem copy3 (x : Vec Ideal S512x1024 .f32) (r : Fin 512) (j : Fin 1024) : k0_pay3 x (ix2 r j) = x (ix2 r j) := by
  pointwise [k0_pay3]

theorem copy18 (x : Vec Ideal S512x1024 .f32) (r : Fin 512) (j : Fin 1024) : k0_pay18 x (ix2 r j) = x (ix2 r j) := by
  pointwise [k0_pay18]

theorem step20 (x : Vec Ideal S512x1024 .f32) (g : Vec Ideal S1x1x1024 .f32) (wg wu : Vec Ideal S1024x256 .f32) (wd : Vec Ideal S256x1024 .f32) (r : Fin 512) (j : Fin 1024) :
    k0_pay20 x g wg wu wd (ix2 r j) = stepAt (k0_pay19 x g) wg wu wd r j := by
  unfold stepAt gateAt projAt
  pointwise [k0_pay20]

theorem proj21 (x : Vec Ideal S512x1024 .f32) (g : Vec Ideal S1x1x1024 .f32) (w : Vec Ideal S1024x256 .f32) (r : Fin 512) (i : Fin 256) :
    k0_pay21 x g w (ix2 r i) = projAt (k0_pay19 x g) w r i := by
  unfold projAt
  pointwise [k0_pay21]

theorem proj27 (h : FVec Ideal S512x1024 .bf16) (w : Vec Ideal S1024x256 .f32) (r : Fin 512) (i : Fin 256) : k0_pay27 h w (ix2 r i) = projAt h w r i := by
  unfold projAt
  pointwise [k0_pay27]

theorem gate25 (h : FVec Ideal S512x1024 .bf16) (wg wu : Vec Ideal S1024x256 .f32) (r : Fin 512) (i : Fin 256) :
    k0_pay25 h wg wu (ix2 r i) = gateAt (projAt h wg r i) (projAt h wu r i) := by
  unfold gateAt projAt
  pointwise [k0_pay25]

theorem step23 (h : FVec Ideal S512x1024 .bf16) (a : FVec Ideal S512x1024 .f32) (p : FVec Ideal S512x256 .f32) (w1 w3 w4 w6 w7 : Vec Ideal S1024x256 .f32) (w2 w5 w8 : Vec Ideal S256x1024 .f32) (q : Vec Ideal S1024x256 .f32) (r : Fin 512) (j : Fin 1024)
    (e : ∀ i, p (ix2 r i) = projAt h q r i) :
    k0_pay23 h a p (k0_pay22 w1) w2 w3 w4 w5 w6 w7 w8 (ix2 r j)
      = a (ix2 r j) + stepAt h q w1 w2 r j + stepAt h w3 w4 w5 r j + stepAt h w6 w7 w8 r j := by
  unfold stepAt
  simp only [← e]
  unfold gateAt projAt
  pointwise [k0_pay23, k0_pay22]

theorem step24 (h : FVec Ideal S512x1024 .bf16) (a : FVec Ideal S512x1024 .f32) (w0 w1 w3 w4 : Vec Ideal S1024x256 .f32) (w2 w5 : Vec Ideal S256x1024 .f32) (r : Fin 512) (j : Fin 1024) :
    k0_pay24 h a w0 w1 w2 w3 w4 w5 (ix2 r j) = a (ix2 r j) + stepAt h w0 w1 w2 r j + stepAt h w3 w4 w5 r j := by
  unfold stepAt gateAt projAt
  pointwise [k0_pay24]

theorem step26 (h : FVec Ideal S512x1024 .bf16) (a : FVec Ideal S512x1024 .f32) (p : FVec Ideal S512x256 .f32) (q0 q1 w3 w4 w6 w7 : Vec Ideal S1024x256 .f32) (w2 w5 w8 : Vec Ideal S256x1024 .f32) (r : Fin 512) (j : Fin 1024)
    (e : ∀ i, p (ix2 r i) = gateAt (projAt h q0 r i) (projAt h q1 r i)) :
    k0_pay26 h a p w2 w3 w4 w5 w6 w7 w8 (ix2 r j)
      = a (ix2 r j) + stepAt h q0 q1 w2 r j + stepAt h w3 w4 w5 r j + stepAt h w6 w7 w8 r j := by
  unfold stepAt
  simp only [← e]
  unfold gateAt projAt
  pointwise [k0_pay26]

theorem out2 (x a : FVec Ideal S512x1024 .f32) (h : FVec Ideal S512x1024 .bf16) (p : FVec Ideal S512x256 .f32) (q w1 w3 w4 : Vec Ideal S1024x256 .f32) (w2 w5 : Vec Ideal S256x1024 .f32) (r : Fin 512) (j : Fin 1024)
    (e : ∀ i, p (ix2 r i) = projAt h q r i) :
    k0_pay2 x h a p w1 w2 w3 w4 w5 (ix2 r j)
      = x (ix2 r j) + Ideal.ofBits FTy.f32 0x3F000000#32 * (a (ix2 r j) + stepAt h q w1 w2 r j + stepAt h w3 w4 w5 r j) := by
  unfold stepAt
  simp only [← e]
  unfold gateAt projAt
  pointwise [k0_pay2]

end Cert.FfnIdeal.Value

end
end
-- ==== Proof.FfnBlockB.lean ====
/- The feed-forward kernel's body at every point after the first: the block it leaves is the half step of its rows over the weights carried in scratch. -/
module

public import proofs.«01_k».proof.Proof.Gen.FfnIdeal.Frame
public import proofs.«01_k».proof.Proof.FfnPay
public import Idealize.ShloMosaic.Lib.Pipeline.ValueKit
public import Idealize.ShloMosaic.Lib.Pointwise

@[expose] public section

set_option maxRecDepth 16384

noncomputable section

namespace Cert.FfnIdeal.Value

open Idealize.ShloMosaic Idealize.ShloMosaic.TcCoe Idealize.SL.Sem
open Cert.FfnIdeal Cert.FfnIdeal.Gen Cert.Spec

/-- A step over the 256 columns from `o` of the gate and up weights, and the same rows of the down weight, is that chunk of the sum over the hidden features. -/
theorem step_chunk (h : FVec Ideal S512x1024 .bf16) (wg wu : Vec Ideal S1024x256 .f32) (wd : Vec Ideal S256x1024 .f32) (r : Fin 512) (j : Fin 1024) (n : Fin 1024 → EReal)
    (WG WU : Fin 1024 → Fin 2816 → EReal) (WD : Fin 2816 → Fin 1024 → EReal) (o : Nat) (ho : o + 256 ≤ 2816)
    (eh : ∀ k, h (ix2 r k) = n k) (eg : ∀ (k : Fin 1024) (i : Fin 256), wg (ix2 k i) = WG k ⟨o + i.val, by omega⟩)
    (eu : ∀ (k : Fin 1024) (i : Fin 256), wu (ix2 k i) = WU k ⟨o + i.val, by omega⟩)
    (ed : ∀ (i : Fin 256) (k : Fin 1024), wd (ix2 i k) = WD ⟨o + i.val, by omega⟩ k) :
    stepAt h wg wu wd r j = chunkAt (fun f => hidAt n WG WU f * WD f j) o ho := by
  unfold stepAt chunkAt projAt hidAt
  simp only [eh, eg, eu, ed]

theorem ldg0 (x : Vec Ideal S1024x2816 .f32) (k : Fin 1024) (i : Fin 256) :
    View.ld x (Rect.unit ![0, 0] ![1024, 256] inb_S1024x2816_S1024x256_0_0) (ix2 k i) = x (ix2 k ⟨0 + i.val, by omega⟩) := by
  pointwise

theorem ldd0 (x : Vec Ideal S2816x1024 .f32) (i : Fin 256) (k : Fin 1024) :
    View.ld x (Rect.unit ![0, 0] ![256, 1024] inb_S2816x1024_S256x1024_0_0) (ix2 i k) = x (ix2 ⟨0 + i.val, by omega⟩ k) := by
  pointwise

theorem ldg256 (x : Vec Ideal S1024x2816 .f32) (k : Fin 1024) (i : Fin 256) :
    View.ld x (Rect.unit ![0, 256] ![1024, 256] inb_S1024x2816_S1024x256_0_256) (ix2 k i) = x (ix2 k ⟨256 + i.val, by omega⟩) := by
  pointwise

theorem ldd256 (x : Vec Ideal S2816x1024 .f32) (i : Fin 256) (k : Fin 1024) :
    View.ld x (Rect.unit ![256, 0] ![256, 1024] inb_S2816x1024_S256x1024_256_0) (ix2 i k) = x (ix2 ⟨256 + i.val, by omega⟩ k) := by
  pointwise

theorem ldg512 (x : Vec Ideal S1024x2816 .f32) (k : Fin 1024) (i : Fin 256) :
    View.ld x (Rect.unit ![0, 512] ![1024, 256] inb_S1024x2816_S1024x256_0_512) (ix2 k i) = x (ix2 k ⟨512 + i.val, by omega⟩) := by
  pointwise

theorem ldd512 (x : Vec Ideal S2816x1024 .f32) (i : Fin 256) (k : Fin 1024) :
    View.ld x (Rect.unit ![512, 0] ![256, 1024] inb_S2816x1024_S256x1024_512_0) (ix2 i k) = x (ix2 ⟨512 + i.val, by omega⟩ k) := by
  pointwise

theorem ldg768 (x : Vec Ideal S1024x2816 .f32) (k : Fin 1024) (i : Fin 256) :
    View.ld x (Rect.unit ![0, 768] ![1024, 256] inb_S1024x2816_S1024x256_0_768) (ix2 k i) = x (ix2 k ⟨768 + i.val, by omega⟩) := by
  pointwise

theorem ldd768 (x : Vec Ideal S2816x1024 .f32) (i : Fin 256) (k : Fin 1024) :
    View.ld x (Rect.unit ![768, 0] ![256, 1024] inb_S2816x1024_S256x1024_768_0) (ix2 i k) = x (ix2 ⟨768 + i.val, by omega⟩ k) := by
  pointwise

theorem ldg1024 (x : Vec Ideal S1024x2816 .f32) (k : Fin 1024) (i : Fin 256) :
    View.ld x (Rect.unit ![0, 1024] ![1024, 256] inb_S1024x2816_S1024x256_0_1024) (ix2 k i) = x (ix2 k ⟨1024 + i.val, by omega⟩) := by
  pointwise

theorem ldd1024 (x : Vec Ideal S2816x1024 .f32) (i : Fin 256) (k : Fin 1024) :
    View.ld x (Rect.unit ![1024, 0] ![256, 1024] inb_S2816x1024_S256x1024_1024_0) (ix2 i k) = x (ix2 ⟨1024 + i.val, by omega⟩ k) := by
  pointwise

theorem ldg1280 (x : Vec Ideal S1024x2816 .f32) (k : Fin 1024) (i : Fin 256) :
    View.ld x (Rect.unit ![0, 1280] ![1024, 256] inb_S1024x2816_S1024x256_0_1280) (ix2 k i) = x (ix2 k ⟨1280 + i.val, by omega⟩) := by
  pointwise

theorem ldd1280 (x : Vec Ideal S2816x1024 .f32) (i : Fin 256) (k : Fin 1024) :
    View.ld x (Rect.unit ![1280, 0] ![256, 1024] inb_S2816x1024_S256x1024_1280_0) (ix2 i k) = x (ix2 ⟨1280 + i.val, by omega⟩ k) := by
  pointwise

theorem ldg1536 (x : Vec Ideal S1024x2816 .f32) (k : Fin 1024) (i : Fin 256) :
    View.ld x (Rect.unit ![0, 1536] ![1024, 256] inb_S1024x2816_S1024x256_0_1536) (ix2 k i) = x (ix2 k ⟨1536 + i.val, by omega⟩) := by
  pointwise

theorem ldd1536 (x : Vec Ideal S2816x1024 .f32) (i : Fin 256) (k : Fin 1024) :
    View.ld x (Rect.unit ![1536, 0] ![256, 1024] inb_S2816x1024_S256x1024_1536_0) (ix2 i k) = x (ix2 ⟨1536 + i.val, by omega⟩ k) := by
  pointwise

theorem ldg1792 (x : Vec Ideal S1024x2816 .f32) (k : Fin 1024) (i : Fin 256) :
    View.ld x (Rect.unit ![0, 1792] ![1024, 256] inb_S1024x2816_S1024x256_0_1792) (ix2 k i) = x (ix2 k ⟨1792 + i.val, by omega⟩) := by
  pointwise

theorem ldd1792 (x : Vec Ideal S2816x1024 .f32) (i : Fin 256) (k : Fin 1024) :
    View.ld x (Rect.unit ![1792, 0] ![256, 1024] inb_S2816x1024_S256x1024_1792_0) (ix2 i k) = x (ix2 ⟨1792 + i.val, by omega⟩ k) := by
  pointwise

theorem ldg2048 (x : Vec Ideal S1024x2816 .f32) (k : Fin 1024) (i : Fin 256) :
    View.ld x (Rect.unit ![0, 2048] ![1024, 256] inb_S1024x2816_S1024x256_0_2048) (ix2 k i) = x (ix2 k ⟨2048 + i.val, by omega⟩) := by
  pointwise

theorem ldd2048 (x : Vec Ideal S2816x1024 .f32) (i : Fin 256) (k : Fin 1024) :
    View.ld x (Rect.unit ![2048, 0] ![256, 1024] inb_S2816x1024_S256x1024_2048_0) (ix2 i k) = x (ix2 ⟨2048 + i.val, by omega⟩ k) := by
  pointwise

theorem ldg2304 (x : Vec Ideal S1024x2816 .f32) (k : Fin 1024) (i : Fin 256) :
    View.ld x (Rect.unit ![0, 2304] ![1024, 256] inb_S1024x2816_S1024x256_0_2304) (ix2 k i) = x (ix2 k ⟨2304 + i.val, by omega⟩) := by
  pointwise

theorem ldd2304 (x : Vec Ideal S2816x1024 .f32) (i : Fin 256) (k : Fin 1024) :
    View.ld x (Rect.unit ![2304, 0] ![256, 1024] inb_S2816x1024_S256x1024_2304_0) (ix2 i k) = x (ix2 ⟨2304 + i.val, by omega⟩ k) := by
  pointwise

theorem ldg2560 (x : Vec Ideal S1024x2816 .f32) (k : Fin 1024) (i : Fin 256) :
    View.ld x (Rect.unit ![0, 2560] ![1024, 256] inb_S1024x2816_S1024x256_0_2560) (ix2 k i) = x (ix2 k ⟨2560 + i.val, by omega⟩) := by
  pointwise

theorem ldd2560 (x : Vec Ideal S2816x1024 .f32) (i : Fin 256) (k : Fin 1024) :
    View.ld x (Rect.unit ![2560, 0] ![256, 1024] inb_S2816x1024_S256x1024_2560_0) (ix2 i k) = x (ix2 ⟨2560 + i.val, by omega⟩ k) := by
  pointwise

theorem out_B (c : Dev nD) (i : grid0.Coords) (arg1 : Memref sig .tc .vmem S512x1024 .f32) (harg1 : arg1.IsWhole) (arg2 : Memref sig .tc .vmem S1x1x1024 .f32) (harg2 : arg2.IsWhole)
  (arg6 : Memref sig .tc .vmem S1x1024 .f32) (harg6 : arg6.IsWhole) (arg7 : Memref sig .tc .vmem S512x1024 .f32) (harg7 : arg7.IsWhole)
  (arg8 : Memref sig .tc .vmem S1024x2816 .f32) (harg8 : arg8.IsWhole) (arg9 : Memref sig .tc .vmem S1024x2816 .f32) (harg9 : arg9.IsWhole)
  (arg10 : Memref sig .tc .vmem S2816x1024 .f32) (harg10 : arg10.IsWhole) (hc0 : ¬cond0_0 i) (hc1 : cond0_1 i)
    (x0 : Vec Ideal S512x1024 .f32) (x1 : Vec Ideal S1x1x1024 .f32) (x2 : Vec Ideal S1x1024 .f32)
    (xs0 xs1 : Vec Ideal S1024x2816 .f32) (xs2 : Vec Ideal S2816x1024 .f32)
    (fh0 : HbBuf0 (F := Ideal) c hbM0_0) (fh1 : HbBuf0 (F := Ideal) c hbM0_1) (fh2 : HbBuf0 (F := Ideal) c hbM0_2)
    (r : Fin 512) (j : Fin 1024) :
    out0_B_3 c i arg1 harg1 arg2 harg2 arg6 harg6 arg7 harg7 arg8 harg8 arg9 harg9 arg10 harg10 hc0 hc1 x0 x1 x2 xs0 xs1 xs2 fh0 fh1 fh2 (ix2 r j)
      = ffnAt (fun k => x0 (ix2 r k)) (fun k => x1 (ix3 0 0 k)) (fun k f => xs0 (ix2 k f)) (fun k f => xs1 (ix2 k f))
          (fun f k => xs2 (ix2 f k)) j := by
  frame_out
  refine (out2 _ _ _ _ _ _ _ _ _ _ r j fun i => proj27 _ _ r i).trans ?_
  rw [step26 _ _ _ _ _ _ _ _ _ _ _ _ r j fun i => gate25 _ _ _ r i, step24,
    step23 _ _ _ _ _ _ _ _ _ _ _ _ r j fun i => proj21 _ _ _ r i, step20, copy18]
  rw [step_chunk _ _ _ _ r j _ (fun k f => xs0 (ix2 k f)) (fun k f => xs1 (ix2 k f)) (fun f k => xs2 (ix2 f k)) 0 (by decide) (fun k => norm19 x0 x1 r k) (ldg0 xs0) (ldg0 xs1) (ldd0 xs2),
    step_chunk _ _ _ _ r j _ (fun k f => xs0 (ix2 k f)) (fun k f => xs1 (ix2 k f)) (fun f k => xs2 (ix2 f k)) 256 (by decide) (fun k => norm19 x0 x1 r k) (ldg256 xs0) (ldg256 xs1) (ldd256 xs2),
    step_chunk _ _ _ _ r j _ (fun k f => xs0 (ix2 k f)) (fun k f => xs1 (ix2 k f)) (fun f k => xs2 (ix2 f k)) 512 (by decide) (fun k => norm19 x0 x1 r k) (ldg512 xs0) (ldg512 xs1) (ldd512 xs2),
    step_chunk _ _ _ _ r j _ (fun k f => xs0 (ix2 k f)) (fun k f => xs1 (ix2 k f)) (fun f k => xs2 (ix2 f k)) 768 (by decide) (fun k => norm19 x0 x1 r k) (ldg768 xs0) (ldg768 xs1) (ldd768 xs2),
    step_chunk _ _ _ _ r j _ (fun k f => xs0 (ix2 k f)) (fun k f => xs1 (ix2 k f)) (fun f k => xs2 (ix2 f k)) 1024 (by decide) (fun k => norm19 x0 x1 r k) (ldg1024 xs0) (ldg1024 xs1) (ldd1024 xs2),
    step_chunk _ _ _ _ r j _ (fun k f => xs0 (ix2 k f)) (fun k f => xs1 (ix2 k f)) (fun f k => xs2 (ix2 f k)) 1280 (by decide) (fun k => norm19 x0 x1 r k) (ldg1280 xs0) (ldg1280 xs1) (ldd1280 xs2),
    step_chunk _ _ _ _ r j _ (fun k f => xs0 (ix2 k f)) (fun k f => xs1 (ix2 k f)) (fun f k => xs2 (ix2 f k)) 1536 (by decide) (fun k => norm19 x0 x1 r k) (ldg1536 xs0) (ldg1536 xs1) (ldd1536 xs2),
    step_chunk _ _ _ _ r j _ (fun k f => xs0 (ix2 k f)) (fun k f => xs1 (ix2 k f)) (fun f k => xs2 (ix2 f k)) 1792 (by decide) (fun k => norm19 x0 x1 r k) (ldg1792 xs0) (ldg1792 xs1) (ldd1792 xs2),
    step_chunk _ _ _ _ r j _ (fun k f => xs0 (ix2 k f)) (fun k f => xs1 (ix2 k f)) (fun f k => xs2 (ix2 f k)) 2048 (by decide) (fun k => norm19 x0 x1 r k) (ldg2048 xs0) (ldg2048 xs1) (ldd2048 xs2),
    step_chunk _ _ _ _ r j _ (fun k f => xs0 (ix2 k f)) (fun k f => xs1 (ix2 k f)) (fun f k => xs2 (ix2 f k)) 2304 (by decide) (fun k => norm19 x0 x1 r k) (ldg2304 xs0) (ldg2304 xs1) (ldd2304 xs2),
    step_chunk _ _ _ _ r j _ (fun k f => xs0 (ix2 k f)) (fun k f => xs1 (ix2 k f)) (fun f k => xs2 (ix2 f k)) 2560 (by decide) (fun k => norm19 x0 x1 r k) (ldg2560 xs0) (ldg2560 xs1) (ldd2560 xs2)]
  rw [ffnAt, sum_chunks]

end Cert.FfnIdeal.Value

end
end
-- ==== Proof.FfnBlockA.lean ====
/- The feed-forward kernel's body at the first point: it fills the scratch with layer 3 of the three weights, chunk by chunk, and leaves the half step of its rows over them. -/
module

public import proofs.«01_k».proof.Proof.FfnFill
public import Idealize.ShloMosaic.Lib.Pipeline.ValueKit
public import Idealize.ShloMosaic.Lib.Pointwise

@[expose] public section

set_option maxRecDepth 16384

noncomputable section

namespace Cert.FfnIdeal.Value

open Idealize.ShloMosaic Idealize.ShloMosaic.TcCoe Idealize.SL.Sem
open Cert.FfnIdeal Cert.FfnIdeal.Gen Cert.Spec

/-- The scratch buffer of weight 0 after the first point holds layer 3 of it. -/
theorem scratch0_A (c : Dev nD) (i : grid0.Coords) (arg1 : Memref sig .tc .vmem S512x1024 .f32) (harg1 : arg1.IsWhole) (arg2 : Memref sig .tc .vmem S1x1x1024 .f32) (harg2 : arg2.IsWhole)
  (arg6 : Memref sig .tc .vmem S1x1024 .f32) (harg6 : arg6.IsWhole) (arg7 : Memref sig .tc .vmem S512x1024 .f32) (harg7 : arg7.IsWhole)
  (arg8 : Memref sig .tc .vmem S1024x2816 .f32) (harg8 : arg8.IsWhole) (arg9 : Memref sig .tc .vmem S1024x2816 .f32) (harg9 : arg9.IsWhole)
  (arg10 : Memref sig .tc .vmem S2816x1024 .f32) (harg10 : arg10.IsWhole) (hc0 : cond0_0 i) (hc1 : ¬cond0_1 i)
    (x0 : Vec Ideal S512x1024 .f32) (x1 : Vec Ideal S1x1x1024 .f32) (x2 : Vec Ideal S1x1024 .f32)
    (fh0 : HbBuf0 (F := Ideal) c hbM0_0) (fh1 : HbBuf0 (F := Ideal) c hbM0_1) (fh2 : HbBuf0 (F := Ideal) c hbM0_2)
    (r : Fin 1024) (j : Fin 2816) :
    sout0_A_0 c i arg1 harg1 arg2 harg2 arg6 harg6 arg7 harg7 arg8 harg8 arg9 harg9 arg10 harg10 hc0 hc1 x0 x1 x2 fh0 fh1 fh2 (ix2 r j) = (fh0 : Vec Ideal S4x1024x2816 .f32) (ix3 3 r j) := by
  frame_out
  exact filled0 c fh0 r j

/-- The scratch buffer of weight 1 after the first point holds layer 3 of it. -/
theorem scratch1_A (c : Dev nD) (i : grid0.Coords) (arg1 : Memref sig .tc .vmem S512x1024 .f32) (harg1 : arg1.IsWhole) (arg2 : Memref sig .tc .vmem S1x1x1024 .f32) (harg2 : arg2.IsWhole)
  (arg6 : Memref sig .tc .vmem S1x1024 .f32) (harg6 : arg6.IsWhole) (arg7 : Memref sig .tc .vmem S512x1024 .f32) (harg7 : arg7.IsWhole)
  (arg8 : Memref sig .tc .vmem S1024x2816 .f32) (harg8 : arg8.IsWhole) (arg9 : Memref sig .tc .vmem S1024x2816 .f32) (harg9 : arg9.IsWhole)
  (arg10 : Memref sig .tc .vmem S2816x1024 .f32) (harg10 : arg10.IsWhole) (hc0 : cond0_0 i) (hc1 : ¬cond0_1 i)
    (x0 : Vec Ideal S512x1024 .f32) (x1 : Vec Ideal S1x1x1024 .f32) (x2 : Vec Ideal S1x1024 .f32)
    (fh0 : HbBuf0 (F := Ideal) c hbM0_0) (fh1 : HbBuf0 (F := Ideal) c hbM0_1) (fh2 : HbBuf0 (F := Ideal) c hbM0_2)
    (r : Fin 1024) (j : Fin 2816) :
    sout0_A_1 c i arg1 harg1 arg2 harg2 arg6 harg6 arg7 harg7 arg8 harg8 arg9 harg9 arg10 harg10 hc0 hc1 x0 x1 x2 fh0 fh1 fh2 (ix2 r j) = (fh1 : Vec Ideal S4x1024x2816 .f32) (ix3 3 r j) := by
  frame_out
  exact filled1 c fh1 r j

/-- The scratch buffer of weight 2 after the first point holds layer 3 of it. -/
theorem scratch2_A (c : Dev nD) (i : grid0.Coords) (arg1 : Memref sig .tc .vmem S512x1024 .f32) (harg1 : arg1.IsWhole) (arg2 : Memref sig .tc .vmem S1x1x1024 .f32) (harg2 : arg2.IsWhole)
  (arg6 : Memref sig .tc .vmem S1x1024 .f32) (harg6 : arg6.IsWhole) (arg7 : Memref sig .tc .vmem S512x1024 .f32) (harg7 : arg7.IsWhole)
  (arg8 : Memref sig .tc .vmem S1024x2816 .f32) (harg8 : arg8.IsWhole) (arg9 : Memref sig .tc .vmem S1024x2816 .f32) (harg9 : arg9.IsWhole)
  (arg10 : Memref sig .tc .vmem S2816x1024 .f32) (harg10 : arg10.IsWhole) (hc0 : cond0_0 i) (hc1 : ¬cond0_1 i)
    (x0 : Vec Ideal S512x1024 .f32) (x1 : Vec Ideal S1x1x1024 .f32) (x2 : Vec Ideal S1x1024 .f32)
    (fh0 : HbBuf0 (F := Ideal) c hbM0_0) (fh1 : HbBuf0 (F := Ideal) c hbM0_1) (fh2 : HbBuf0 (F := Ideal) c hbM0_2)
    (r : Fin 2816) (j : Fin 1024) :
    sout0_A_2 c i arg1 harg1 arg2 harg2 arg6 harg6 arg7 harg7 arg8 harg8 arg9 harg9 arg10 harg10 hc0 hc1 x0 x1 x2 fh0 fh1 fh2 (ix2 r j) = (fh2 : Vec Ideal S4x2816x1024 .f32) (ix3 3 r j) := by
  frame_out
  exact filled2 c fh2 r j

/-- `w` is the 256 columns of `W` from `o`. -/
def Cols (w : Vec Ideal S1024x256 .f32) (W : Fin 1024 → Fin 2816 → EReal) (o : Nat) : Prop :=
  ∀ (k : Fin 1024) (i : Fin 256) (h : o + i.val < 2816), w (ix2 k i) = W k ⟨o + i.val, h⟩

/-- `w` is the 256 rows of `W` from `o`. -/
def Rows (w : Vec Ideal S256x1024 .f32) (W : Fin 2816 → Fin 1024 → EReal) (o : Nat) : Prop :=
  ∀ (i : Fin 256) (k : Fin 1024) (h : o + i.val < 2816), w (ix2 i k) = W ⟨o + i.val, h⟩ k

/-- The values of the first point's body, over any loads that read the chunks of three weights. -/
theorem chain_A (x0 : Vec Ideal S512x1024 .f32) (x1 : Vec Ideal S1x1x1024 .f32) (r : Fin 512) (j : Fin 1024)
    (WG WU : Fin 1024 → Fin 2816 → EReal) (WD : Fin 2816 → Fin 1024 → EReal)
    (g0 g1 g2 g3 g4 g5 g6 g7 g8 g9 g10 u0 u1 u2 u3 u4 u5 u6 u7 u8 u9 u10 : Vec Ideal S1024x256 .f32) (d0 d1 d2 d3 d4 d5 d6 d7 d8 d9 d10 : Vec Ideal S256x1024 .f32)
    (eg0 : Cols g0 WG 0) (eu0 : Cols u0 WU 0) (ed0 : Rows d0 WD 0)
    (eg1 : Cols g1 WG 256) (eu1 : Cols u1 WU 256) (ed1 : Rows d1 WD 256)
    (eg2 : Cols g2 WG 512) (eu2 : Cols u2 WU 512) (ed2 : Rows d2 WD 512)
    (eg3 : Cols g3 WG 768) (eu3 : Cols u3 WU 768) (ed3 : Rows d3 WD 768)
    (eg4 : Cols g4 WG 1024) (eu4 : Cols u4 WU 1024) (ed4 : Rows d4 WD 1024)
    (eg5 : Cols g5 WG 1280) (eu5 : Cols u5 WU 1280) (ed5 : Rows d5 WD 1280)
    (eg6 : Cols g6 WG 1536) (eu6 : Cols u6 WU 1536) (ed6 : Rows d6 WD 1536)
    (eg7 : Cols g7 WG 1792) (eu7 : Cols u7 WU 1792) (ed7 : Rows d7 WD 1792)
    (eg8 : Cols g8 WG 2048) (eu8 : Cols u8 WU 2048) (ed8 : Rows d8 WD 2048)
    (eg9 : Cols g9 WG 2304) (eu9 : Cols u9 WU 2304) (ed9 : Rows d9 WD 2304)
    (eg10 : Cols g10 WG 2560) (eu10 : Cols u10 WU 2560) (ed10 : Rows d10 WD 2560) :
    k0_pay1 (k0_pay3 x0) (k0_pay16 (k0_pay4 x0 x1) (k0_pay15 (k0_pay4 x0 x1) (k0_pay14 (k0_pay4 x0 x1) (k0_pay13 (k0_pay4 x0 x1) (k0_pay12 (k0_pay4 x0 x1) (k0_pay11 (k0_pay4 x0 x1) (k0_pay10 (k0_pay4 x0 x1) (k0_pay9 (k0_pay4 x0 x1) (k0_pay8 (k0_pay4 x0 x1) (k0_pay7 (k0_pay4 x0 x1) (k0_pay6 (k0_pay4 x0 x1) k0_pay5 g0 u0 d0) g1 u1 d1) g2 u2 d2) g3 u3 d3) g4 u4 d4) g5 u5 d5) g6 u6 d6) g7 u7 d7) g8 u8 d8) g9 u9 d9) g10 u10 d10) k0_pay17 (ix2 r j)
      = ffnAt (fun k => x0 (ix2 r k)) (fun k => x1 (ix3 0 0 k)) WG WU WD j := by
  rw [out1, copy3, step16, step15, step14, step13, step12, step11, step10, step9, step8, step7, step6, zero5, zero_add]
  rw [step_chunk _ g0 u0 d0 r j _ WG WU WD 0 (by decide) (fun k => norm4 x0 x1 r k) (fun a b => eg0 a b _) (fun a b => eu0 a b _) (fun a b => ed0 a b _),
    step_chunk _ g1 u1 d1 r j _ WG WU WD 256 (by decide) (fun k => norm4 x0 x1 r k) (fun a b => eg1 a b _) (fun a b => eu1 a b _) (fun a b => ed1 a b _),
    step_chunk _ g2 u2 d2 r j _ WG WU WD 512 (by decide) (fun k => norm4 x0 x1 r k) (fun a b => eg2 a b _) (fun a b => eu2 a b _) (fun a b => ed2 a b _),
    step_chunk _ g3 u3 d3 r j _ WG WU WD 768 (by decide) (fun k => norm4 x0 x1 r k) (fun a b => eg3 a b _) (fun a b => eu3 a b _) (fun a b => ed3 a b _),
    step_chunk _ g4 u4 d4 r j _ WG WU WD 1024 (by decide) (fun k => norm4 x0 x1 r k) (fun a b => eg4 a b _) (fun a b => eu4 a b _) (fun a b => ed4 a b _),
    step_chunk _ g5 u5 d5 r j _ WG WU WD 1280 (by decide) (fun k => norm4 x0 x1 r k) (fun a b => eg5 a b _) (fun a b => eu5 a b _) (fun a b => ed5 a b _),
    step_chunk _ g6 u6 d6 r j _ WG WU WD 1536 (by decide) (fun k => norm4 x0 x1 r k) (fun a b => eg6 a b _) (fun a b => eu6 a b _) (fun a b => ed6 a b _),
    step_chunk _ g7 u7 d7 r j _ WG WU WD 1792 (by decide) (fun k => norm4 x0 x1 r k) (fun a b => eg7 a b _) (fun a b => eu7 a b _) (fun a b => ed7 a b _),
    step_chunk _ g8 u8 d8 r j _ WG WU WD 2048 (by decide) (fun k => norm4 x0 x1 r k) (fun a b => eg8 a b _) (fun a b => eu8 a b _) (fun a b => ed8 a b _),
    step_chunk _ g9 u9 d9 r j _ WG WU WD 2304 (by decide) (fun k => norm4 x0 x1 r k) (fun a b => eg9 a b _) (fun a b => eu9 a b _) (fun a b => ed9 a b _),
    step_chunk _ g10 u10 d10 r j _ WG WU WD 2560 (by decide) (fun k => norm4 x0 x1 r k) (fun a b => eg10 a b _) (fun a b => eu10 a b _) (fun a b => ed10 a b _)]
  rw [ffnAt, sum_chunks]

theorem out_A (c : Dev nD) (i : grid0.Coords) (arg1 : Memref sig .tc .vmem S512x1024 .f32) (harg1 : arg1.IsWhole) (arg2 : Memref sig .tc .vmem S1x1x1024 .f32) (harg2 : arg2.IsWhole)
  (arg6 : Memref sig .tc .vmem S1x1024 .f32) (harg6 : arg6.IsWhole) (arg7 : Memref sig .tc .vmem S512x1024 .f32) (harg7 : arg7.IsWhole)
  (arg8 : Memref sig .tc .vmem S1024x2816 .f32) (harg8 : arg8.IsWhole) (arg9 : Memref sig .tc .vmem S1024x2816 .f32) (harg9 : arg9.IsWhole)
  (arg10 : Memref sig .tc .vmem S2816x1024 .f32) (harg10 : arg10.IsWhole) (hc0 : cond0_0 i) (hc1 : ¬cond0_1 i)
    (x0 : Vec Ideal S512x1024 .f32) (x1 : Vec Ideal S1x1x1024 .f32) (x2 : Vec Ideal S1x1024 .f32)
    (fh0 : HbBuf0 (F := Ideal) c hbM0_0) (fh1 : HbBuf0 (F := Ideal) c hbM0_1) (fh2 : HbBuf0 (F := Ideal) c hbM0_2)
    (r : Fin 512) (j : Fin 1024) :
    out0_A_3 c i arg1 harg1 arg2 harg2 arg6 harg6 arg7 harg7 arg8 harg8 arg9 harg9 arg10 harg10 hc0 hc1 x0 x1 x2 fh0 fh1 fh2 (ix2 r j)
      = ffnAt (fun k => x0 (ix2 r k)) (fun k => x1 (ix3 0 0 k)) (fun k f => (fh0 : Vec Ideal S4x1024x2816 .f32) (ix3 3 k f))
          (fun k f => (fh1 : Vec Ideal S4x1024x2816 .f32) (ix3 3 k f)) (fun f k => (fh2 : Vec Ideal S4x2816x1024 .f32) (ix3 3 f k)) j := by
  frame_out
  exact chain_A x0 x1 r j _ _ _ _ _ _ _ _ _ _ _ _ _ _ _ _ _ _ _ _ _ _ _ _ _ _ _ _ _ _ _ _ _ _ _ _
    (fun a b _ => load0 _ c fh0 0 (by decide) _ a b) (fun a b _ => load1 _ c fh1 0 (by decide) _ a b) (fun a b _ => load2 _ c fh2 0 (by decide) _ a b)
    (fun a b _ => load0 _ c fh0 256 (by decide) _ a b) (fun a b _ => load1 _ c fh1 256 (by decide) _ a b) (fun a b _ => load2 _ c fh2 256 (by decide) _ a b)
    (fun a b _ => load0 _ c fh0 512 (by decide) _ a b) (fun a b _ => load1 _ c fh1 512 (by decide) _ a b) (fun a b _ => load2 _ c fh2 512 (by decide) _ a b)
    (fun a b _ => load0 _ c fh0 768 (by decide) _ a b) (fun a b _ => load1 _ c fh1 768 (by decide) _ a b) (fun a b _ => load2 _ c fh2 768 (by decide) _ a b)
    (fun a b _ => load0 _ c fh0 1024 (by decide) _ a b) (fun a b _ => load1 _ c fh1 1024 (by decide) _ a b) (fun a b _ => load2 _ c fh2 1024 (by decide) _ a b)
    (fun a b _ => load0 _ c fh0 1280 (by decide) _ a b) (fun a b _ => load1 _ c fh1 1280 (by decide) _ a b) (fun a b _ => load2 _ c fh2 1280 (by decide) _ a b)
    (fun a b _ => load0 _ c fh0 1536 (by decide) _ a b) (fun a b _ => load1 _ c fh1 1536 (by decide) _ a b) (fun a b _ => load2 _ c fh2 1536 (by decide) _ a b)
    (fun a b _ => load0 _ c fh0 1792 (by decide) _ a b) (fun a b _ => load1 _ c fh1 1792 (by decide) _ a b) (fun a b _ => load2 _ c fh2 1792 (by decide) _ a b)
    (fun a b _ => load0 _ c fh0 2048 (by decide) _ a b) (fun a b _ => load1 _ c fh1 2048 (by decide) _ a b) (fun a b _ => load2 _ c fh2 2048 (by decide) _ a b)
    (fun a b _ => load0 _ c fh0 2304 (by decide) _ a b) (fun a b _ => load1 _ c fh1 2304 (by decide) _ a b) (fun a b _ => load2 _ c fh2 2304 (by decide) _ a b)
    (fun a b _ => load0 _ c fh0 2560 (by decide) _ a b) (fun a b _ => load1 _ c fh1 2560 (by decide) _ a b) (fun a b _ => load2 _ c fh2 2560 (by decide) _ a b)

end Cert.FfnIdeal.Value

end
end
-- ==== Proof.FfnArray.lean ====
/- The feed-forward kernel's array and result: the weights carried in scratch are layer 3 of the arguments at every point, so every block holds the half step of its tokens, and so does the result. -/
module

public import proofs.«01_k».proof.Proof.FfnBlockA
public import Idealize.ShloMosaic.Lib.Pipeline.ValueKit
public import Idealize.ShloMosaic.Lib.Pointwise

@[expose] public section

set_option maxRecDepth 16384

noncomputable section

namespace Cert.FfnIdeal.Value

open Idealize.ShloMosaic Idealize.ShloMosaic.TcCoe Idealize.SL.Sem
open Cert.FfnIdeal Cert.FfnIdeal.Gen Cert.Spec

variable (m : (ℓ : Loc nD τ sig) → Buf (Elt Ideal) ℓ) (c : Dev nD) (t : Fin cfg0.N)

/-- Entry `j` of token `(b, l)` after the half step, from the arguments. -/
def tokenAt (b : Fin 2) (l : Fin 8192) (j : Fin 1024) : EReal :=
  ffnAt (fun k => m ((c : Thread nD τ).loc main_arg0) (ix3 b l k)) (fun i => m ((c : Thread nD τ).loc main_arg1) (ix2 3 i))
    (fun k f => m ((c : Thread nD τ).loc main_arg2) (ix3 3 k f)) (fun k f => m ((c : Thread nD τ).loc main_arg3) (ix3 3 k f))
    (fun f k => m ((c : Thread nD τ).loc main_arg4) (ix3 3 f k)) j

/-- Every window's block index, in closed form. -/
theorem idx : ∀ t : Fin cfg0.N, win0_0.index t = ![t.val, 0] ∧ win0_1.index t = ![3, 0, 0] ∧ win0_3.index t = ![t.val, 0] :=
  (by decide +kernel : ∀ t : Fin grid0.N, _)

/-- Row `r` of the block at point `t`, as a row of the whole array. -/
def rowOf (t : Fin cfg0.N) (r : Fin 512) : Fin 16384 := ⟨t.val * 512 + r.val, by have : t.val < 32 := t.isLt; omega⟩

/-- The batch row of a row of the array. -/
def rowB (i : Fin 16384) : Fin 2 := ⟨i.val / 8192, by omega⟩

/-- Its place in the sequence. -/
def rowL (i : Fin 16384) : Fin 8192 := ⟨i.val % 8192, by omega⟩

theorem entry0 : V m c main_v0 = shapeCast S16384x1024 (m ((c : Thread nD τ).loc main_arg0)) shapeCasts_S2x8192x1024_S16384x1024 := by
  unfold V V0
  simp only [List.flatten_cons, List.flatten_nil, List.append_nil, hostOps0]
  after_results
  try rfl

theorem entry1 : V m c main_v1 = broadcastInDim S4x1x1024 ![0, 2] bcast_S4x1024_S4x1x1024_0_2 (m ((c : Thread nD τ).loc main_arg1)) := by
  unfold V V0
  simp only [List.flatten_cons, List.flatten_nil, List.append_nil, hostOps0]
  after_results
  try rfl

theorem weight2 : V m c main_arg2 = m ((c : Thread nD τ).loc main_arg2) := by
  unfold V V0
  simp only [List.flatten_cons, List.flatten_nil, List.append_nil, hostOps0]
  after_results
  try rfl

theorem weight3 : V m c main_arg3 = m ((c : Thread nD τ).loc main_arg3) := by
  unfold V V0
  simp only [List.flatten_cons, List.flatten_nil, List.append_nil, hostOps0]
  after_results
  try rfl

theorem weight4 : V m c main_arg4 = m ((c : Thread nD τ).loc main_arg4) := by
  unfold V V0
  simp only [List.flatten_cons, List.flatten_nil, List.append_nil, hostOps0]
  after_results
  try rfl

theorem flat_at (x : FVec Ideal S2x8192x1024 .f32) (b : Fin 2) (l : Fin 8192) (k : Fin 1024) :
    shapeCast S16384x1024 x shapeCasts_S2x8192x1024_S16384x1024 (ix2 ⟨b.val * 8192 + l.val, by omega⟩ k) = x (ix3 b l k) := by
  pointwise

theorem row_eq (i : Fin 16384) : i = ⟨(rowB i).val * 8192 + (rowL i).val, by omega⟩ :=
  Fin.ext (by simp only [rowB, rowL]; omega)

theorem read0 (r : Fin 512) (k : Fin 1024) :
    iblk m c 0 t (ix2 r k) = m ((c : Thread nD τ).loc main_arg0) (ix3 (rowB (rowOf t r)) (rowL (rowOf t r)) k) := by
  have e : iblk m c 0 t (ix2 r k) = V m c main_v0 (ix2 (rowOf t r) k) := by blk_ext [iblk, idx t, rowOf]
  rw [e, entry0]
  generalize rowOf t r = i
  exact (congrArg (fun i => shapeCast S16384x1024 (m ((c : Thread nD τ).loc main_arg0)) shapeCasts_S2x8192x1024_S16384x1024 (ix2 i k)) (row_eq i)).trans (flat_at _ _ _ k)

theorem read1 (k : Fin 1024) : iblk m c 1 t (ix3 0 0 k) = m ((c : Thread nD τ).loc main_arg1) (ix2 3 k) := by
  have e : iblk m c 1 t (ix3 0 0 k) = V m c main_v1 (ix3 (3 : Fin 4) (0 : Fin 1) k) := by blk_ext [iblk, idx t]
  rw [e, entry1]
  pointwise

/-- The scratch contents `x` are layer 3 of the three weights. -/
def Held (x : Vec Ideal S1024x2816 .f32 × Vec Ideal S1024x2816 .f32 × Vec Ideal S2816x1024 .f32) : Prop :=
  (∀ (k : Fin 1024) (f : Fin 2816), x.1 (ix2 k f) = m ((c : Thread nD τ).loc main_arg2) (ix3 3 k f))
    ∧ (∀ (k : Fin 1024) (f : Fin 2816), x.2.1 (ix2 k f) = m ((c : Thread nD τ).loc main_arg3) (ix3 3 k f))
    ∧ ∀ (f : Fin 2816) (k : Fin 1024), x.2.2 (ix2 f k) = m ((c : Thread nD τ).loc main_arg4) (ix3 3 f k)

/-- After every point the scratch holds them: the first point fills it, the others leave it. -/
theorem held : ∀ (n : ℕ) (hn : n < cfg0.N), Held m c (outsAt0 m c n hn).2
  | 0, hn => by
    have e := outsAt0_A m c ⟨0, hn⟩ rfl (Nat.not_succ_le_zero 0)
    refine (congrArg (fun x => Held m c x.2) e).mpr ?_
    dsimp only [Held]
    refine ⟨fun r j => ?_, fun r j => ?_, fun r j => ?_⟩
    · rw [scratch0_A, weight2]
    · rw [scratch1_A, weight3]
    · rw [scratch2_A, weight4]
  | n + 1, hn => by
    have hN : n + 1 < 32 := hn
    have e := outsAt0_B m c ⟨n + 1, hn⟩ (by show ¬(n + 1) % 32 = 0; omega) (by show 1 ≤ n + 1; omega)
    refine (congrArg (fun x => Held m c x.2) e).mpr ?_
    dsimp only [Held, sout0_B_0, sout0_B_1, sout0_B_2]
    exact held n (Nat.lt_of_succ_lt hn)

/-- What the body leaves in the output block at point `t`: each row is its token's. -/
theorem point (r : Fin 512) (j : Fin 1024) :
    (outsAt0 m c t.val t.isLt).1 (ix2 r j) = tokenAt m c (rowB (rowOf t r)) (rowL (rowOf t r)) j := by
  have ht : t.val < 32 := t.isLt
  unfold tokenAt
  by_cases h : 1 ≤ t.val
  · rw [outsAt0_B m c t (by omega) h]
    obtain ⟨e0, e1, e2⟩ := held m c (t.val - 1) (Nat.lt_of_le_of_lt (Nat.sub_le _ _) t.isLt)
    dsimp only
    rw [out_B]
    simp only [read0, read1, e0, e1, e2]
  · rw [outsAt0_A m c t (by omega) h]
    dsimp only
    rw [out_A]
    simp only [read0, read1]
    rw [weight2, weight3, weight4]

/-- Row `i` of the output array is token `(i / 8192, i % 8192)`. -/
def arrayAt (i : S16384x1024.Idx) : EReal := tokenAt m c (rowB (i 0)) (rowL (i 0)) (i 1)

/-- The output array after the grid. -/
theorem final : (dats m 0 c).arrAt 3 (cfgs 0).N = arrayAt m c := by
  refine (dats m 0 c).arrAt_eq_of_covers 3 _ (by decide +kernel) fun t hf y => ?_
  blk_simp
  rw [after0_3]
  obtain ⟨r, j, rfl⟩ : ∃ (r : Fin 512) (j : Fin 1024), y = ix2 r j := ⟨y 0, y 1, by blk_ext⟩
  rw [point]
  have e : ((cfg0.win 3).blk t).view.emb (ix2 r j) = (ix2 (rowOf t r) j : S16384x1024.Idx) := by blk_ext [idx t, rowOf]
  exact (congrArg (arrayAt m c) e).symm

/-- The result: every token's row after the half step. -/
def resultAt : S2x8192x1024.Idx → EReal := fun i => tokenAt m c (i 0) (i 1) (i 2)

/-- The output array's rows, by token, are the result. -/
theorem order_back : shapeCast S2x8192x1024 (arrayAt m c : FVec Ideal S16384x1024 .f32) shapeCasts_S16384x1024_S2x8192x1024 = resultAt m c := by
  funext i
  obtain ⟨b, l, j, rfl⟩ : ∃ (b : Fin 2) (l : Fin 8192) (j : Fin 1024), i = ix3 b l j := ⟨i 0, i 1, i 2, by blk_ext⟩
  generalize hA : arrayAt m c = A
  pointwise
  subst hA
  unfold arrayAt resultAt
  have hl := l.isLt
  refine congrArg₂ (fun b l => tokenAt m c b l j) (Fin.ext ?_) (Fin.ext ?_)
  · show (b.val * 8192 + l.val) / 8192 = b.val
    omega
  · show (b.val * 8192 + l.val) % 8192 = l.val
    omega

/-- The result buffer when the program ends. -/
theorem tail : Pipeline.afterTail₀ cfgs (dats m) 0 (V0 m) [hostOps1] c main_v4 = resultAt m c := by
  unfold Pipeline.afterTail₀
  simp only [List.flatten_cons, List.flatten_nil, List.append_nil, hostOps1]
  after_results
  have e := (Pipeline.withArrays_arr spec0 (by decide) c (V0 m c) (fun w => (dats m 0 c).arrAt w (cfgs 0).N) 3).trans (final m c)
  refine Eq.trans ?_ (order_back m c)
  rw [← e]
  rfl

variable (ρ : Dev nD → PrngReg)

/-- The run: the result buffer ends at every token's row after the half step. -/
theorem run : θ_run defs (onTc (τ := τ) (main (F := Ideal))) ⟨m, fun _ => 0, ρ⟩ (fun r => ∀ c : Dev nD,
    r.2.mem ((c.tc : Thread nD τ).loc main_v4) = resultAt m c) :=
  θ_run_mono (run_main m ρ) fun r h c => ((h c).2 main_v4 (by decide)).trans (tail m c)

end Cert.FfnIdeal.Value

end
end
-- ==== Proof.FfnRef.lean ====
/- What the feed-forward call's reference computes, read at one entry: the per-token function `Spec.ffnAt` of that token's
   row and of layer 3's weights. -/
module

public import proofs.«01_k».proof.Proof.Gen.FfnRefIdeal.Read
public import proofs.«01_k».proof.Proof.FfnSpec
public import Idealize.ShloMosaic.Lib.Pipeline.ValueKit
public import Idealize.ShloMosaic.Lib.Pointwise

@[expose] public section

set_option maxRecDepth 16384

noncomputable section

namespace Cert.FfnRefIdeal.Value

open Idealize.ShloMosaic Idealize.ShloMosaic.TcCoe Idealize.SL.Sem
open Cert.FfnRefIdeal Cert.FfnRefIdeal.Gen Cert.FfnRefIdeal.Read Cert.Spec

variable (x0 : FVec Ideal S2x8192x1024 .f32) (x1 : FVec Ideal S4x1024 .f32) (x2 x3 : FVec Ideal S4x1024x2816 .f32)
  (x4 : FVec Ideal S4x2816x1024 .f32) (b : Fin 2) (l : Fin 8192)

/-- The normed row. -/
theorem norm_at (k : Fin 1024) :
    val_main_v14 (F := Ideal) x0 x1 (ix3 b l k) = rmsAt (fun i => x0 (ix3 b l i)) (fun i => x1 (ix2 3 i)) k := by
  unfold rmsAt
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- A hidden feature. -/
theorem hid_at (f : Fin 2816) :
    val_main_v24 (F := Ideal) x0 x1 x2 x3 (ix3 b l f) = hidAt (rmsAt (fun i => x0 (ix3 b l i)) (fun i => x1 (ix2 3 i)))
      (fun k f => x2 (ix3 3 k f)) (fun k f => x3 (ix3 3 k f)) f := by
  unfold hidAt gateAt Ideal.logistic
  pointwise [val_main_v24, val_main_v23, val_main_v22, val_main_v21, val_main_v18, val_main_v17, val_main_v16, val_main_v15,
    val_main_call0_v5, val_main_call0_v4, val_main_call0_v3, val_main_call0_v2, val_main_call0_v1, val_main_call0_v0,
    val_main_call0_cst, val_main_call0_cst_0]
  simp only [norm_at]

/-- The reference's result. -/
theorem ref_at (j : Fin 1024) :
    val_main_v28 (F := Ideal) x0 x1 x2 x3 x4 (ix3 b l j) = ffnAt (fun k => x0 (ix3 b l k)) (fun i => x1 (ix2 3 i))
      (fun k f => x2 (ix3 3 k f)) (fun k f => x3 (ix3 3 k f)) (fun f j => x4 (ix3 3 f j)) j := by
  unfold ffnAt
  pointwise [val_main_v28, val_main_v27, val_main_v26, val_main_v25, val_main_v20, val_main_v19, val_main_cst_2]
  simp only [hid_at]

end Cert.FfnRefIdeal.Value

end
end
-- ==== Proof.FfnEq.lean ====
/- The feed-forward half step's reference and its kernel give the same result from the same arguments. -/
module

public import proofs.«01_k».proof.Proof.FfnArray
public import proofs.«01_k».proof.Proof.FfnRef

@[expose] public section

set_option maxRecDepth 16384

noncomputable section

namespace Cert.FfnEq

open Idealize.ShloMosaic Idealize.ShloMosaic.TcCoe Idealize.SL.Sem

variable (m : (ℓ : Loc Cert.FfnIdeal.nD Cert.FfnIdeal.τ Cert.FfnIdeal.sig) → Buf (Elt Ideal) ℓ)
  (m' : (ℓ : Loc Cert.FfnRefIdeal.nD Cert.FfnRefIdeal.τ Cert.FfnRefIdeal.sig) → Buf (Elt Ideal) ℓ) (c : Dev Cert.FfnIdeal.nD)

/-- The reference's result is the kernel's, where the arguments agree. -/
theorem result_eq
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) :
    Cert.FfnRefIdeal.Read.val_main_v28 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) = Cert.FfnIdeal.Value.resultAt m c := by
  funext i
  obtain ⟨b, l, j, rfl⟩ : ∃ (b : Fin 2) (l : Fin 8192) (j : Fin 1024), i = ix3 b l j := ⟨i 0, i 1, i 2, by blk_ext⟩
  refine (Cert.FfnRefIdeal.Value.ref_at _ _ _ _ _ b l j).trans ?_
  rw [h0, h1, h2, h3, h4]
  rfl

end Cert.FfnEq

end
end
-- ==== Proof.FirstIdealRing.lean ====
/- The first half step's kernel streams its rows through two slots of scratch, one point ahead: the names, the cases of its points and the ring the slots form. -/
module

public import proofs.«01_k».proof.Proof.Gen.FirstIdeal.Launch
public import proofs.«01_k».proof.Proof.Gen.FirstIdeal.Skeleton
public import proofs.«01_k».proof.Proof.Gen.FirstIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pointwise
public import Idealize.ShloMosaic.Lib.Pipeline.ValueKit

@[expose] public section

set_option maxRecDepth 16384

noncomputable section

namespace Cert.FirstIdeal.Rd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FirstIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.unary_writes, StableHlo.reshape_writes, StableHlo.nullary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, StableHlo.nullary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, StableHlo.nullary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, StableHlo.nullary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, StableHlo.nullary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, StableHlo.nullary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.reshape_writes, StableHlo.nullary_writes, Finset.mem_singleton]
    repeat' apply And.intro
    all_goals exact StableHlo.devRef_ne_of_ne (by decide)))

theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, StableHlo.nullary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, StableHlo.nullary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, StableHlo.nullary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, StableHlo.nullary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, StableHlo.reshape_writes, StableHlo.nullary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.unary_writes, StableHlo.reshape_writes, StableHlo.nullary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c))⟩) h

/-- The conditions of the body's branches at grid point `i`: the first point begins the first copy, every point but the last
    begins the next point's, the first point loads the weights, the later ones find them. -/
abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1
abbrev cond0_2 (i : grid0.Coords) : Prop := k0_cond3 i = 1#1
abbrev cond0_3 (i : grid0.Coords) : Prop := k0_cond4 i = 1#1
theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val < 31 :=
  (by decide +kernel : ∀ t : Fin grid0.N, cond0_1 (grid0.coords t) ↔ t.val < 31)
theorem hcond0_2 : ∀ t : Fin cfg0.N, cond0_2 (grid0.coords t) ↔ t.val = 0 :=
  (by decide +kernel : ∀ t : Fin grid0.N, cond0_2 (grid0.coords t) ↔ t.val = 0)
theorem hcond0_3 : ∀ t : Fin cfg0.N, cond0_3 (grid0.coords t) ↔ 1 ≤ t.val :=
  (by decide +kernel : ∀ t : Fin grid0.N, cond0_3 (grid0.coords t) ↔ 1 ≤ t.val)

abbrev VO0_2 : View sig .tc .vmem S512x1024 .f32 := (Memref.whole cc0_stg2_0 : Memref sig .tc .vmem S512x1024 .f32).view
abbrev ms0_0 (t : Fin cfg0.N) : Memref sig .tc .vmem S1x1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev scM0_0 : Memref sig .tc .vmem S1024x2816 .f32 := Memref.whole cc0_scratch0
abbrev scM0_1 : Memref sig .tc .vmem S1024x2816 .f32 := Memref.whole cc0_scratch1
abbrev scM0_2 : Memref sig .tc .vmem S2816x1024 .f32 := Memref.whole cc0_scratch2
abbrev scM0_3 : Memref sig .tc .vmem S2x512x1024 .f32 := Memref.whole cc0_scratch4
abbrev hbM0_0 : Memref sig .tc .hbm S512x32x1024 .f32 := Memref.whole main_v0
abbrev hbM0_1 : Memref sig .tc .hbm S4x1024x2816 .f32 := Memref.whole main_arg2
abbrev hbM0_2 : Memref sig .tc .hbm S4x1024x2816 .f32 := Memref.whole main_arg3
abbrev hbM0_3 : Memref sig .tc .hbm S4x2816x1024 .f32 := Memref.whole main_arg4
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- What every point finds and leaves alike: the semaphores of the weights' copies at zero and the weights in main memory. -/
def idle0 (c : Dev nD) (fh1 : HbBuf0 (F := F) c hbM0_1) (fh2 : HbBuf0 (F := F) c hbM0_2) (fh3 : HbBuf0 (F := F) c hbM0_3) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ hbPt0 c hbM0_1 fh1 ∗ hbPt0 c hbM0_2 fh2 ∗ hbPt0 c hbM0_3 fh3)

abbrev osem0 : Fin 35 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38] : Fin 35 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34] (by decide) (by decide)]; rfl
def H0 : Finset (Ref sig .tc) := {main_v0, main_arg2, main_arg3, main_arg4}
theorem H0_sub : H0 ⊆ Pipeline.restRefs sig spec0 := by decide
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl
    all_goals intro b hb; simp only [H0, Finset.mem_insert, Finset.mem_singleton] at hb
    all_goals rcases hb with rfl | rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_arg2) ∗ hbPt0 c hbM0_2 (V m c main_arg3) ∗ hbPt0 c hbM0_3 (V m c main_arg4)) := by
  rw [BI.bigSep_eq_bigSepL_of_eq [main_v0, main_arg2, main_arg3, main_arg4] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) ∗ iprop(hbPt0 c hbM0_0 (V m c main_v0) ∗ hbPt0 c hbM0_1 (V m c main_arg2) ∗ hbPt0 c hbM0_2 (V m c main_arg3) ∗ hbPt0 c hbM0_3 (V m c main_arg4))) := by
  rw [Pipeline.ΦD_eq, scopedRest0_eq, ownSems00_eq, hbmPts0_eq]; simp only [scM0_0, scM0_1, scM0_2, scM0_3, owns_whole]; try rfl

instance : NeZero grid0.N := ⟨by rw [N_0]; decide⟩
theorem inb_slot0_0 (s : Fin 2) : ∀ a, (![s.val, 0, 0] : Fin 3 → Nat) a + S1x512x1024.size a ≤ S2x512x1024.size a := by
  have := s.isLt; intro a; fin_cases a <;> simp <;> omega
theorem inb_src0_0 (b : Fin 32) : ∀ a, (![0, 1 * b.val, 0] : Fin 3 → Nat) a + S512x1x1024.size a ≤ S512x32x1024.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega
def rslot0_0 (s : Fin 2) : Memref sig .tc .vmem S512x1024 .f32 :=
  (scM0_3.slice (Rect.unit (s := S2x512x1024) ![s.val, 0, 0] S1x512x1024.size (inb_slot0_0 s)) (fun _ => rfl)).squeeze S512x1024 squeezes_S1x512x1024_S512x1024
def srcB0_0 (b : Fin 32) : Memref sig .tc .hbm S512x1024 .f32 :=
  (hbM0_0.slice (Rect.unit (s := S512x32x1024) ![0, 1 * b.val, 0] S512x1x1024.size (inb_src0_0 b)) (fun _ => rfl)).squeeze S512x1024 squeezes_S512x1x1024_S512x1024
def cellA0_0 (s : Fin 2) : DmaSems sig S_ := (cc0_scratch5.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 37 := by decide
theorem cellR0_0_1 : cellR0_0 1 = SemLoc.dma 38 := by decide

section Ring0_0
variable (c : Dev nD) (W : HbBuf0 (F := F) c hbM0_0)
abbrev qs0_0 (s : Fin 2) : PosShare TreeShare := if s.val = 0 then fullShare.left else fullShare.right
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 32) : sProp 𝕄 := (srcB0_0 b).view.loc (c : Thread nD τ) ↦[(srcB0_0 b).view.set]{qs0_0 s} W
def restP0_0 (s : Fin 2) (b : Fin 32) : sProp 𝕄 := ((c : Thread nD τ).loc main_v0) ↦[Finset.univ \ (srcB0_0 b).view.set]{qs0_0 s} W
abbrev wholeP0_0 (s : Fin 2) : sProp 𝕄 := ((c : Thread nD τ).loc main_v0) ↦[Finset.univ]{qs0_0 s} W
abbrev landed0_0 (s : Fin 2) (b : Fin 32) (f : HbBuf0 (F := F) c (rslot0_0 s)) : HbBuf0 (F := F) c (rslot0_0 s) :=
  (rslot0_0 s).view.writes (Elt F) f [⟨Rect.whole S512x1024, ReadAs.same.apply ((srcB0_0 b).view.read (Elt F) W)⟩]
abbrev flightP0_0 (s : Fin 2) (b : Fin 32) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
abbrev slotW0_0 (s : Fin 2) (f : HbBuf0 (F := F) c (rslot0_0 s)) : sProp 𝕄 := iprop(slotP0_0 c s f ∗ wholeP0_0 c W s)
abbrev flightW0_0 (s : Fin 2) (b : Fin 32) (f : HbBuf0 (F := F) c (rslot0_0 s)) : sProp 𝕄 := iprop(flightP0_0 c W s b f ∗ restP0_0 c W s b)
abbrev noHome0_0 (b : Fin 32) : sProp 𝕄 := iprop(emp)
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] in
theorem cellP0_0_0 : cellP0_0 (F := F) c 0 = semVal ((c : Thread nD τ), SemLoc.dma 37) 0 := congrArg (fun x => (semVal ((c : Thread nD τ), x) 0 : sProp 𝕄)) cellR0_0_0
omit [FloatOps F] in
theorem cellP0_0_1 : cellP0_0 (F := F) c 1 = semVal ((c : Thread nD τ), SemLoc.dma 38) 0 := congrArg (fun x => (semVal ((c : Thread nD τ), x) 0 : sProp 𝕄)) cellR0_0_1
end Ring0_0

abbrev slotSet0_0 (s : Fin 2) : Finset S2x512x1024.Idx := (Rect.unit (s := S2x512x1024) ![s.val, 0, 0] S1x512x1024.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x512x1024) (0 : Fin 3) 1 (fun s : Fin 2 => (![s.val, 0, 0] : Fin 3 → Nat)) S1x512x1024.size inb_slot0_0 (fun s => by simp) rfl s s' h
theorem slots0_0_cover : Finset.univ.biUnion slotSet0_0 = Finset.univ :=
  Ring.lead_cover (s := S2x512x1024) (0 : Fin 3) 1 (fun s : Fin 2 => (![s.val, 0, 0] : Fin 3 → Nat)) S1x512x1024.size inb_slot0_0 (fun s => by simp)
    (fun s a ha => by fin_cases a <;> first | exact absurd rfl ha | rfl) rfl (fun a ha => by fin_cases a <;> first | exact absurd rfl ha | rfl) rfl

section InOut0_0
variable (c : Dev nD) (W : HbBuf0 (F := F) c hbM0_0)
theorem slotP0_0_eq (s : Fin 2) (f) : slotP0_0 (F := F) c s f = (((c : Thread nD τ).loc cc0_scratch4) ↦[slotSet0_0 s]{fullShare} f : sProp 𝕄) := by
  unfold slotP0_0; rw [slotSet0_0_eq]; rfl
theorem src0_0_split (s : Fin 2) (b : Fin 32) : wholeP0_0 (F := F) c W s ⊣⊢ iprop(srcP0_0 c W s b ∗ restP0_0 c W s b) := by
  unfold restP0_0; exact pointsTo_split_subset (Finset.subset_univ _)
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
theorem slots0_0_in : iprop(∃ d, owns (c : Thread nD τ) scM0_3 fullShare d) ⊢ (iprop((∃ f, slotP0_0 (F := F) c 0 f) ∗ ∃ f, slotP0_0 (F := F) c 1 f) : sProp 𝕄) := by
  simp only [scM0_3, owns_whole]
  exact Ring.slots2_split (U := Pipeline.UD sig nD τ) (ℓ := (c : Thread nD τ).loc cc0_scratch4) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_3 fullShare d) := by
  simp only [scM0_3, owns_whole]
  exact Ring.slots2_join (U := Pipeline.UD sig nD τ) (ℓ := (c : Thread nD τ).loc cc0_scratch4) (q := fullShare) slotSet0_0 slots0_0_disjoint slots0_0_cover
    (slotP0_0 c 0) (slotP0_0 c 1) (slotP0_0_eq c 0) (slotP0_0_eq c 1)
end InOut0_0

theorem ring0_0_in (c : Dev nD) :
    iprop((∃ d, owns (c : Thread nD τ) scM0_3 fullShare d) ∗ (semVal ((c : Thread nD τ), SemLoc.dma 37) 0 ∗ semVal ((c : Thread nD τ), SemLoc.dma 38) 0) ∗ hbPt0 c hbM0_0 (V m c main_v0))
      ⊢ ringAt0_0 c (V m c main_v0) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
theorem ring0_0_out (c : Dev nD) :
    ringAt0_0 c (V m c main_v0) 32
      ⊢ iprop((∃ d, owns (c : Thread nD τ) scM0_3 fullShare d) ∗ (semVal ((c : Thread nD τ), SemLoc.dma 37) 0 ∗ semVal ((c : Thread nD τ), SemLoc.dma 38) 0) ∗ hbPt0 c hbM0_0 (V m c main_v0)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_v0)).2; isplitl [HW0]; · iexact HW0
    iexact HW1

section Canon0_0
omit [FloatOps F]
theorem rstep0_0_A : ∀ t : Fin grid0.N, cond0_0 (grid0.coords t) → cond0_1 (grid0.coords t) → t.val = 0 ∧ (t.val + 1) = 1 := by decide +kernel
theorem rstep0_0_B : ∀ t : Fin grid0.N, ¬cond0_0 (grid0.coords t) → cond0_1 (grid0.coords t) → 1 ≤ t.val ∧ t.val + 1 < 32 ∧ (t.val + 1) = t.val + 1 := by decide +kernel
theorem rstep0_0_C : ∀ t : Fin grid0.N, ¬cond0_0 (grid0.coords t) → ¬cond0_1 (grid0.coords t) → 1 ≤ t.val ∧ t.val + 1 = 32 ∧ (t.val + 1) = t.val + 1 := by decide +kernel
set_option synthInstance.maxSize 4096 in
theorem coff0_0_1 : ∀ t : Fin grid0.N, cond0_0 (grid0.coords t) → cond0_1 (grid0.coords t) → (![0, 0, 0] : Fin 3 → Nat) = ![(Ring.sl 2 t.val).val, 0, 0] := by decide +kernel
@[sl_canon] theorem canon0_0_1 (t : Fin grid0.N) (h0 : cond0_0 (grid0.coords t)) (h1 : cond0_1 (grid0.coords t)) :
    (scM0_3.slice (Rect.unit (s := S2x512x1024) ![0, 0, 0] S1x512x1024.size inb_S2x512x1024_S1x512x1024_0_0_0) (fun _ => rfl)).squeeze S512x1024 squeezes_S1x512x1024_S512x1024 = rslot0_0 (Ring.sl 2 t.val) :=
  congrArg (fun M : Memref sig .tc .vmem S1x512x1024 .f32 => M.squeeze S512x1024 squeezes_S1x512x1024_S512x1024) (Memref.slice_unit_congr _ (coff0_0_1 t h0 h1) _ _ (fun _ => rfl) (fun _ => rfl))
set_option synthInstance.maxSize 4096 in
theorem coff0_0_2 : ∀ t : Fin grid0.N, cond0_0 (grid0.coords t) → cond0_1 (grid0.coords t) → (![0] : Fin 1 → Nat) = ![(Ring.sl 2 t.val).val] := by decide +kernel
@[sl_canon] theorem canon0_0_2 (t : Fin grid0.N) (h0 : cond0_0 (grid0.coords t)) (h1 : cond0_1 (grid0.coords t)) :
    (cc0_scratch5.slice (Rect.unit (s := S2) ![0] S1.size inb_S2_S1_0)).squeeze S_ squeezes_S1_S_ = cellA0_0 (Ring.sl 2 t.val) :=
  congrArg (fun A : DmaSems sig S1 => A.squeeze S_ squeezes_S1_S_) (SemArray.slice_unit_congr _ (coff0_0_2 t h0 h1) _ _)
set_option synthInstance.maxSize 4096 in
theorem coff0_0_3 : ∀ t : Fin grid0.N, cond0_0 (grid0.coords t) → cond0_1 (grid0.coords t) → (![0, 0, 0] : Fin 3 → Nat) = ![0, 1 * (Ring.bk 32 t.val).val, 0] := by decide +kernel
@[sl_canon] theorem canon0_0_3 (t : Fin grid0.N) (h0 : cond0_0 (grid0.coords t)) (h1 : cond0_1 (grid0.coords t)) :
    (hbM0_0.slice (Rect.unit (s := S512x32x1024) ![0, 0, 0] S512x1x1024.size inb_S512x32x1024_S512x1x1024_0_0_0) (fun _ => rfl)).squeeze S512x1024 squeezes_S512x1x1024_S512x1024 = srcB0_0 (Ring.bk 32 t.val) :=
  congrArg (fun M : Memref sig .tc .hbm S512x1x1024 .f32 => M.squeeze S512x1024 squeezes_S512x1x1024_S512x1024) (Memref.slice_unit_congr _ (coff0_0_3 t h0 h1) _ _ (fun _ => rfl) (fun _ => rfl))
set_option synthInstance.maxSize 4096 in
theorem coff0_0_4 : ∀ t : Fin grid0.N, k0_off2 (grid0.coords t) = ![(Ring.sl 2 (t.val + 1)).val, 0, 0] := by decide +kernel
@[sl_canon] theorem canon0_0_4 (t : Fin grid0.N) (h1 : cond0_1 (grid0.coords t)) :
    (scM0_3.slice (Rect.unit (s := S2x512x1024) (k0_off2 (grid0.coords t)) S1x512x1024.size (k0_off2_inb (grid0.coords t) h1)) (fun _ => rfl)).squeeze S512x1024 squeezes_S1x512x1024_S512x1024 = rslot0_0 (Ring.sl 2 (t.val + 1)) :=
  congrArg (fun M : Memref sig .tc .vmem S1x512x1024 .f32 => M.squeeze S512x1024 squeezes_S1x512x1024_S512x1024) (Memref.slice_unit_congr _ (coff0_0_4 t ) _ _ (fun _ => rfl) (fun _ => rfl))
set_option synthInstance.maxSize 4096 in
theorem coff0_0_5 : ∀ t : Fin grid0.N, k0_off1 (grid0.coords t) = ![(Ring.sl 2 (t.val + 1)).val] := by decide +kernel
@[sl_canon] theorem canon0_0_5 (t : Fin grid0.N) (h1 : cond0_1 (grid0.coords t)) :
    (cc0_scratch5.slice (Rect.unit (s := S2) (k0_off1 (grid0.coords t)) S1.size (k0_off1_inb (grid0.coords t) h1))).squeeze S_ squeezes_S1_S_ = cellA0_0 (Ring.sl 2 (t.val + 1)) :=
  congrArg (fun A : DmaSems sig S1 => A.squeeze S_ squeezes_S1_S_) (SemArray.slice_unit_congr _ (coff0_0_5 t ) _ _)
set_option synthInstance.maxSize 4096 in
theorem coff0_0_6 : ∀ t : Fin grid0.N, cond0_0 (grid0.coords t) → cond0_1 (grid0.coords t) → k0_off3 (grid0.coords t) = ![0, 1 * (Ring.bk 32 (t.val + 1)).val, 0] := by decide +kernel
@[sl_canon] theorem canon0_0_6 (t : Fin grid0.N) (h0 : cond0_0 (grid0.coords t)) (h1 : cond0_1 (grid0.coords t)) :
    (hbM0_0.slice (Rect.unit (s := S512x32x1024) (k0_off3 (grid0.coords t)) S512x1x1024.size (k0_off3_inb (grid0.coords t) h1)) (fun _ => rfl)).squeeze S512x1024 squeezes_S512x1x1024_S512x1024 = srcB0_0 (Ring.bk 32 (t.val + 1)) :=
  congrArg (fun M : Memref sig .tc .hbm S512x1x1024 .f32 => M.squeeze S512x1024 squeezes_S512x1x1024_S512x1024) (Memref.slice_unit_congr _ (coff0_0_6 t h0 h1) _ _ (fun _ => rfl) (fun _ => rfl))
set_option synthInstance.maxSize 4096 in
theorem coff0_0_7 : ∀ t : Fin grid0.N, k0_off5 (grid0.coords t) = ![(Ring.sl 2 t.val).val, 0, 0] := by decide +kernel
@[sl_canon] theorem canon0_0_7 (t : Fin grid0.N) :
    (scM0_3.slice (Rect.unit (s := S2x512x1024) (k0_off5 (grid0.coords t)) S1x512x1024.size (k0_off5_inb (grid0.coords t))) (fun _ => rfl)).squeeze S512x1024 squeezes_S1x512x1024_S512x1024 = rslot0_0 (Ring.sl 2 t.val) :=
  congrArg (fun M : Memref sig .tc .vmem S1x512x1024 .f32 => M.squeeze S512x1024 squeezes_S1x512x1024_S512x1024) (Memref.slice_unit_congr _ (coff0_0_7 t ) _ _ (fun _ => rfl) (fun _ => rfl))
set_option synthInstance.maxSize 4096 in
theorem coff0_0_8 : ∀ t : Fin grid0.N, k0_off4 (grid0.coords t) = ![(Ring.sl 2 t.val).val] := by decide +kernel
@[sl_canon] theorem canon0_0_8 (t : Fin grid0.N) :
    (cc0_scratch5.slice (Rect.unit (s := S2) (k0_off4 (grid0.coords t)) S1.size (k0_off4_inb (grid0.coords t)))).squeeze S_ squeezes_S1_S_ = cellA0_0 (Ring.sl 2 t.val) :=
  congrArg (fun A : DmaSems sig S1 => A.squeeze S_ squeezes_S1_S_) (SemArray.slice_unit_congr _ (coff0_0_8 t ) _ _)
set_option synthInstance.maxSize 4096 in
theorem coff0_0_9 : ∀ t : Fin grid0.N, ¬cond0_0 (grid0.coords t) → cond0_1 (grid0.coords t) → k0_off3 (grid0.coords t) = ![0, 1 * (Ring.bk 32 (t.val + 1)).val, 0] := by decide +kernel
@[sl_canon] theorem canon0_0_9 (t : Fin grid0.N) (h0 : ¬cond0_0 (grid0.coords t)) (h1 : cond0_1 (grid0.coords t)) :
    (hbM0_0.slice (Rect.unit (s := S512x32x1024) (k0_off3 (grid0.coords t)) S512x1x1024.size (k0_off3_inb (grid0.coords t) h1)) (fun _ => rfl)).squeeze S512x1024 squeezes_S512x1x1024_S512x1024 = srcB0_0 (Ring.bk 32 (t.val + 1)) :=
  congrArg (fun M : Memref sig .tc .hbm S512x1x1024 .f32 => M.squeeze S512x1024 squeezes_S512x1x1024_S512x1024) (Memref.slice_unit_congr _ (coff0_0_9 t h0 h1) _ _ (fun _ => rfl) (fun _ => rfl))
set_option synthInstance.maxSize 4096 in
theorem coff0_0_10 : ∀ t : Fin grid0.N, k0_off7 (grid0.coords t) = ![(Ring.sl 2 t.val).val, 0, 0] := by decide +kernel
instance (priority := high) closedOff0_0_10 (t : Fin grid0.N) : ClosedOff (k0_off7 (grid0.coords t)) := ⟨![(Ring.sl 2 t.val).val, 0, 0], coff0_0_10 t⟩
set_option synthInstance.maxSize 4096 in
theorem coff0_0_11 : ∀ t : Fin grid0.N, k0_off8 (grid0.coords t) = ![(Ring.sl 2 t.val).val, 0, 0] := by decide +kernel
instance (priority := high) closedOff0_0_11 (t : Fin grid0.N) : ClosedOff (k0_off8 (grid0.coords t)) := ⟨![(Ring.sl 2 t.val).val, 0, 0], coff0_0_11 t⟩
end Canon0_0

end Cert.FirstIdeal.Rd

end
end
-- ==== Proof.FirstIdealRunA.lean ====
/- The first half step's kernel run at its first point. -/
module

public import proofs.«01_k».proof.Proof.FirstIdealRing

@[expose] public section

set_option maxRecDepth 16384

noncomputable section

namespace Cert.FirstIdeal.Rd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FirstIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2400000 in set_option sl_exec.dmaWindow true in set_option sl_exec.dmaWindowSet true in
/-- What the body leaves of its block of the result, found by running it, at the first point: its rows' copy in begun and waited for, the next point's begun, the three weights copied into scratch. -/
def runA (c : Dev nD) (t : Fin cfg0.N) (arg2 : Memref sig .tc .vmem S1x1x1024 .f32) (harg2 : arg2.IsWhole) (arg6 : Memref sig .tc .vmem S1x1024 .f32) (harg6 : arg6.IsWhole) (arg7 : Memref sig .tc .vmem S512x1024 .f32) (harg7 : arg7.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : cond0_0 (grid0.coords t)) (hc1 : cond0_1 (grid0.coords t)) (hc2 : cond0_2 (grid0.coords t)) (hc3 : ¬cond0_3 (grid0.coords t))
    (x0 : Vec F S1x1x1024 .f32) (x1 : Vec F S1x1024 .f32) (fh0 : HbBuf0 (F := F) c hbM0_0) (fh1 : HbBuf0 (F := F) c hbM0_1) (fh2 : HbBuf0 (F := F) c hbM0_2) (fh3 : HbBuf0 (F := F) c hbM0_3) :
    Σ' (LS0 : List (View.Piece (Elt F) S1024x2816 .f32)), Σ' (LS1 : List (View.Piece (Elt F) S1024x2816 .f32)), Σ' (LS2 : List (View.Piece (Elt F) S2816x1024 .f32)), { L2 : List (View.Piece (Elt F) S512x1024 .f32) //
      ∀ (W : Waits sig Unit) (K : PUnit → sProp 𝕄),
        iprop(owns (c : Thread nD τ) arg2 fullShare x0 ∗ owns (c : Thread nD τ) arg6 fullShare x1 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ idle0 c fh1 fh2 fh3 ∗ Ring.free (cellP0_0 c) (slotW0_0 c fh0) (Ring.sl 2 t.val) ∗ Ring.free (cellP0_0 c) (slotW0_0 c fh0) (Ring.sl 2 (t.val + 1)) ∗ owes (c : Thread nD τ) 0 W
          ∗ (iprop(owns (c : Thread nD τ) arg2 fullShare x0 ∗ owns (c : Thread nD τ) arg6 fullShare x1 ∗ (∃ f, arg7.view.loc (c : Thread nD τ) ↦[arg7.view.set]{fullShare} (arg7.view.writes (Elt F) f L2)) ∗ (∃ f, arg8.view.loc (c : Thread nD τ) ↦[arg8.view.set]{fullShare} (arg8.view.writes (Elt F) f LS0)) ∗ (∃ f, arg9.view.loc (c : Thread nD τ) ↦[arg9.view.set]{fullShare} (arg9.view.writes (Elt F) f LS1)) ∗ (∃ f, arg10.view.loc (c : Thread nD τ) ↦[arg10.view.set]{fullShare} (arg10.view.writes (Elt F) f LS2)) ∗ idle0 c fh1 fh2 fh3 ∗ Ring.inflight (flightW0_0 c fh0) (Ring.sl 2 (t.val + 1)) (Ring.bk 32 (t.val + 1)) ∗ Ring.kept (cellP0_0 c) (slotW0_0 c fh0) (landed0_0 c fh0) (Ring.sl 2 t.val) (Ring.bk 32 t.val) ∗ (∃ W', owes (c : Thread nD τ) 0 W')) -∗ K ⟨⟩))
          ⊢ wp frame (wpE (defs₀ (F := F)) Variants.none c none) Set.univ (cc0_ffn (grid0.coords t) (Memref.whole main_v0) (Memref.isWhole_whole _) arg2 harg2 (Memref.whole main_arg2) (Memref.isWhole_whole _) (Memref.whole main_arg3) (Memref.isWhole_whole _) (Memref.whole main_arg4) (Memref.isWhole_whole _) arg6 harg6 arg7 harg7 arg8 harg8 arg9 harg9 arg10 harg10 cc0_scratch3 scM0_3 (Memref.isWhole_whole _) cc0_scratch5) K } := by
  refine ⟨?_, ?_, ?_, ?_, fun W K => ?run⟩
  case run =>
    haveI : Fact (cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    have hcanon0 := canon0_0_1 t hc0 hc1
    have hcanon1 := canon0_0_2 t hc0 hc1
    have hcanon2 := canon0_0_3 t hc0 hc1
    have hcanon3 := canon0_0_4 t hc1
    have hcanon4 := canon0_0_5 t hc1
    have hcanon5 := canon0_0_6 t hc0 hc1
    have hcanon6 := canon0_0_7 t
    have hcanon7 := canon0_0_8 t
    unfold owns Ring.free Ring.inflight Ring.kept idle0
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hh1, Hh2, Hh3⟩, ⟨Hc0_0_0, ⟨%fs0_0_0, Hs0_0_0, Hw0_0_0⟩⟩, ⟨Hc0_0_1, ⟨%fs0_0_1, Hs0_0_1, Hw0_0_1⟩⟩, HW, Hk⟩
    ihave Hsp0_0_0 := (src0_0_split c fh0 (Ring.sl 2 t.val) (Ring.bk 32 t.val)).1 $$ Hw0_0_0
    icases Hsp0_0_0 with ⟨Hh0_0_0, Hr0_0_0⟩
    ihave Hsp0_0_1 := (src0_0_split c fh0 (Ring.sl 2 (t.val + 1)) (Ring.bk 32 (t.val + 1))).1 $$ Hw0_0_1
    icases Hsp0_0_1 with ⟨Hh0_0_1, Hr0_0_1⟩
    obtain rfl := harg2.eq_unread hf0; obtain rfl := harg6.eq_unread hf1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg6.read_unread _
      iexact H1
    isplitl [H2]; · iexists _; iexact H2
    isplitl [HS0]; · iexists _; iexact HS0
    isplitl [HS1]; · iexists _; iexact HS1
    isplitl [HS2]; · iexists _; iexact HS2
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hh1 Hh2 Hh3]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hh1]; · iexact Hh1
      isplitl [Hh2]; · iexact Hh2
      iexact Hh3
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 32 t.val)).2; isplitl [Hh0_0_0]; · iexact Hh0_0_0
      iexact Hr0_0_0
    iexists _; iexact HW

end Cert.FirstIdeal.Rd

end
end
-- ==== Proof.FirstIdealRunB.lean ====
/- The first half step's kernel run at its middle points. -/
module

public import proofs.«01_k».proof.Proof.FirstIdealRing

@[expose] public section

set_option maxRecDepth 16384

noncomputable section

namespace Cert.FirstIdeal.Rd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FirstIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2400000 in set_option sl_exec.dmaWindow true in set_option sl_exec.dmaWindowSet true in
/-- What the body leaves of its block of the result, found by running it, at every point from the second to the one before last: the next point's copy begun, its own rows' waited for. -/
def runB (c : Dev nD) (t : Fin cfg0.N) (arg2 : Memref sig .tc .vmem S1x1x1024 .f32) (harg2 : arg2.IsWhole) (arg6 : Memref sig .tc .vmem S1x1024 .f32) (harg6 : arg6.IsWhole) (arg7 : Memref sig .tc .vmem S512x1024 .f32) (harg7 : arg7.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : ¬cond0_0 (grid0.coords t)) (hc1 : cond0_1 (grid0.coords t)) (hc2 : ¬cond0_2 (grid0.coords t)) (hc3 : cond0_3 (grid0.coords t))
    (x0 : Vec F S1x1x1024 .f32) (x1 : Vec F S1x1024 .f32) (fh0 : HbBuf0 (F := F) c hbM0_0) (xs0 : Vec F S1024x2816 .f32) (xs1 : Vec F S1024x2816 .f32) (xs2 : Vec F S2816x1024 .f32) :
    { L2 : List (View.Piece (Elt F) S512x1024 .f32) //
      ∀ (W : Waits sig Unit) (K : PUnit → sProp 𝕄),
        iprop(owns (c : Thread nD τ) arg2 fullShare x0 ∗ owns (c : Thread nD τ) arg6 fullShare x1 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ Ring.inflight (flightW0_0 c fh0) (Ring.sl 2 t.val) (Ring.bk 32 t.val) ∗ Ring.kept (cellP0_0 c) (slotW0_0 c fh0) (landed0_0 c fh0) (Ring.sl 2 (t.val + 1)) (Ring.bk 32 (t.val - 1)) ∗ owes (c : Thread nD τ) 0 W
          ∗ (iprop(owns (c : Thread nD τ) arg2 fullShare x0 ∗ owns (c : Thread nD τ) arg6 fullShare x1 ∗ (∃ f, arg7.view.loc (c : Thread nD τ) ↦[arg7.view.set]{fullShare} (arg7.view.writes (Elt F) f L2)) ∗ owns (c : Thread nD τ) arg8 fullShare xs0 ∗ owns (c : Thread nD τ) arg9 fullShare xs1 ∗ owns (c : Thread nD τ) arg10 fullShare xs2 ∗ Ring.inflight (flightW0_0 c fh0) (Ring.sl 2 (t.val + 1)) (Ring.bk 32 (t.val + 1)) ∗ Ring.kept (cellP0_0 c) (slotW0_0 c fh0) (landed0_0 c fh0) (Ring.sl 2 t.val) (Ring.bk 32 t.val) ∗ (∃ W', owes (c : Thread nD τ) 0 W')) -∗ K ⟨⟩))
          ⊢ wp frame (wpE (defs₀ (F := F)) Variants.none c none) Set.univ (cc0_ffn (grid0.coords t) (Memref.whole main_v0) (Memref.isWhole_whole _) arg2 harg2 (Memref.whole main_arg2) (Memref.isWhole_whole _) (Memref.whole main_arg3) (Memref.isWhole_whole _) (Memref.whole main_arg4) (Memref.isWhole_whole _) arg6 harg6 arg7 harg7 arg8 harg8 arg9 harg9 arg10 harg10 cc0_scratch3 scM0_3 (Memref.isWhole_whole _) cc0_scratch5) K } := by
  refine ⟨?_, fun W K => ?run⟩
  case run =>
    haveI : Fact (¬cond0_0 (grid0.coords t)) := ⟨hc0⟩
    haveI : Fact (cond0_1 (grid0.coords t)) := ⟨hc1⟩
    haveI : Fact (¬cond0_2 (grid0.coords t)) := ⟨hc2⟩
    haveI : Fact (cond0_3 (grid0.coords t)) := ⟨hc3⟩
    simp only [cc0_ffn_eq_skeleton]; unfold cc0_ffn_skel
    simp only [k0_part20_eq_skeleton, k0_part21_eq_skeleton, k0_part22_eq_skeleton, k0_part23_eq_skeleton]
    have hcanon3 := canon0_0_4 t hc1
    have hcanon4 := canon0_0_5 t hc1
    have hcanon5 := canon0_0_9 t hc0 hc1
    have hcanon6 := canon0_0_7 t
    have hcanon7 := canon0_0_8 t
    unfold owns Ring.inflight Ring.kept
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 32 (t.val + 1))).1 $$ Hw0_0_1
    icases Hsp0_0_1 with ⟨Hh0_0_1, Hr0_0_1⟩
    obtain rfl := harg2.eq_unread hf0; obtain rfl := harg6.eq_unread hf1; obtain rfl := harg8.eq_unread hfs0; obtain rfl := harg9.eq_unread hfs1; obtain rfl := harg10.eq_unread hfs2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg6.read_unread _
      iexact H1
    isplitl [H2]; · iexists _; iexact H2
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 32 t.val)).2; isplitl [Hf0_0_src]; · iexact Hf0_0_src
      iexact Hrf0_0
    iexists _; iexact HW

end Cert.FirstIdeal.Rd

end
end
-- ==== Proof.FirstIdealRunC.lean ====
/- The first half step's kernel run at its last point. -/
module

public import proofs.«01_k».proof.Proof.FirstIdealRing

@[expose] public section

set_option maxRecDepth 16384

noncomputable section

namespace Cert.FirstIdeal.Rd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FirstIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2400000 in set_option sl_exec.dmaWindow true in set_option sl_exec.dmaWindowSet true in
/-- What the body leaves of its block of the result, found by running it, at the last point: its own rows' copy waited for. -/
def runC (c : Dev nD) (t : Fin cfg0.N) (arg2 : Memref sig .tc .vmem S1x1x1024 .f32) (harg2 : arg2.IsWhole) (arg6 : Memref sig .tc .vmem S1x1024 .f32) (harg6 : arg6.IsWhole) (arg7 : Memref sig .tc .vmem S512x1024 .f32) (harg7 : arg7.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : ¬cond0_0 (grid0.coords t)) (hc1 : ¬cond0_1 (grid0.coords t)) (hc2 : ¬cond0_2 (grid0.coords t)) (hc3 : cond0_3 (grid0.coords t))
    (x0 : Vec F S1x1x1024 .f32) (x1 : Vec F S1x1024 .f32) (fh0 : HbBuf0 (F := F) c hbM0_0) (xs0 : Vec F S1024x2816 .f32) (xs1 : Vec F S1024x2816 .f32) (xs2 : Vec F S2816x1024 .f32) :
    { L2 : List (View.Piece (Elt F) S512x1024 .f32) //
      ∀ (W : Waits sig Unit) (K : PUnit → sProp 𝕄),
        iprop(owns (c : Thread nD τ) arg2 fullShare x0 ∗ owns (c : Thread nD τ) arg6 fullShare x1 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ Ring.inflight (flightW0_0 c fh0) (Ring.sl 2 t.val) (Ring.bk 32 t.val) ∗ owes (c : Thread nD τ) 0 W
          ∗ (iprop(owns (c : Thread nD τ) arg2 fullShare x0 ∗ owns (c : Thread nD τ) arg6 fullShare x1 ∗ (∃ f, arg7.view.loc (c : Thread nD τ) ↦[arg7.view.set]{fullShare} (arg7.view.writes (Elt F) f L2)) ∗ owns (c : Thread nD τ) arg8 fullShare xs0 ∗ owns (c : Thread nD τ) arg9 fullShare xs1 ∗ owns (c : Thread nD τ) arg10 fullShare xs2 ∗ Ring.kept (cellP0_0 c) (slotW0_0 c fh0) (landed0_0 c fh0) (Ring.sl 2 t.val) (Ring.bk 32 t.val) ∗ (∃ W', owes (c : Thread nD τ) 0 W')) -∗ K ⟨⟩))
          ⊢ wp frame (wpE (defs₀ (F := F)) Variants.none c none) Set.univ (cc0_ffn (grid0.coords t) (Memref.whole main_v0) (Memref.isWhole_whole _) arg2 harg2 (Memref.whole main_arg2) (Memref.isWhole_whole _) (Memref.whole main_arg3) (Memref.isWhole_whole _) (Memref.whole main_arg4) (Memref.isWhole_whole _) arg6 harg6 arg7 harg7 arg8 harg8 arg9 harg9 arg10 harg10 cc0_scratch3 scM0_3 (Memref.isWhole_whole _) cc0_scratch5) K } := by
  refine ⟨?_, fun W K => ?run⟩
  case run =>
    haveI : Fact (¬cond0_0 (grid0.coords t)) := ⟨hc0⟩
    haveI : Fact (¬cond0_1 (grid0.coords t)) := ⟨hc1⟩
    haveI : Fact (¬cond0_2 (grid0.coords t)) := ⟨hc2⟩
    haveI : Fact (cond0_3 (grid0.coords t)) := ⟨hc3⟩
    simp only [cc0_ffn_eq_skeleton]; unfold cc0_ffn_skel
    simp only [k0_part20_eq_skeleton, k0_part21_eq_skeleton, k0_part22_eq_skeleton, k0_part23_eq_skeleton]
    have hcanon3 := canon0_0_7 t
    have hcanon4 := canon0_0_8 t
    unfold owns Ring.inflight Ring.kept
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%ff0_0, Hf0_0, Hrf0_0⟩, HW, Hk⟩
    obtain rfl := harg2.eq_unread hf0; obtain rfl := harg6.eq_unread hf1; obtain rfl := harg8.eq_unread hfs0; obtain rfl := harg9.eq_unread hfs1; obtain rfl := harg10.eq_unread hfs2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg6.read_unread _
      iexact H1
    isplitl [H2]; · iexists _; iexact H2
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 32 t.val)).2; isplitl [Hf0_0_src]; · iexact Hf0_0_src
      iexact Hrf0_0
    iexists _; iexact HW

end Cert.FirstIdeal.Rd

end
end
-- ==== Proof.FirstIdealFlow.lean ====
/- The first half step's kernel: what each grid point leaves in its block, and what the points hand on. -/
module

public import proofs.«01_k».proof.Proof.FirstIdealRunA
public import proofs.«01_k».proof.Proof.FirstIdealRunB
public import proofs.«01_k».proof.Proof.FirstIdealRunC

@[expose] public section

set_option maxRecDepth 16384

noncomputable section

namespace Cert.FirstIdeal.Rd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FirstIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (c : Dev nD)

/-! ## What each point leaves -/

theorem no0 (t : Fin cfg0.N) (h : t.val ≠ 0) : ¬cond0_0 (grid0.coords t) := fun e => h ((hcond0_0 t).mp e)
theorem no1 (t : Fin cfg0.N) (h : ¬t.val < 31) : ¬cond0_1 (grid0.coords t) := fun e => h ((hcond0_1 t).mp e)
theorem no2 (t : Fin cfg0.N) (h : t.val ≠ 0) : ¬cond0_2 (grid0.coords t) := fun e => h ((hcond0_2 t).mp e)
theorem no3 (t : Fin cfg0.N) (h : t.val = 0) : ¬cond0_3 (grid0.coords t) := fun e => by have := (hcond0_3 t).mp e; omega

/-- The grid point of step `u`. -/
def pt (u : Fin 32) : Fin cfg0.N := ⟨u.val, by rw [show cfg0.N = 32 from N_0]; exact u.isLt⟩

/-- The run of the first point. -/
abbrev runFirst (t : Fin cfg0.N) (h : t.val = 0) := runA (F := F) c t (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h) ((hcond0_1 t).mpr (by omega)) ((hcond0_2 t).mpr h) (no3 t h) (iblk m c 0 t) (iblk m c 1 t) (V m c main_v0) (V m c main_arg2) (V m c main_arg3) (V m c main_arg4)
abbrev first := runFirst m c (pt 0) rfl

/-- The copies of weight 0 cover its scratch buffer. -/
theorem scover0 (y : S1024x2816.Idx) : ∃ pc ∈ (first m c).1, y ∈ pc.1.set := View.cover_of_tiledL (first m c).1 S1024x256.size (by sl_kernel_rfl) y
/-- What the first point leaves in the scratch buffer of weight 0. -/
def sS0 : Vec F S1024x2816 .f32 := scM0_0.view.read (Elt F) (scM0_0.view.writes (Elt F) scM0_0.view.junk (first m c).1)

/-- The copies of weight 1 cover its scratch buffer. -/
theorem scover1 (y : S1024x2816.Idx) : ∃ pc ∈ (first m c).2.1, y ∈ pc.1.set := View.cover_of_tiledL (first m c).2.1 S1024x256.size (by sl_kernel_rfl) y
/-- What the first point leaves in the scratch buffer of weight 1. -/
def sS1 : Vec F S1024x2816 .f32 := scM0_1.view.read (Elt F) (scM0_1.view.writes (Elt F) scM0_1.view.junk (first m c).2.1)

/-- The copies of weight 2 cover its scratch buffer. -/
theorem scover2 (y : S2816x1024.Idx) : ∃ pc ∈ (first m c).2.2.1, y ∈ pc.1.set := View.cover_of_tiledL (first m c).2.2.1 S256x1024.size (by sl_kernel_rfl) y
/-- What the first point leaves in the scratch buffer of weight 2. -/
def sS2 : Vec F S2816x1024 .f32 := scM0_2.view.read (Elt F) (scM0_2.view.writes (Elt F) scM0_2.view.junk (first m c).2.2.1)

theorem sfirst0 (t : Fin cfg0.N) (h : t.val = 0) (f : scM0_0.view.ty.Contents (Elt F)) : scM0_0.view.read (Elt F) (scM0_0.view.writes (Elt F) f (runFirst m c t h).1) = sS0 m c := by
  obtain rfl : t = pt 0 := Fin.ext h
  exact View.read_writes_of_cover _ _ _ _ _ (scover0 m c)

theorem sfirst1 (t : Fin cfg0.N) (h : t.val = 0) (f : scM0_1.view.ty.Contents (Elt F)) : scM0_1.view.read (Elt F) (scM0_1.view.writes (Elt F) f (runFirst m c t h).2.1) = sS1 m c := by
  obtain rfl : t = pt 0 := Fin.ext h
  exact View.read_writes_of_cover _ _ _ _ _ (scover1 m c)

theorem sfirst2 (t : Fin cfg0.N) (h : t.val = 0) (f : scM0_2.view.ty.Contents (Elt F)) : scM0_2.view.read (Elt F) (scM0_2.view.writes (Elt F) f (runFirst m c t h).2.2.1) = sS2 m c := by
  obtain rfl : t = pt 0 := Fin.ext h
  exact View.read_writes_of_cover _ _ _ _ _ (scover2 m c)

/-- The run of a point between. -/
abbrev runMid (t : Fin cfg0.N) (h : t.val ≠ 0) (h1 : t.val < 31) := runB (F := F) c t (ms0_0 t) (hs0_0 t) (ms0_1 t) (hs0_1 t) (ms0_2 t) (hs0_2 t) scM0_0 (Memref.isWhole_whole _) scM0_1 (Memref.isWhole_whole _) scM0_2 (Memref.isWhole_whole _) (no0 t h) ((hcond0_1 t).mpr h1) (no2 t h) ((hcond0_3 t).mpr (by omega)) (iblk m c 0 t) (iblk m c 1 t) (V m c main_v0) (sS0 m c) (sS1 m c) (sS2 m c)
/-- The run of the last point. -/
abbrev runLast (t : Fin cfg0.N) (h : t.val ≠ 0) (h1 : ¬t.val < 31) := runC (F := F) c t (ms0_0 t) (hs0_0 t) (ms0_1 t) (hs0_1 t) (ms0_2 t) (hs0_2 t) scM0_0 (Memref.isWhole_whole _) scM0_1 (Memref.isWhole_whole _) scM0_2 (Memref.isWhole_whole _) (no0 t h) (no1 t h1) (no2 t h) ((hcond0_3 t).mpr (by omega)) (iblk m c 0 t) (iblk m c 1 t) (V m c main_v0) (sS0 m c) (sS1 m c) (sS2 m c)

theorem coverA (t : Fin cfg0.N) (h : t.val = 0) (y : S512x1024.Idx) : ∃ pc ∈ (runFirst m c t h).2.2.2.1, y ∈ pc.1.set := View.cover_of_tiledL (runFirst m c t h).2.2.2.1 S512x1024.size (by sl_kernel_rfl) y
theorem coverB (t : Fin cfg0.N) (h : t.val ≠ 0) (h1 : t.val < 31) (y : S512x1024.Idx) : ∃ pc ∈ (runMid m c t h h1).1, y ∈ pc.1.set := View.cover_of_tiledL (runMid m c t h h1).1 S512x1024.size (by sl_kernel_rfl) y
theorem coverC (t : Fin cfg0.N) (h : t.val ≠ 0) (h1 : ¬t.val < 31) (y : S512x1024.Idx) : ∃ pc ∈ (runLast m c t h h1).1, y ∈ pc.1.set := View.cover_of_tiledL (runLast m c t h h1).1 S512x1024.size (by sl_kernel_rfl) y

/-- The rows point `t` leaves. -/
def outAt (t : Fin cfg0.N) : Vec F S512x1024 .f32 :=
  if h : t.val = 0 then VO0_2.read (Elt F) (VO0_2.writes (Elt F) VO0_2.junk (runFirst m c t h).2.2.2.1)
  else if h1 : t.val < 31 then VO0_2.read (Elt F) (VO0_2.writes (Elt F) VO0_2.junk (runMid m c t h h1).1)
  else VO0_2.read (Elt F) (VO0_2.writes (Elt F) VO0_2.junk (runLast m c t h h1).1)
theorem outAt_A (t : Fin cfg0.N) (h : t.val = 0) : outAt m c t = VO0_2.read (Elt F) (VO0_2.writes (Elt F) VO0_2.junk (runFirst m c t h).2.2.2.1) := dif_pos h
theorem outAt_B (t : Fin cfg0.N) (h : t.val ≠ 0) (h1 : t.val < 31) : outAt m c t = VO0_2.read (Elt F) (VO0_2.writes (Elt F) VO0_2.junk (runMid m c t h h1).1) := (dif_neg h).trans (dif_pos h1)
theorem outAt_C (t : Fin cfg0.N) (h : t.val ≠ 0) (h1 : ¬t.val < 31) : outAt m c t = VO0_2.read (Elt F) (VO0_2.writes (Elt F) VO0_2.junk (runLast m c t h h1).1) := (dif_neg h).trans (dif_neg h1)

/-! ## The invariant -/

/-- The three scratch buffers before point `k`: at anything before the first, at the weights' layer after it. -/
def scr (k : ℕ) : sProp 𝕄 :=
  if k = 0 then iprop((∃ d, owns (c : Thread nD τ) scM0_0 fullShare d) ∗ (∃ d, owns (c : Thread nD τ) scM0_1 fullShare d) ∗ (∃ d, owns (c : Thread nD τ) scM0_2 fullShare d))
  else iprop(owns (c : Thread nD τ) scM0_0 fullShare (sS0 m c) ∗ owns (c : Thread nD τ) scM0_1 fullShare (sS1 m c) ∗ owns (c : Thread nD τ) scM0_2 fullShare (sS2 m c))
theorem scr_zero (k : ℕ) (h : k = 0) : scr m c k = iprop((∃ d, owns (c : Thread nD τ) scM0_0 fullShare d) ∗ (∃ d, owns (c : Thread nD τ) scM0_1 fullShare d) ∗ (∃ d, owns (c : Thread nD τ) scM0_2 fullShare d)) := if_pos h
theorem scr_pos (k : ℕ) (h : k ≠ 0) : scr m c k = iprop(owns (c : Thread nD τ) scM0_0 fullShare (sS0 m c) ∗ owns (c : Thread nD τ) scM0_1 fullShare (sS1 m c) ∗ owns (c : Thread nD τ) scM0_2 fullShare (sS2 m c)) := if_neg h

/-- What the points hand on: the scratch buffers, the random state, the weights with their idle cells, and the ring. -/
def PhiR (k : ℕ) : sProp 𝕄 := iprop(scr m c k ∗ (∃ r, prngReg c r) ∗ idle0 c (V m c main_arg2) (V m c main_arg3) (V m c main_arg4) ∗ ringAt0_0 c (V m c main_v0) k)

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiR m c t.val
  q _ := fullShare
  owed _ := 0

theorem A_eq (c : Dev nD) (w : Fin cfg0.W) : (dats m 0 c).A w = V m c (Pipeline.arrRef spec0 w) := by
  dsimp only [dats]
theorem Phi_castSucc (t : Fin cfg0.N) : (dats m 0 c).Φ t.castSucc = PhiR m c t.val := by
  dsimp only [dats]; simp only [Fin.coe_castSucc]
theorem Phi_succ (t : Fin cfg0.N) : (dats m 0 c).Φ t.succ = PhiR m c (t.val + 1) := by
  dsimp only [dats]; simp only [Fin.val_succ]
theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = outAt m c t := by dsimp only [dats]
theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d

/-- What the body is called with at point `t`, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

end Cert.FirstIdeal.Rd

end
end
-- ==== Proof.FirstIdealBody.lean ====
/- The first half step's kernel: its run, with the contents it leaves. -/
module

public import proofs.«01_k».proof.Proof.FirstIdealFlow

@[expose] public section

set_option maxRecDepth 16384

noncomputable section

namespace Cert.FirstIdeal.Rd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FirstIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (c : Dev nD)

set_option maxHeartbeats 1200000 in
theorem sound_A (t : Fin cfg0.N) (h : t.val = 0) : bodyPre m c t ⊢ wp frame (wpE (defs₀ (F := F)) Variants.none c none) Set.univ (bodyAt0 t) (fun _ => bodyPost m c t) := by
  unfold bodyPre bodyPost bodyAt0
  simp only [before0_0, before0_1]
  rw [after0_0, after0_1, after0_2, Phi_castSucc m c t, Phi_succ m c t]
  unfold Dat.owesAt Pipeline.owesWithin
  rw [show (dats m 0 c).owed t.castSucc = 0 from rfl, show (dats m 0 c).owed t.succ = 0 from rfl]
  unfold PhiR ringAt0_0
  rw [outAt_A m c t h, scr_zero m c t.val h, scr_pos m c (t.val + 1) (by omega), if_pos h, if_neg (show ¬t.val + 1 = 0 by omega), Ring.At₀_eq2' _ _ _ t.val h (by decide : 2 ≤ 32), Ring.AtK2_one' _ _ _ _ _ t.val h (by decide : 1 < 32)]
  iintro ⟨⟨⟨HS0, HS1, HS2⟩, Hg, Hid, ⟨-, Hf0, Hf1⟩⟩, ⟨%W, -, HW⟩, ⟨%d0, H0⟩, ⟨%d1, H1⟩, ⟨%d2, H2⟩⟩
  iapply ((runFirst m c t h).2.2.2.2 W _)
  isplitl [H0]; · iexact H0
  isplitl [H1]; · iexact H1
  isplitl [H2]; · iexists _; iexact H2
  isplitl [HS0]; · iexact HS0
  isplitl [HS1]; · iexact HS1
  isplitl [HS2]; · iexact HS2
  isplitl [Hid]; · iexact Hid
  isplitl [Hf0]; · iexact Hf0
  isplitl [Hf1]; · iexact Hf1
  isplitl [HW]; · iexact HW
  iintro ⟨H0, H1, ⟨%e2, H2⟩, ⟨%f0, HS0⟩, ⟨%f1, HS1⟩, ⟨%f2, HS2⟩, Hid, Hfl', Hkp', ⟨%W', HW'⟩⟩
  isplitl [HS0 HS1 HS2 Hg Hid Hfl' Hkp']
  · isplitl [HS0 HS1 HS2]
    · isplitl [HS0]
      · unfold owns; iexists _; isplitr; swap; · iexact HS0
        ipureintro; exact sfirst0 m c t h _
      isplitl [HS1]
      · unfold owns; iexists _; isplitr; swap; · iexact HS1
        ipureintro; exact sfirst1 m c t h _
      unfold owns; iexists _; isplitr; swap; · iexact HS2
      ipureintro; exact sfirst2 m c t h _
    isplitl [Hg]; · iexact Hg
    isplitl [Hid]; · iexact Hid
    iapply Ring.with_homes₀
    isplitl [Hfl']; · iexact Hfl'
    iexact Hkp'
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro; exact View.read_writes_of_cover _ _ _ _ _ (coverA m c t h)

set_option maxHeartbeats 1200000 in
theorem sound_B (t : Fin cfg0.N) (h : t.val ≠ 0) (h1 : t.val < 31) : bodyPre m c t ⊢ wp frame (wpE (defs₀ (F := F)) Variants.none c none) Set.univ (bodyAt0 t) (fun _ => bodyPost m c t) := by
  unfold bodyPre bodyPost bodyAt0
  simp only [before0_0, before0_1]
  rw [after0_0, after0_1, after0_2, Phi_castSucc m c t, Phi_succ m c t]
  unfold Dat.owesAt Pipeline.owesWithin
  rw [show (dats m 0 c).owed t.castSucc = 0 from rfl, show (dats m 0 c).owed t.succ = 0 from rfl]
  unfold PhiR ringAt0_0
  have hk : 1 ≤ t.val := by omega
  have hK : t.val + 1 < 32 := by omega
  rw [outAt_B m c t h h1, scr_pos m c t.val h, scr_pos m c (t.val + 1) (by omega), if_neg h, if_neg (show ¬t.val + 1 = 0 by omega), Ring.AtK2_here _ _ _ _ _ t.val hk hK, Ring.AtK2_next _ _ _ _ _ t.val hk hK]
  iintro ⟨⟨⟨HS0, HS1, HS2⟩, Hg, Hid, ⟨-, Hfl, Hkp⟩⟩, ⟨%W, -, HW⟩, ⟨%d0, H0⟩, ⟨%d1, H1⟩, ⟨%d2, H2⟩⟩
  iapply ((runMid m c t h h1).2 W _)
  isplitl [H0]; · iexact H0
  isplitl [H1]; · iexact H1
  isplitl [H2]; · iexists _; iexact H2
  isplitl [HS0]; · iexact HS0
  isplitl [HS1]; · iexact HS1
  isplitl [HS2]; · iexact HS2
  isplitl [Hfl]; · iexact Hfl
  isplitl [Hkp]; · iexact Hkp
  isplitl [HW]; · iexact HW
  iintro ⟨H0, H1, ⟨%e2, H2⟩, HS0, HS1, HS2, Hfl', Hkp', ⟨%W', HW'⟩⟩
  isplitl [HS0 HS1 HS2 Hg Hid Hfl' Hkp']
  · isplitl [HS0 HS1 HS2]
    · isplitl [HS0]; · iexact HS0
      isplitl [HS1]; · iexact HS1
      iexact HS2
    isplitl [Hg]; · iexact Hg
    isplitl [Hid]; · iexact Hid
    iapply (Ring.with_homes (Idealize.SL.BI.Entails.refl _))
    isplitl [Hfl']; · iexact Hfl'
    iexact Hkp'
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro; exact View.read_writes_of_cover _ _ _ _ _ (coverB m c t h h1)

set_option maxHeartbeats 1200000 in
theorem sound_C (t : Fin cfg0.N) (h : t.val ≠ 0) (h1 : ¬t.val < 31) : bodyPre m c t ⊢ wp frame (wpE (defs₀ (F := F)) Variants.none c none) Set.univ (bodyAt0 t) (fun _ => bodyPost m c t) := by
  unfold bodyPre bodyPost bodyAt0
  simp only [before0_0, before0_1]
  rw [after0_0, after0_1, after0_2, Phi_castSucc m c t, Phi_succ m c t]
  unfold Dat.owesAt Pipeline.owesWithin
  rw [show (dats m 0 c).owed t.castSucc = 0 from rfl, show (dats m 0 c).owed t.succ = 0 from rfl]
  unfold PhiR ringAt0_0
  have hN : t.val < 32 := lt_of_lt_of_eq t.isLt (show cfg0.N = 32 from N_0)
  have hk : 1 ≤ t.val := by omega
  have hK : t.val + 1 = 32 := by omega
  rw [outAt_C m c t h h1, scr_pos m c t.val h, scr_pos m c (t.val + 1) (by omega), if_neg h, if_neg (show ¬t.val + 1 = 0 by omega), Ring.AtK2_here_last _ _ _ _ _ t.val hk hK, Ring.AtK2_next_last _ _ _ _ _ t.val hk hK]
  iintro ⟨⟨⟨HS0, HS1, HS2⟩, Hg, Hid, ⟨-, Hfl, Hkp⟩⟩, ⟨%W, -, HW⟩, ⟨%d0, H0⟩, ⟨%d1, H1⟩, ⟨%d2, H2⟩⟩
  iapply ((runLast m c t h h1).2 W _)
  isplitl [H0]; · iexact H0
  isplitl [H1]; · iexact H1
  isplitl [H2]; · iexists _; iexact H2
  isplitl [HS0]; · iexact HS0
  isplitl [HS1]; · iexact HS1
  isplitl [HS2]; · iexact HS2
  isplitl [Hfl]; · iexact Hfl
  isplitl [HW]; · iexact HW
  iintro ⟨H0, H1, ⟨%e2, H2⟩, HS0, HS1, HS2, Hkp', ⟨%W', HW'⟩⟩
  isplitl [HS0 HS1 HS2 Hg Hid Hkp Hkp']
  · isplitl [HS0 HS1 HS2]
    · isplitl [HS0]; · iexact HS0
      isplitl [HS1]; · iexact HS1
      iexact HS2
    isplitl [Hg]; · iexact Hg
    isplitl [Hid]; · iexact Hid
    iapply (Ring.with_homes (Idealize.SL.BI.Entails.refl _))
    isplitl [Hkp]; · iexact Hkp
    iexact Hkp'
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro; exact View.read_writes_of_cover _ _ _ _ _ (coverC m c t h h1)

theorem defs₀_row (t : Fin cfg0.N) :
    defs₀ (F := F) .tc cfg0.body (cfg0.bodyArgs t (cfg0.slots t)) = bodyAt0 t := by
  unfold defs₀; rw [Defs.onTc_tc]

/-- The body's triple at every point. -/
theorem sound_body (t : Fin cfg0.N) : bodyPre m c t ⊢ wp frame (wpE (defs₀ (F := F)) Variants.none c none) Set.univ (bodyAt0 t) (fun _ => bodyPost m c t) := by
  by_cases h0 : t.val = 0
  · exact sound_A m c t h0
  by_cases h1 : t.val < 31
  · exact sound_B m c t h0 h1
  exact sound_C m c t h0 h1

/-- The block of the result is written at every point. -/
theorem idle2 : ∀ t : Fin cfg0.N, cfg0.idle 2 (cfg0.grid.coords t) = false := by decide +kernel

theorem body_obligation : BodyObligation (dats (F := F) m 0 c) (defs₀ (F := F)) Variants.none () Set.univ := fun t => by
  rw [bigSep_W0, bigSep_W0, defs₀_row]
  rw [idle2 t]
  exact triple_restated (sound_body m c t) rfl .rfl fun _ => .rfl

theorem hin : Pipeline.ΦD osem0 spec0 H0 (V m) c ⊢ (dats m 0 c).Φ 0 := by
  rw [PhiD0_eq, show (dats m 0 c).Φ 0 = PhiR m c 0 from rfl]
  unfold PhiR idle0
  rw [scr_zero m c 0 rfl]
  iintro ⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34⟩, ⟨Hh0, Hh1, Hh2, Hh3⟩⟩
  isplitl [HS0 HS1 HS2]
  · isplitl [HS0]; · iexact HS0
    isplitl [HS1]; · iexact HS1
    iexact HS2
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hh1 Hh2 Hh3]
  · skip
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hh1]; · iexact Hh1
    isplitl [Hh2]; · iexact Hh2
    iexact Hh3
  iapply (ring0_0_in (F := F) m c)
  isplitl [HS3]; · iexact HS3
  isplitl [Hq33 Hq34]
  · isplitl [Hq33]; · iexact Hq33
    iexact Hq34
  iexact Hh0

theorem hout : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR idle0
  rw [show grid0.N = 32 from N_0, scr_pos m c 32 (by decide)]
  iintro ⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hh1, Hh2, Hh3⟩, HR⟩
  ihave HX := (ring0_0_out (F := F) m c) $$ HR
  icases HX with ⟨HS3, ⟨Hq33, Hq34⟩, Hh0⟩
  isplitl [HS0 HS1 HS2 HS3]
  · isplitl [HS0]; · iexists _; iexact HS0
    isplitl [HS1]; · iexists _; iexact HS1
    isplitl [HS2]; · iexists _; iexact HS2
    iexact HS3
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34]
  · skip
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    iexact Hq34
  isplitl [Hh0]; · iexact Hh0
  isplitl [Hh1]; · iexact Hh1
  isplitl [Hh2]; · iexact Hh2
  iexact Hh3

set_option backward.isDefEq.respectTransparency.types false in
set_option maxHeartbeats 800000 in
/-- The program runs to its end, with every buffer at what the proof data and the host's lines compute and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The program runs to its end, with its arguments unchanged and every counter at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FirstIdeal.Rd

end
end
-- ==== Proof.FirstSame.lean ====
/- The first half step's kernel and its idealization are one program, so the frame proved for the one is the other's. -/
module

public import proofs.«01_k».proof.Defs
public import proofs.«01_k».proof.Proof.FirstIdealBody
public import proofs.«01_k».proof.Proof.Gen.First

@[expose] public section

set_option maxRecDepth 100000

noncomputable section

namespace Cert.First.Same

open Idealize.ShloMosaic Idealize.SL.Sem

variable {F : FTy → Type} [FloatOps F] [Cert.First.Facts] [Cert.FirstIdeal.Facts]

/-- The two bodies are one. -/
theorem cc0_eq : @Cert.First.cc0_ffn F _ _ = @Cert.FirstIdeal.cc0_ffn F _ _ := by rfl

theorem defs0_eq : Cert.First.defs₀ (F := F) = Cert.FirstIdeal.defs₀ (F := F) := by
  unfold Cert.First.defs₀ Cert.FirstIdeal.defs₀
  refine congrArg Defs.onTc ?_
  funext l a
  match l, a with
  | 0, (t, s) => rfl

theorem defs_eq : Cert.First.defs (F := F) = Cert.FirstIdeal.defs (F := F) := by
  unfold Cert.First.defs Cert.FirstIdeal.defs
  exact congrArg (Pipeline.defs (Cert.FirstIdeal.pcfgs (F := F))) defs0_eq

/-- The kernel runs to its end, with its arguments unchanged and every counter at zero. -/
theorem frame_args : Cert.quiescent_First := by
  intro m g _
  have h := Cert.FirstIdeal.Rd.frame_args (F := Bits) m g
  rw [← defs_eq] at h
  exact h

end Cert.First.Same

end
end
-- ==== Proof.FirstPay.lean ====
/- Entries of the values the feed-forward kernel's body computes: the normed rows, and the accumulated product of one or several chunks of hidden features. -/
module

public import proofs.«01_k».proof.Proof.Gen.FirstIdeal.Skeleton
public import proofs.«01_k».proof.Proof.FfnSpec
public import Idealize.ShloMosaic.Lib.Pipeline.ValueKit
public import Idealize.ShloMosaic.Lib.Pointwise

@[expose] public section

set_option maxRecDepth 16384

noncomputable section

namespace Cert.FirstIdeal.Value

open Idealize.ShloMosaic
open Cert.FirstIdeal Cert.FirstIdeal.Gen Cert.Spec

/-- Row `r` of the normed block against column `i` of a chunk of a weight. -/
def projAt (h : FVec Ideal S512x1024 .bf16) (w : Vec Ideal S1024x256 .f32) (r : Fin 512) (i : Fin 256) : EReal := ∑ k : Fin 1024, h (ix2 r k) * w (ix2 k i)

/-- What one chunk of 256 hidden features adds to entry `(r, j)`. -/
def stepAt (h : FVec Ideal S512x1024 .bf16) (wg wu : Vec Ideal S1024x256 .f32) (wd : Vec Ideal S256x1024 .f32) (r : Fin 512) (j : Fin 1024) : EReal :=
  ∑ i : Fin 256, gateAt (projAt h wg r i) (projAt h wu r i) * wd (ix2 i j)

theorem norm4 (x : Vec Ideal S1x512x1024 .f32) (g : Vec Ideal S1x1x1024 .f32) (r : Fin 512) (j : Fin 1024) :
    (k0_pay4 x g : FVec Ideal S512x1024 .bf16) (ix2 r j) = rmsAt (fun k => x (ix3 0 r k)) (fun k => g (ix3 0 0 k)) j := by
  unfold rmsAt
  pointwise [k0_pay4, k0_pay3]

theorem norm18 (x : Vec Ideal S1x512x1024 .f32) (g : Vec Ideal S1x1x1024 .f32) (r : Fin 512) (j : Fin 1024) :
    (k0_pay18 x g : FVec Ideal S512x1024 .bf16) (ix2 r j) = rmsAt (fun k => x (ix3 0 r k)) (fun k => g (ix3 0 0 k)) j := by
  unfold rmsAt
  pointwise [k0_pay18, k0_pay17]

theorem step6 (h : FVec Ideal S512x1024 .bf16) (a : FVec Ideal S512x1024 .f32) (wg wu : Vec Ideal S1024x256 .f32) (wd : Vec Ideal S256x1024 .f32) (r : Fin 512) (j : Fin 1024) :
    k0_pay6 h a wg wu wd (ix2 r j) = a (ix2 r j) + stepAt h wg wu wd r j := by
  unfold stepAt gateAt projAt
  pointwise [k0_pay6]

theorem step7 (h : FVec Ideal S512x1024 .bf16) (a : FVec Ideal S512x1024 .f32) (wg wu : Vec Ideal S1024x256 .f32) (wd : Vec Ideal S256x1024 .f32) (r : Fin 512) (j : Fin 1024) :
    k0_pay7 h a wg wu wd (ix2 r j) = a (ix2 r j) + stepAt h wg wu wd r j := by
  unfold stepAt gateAt projAt
  pointwise [k0_pay7]

theorem step8 (h : FVec Ideal S512x1024 .bf16) (a : FVec Ideal S512x1024 .f32) (wg wu : Vec Ideal S1024x256 .f32) (wd : Vec Ideal S256x1024 .f32) (r : Fin 512) (j : Fin 1024) :
    k0_pay8 h a wg wu wd (ix2 r j) = a (ix2 r j) + stepAt h wg wu wd r j := by
  unfold stepAt gateAt projAt
  pointwise [k0_pay8]

theorem step9 (h : FVec Ideal S512x1024 .bf16) (a : FVec Ideal S512x1024 .f32) (wg wu : Vec Ideal S1024x256 .f32) (wd : Vec Ideal S256x1024 .f32) (r : Fin 512) (j : Fin 1024) :
    k0_pay9 h a wg wu wd (ix2 r j) = a (ix2 r j) + stepAt h wg wu wd r j := by
  unfold stepAt gateAt projAt
  pointwise [k0_pay9]

theorem step10 (h : FVec Ideal S512x1024 .bf16) (a : FVec Ideal S512x1024 .f32) (wg wu : Vec Ideal S1024x256 .f32) (wd : Vec Ideal S256x1024 .f32) (r : Fin 512) (j : Fin 1024) :
    k0_pay10 h a wg wu wd (ix2 r j) = a (ix2 r j) + stepAt h wg wu wd r j := by
  unfold stepAt gateAt projAt
  pointwise [k0_pay10]

theorem step11 (h : FVec Ideal S512x1024 .bf16) (a : FVec Ideal S512x1024 .f32) (wg wu : Vec Ideal S1024x256 .f32) (wd : Vec Ideal S256x1024 .f32) (r : Fin 512) (j : Fin 1024) :
    k0_pay11 h a wg wu wd (ix2 r j) = a (ix2 r j) + stepAt h wg wu wd r j := by
  unfold stepAt gateAt projAt
  pointwise [k0_pay11]

theorem step12 (h : FVec Ideal S512x1024 .bf16) (a : FVec Ideal S512x1024 .f32) (wg wu : Vec Ideal S1024x256 .f32) (wd : Vec Ideal S256x1024 .f32) (r : Fin 512) (j : Fin 1024) :
    k0_pay12 h a wg wu wd (ix2 r j) = a (ix2 r j) + stepAt h wg wu wd r j := by
  unfold stepAt gateAt projAt
  pointwise [k0_pay12]

theorem step13 (h : FVec Ideal S512x1024 .bf16) (a : FVec Ideal S512x1024 .f32) (wg wu : Vec Ideal S1024x256 .f32) (wd : Vec Ideal S256x1024 .f32) (r : Fin 512) (j : Fin 1024) :
    k0_pay13 h a wg wu wd (ix2 r j) = a (ix2 r j) + stepAt h wg wu wd r j := by
  unfold stepAt gateAt projAt
  pointwise [k0_pay13]

theorem step14 (h : FVec Ideal S512x1024 .bf16) (a : FVec Ideal S512x1024 .f32) (wg wu : Vec Ideal S1024x256 .f32) (wd : Vec Ideal S256x1024 .f32) (r : Fin 512) (j : Fin 1024) :
    k0_pay14 h a wg wu wd (ix2 r j) = a (ix2 r j) + stepAt h wg wu wd r j := by
  unfold stepAt gateAt projAt
  pointwise [k0_pay14]

theorem step15 (h : FVec Ideal S512x1024 .bf16) (a : FVec Ideal S512x1024 .f32) (wg wu : Vec Ideal S1024x256 .f32) (wd : Vec Ideal S256x1024 .f32) (r : Fin 512) (j : Fin 1024) :
    k0_pay15 h a wg wu wd (ix2 r j) = a (ix2 r j) + stepAt h wg wu wd r j := by
  unfold stepAt gateAt projAt
  pointwise [k0_pay15]

theorem step16 (h : FVec Ideal S512x1024 .bf16) (a : FVec Ideal S512x1024 .f32) (wg wu : Vec Ideal S1024x256 .f32) (wd : Vec Ideal S256x1024 .f32) (r : Fin 512) (j : Fin 1024) :
    k0_pay16 h a wg wu wd (ix2 r j) = a (ix2 r j) + stepAt h wg wu wd r j := by
  unfold stepAt gateAt projAt
  pointwise [k0_pay16]

theorem zero5 (r : Fin 512) (j : Fin 1024) : (k0_pay5 : FVec Ideal S512x1024 .f32) (ix2 r j) = 0 := by
  pointwise [k0_pay5]

theorem out1 (x a : FVec Ideal S512x1024 .f32) (r : Fin 512) (j : Fin 1024) :
    k0_pay1 x a (Scalar.ofBits .f32 0x3F000000#32) (ix2 r j) = x (ix2 r j) + Ideal.ofBits FTy.f32 0x3F000000#32 * a (ix2 r j) := by
  pointwise [k0_pay1]

theorem copy3 (x : Vec Ideal S1x512x1024 .f32) (r : Fin 512) (j : Fin 1024) : k0_pay3 x (ix2 r j) = x (ix3 0 r j) := by
  pointwise [k0_pay3]

theorem copy17 (x : Vec Ideal S1x512x1024 .f32) (r : Fin 512) (j : Fin 1024) : k0_pay17 x (ix2 r j) = x (ix3 0 r j) := by
  pointwise [k0_pay17]

theorem step19 (x : Vec Ideal S1x512x1024 .f32) (g : Vec Ideal S1x1x1024 .f32) (wg wu : Vec Ideal S1024x256 .f32) (wd : Vec Ideal S256x1024 .f32) (r : Fin 512) (j : Fin 1024) :
    k0_pay19 x g wg wu wd (ix2 r j) = stepAt (k0_pay18 x g) wg wu wd r j := by
  unfold stepAt gateAt projAt
  pointwise [k0_pay19]

theorem proj20 (x : Vec Ideal S1x512x1024 .f32) (g : Vec Ideal S1x1x1024 .f32) (w : Vec Ideal S1024x256 .f32) (r : Fin 512) (i : Fin 256) :
    k0_pay20 x g w (ix2 r i) = projAt (k0_pay18 x g) w r i := by
  unfold projAt
  pointwise [k0_pay20]

theorem step21 (h : FVec Ideal S512x1024 .bf16) (a : FVec Ideal S512x1024 .f32) (p : FVec Ideal S512x256 .f32) (w1 w3 w4 w6 w7 : Vec Ideal S1024x256 .f32) (w2 w5 w8 : Vec Ideal S256x1024 .f32) (q : Vec Ideal S1024x256 .f32) (r : Fin 512) (j : Fin 1024)
    (e : ∀ i, p (ix2 r i) = projAt h q r i) :
    k0_pay21 h a p w1 w2 w3 w4 w5 w6 w7 w8 (ix2 r j)
      = a (ix2 r j) + stepAt h q w1 w2 r j + stepAt h w3 w4 w5 r j + stepAt h w6 w7 w8 r j := by
  unfold stepAt
  simp only [← e]
  unfold gateAt projAt
  pointwise [k0_pay21]

theorem step22 (h : FVec Ideal S512x1024 .bf16) (a : FVec Ideal S512x1024 .f32) (w0 w1 w3 w4 : Vec Ideal S1024x256 .f32) (w2 w5 : Vec Ideal S256x1024 .f32) (r : Fin 512) (j : Fin 1024) :
    k0_pay22 h a w0 w1 w2 w3 w4 w5 (ix2 r j) = a (ix2 r j) + stepAt h w0 w1 w2 r j + stepAt h w3 w4 w5 r j := by
  unfold stepAt gateAt projAt
  pointwise [k0_pay22]

theorem gate2423 (h : FVec Ideal S512x1024 .bf16) (wg wu : Vec Ideal S1024x256 .f32) (r : Fin 512) (i : Fin 256) :
    k0_pay24 h wg (ix2 r i) * k0_pay23 h wu (ix2 r i) = gateAt (projAt h wg r i) (projAt h wu r i) := by
  unfold gateAt projAt
  pointwise [k0_pay24, k0_pay23]

theorem step25 (h : FVec Ideal S512x1024 .bf16) (a : FVec Ideal S512x1024 .f32) (p0 p1 : FVec Ideal S512x256 .f32) (q0 q1 w3 w4 w6 w7 : Vec Ideal S1024x256 .f32) (w2 w5 w8 : Vec Ideal S256x1024 .f32) (r : Fin 512) (j : Fin 1024)
    (e : ∀ i, p1 (ix2 r i) * p0 (ix2 r i) = gateAt (projAt h q0 r i) (projAt h q1 r i)) :
    k0_pay25 h a p0 p1 w2 w3 w4 w5 w6 w7 w8 (ix2 r j)
      = a (ix2 r j) + stepAt h q0 q1 w2 r j + stepAt h w3 w4 w5 r j + stepAt h w6 w7 w8 r j := by
  unfold stepAt
  simp only [← e]
  unfold gateAt projAt
  pointwise [k0_pay25]

theorem out2 (x a : FVec Ideal S512x1024 .f32) (h : FVec Ideal S512x1024 .bf16) (w0 w1 w3 w4 : Vec Ideal S1024x256 .f32) (w2 w5 : Vec Ideal S256x1024 .f32) (r : Fin 512) (j : Fin 1024) :
    k0_pay2 x h a (k0_pay26 w0) (constant S512x256 .f32 0x00000000#32) w1 w2 w3 w4 w5 (ix2 r j)
      = x (ix2 r j) + Ideal.ofBits FTy.f32 0x3F000000#32 * (a (ix2 r j) + stepAt h w0 w1 w2 r j + stepAt h w3 w4 w5 r j) := by
  unfold stepAt gateAt projAt
  pointwise [k0_pay2, k0_pay26]

end Cert.FirstIdeal.Value

end
end
-- ==== Proof.FirstBlockB.lean ====
/- The first half step's kernel's body at every point after the first: the block it leaves is the half step of its rows, as they landed in the ring, over the weights carried in scratch. -/
module

public import proofs.«01_k».proof.Proof.FirstIdealFlow
public import proofs.«01_k».proof.Proof.FirstPay
public import Idealize.ShloMosaic.Lib.Pipeline.ValueKit
public import Idealize.ShloMosaic.Lib.Pointwise

@[expose] public section

set_option maxRecDepth 16384

noncomputable section

namespace Cert.FirstIdeal.Value

open Idealize.ShloMosaic Idealize.ShloMosaic.TcCoe Idealize.SL.Sem
open Cert.FirstIdeal Cert.FirstIdeal.Gen Cert.FirstIdeal.Rd Cert.Spec

/-- A step over the 256 columns from `o` of the gate and up weights, and the same rows of the down weight, is that chunk of the sum over the hidden features. -/
theorem step_chunk (h : FVec Ideal S512x1024 .bf16) (wg wu : Vec Ideal S1024x256 .f32) (wd : Vec Ideal S256x1024 .f32) (r : Fin 512) (j : Fin 1024) (n : Fin 1024 → EReal)
    (WG WU : Fin 1024 → Fin 2816 → EReal) (WD : Fin 2816 → Fin 1024 → EReal) (o : Nat) (ho : o + 256 ≤ 2816)
    (eh : ∀ k, h (ix2 r k) = n k) (eg : ∀ (k : Fin 1024) (i : Fin 256), wg (ix2 k i) = WG k ⟨o + i.val, by omega⟩)
    (eu : ∀ (k : Fin 1024) (i : Fin 256), wu (ix2 k i) = WU k ⟨o + i.val, by omega⟩)
    (ed : ∀ (i : Fin 256) (k : Fin 1024), wd (ix2 i k) = WD ⟨o + i.val, by omega⟩ k) :
    stepAt h wg wu wd r j = chunkAt (fun f => hidAt n WG WU f * WD f j) o ho := by
  unfold stepAt chunkAt projAt hidAt
  simp only [eh, eg, eu, ed]

/-- `w` is the 256 columns of `W` from `o`. -/
def Cols (w : Vec Ideal S1024x256 .f32) (W : Fin 1024 → Fin 2816 → EReal) (o : Nat) : Prop :=
  ∀ (k : Fin 1024) (i : Fin 256) (h : o + i.val < 2816), w (ix2 k i) = W k ⟨o + i.val, h⟩

/-- `w` is the 256 rows of `W` from `o`. -/
def Rows (w : Vec Ideal S256x1024 .f32) (W : Fin 2816 → Fin 1024 → EReal) (o : Nat) : Prop :=
  ∀ (i : Fin 256) (k : Fin 1024) (h : o + i.val < 2816), w (ix2 i k) = W ⟨o + i.val, h⟩ k

theorem ldg (x : Vec Ideal S1024x2816 .f32) (o : Nat) (inb : ∀ a, (![0, o] : Fin 2 → Nat) a + (![1024, 256] : Fin 2 → Nat) a ≤ S1024x2816.size a) :
    Cols (View.ld x (Rect.unit (s := S1024x2816) ![0, o] ![1024, 256] inb)) (fun k f => x (ix2 k f)) o := by
  intro k i h
  refine congrArg x ?_
  funext a
  apply Fin.ext
  match a with
  | ⟨0, _⟩ => show 0 + 1 * k.val = k.val; omega
  | ⟨1, _⟩ => show o + 1 * i.val = o + i.val; omega

theorem ldd (x : Vec Ideal S2816x1024 .f32) (o : Nat) (inb : ∀ a, (![o, 0] : Fin 2 → Nat) a + (![256, 1024] : Fin 2 → Nat) a ≤ S2816x1024.size a) :
    Rows (View.ld x (Rect.unit (s := S2816x1024) ![o, 0] ![256, 1024] inb)) (fun f k => x (ix2 f k)) o := by
  intro i k h
  refine congrArg x ?_
  funext a
  apply Fin.ext
  match a with
  | ⟨0, _⟩ => show o + 1 * i.val = o + i.val; omega
  | ⟨1, _⟩ => show 0 + 1 * k.val = k.val; omega

/-- A block of the chunk's rows, `b` the row within every chunk, read through its reshape. -/
theorem src_emb (b : Fin 32) (inb : ∀ a, (![0, 1 * b.val, 0] : Fin 3 → Nat) a + S512x1x1024.size a ≤ S512x32x1024.size a)
    (h : S512x1024.numel = S512x1x1024.numel) (n : Fin 512) (k : Fin 1024) :
    (Rect.unit (s := S512x32x1024) ![0, 1 * b.val, 0] S512x1x1024.size inb).emb (Shape.reshapeEquiv h (ix2 n k)) = ix3 n b k := by
  rw [show Shape.reshapeEquiv h (ix2 n k) = (ix3 n (0 : Fin 1) k : S512x1x1024.Idx) from Shape.reshapeEquiv_eq_of_rowMajor h (by
    rw [Shape.rowMajor_val_three, Shape.rowMajor_val_two]
    show (n.val * 1 + 0) * 1024 + k.val = n.val * 1024 + k.val
    omega)]
  funext a
  apply Fin.ext
  rw [Rect.emb_apply]
  match a with
  | ⟨0, _⟩ => show 0 + 1 * n.val = n.val; omega
  | ⟨1, _⟩ => show 1 * b.val + 1 * 0 = b.val; omega
  | ⟨2, _⟩ => show 0 + 1 * k.val = k.val; omega

/-- A slot of the ring likewise: entry `(n, k)` of slot `s` is entry `(s, n, k)` of the buffer, the entry a load of the slot reads there. -/
theorem slot_emb (s : Fin 2) (inb inb' : ∀ a, (![s.val, 0, 0] : Fin 3 → Nat) a + S1x512x1024.size a ≤ S2x512x1024.size a)
    (h : S512x1024.numel = S1x512x1024.numel) (n : Fin 512) (k : Fin 1024) :
    (Rect.unit (s := S2x512x1024) ![s.val, 0, 0] ![1, 512, 1024] inb').toLoadRect.idx (ix3 0 n k)
      = (Rect.unit (s := S2x512x1024) ![s.val, 0, 0] S1x512x1024.size inb).emb (Shape.reshapeEquiv h (ix2 n k)) := by
  rw [Shape.reshapeEquiv_cons_one]
  funext a
  match a with
  | ⟨0, _⟩ => rfl
  | ⟨1, _⟩ => rfl
  | ⟨2, _⟩ => rfl

/-- The rows a point loads from the ring: block `b` of the activations, copied to slot `s`. -/
theorem slot_read (c : Dev nD) (s : Fin 2) (b : Fin 32) (fh : HbBuf0 (F := Ideal) c hbM0_0) (f : (rslot0_0 s).view.ty.Contents (Elt Ideal)) (off : Fin 3 → Nat)
    (inb : ∀ a, off a + (![1, 512, 1024] : Fin 3 → Nat) a ≤ S2x512x1024.size a) (ho : off = ![s.val, 0, 0]) (n : Fin 512) (k : Fin 1024) :
    (View.readAt (Elt Ideal) (View.whole cc0_scratch4) (Rect.unit (s := S2x512x1024) off ![1, 512, 1024] inb).toLoadRect
      ((rslot0_0 s).view.writes (Elt Ideal) f [⟨Rect.whole S512x1024, ReadAs.same.apply (View.read (Elt Ideal) (srcB0_0 b).view fh)⟩]) : Vec Ideal S1x512x1024 .f32) (ix3 0 n k)
      = (fh : Vec Ideal S512x32x1024 .f32) (ix3 n b k) := by
  subst ho
  have h := congrFun (View.read_writes_whole (rslot0_0 s).view f (ReadAs.same.apply (View.read (Elt Ideal) (srcB0_0 b).view fh))) (ix2 n k)
  refine Eq.trans ?_ (h.trans ?_)
  · generalize (rslot0_0 s).view.writes (Elt Ideal) f [⟨Rect.whole S512x1024, ReadAs.same.apply (View.read (Elt Ideal) (srcB0_0 b).view fh)⟩] = G
    exact congrArg G (slot_emb s _ _ _ n k)
  · exact congrArg fh (src_emb b _ _ n k)

theorem off8 : ∀ t : Fin grid0.N, k0_off8 (grid0.coords t) = ![(Ring.sl 2 t.val).val, 0, 0] := by decide +kernel

theorem off7 : ∀ t : Fin grid0.N, k0_off7 (grid0.coords t) = ![(Ring.sl 2 t.val).val, 0, 0] := by decide +kernel

/-- The values of the body after the first point, over any loads that read the chunks of three weights. -/
theorem chain_B (x : Vec Ideal S1x512x1024 .f32) (g : Vec Ideal S1x1x1024 .f32) (r : Fin 512) (j : Fin 1024)
    (WG WU : Fin 1024 → Fin 2816 → EReal) (WD : Fin 2816 → Fin 1024 → EReal)
    (g0 g1 g2 g3 g4 g5 g6 g7 g8 g9 g10 u0 u1 u2 u3 u4 u5 u6 u7 u8 u9 u10 : Vec Ideal S1024x256 .f32) (d0 d1 d2 d3 d4 d5 d6 d7 d8 d9 d10 : Vec Ideal S256x1024 .f32)
    (eg0 : Cols g0 WG 0) (eu0 : Cols u0 WU 0) (ed0 : Rows d0 WD 0)
    (eg1 : Cols g1 WG 256) (eu1 : Cols u1 WU 256) (ed1 : Rows d1 WD 256)
    (eg2 : Cols g2 WG 512) (eu2 : Cols u2 WU 512) (ed2 : Rows d2 WD 512)
    (eg3 : Cols g3 WG 768) (eu3 : Cols u3 WU 768) (ed3 : Rows d3 WD 768)
    (eg4 : Cols g4 WG 1024) (eu4 : Cols u4 WU 1024) (ed4 : Rows d4 WD 1024)
    (eg5 : Cols g5 WG 1280) (eu5 : Cols u5 WU 1280) (ed5 : Rows d5 WD 1280)
    (eg6 : Cols g6 WG 1536) (eu6 : Cols u6 WU 1536) (ed6 : Rows d6 WD 1536)
    (eg7 : Cols g7 WG 1792) (eu7 : Cols u7 WU 1792) (ed7 : Rows d7 WD 1792)
    (eg8 : Cols g8 WG 2048) (eu8 : Cols u8 WU 2048) (ed8 : Rows d8 WD 2048)
    (eg9 : Cols g9 WG 2304) (eu9 : Cols u9 WU 2304) (ed9 : Rows d9 WD 2304)
    (eg10 : Cols g10 WG 2560) (eu10 : Cols u10 WU 2560) (ed10 : Rows d10 WD 2560) :
    k0_pay2 (k0_pay17 x) (k0_pay18 x g) (k0_pay25 (k0_pay18 x g) (k0_pay22 (k0_pay18 x g) (k0_pay21 (k0_pay18 x g) (k0_pay19 x g g0 u0 d0) (k0_pay20 x g g1) u1 d1 g2 u2 d2 g3 u3 d3) g4 u4 d4 g5 u5 d5)
      (k0_pay23 (k0_pay18 x g) u6) (k0_pay24 (k0_pay18 x g) g6) d6 g7 u7 d7 g8 u8 d8) (k0_pay26 g9) (constant S512x256 .f32 0x00000000#32) u9 d9 g10 u10 d10 (ix2 r j)
      = ffnAt (fun k => x (ix3 0 r k)) (fun k => g (ix3 0 0 k)) WG WU WD j := by
  refine (out2 _ _ _ _ _ _ _ _ _ r j).trans ?_
  rw [step25 _ _ _ _ _ _ _ _ _ _ _ _ _ r j fun i => gate2423 _ _ _ r i, step22,
    step21 _ _ _ _ _ _ _ _ _ _ _ _ r j fun i => proj20 _ _ _ r i, step19, copy17]
  rw [step_chunk _ g0 u0 d0 r j _ WG WU WD 0 (by decide) (fun k => norm18 x g r k) (fun a b => eg0 a b _) (fun a b => eu0 a b _) (fun a b => ed0 a b _),
    step_chunk _ g1 u1 d1 r j _ WG WU WD 256 (by decide) (fun k => norm18 x g r k) (fun a b => eg1 a b _) (fun a b => eu1 a b _) (fun a b => ed1 a b _),
    step_chunk _ g2 u2 d2 r j _ WG WU WD 512 (by decide) (fun k => norm18 x g r k) (fun a b => eg2 a b _) (fun a b => eu2 a b _) (fun a b => ed2 a b _),
    step_chunk _ g3 u3 d3 r j _ WG WU WD 768 (by decide) (fun k => norm18 x g r k) (fun a b => eg3 a b _) (fun a b => eu3 a b _) (fun a b => ed3 a b _),
    step_chunk _ g4 u4 d4 r j _ WG WU WD 1024 (by decide) (fun k => norm18 x g r k) (fun a b => eg4 a b _) (fun a b => eu4 a b _) (fun a b => ed4 a b _),
    step_chunk _ g5 u5 d5 r j _ WG WU WD 1280 (by decide) (fun k => norm18 x g r k) (fun a b => eg5 a b _) (fun a b => eu5 a b _) (fun a b => ed5 a b _),
    step_chunk _ g6 u6 d6 r j _ WG WU WD 1536 (by decide) (fun k => norm18 x g r k) (fun a b => eg6 a b _) (fun a b => eu6 a b _) (fun a b => ed6 a b _),
    step_chunk _ g7 u7 d7 r j _ WG WU WD 1792 (by decide) (fun k => norm18 x g r k) (fun a b => eg7 a b _) (fun a b => eu7 a b _) (fun a b => ed7 a b _),
    step_chunk _ g8 u8 d8 r j _ WG WU WD 2048 (by decide) (fun k => norm18 x g r k) (fun a b => eg8 a b _) (fun a b => eu8 a b _) (fun a b => ed8 a b _),
    step_chunk _ g9 u9 d9 r j _ WG WU WD 2304 (by decide) (fun k => norm18 x g r k) (fun a b => eg9 a b _) (fun a b => eu9 a b _) (fun a b => ed9 a b _),
    step_chunk _ g10 u10 d10 r j _ WG WU WD 2560 (by decide) (fun k => norm18 x g r k) (fun a b => eg10 a b _) (fun a b => eu10 a b _) (fun a b => ed10 a b _)]
  rw [ffnAt, sum_chunks]

theorem out_B (c : Dev nD) (t : Fin cfg0.N) (arg2 : Memref sig .tc .vmem S1x1x1024 .f32) (harg2 : arg2.IsWhole) (arg6 : Memref sig .tc .vmem S1x1024 .f32) (harg6 : arg6.IsWhole) (arg7 : Memref sig .tc .vmem S512x1024 .f32) (harg7 : arg7.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : ¬cond0_0 (grid0.coords t)) (hc1 : cond0_1 (grid0.coords t)) (hc2 : ¬cond0_2 (grid0.coords t)) (hc3 : cond0_3 (grid0.coords t))
    (x0 : Vec Ideal S1x1x1024 .f32) (x1 : Vec Ideal S1x1024 .f32) (fh0 : HbBuf0 (F := Ideal) c hbM0_0) (xs0 xs1 : Vec Ideal S1024x2816 .f32) (xs2 : Vec Ideal S2816x1024 .f32) (r : Fin 512) (j : Fin 1024) :
    VO0_2.read (Elt Ideal) (VO0_2.writes (Elt Ideal) VO0_2.junk (runB (F := Ideal) c t arg2 harg2 arg6 harg6 arg7 harg7 arg8 harg8 arg9 harg9 arg10 harg10 hc0 hc1 hc2 hc3 x0 x1 fh0 xs0 xs1 xs2).1) (ix2 r j)
      = ffnAt (fun k => (fh0 : Vec Ideal S512x32x1024 .f32) (ix3 r (Ring.bk 32 t.val) k)) (fun k => x0 (ix3 0 0 k)) (fun k f => xs0 (ix2 k f)) (fun k f => xs1 (ix2 k f))
          (fun f k => xs2 (ix2 f k)) j := by
  unfold runB
  frame_out
  refine (chain_B _ x0 r j (fun k f => xs0 (ix2 k f)) (fun k f => xs1 (ix2 k f)) (fun f k => xs2 (ix2 f k)) _ _ _ _ _ _ _ _ _ _ _ _ _ _ _ _ _ _ _ _ _ _ _ _ _ _ _ _ _ _ _ _ _
    (ldg xs0 0 _) (ldg xs1 0 _) (ldd xs2 0 _)
    (ldg xs0 256 _) (ldg xs1 256 _) (ldd xs2 256 _)
    (ldg xs0 512 _) (ldg xs1 512 _) (ldd xs2 512 _)
    (ldg xs0 768 _) (ldg xs1 768 _) (ldd xs2 768 _)
    (ldg xs0 1024 _) (ldg xs1 1024 _) (ldd xs2 1024 _)
    (ldg xs0 1280 _) (ldg xs1 1280 _) (ldd xs2 1280 _)
    (ldg xs0 1536 _) (ldg xs1 1536 _) (ldd xs2 1536 _)
    (ldg xs0 1792 _) (ldg xs1 1792 _) (ldd xs2 1792 _)
    (ldg xs0 2048 _) (ldg xs1 2048 _) (ldd xs2 2048 _)
    (ldg xs0 2304 _) (ldg xs1 2304 _) (ldd xs2 2304 _)
    (ldg xs0 2560 _) (ldg xs1 2560 _) (ldd xs2 2560 _)).trans ?_
  exact congrArg (fun y : Fin 1024 → EReal => ffnAt y (fun k => x0 (ix3 0 0 k)) (fun k f => xs0 (ix2 k f)) (fun k f => xs1 (ix2 k f)) (fun f k => xs2 (ix2 f k)) j)
    (funext fun k => slot_read c (Ring.sl 2 t.val) (Ring.bk 32 t.val) fh0 _ _ _ (off8 t) r k)

theorem out_C (c : Dev nD) (t : Fin cfg0.N) (arg2 : Memref sig .tc .vmem S1x1x1024 .f32) (harg2 : arg2.IsWhole) (arg6 : Memref sig .tc .vmem S1x1024 .f32) (harg6 : arg6.IsWhole) (arg7 : Memref sig .tc .vmem S512x1024 .f32) (harg7 : arg7.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : ¬cond0_0 (grid0.coords t)) (hc1 : ¬cond0_1 (grid0.coords t)) (hc2 : ¬cond0_2 (grid0.coords t)) (hc3 : cond0_3 (grid0.coords t))
    (x0 : Vec Ideal S1x1x1024 .f32) (x1 : Vec Ideal S1x1024 .f32) (fh0 : HbBuf0 (F := Ideal) c hbM0_0) (xs0 xs1 : Vec Ideal S1024x2816 .f32) (xs2 : Vec Ideal S2816x1024 .f32) (r : Fin 512) (j : Fin 1024) :
    VO0_2.read (Elt Ideal) (VO0_2.writes (Elt Ideal) VO0_2.junk (runC (F := Ideal) c t arg2 harg2 arg6 harg6 arg7 harg7 arg8 harg8 arg9 harg9 arg10 harg10 hc0 hc1 hc2 hc3 x0 x1 fh0 xs0 xs1 xs2).1) (ix2 r j)
      = ffnAt (fun k => (fh0 : Vec Ideal S512x32x1024 .f32) (ix3 r (Ring.bk 32 t.val) k)) (fun k => x0 (ix3 0 0 k)) (fun k f => xs0 (ix2 k f)) (fun k f => xs1 (ix2 k f))
          (fun f k => xs2 (ix2 f k)) j := by
  unfold runC
  frame_out
  refine (chain_B _ x0 r j (fun k f => xs0 (ix2 k f)) (fun k f => xs1 (ix2 k f)) (fun f k => xs2 (ix2 f k)) _ _ _ _ _ _ _ _ _ _ _ _ _ _ _ _ _ _ _ _ _ _ _ _ _ _ _ _ _ _ _ _ _
    (ldg xs0 0 _) (ldg xs1 0 _) (ldd xs2 0 _)
    (ldg xs0 256 _) (ldg xs1 256 _) (ldd xs2 256 _)
    (ldg xs0 512 _) (ldg xs1 512 _) (ldd xs2 512 _)
    (ldg xs0 768 _) (ldg xs1 768 _) (ldd xs2 768 _)
    (ldg xs0 1024 _) (ldg xs1 1024 _) (ldd xs2 1024 _)
    (ldg xs0 1280 _) (ldg xs1 1280 _) (ldd xs2 1280 _)
    (ldg xs0 1536 _) (ldg xs1 1536 _) (ldd xs2 1536 _)
    (ldg xs0 1792 _) (ldg xs1 1792 _) (ldd xs2 1792 _)
    (ldg xs0 2048 _) (ldg xs1 2048 _) (ldd xs2 2048 _)
    (ldg xs0 2304 _) (ldg xs1 2304 _) (ldd xs2 2304 _)
    (ldg xs0 2560 _) (ldg xs1 2560 _) (ldd xs2 2560 _)).trans ?_
  exact congrArg (fun y : Fin 1024 → EReal => ffnAt y (fun k => x0 (ix3 0 0 k)) (fun k f => xs0 (ix2 k f)) (fun k f => xs1 (ix2 k f)) (fun f k => xs2 (ix2 f k)) j)
    (funext fun k => slot_read c (Ring.sl 2 t.val) (Ring.bk 32 t.val) fh0 _ _ _ (off8 t) r k)

end Cert.FirstIdeal.Value

end
end
-- ==== Proof.FirstFill.lean ====
/- The copies of layer 0 of the three weights into scratch, made by the first half step's kernel's first point, and what loads of the filled scratch read. -/
module

public import proofs.«01_k».proof.Proof.FirstBlockB
public import Idealize.ShloMosaic.Lib.Pipeline.ValueKit
public import Idealize.ShloMosaic.Lib.Pointwise

@[expose] public section

set_option maxRecDepth 16384

noncomputable section

namespace Cert.FirstIdeal.Value

open Idealize.ShloMosaic Idealize.ShloMosaic.TcCoe Idealize.SL.Sem
open Cert.FirstIdeal Cert.FirstIdeal.Gen Cert.FirstIdeal.Rd Cert.Spec

/-- Columns `o` to `o + 255` of layer 0 of a gate or up weight, as a copy reads them: entry `(a, b)` is entry `(0, a, o + b)`. -/
theorem col_emb (o : Nat) (inb : ∀ a, (![0, 0, o] : Fin 3 → Nat) a + S1x1024x256.size a ≤ S4x1024x2816.size a)
    (h : S1024x256.numel = S1x1024x256.numel) (a : Fin 1024) (b : Fin 256) (r : Fin 1024) (j : Fin 2816)
    (hr : r.val = a.val) (hj : j.val = o + b.val) :
    (Rect.unit (s := S4x1024x2816) ![0, 0, o] S1x1024x256.size inb).emb (Shape.reshapeEquiv h (ix2 a b)) = ix3 0 r j := by
  rw [Shape.reshapeEquiv_cons_one]
  funext x
  apply Fin.ext
  rw [Rect.emb_apply]
  match x with
  | ⟨0, _⟩ => rfl
  | ⟨1, _⟩ => show 0 + 1 * a.val = r.val; omega
  | ⟨2, _⟩ => show o + 1 * b.val = j.val; omega

/-- Rows `o` to `o + 255` of layer 0 of the down weight likewise. -/
theorem row_emb (o : Nat) (inb : ∀ a, (![0, o, 0] : Fin 3 → Nat) a + S1x256x1024.size a ≤ S4x2816x1024.size a)
    (h : S256x1024.numel = S1x256x1024.numel) (a : Fin 256) (b : Fin 1024) (r : Fin 2816) (j : Fin 1024)
    (hr : r.val = o + a.val) (hj : j.val = b.val) :
    (Rect.unit (s := S4x2816x1024) ![0, o, 0] S1x256x1024.size inb).emb (Shape.reshapeEquiv h (ix2 a b)) = ix3 0 r j := by
  rw [Shape.reshapeEquiv_cons_one]
  funext x
  apply Fin.ext
  rw [Rect.emb_apply]
  match x with
  | ⟨0, _⟩ => rfl
  | ⟨1, _⟩ => show o + 1 * a.val = r.val; omega
  | ⟨2, _⟩ => show 0 + 1 * b.val = j.val; omega

/-- One copy: 256 columns of layer 0 of a weight, from `o`, written to the same columns of its scratch buffer. -/
abbrev colCopy (v : View sig .tc .hbm S4x1024x2816 .f32) (fh : v.ty.Contents (Elt Ideal)) (o : Nat)
    (inb : ∀ a, (![0, o] : Fin 2 → Nat) a + (![1024, 256] : Fin 2 → Nat) a ≤ S1024x2816.size a)
    (inb3 : ∀ a, (![0, 0, o] : Fin 3 → Nat) a + (![1, 1024, 256] : Fin 3 → Nat) a ≤ S4x1024x2816.size a) : View.Piece (Elt Ideal) S1024x2816 .f32 :=
  ⟨Rect.unit (s := S1024x2816) ![0, o] ![1024, 256] inb, ReadAs.same.apply (View.read (Elt Ideal)
    ((v.slice (Rect.unit (s := S4x1024x2816) ![0, 0, o] ![1, 1024, 256] inb3)).reshape S1024x256 squeezes_S1x1024x256_S1024x256.numel_eq) fh)⟩

/-- One copy: 256 rows of layer 0 of a weight, from `o`, written to the same rows of its scratch buffer. -/
abbrev rowCopy (v : View sig .tc .hbm S4x2816x1024 .f32) (fh : v.ty.Contents (Elt Ideal)) (o : Nat)
    (inb : ∀ a, (![o, 0] : Fin 2 → Nat) a + (![256, 1024] : Fin 2 → Nat) a ≤ S2816x1024.size a)
    (inb3 : ∀ a, (![0, o, 0] : Fin 3 → Nat) a + (![1, 256, 1024] : Fin 3 → Nat) a ≤ S4x2816x1024.size a) : View.Piece (Elt Ideal) S2816x1024 .f32 :=
  ⟨Rect.unit (s := S2816x1024) ![o, 0] ![256, 1024] inb, ReadAs.same.apply (View.read (Elt Ideal)
    ((v.slice (Rect.unit (s := S4x2816x1024) ![0, o, 0] ![1, 256, 1024] inb3)).reshape S256x1024 squeezes_S1x256x1024_S256x1024.numel_eq) fh)⟩

/-- The eleven copies of weight 0 into its scratch buffer, the last one first. -/
def copies0 (c : Dev nD) (fh : HbBuf0 (F := Ideal) c hbM0_1) : List (View.Piece (Elt Ideal) S1024x2816 .f32) :=
  [colCopy (View.whole main_arg2) fh 2560 inb_S1024x2816_S1024x256_0_2560 inb_S4x1024x2816_S1x1024x256_0_0_2560,
    colCopy (View.whole main_arg2) fh 2304 inb_S1024x2816_S1024x256_0_2304 inb_S4x1024x2816_S1x1024x256_0_0_2304,
    colCopy (View.whole main_arg2) fh 2048 inb_S1024x2816_S1024x256_0_2048 inb_S4x1024x2816_S1x1024x256_0_0_2048,
    colCopy (View.whole main_arg2) fh 1792 inb_S1024x2816_S1024x256_0_1792 inb_S4x1024x2816_S1x1024x256_0_0_1792,
    colCopy (View.whole main_arg2) fh 1536 inb_S1024x2816_S1024x256_0_1536 inb_S4x1024x2816_S1x1024x256_0_0_1536,
    colCopy (View.whole main_arg2) fh 1280 inb_S1024x2816_S1024x256_0_1280 inb_S4x1024x2816_S1x1024x256_0_0_1280,
    colCopy (View.whole main_arg2) fh 1024 inb_S1024x2816_S1024x256_0_1024 inb_S4x1024x2816_S1x1024x256_0_0_1024,
    colCopy (View.whole main_arg2) fh 768 inb_S1024x2816_S1024x256_0_768 inb_S4x1024x2816_S1x1024x256_0_0_768,
    colCopy (View.whole main_arg2) fh 512 inb_S1024x2816_S1024x256_0_512 inb_S4x1024x2816_S1x1024x256_0_0_512,
    colCopy (View.whole main_arg2) fh 256 inb_S1024x2816_S1024x256_0_256 inb_S4x1024x2816_S1x1024x256_0_0_256,
    colCopy (View.whole main_arg2) fh 0 inb_S1024x2816_S1024x256_0_0 inb_S4x1024x2816_S1x1024x256_0_0_0]

/-- What they leave there. -/
theorem filled0 (c : Dev nD) (fh : HbBuf0 (F := Ideal) c hbM0_1) (r : Fin 1024) (j : Fin 2816) :
    View.canon (copies0 c fh) (ix2 r j) = (fh : Vec Ideal S4x1024x2816 .f32) (ix3 0 r j) := by
  unfold copies0
  canon_tiles q h
  · obtain ⟨a, b, rfl⟩ : ∃ (a : Fin 1024) (b : Fin 256), q = ix2 a b := ⟨q 0, q 1, by blk_ext⟩
    exact congrArg fh (col_emb 2560 _ _ a b _ _ (by simpa using h0) (by simpa using h1))
  · obtain ⟨a, b, rfl⟩ : ∃ (a : Fin 1024) (b : Fin 256), q = ix2 a b := ⟨q 0, q 1, by blk_ext⟩
    exact congrArg fh (col_emb 2304 _ _ a b _ _ (by simpa using h0) (by simpa using h1))
  · obtain ⟨a, b, rfl⟩ : ∃ (a : Fin 1024) (b : Fin 256), q = ix2 a b := ⟨q 0, q 1, by blk_ext⟩
    exact congrArg fh (col_emb 2048 _ _ a b _ _ (by simpa using h0) (by simpa using h1))
  · obtain ⟨a, b, rfl⟩ : ∃ (a : Fin 1024) (b : Fin 256), q = ix2 a b := ⟨q 0, q 1, by blk_ext⟩
    exact congrArg fh (col_emb 1792 _ _ a b _ _ (by simpa using h0) (by simpa using h1))
  · obtain ⟨a, b, rfl⟩ : ∃ (a : Fin 1024) (b : Fin 256), q = ix2 a b := ⟨q 0, q 1, by blk_ext⟩
    exact congrArg fh (col_emb 1536 _ _ a b _ _ (by simpa using h0) (by simpa using h1))
  · obtain ⟨a, b, rfl⟩ : ∃ (a : Fin 1024) (b : Fin 256), q = ix2 a b := ⟨q 0, q 1, by blk_ext⟩
    exact congrArg fh (col_emb 1280 _ _ a b _ _ (by simpa using h0) (by simpa using h1))
  · obtain ⟨a, b, rfl⟩ : ∃ (a : Fin 1024) (b : Fin 256), q = ix2 a b := ⟨q 0, q 1, by blk_ext⟩
    exact congrArg fh (col_emb 1024 _ _ a b _ _ (by simpa using h0) (by simpa using h1))
  · obtain ⟨a, b, rfl⟩ : ∃ (a : Fin 1024) (b : Fin 256), q = ix2 a b := ⟨q 0, q 1, by blk_ext⟩
    exact congrArg fh (col_emb 768 _ _ a b _ _ (by simpa using h0) (by simpa using h1))
  · obtain ⟨a, b, rfl⟩ : ∃ (a : Fin 1024) (b : Fin 256), q = ix2 a b := ⟨q 0, q 1, by blk_ext⟩
    exact congrArg fh (col_emb 512 _ _ a b _ _ (by simpa using h0) (by simpa using h1))
  · obtain ⟨a, b, rfl⟩ : ∃ (a : Fin 1024) (b : Fin 256), q = ix2 a b := ⟨q 0, q 1, by blk_ext⟩
    exact congrArg fh (col_emb 256 _ _ a b _ _ (by simpa using h0) (by simpa using h1))
  · obtain ⟨a, b, rfl⟩ : ∃ (a : Fin 1024) (b : Fin 256), q = ix2 a b := ⟨q 0, q 1, by blk_ext⟩
    exact congrArg fh (col_emb 0 _ _ a b _ _ (by simpa using h0) (by simpa using h1))

/-- The eleven copies of weight 1 into its scratch buffer, the last one first. -/
def copies1 (c : Dev nD) (fh : HbBuf0 (F := Ideal) c hbM0_2) : List (View.Piece (Elt Ideal) S1024x2816 .f32) :=
  [colCopy (View.whole main_arg3) fh 2560 inb_S1024x2816_S1024x256_0_2560 inb_S4x1024x2816_S1x1024x256_0_0_2560,
    colCopy (View.whole main_arg3) fh 2304 inb_S1024x2816_S1024x256_0_2304 inb_S4x1024x2816_S1x1024x256_0_0_2304,
    colCopy (View.whole main_arg3) fh 2048 inb_S1024x2816_S1024x256_0_2048 inb_S4x1024x2816_S1x1024x256_0_0_2048,
    colCopy (View.whole main_arg3) fh 1792 inb_S1024x2816_S1024x256_0_1792 inb_S4x1024x2816_S1x1024x256_0_0_1792,
    colCopy (View.whole main_arg3) fh 1536 inb_S1024x2816_S1024x256_0_1536 inb_S4x1024x2816_S1x1024x256_0_0_1536,
    colCopy (View.whole main_arg3) fh 1280 inb_S1024x2816_S1024x256_0_1280 inb_S4x1024x2816_S1x1024x256_0_0_1280,
    colCopy (View.whole main_arg3) fh 1024 inb_S1024x2816_S1024x256_0_1024 inb_S4x1024x2816_S1x1024x256_0_0_1024,
    colCopy (View.whole main_arg3) fh 768 inb_S1024x2816_S1024x256_0_768 inb_S4x1024x2816_S1x1024x256_0_0_768,
    colCopy (View.whole main_arg3) fh 512 inb_S1024x2816_S1024x256_0_512 inb_S4x1024x2816_S1x1024x256_0_0_512,
    colCopy (View.whole main_arg3) fh 256 inb_S1024x2816_S1024x256_0_256 inb_S4x1024x2816_S1x1024x256_0_0_256,
    colCopy (View.whole main_arg3) fh 0 inb_S1024x2816_S1024x256_0_0 inb_S4x1024x2816_S1x1024x256_0_0_0]

/-- What they leave there. -/
theorem filled1 (c : Dev nD) (fh : HbBuf0 (F := Ideal) c hbM0_2) (r : Fin 1024) (j : Fin 2816) :
    View.canon (copies1 c fh) (ix2 r j) = (fh : Vec Ideal S4x1024x2816 .f32) (ix3 0 r j) := by
  unfold copies1
  canon_tiles q h
  · obtain ⟨a, b, rfl⟩ : ∃ (a : Fin 1024) (b : Fin 256), q = ix2 a b := ⟨q 0, q 1, by blk_ext⟩
    exact congrArg fh (col_emb 2560 _ _ a b _ _ (by simpa using h0) (by simpa using h1))
  · obtain ⟨a, b, rfl⟩ : ∃ (a : Fin 1024) (b : Fin 256), q = ix2 a b := ⟨q 0, q 1, by blk_ext⟩
    exact congrArg fh (col_emb 2304 _ _ a b _ _ (by simpa using h0) (by simpa using h1))
  · obtain ⟨a, b, rfl⟩ : ∃ (a : Fin 1024) (b : Fin 256), q = ix2 a b := ⟨q 0, q 1, by blk_ext⟩
    exact congrArg fh (col_emb 2048 _ _ a b _ _ (by simpa using h0) (by simpa using h1))
  · obtain ⟨a, b, rfl⟩ : ∃ (a : Fin 1024) (b : Fin 256), q = ix2 a b := ⟨q 0, q 1, by blk_ext⟩
    exact congrArg fh (col_emb 1792 _ _ a b _ _ (by simpa using h0) (by simpa using h1))
  · obtain ⟨a, b, rfl⟩ : ∃ (a : Fin 1024) (b : Fin 256), q = ix2 a b := ⟨q 0, q 1, by blk_ext⟩
    exact congrArg fh (col_emb 1536 _ _ a b _ _ (by simpa using h0) (by simpa using h1))
  · obtain ⟨a, b, rfl⟩ : ∃ (a : Fin 1024) (b : Fin 256), q = ix2 a b := ⟨q 0, q 1, by blk_ext⟩
    exact congrArg fh (col_emb 1280 _ _ a b _ _ (by simpa using h0) (by simpa using h1))
  · obtain ⟨a, b, rfl⟩ : ∃ (a : Fin 1024) (b : Fin 256), q = ix2 a b := ⟨q 0, q 1, by blk_ext⟩
    exact congrArg fh (col_emb 1024 _ _ a b _ _ (by simpa using h0) (by simpa using h1))
  · obtain ⟨a, b, rfl⟩ : ∃ (a : Fin 1024) (b : Fin 256), q = ix2 a b := ⟨q 0, q 1, by blk_ext⟩
    exact congrArg fh (col_emb 768 _ _ a b _ _ (by simpa using h0) (by simpa using h1))
  · obtain ⟨a, b, rfl⟩ : ∃ (a : Fin 1024) (b : Fin 256), q = ix2 a b := ⟨q 0, q 1, by blk_ext⟩
    exact congrArg fh (col_emb 512 _ _ a b _ _ (by simpa using h0) (by simpa using h1))
  · obtain ⟨a, b, rfl⟩ : ∃ (a : Fin 1024) (b : Fin 256), q = ix2 a b := ⟨q 0, q 1, by blk_ext⟩
    exact congrArg fh (col_emb 256 _ _ a b _ _ (by simpa using h0) (by simpa using h1))
  · obtain ⟨a, b, rfl⟩ : ∃ (a : Fin 1024) (b : Fin 256), q = ix2 a b := ⟨q 0, q 1, by blk_ext⟩
    exact congrArg fh (col_emb 0 _ _ a b _ _ (by simpa using h0) (by simpa using h1))

/-- The eleven copies of weight 2 into its scratch buffer, the last one first. -/
def copies2 (c : Dev nD) (fh : HbBuf0 (F := Ideal) c hbM0_3) : List (View.Piece (Elt Ideal) S2816x1024 .f32) :=
  [rowCopy (View.whole main_arg4) fh 2560 inb_S2816x1024_S256x1024_2560_0 inb_S4x2816x1024_S1x256x1024_0_2560_0,
    rowCopy (View.whole main_arg4) fh 2304 inb_S2816x1024_S256x1024_2304_0 inb_S4x2816x1024_S1x256x1024_0_2304_0,
    rowCopy (View.whole main_arg4) fh 2048 inb_S2816x1024_S256x1024_2048_0 inb_S4x2816x1024_S1x256x1024_0_2048_0,
    rowCopy (View.whole main_arg4) fh 1792 inb_S2816x1024_S256x1024_1792_0 inb_S4x2816x1024_S1x256x1024_0_1792_0,
    rowCopy (View.whole main_arg4) fh 1536 inb_S2816x1024_S256x1024_1536_0 inb_S4x2816x1024_S1x256x1024_0_1536_0,
    rowCopy (View.whole main_arg4) fh 1280 inb_S2816x1024_S256x1024_1280_0 inb_S4x2816x1024_S1x256x1024_0_1280_0,
    rowCopy (View.whole main_arg4) fh 1024 inb_S2816x1024_S256x1024_1024_0 inb_S4x2816x1024_S1x256x1024_0_1024_0,
    rowCopy (View.whole main_arg4) fh 768 inb_S2816x1024_S256x1024_768_0 inb_S4x2816x1024_S1x256x1024_0_768_0,
    rowCopy (View.whole main_arg4) fh 512 inb_S2816x1024_S256x1024_512_0 inb_S4x2816x1024_S1x256x1024_0_512_0,
    rowCopy (View.whole main_arg4) fh 256 inb_S2816x1024_S256x1024_256_0 inb_S4x2816x1024_S1x256x1024_0_256_0,
    rowCopy (View.whole main_arg4) fh 0 inb_S2816x1024_S256x1024_0_0 inb_S4x2816x1024_S1x256x1024_0_0_0]

/-- What they leave there. -/
theorem filled2 (c : Dev nD) (fh : HbBuf0 (F := Ideal) c hbM0_3) (r : Fin 2816) (j : Fin 1024) :
    View.canon (copies2 c fh) (ix2 r j) = (fh : Vec Ideal S4x2816x1024 .f32) (ix3 0 r j) := by
  unfold copies2
  canon_tiles q h
  · obtain ⟨a, b, rfl⟩ : ∃ (a : Fin 256) (b : Fin 1024), q = ix2 a b := ⟨q 0, q 1, by blk_ext⟩
    exact congrArg fh (row_emb 2560 _ _ a b _ _ (by simpa using h0) (by simpa using h1))
  · obtain ⟨a, b, rfl⟩ : ∃ (a : Fin 256) (b : Fin 1024), q = ix2 a b := ⟨q 0, q 1, by blk_ext⟩
    exact congrArg fh (row_emb 2304 _ _ a b _ _ (by simpa using h0) (by simpa using h1))
  · obtain ⟨a, b, rfl⟩ : ∃ (a : Fin 256) (b : Fin 1024), q = ix2 a b := ⟨q 0, q 1, by blk_ext⟩
    exact congrArg fh (row_emb 2048 _ _ a b _ _ (by simpa using h0) (by simpa using h1))
  · obtain ⟨a, b, rfl⟩ : ∃ (a : Fin 256) (b : Fin 1024), q = ix2 a b := ⟨q 0, q 1, by blk_ext⟩
    exact congrArg fh (row_emb 1792 _ _ a b _ _ (by simpa using h0) (by simpa using h1))
  · obtain ⟨a, b, rfl⟩ : ∃ (a : Fin 256) (b : Fin 1024), q = ix2 a b := ⟨q 0, q 1, by blk_ext⟩
    exact congrArg fh (row_emb 1536 _ _ a b _ _ (by simpa using h0) (by simpa using h1))
  · obtain ⟨a, b, rfl⟩ : ∃ (a : Fin 256) (b : Fin 1024), q = ix2 a b := ⟨q 0, q 1, by blk_ext⟩
    exact congrArg fh (row_emb 1280 _ _ a b _ _ (by simpa using h0) (by simpa using h1))
  · obtain ⟨a, b, rfl⟩ : ∃ (a : Fin 256) (b : Fin 1024), q = ix2 a b := ⟨q 0, q 1, by blk_ext⟩
    exact congrArg fh (row_emb 1024 _ _ a b _ _ (by simpa using h0) (by simpa using h1))
  · obtain ⟨a, b, rfl⟩ : ∃ (a : Fin 256) (b : Fin 1024), q = ix2 a b := ⟨q 0, q 1, by blk_ext⟩
    exact congrArg fh (row_emb 768 _ _ a b _ _ (by simpa using h0) (by simpa using h1))
  · obtain ⟨a, b, rfl⟩ : ∃ (a : Fin 256) (b : Fin 1024), q = ix2 a b := ⟨q 0, q 1, by blk_ext⟩
    exact congrArg fh (row_emb 512 _ _ a b _ _ (by simpa using h0) (by simpa using h1))
  · obtain ⟨a, b, rfl⟩ : ∃ (a : Fin 256) (b : Fin 1024), q = ix2 a b := ⟨q 0, q 1, by blk_ext⟩
    exact congrArg fh (row_emb 256 _ _ a b _ _ (by simpa using h0) (by simpa using h1))
  · obtain ⟨a, b, rfl⟩ : ∃ (a : Fin 256) (b : Fin 1024), q = ix2 a b := ⟨q 0, q 1, by blk_ext⟩
    exact congrArg fh (row_emb 0 _ _ a b _ _ (by simpa using h0) (by simpa using h1))

/-- A load of 256 columns of the filled scratch buffer of weight 0. -/
theorem load0 (v : View sig .tc .vmem S1024x2816 .f32) (c : Dev nD) (fh : HbBuf0 (F := Ideal) c hbM0_1) (o : Nat) (ho : o + 256 ≤ 2816)
    (inb : ∀ a, (![0, o] : Fin 2 → Nat) a + (![1024, 256] : Fin 2 → Nat) a ≤ S1024x2816.size a) (a : Fin 1024) (b : Fin 256) :
    v.readCov (Val := Elt Ideal) (copies0 c fh) (Rect.unit (s := S1024x2816) ![0, o] ![1024, 256] inb).toLoadRect (ix2 a b)
      = (fh : Vec Ideal S4x1024x2816 .f32) (ix3 0 a ⟨o + b.val, by omega⟩) := by
  have e : (Rect.unit (s := S1024x2816) ![0, o] ![1024, 256] inb).toLoadRect.idx (ix2 a b) = ix2 a ⟨o + b.val, by omega⟩ := by
    funext x
    apply Fin.ext
    match x with
    | ⟨0, _⟩ => show 0 + 1 * a.val = a.val; omega
    | ⟨1, _⟩ => show o + 1 * b.val = o + b.val; omega
  rw [View.readCov_eq_canon']
  show View.canon (copies0 c fh) ((Rect.unit (s := S1024x2816) ![0, o] ![1024, 256] inb).toLoadRect.idx (ix2 a b)) = _
  rw [e]
  exact filled0 c fh _ _

/-- A load of 256 columns of the filled scratch buffer of weight 1. -/
theorem load1 (v : View sig .tc .vmem S1024x2816 .f32) (c : Dev nD) (fh : HbBuf0 (F := Ideal) c hbM0_2) (o : Nat) (ho : o + 256 ≤ 2816)
    (inb : ∀ a, (![0, o] : Fin 2 → Nat) a + (![1024, 256] : Fin 2 → Nat) a ≤ S1024x2816.size a) (a : Fin 1024) (b : Fin 256) :
    v.readCov (Val := Elt Ideal) (copies1 c fh) (Rect.unit (s := S1024x2816) ![0, o] ![1024, 256] inb).toLoadRect (ix2 a b)
      = (fh : Vec Ideal S4x1024x2816 .f32) (ix3 0 a ⟨o + b.val, by omega⟩) := by
  have e : (Rect.unit (s := S1024x2816) ![0, o] ![1024, 256] inb).toLoadRect.idx (ix2 a b) = ix2 a ⟨o + b.val, by omega⟩ := by
    funext x
    apply Fin.ext
    match x with
    | ⟨0, _⟩ => show 0 + 1 * a.val = a.val; omega
    | ⟨1, _⟩ => show o + 1 * b.val = o + b.val; omega
  rw [View.readCov_eq_canon']
  show View.canon (copies1 c fh) ((Rect.unit (s := S1024x2816) ![0, o] ![1024, 256] inb).toLoadRect.idx (ix2 a b)) = _
  rw [e]
  exact filled1 c fh _ _

/-- A load of 256 rows of the filled scratch buffer of weight 2. -/
theorem load2 (v : View sig .tc .vmem S2816x1024 .f32) (c : Dev nD) (fh : HbBuf0 (F := Ideal) c hbM0_3) (o : Nat) (ho : o + 256 ≤ 2816)
    (inb : ∀ a, (![o, 0] : Fin 2 → Nat) a + (![256, 1024] : Fin 2 → Nat) a ≤ S2816x1024.size a) (a : Fin 256) (b : Fin 1024) :
    v.readCov (Val := Elt Ideal) (copies2 c fh) (Rect.unit (s := S2816x1024) ![o, 0] ![256, 1024] inb).toLoadRect (ix2 a b)
      = (fh : Vec Ideal S4x2816x1024 .f32) (ix3 0 ⟨o + a.val, by omega⟩ b) := by
  have e : (Rect.unit (s := S2816x1024) ![o, 0] ![256, 1024] inb).toLoadRect.idx (ix2 a b) = ix2 ⟨o + a.val, by omega⟩ b := by
    funext x
    apply Fin.ext
    match x with
    | ⟨0, _⟩ => show o + 1 * a.val = o + a.val; omega
    | ⟨1, _⟩ => show 0 + 1 * b.val = b.val; omega
  rw [View.readCov_eq_canon']
  show View.canon (copies2 c fh) ((Rect.unit (s := S2816x1024) ![o, 0] ![256, 1024] inb).toLoadRect.idx (ix2 a b)) = _
  rw [e]
  exact filled2 c fh _ _

end Cert.FirstIdeal.Value

end
end
-- ==== Proof.FirstBlockA.lean ====
/- The first half step's kernel's body at the first point: it fills the scratch with layer 0 of the three weights, chunk by chunk, and leaves the half step of its rows, as they landed in the ring, over them. -/
module

public import proofs.«01_k».proof.Proof.FirstFill
public import Idealize.ShloMosaic.Lib.Pipeline.ValueKit
public import Idealize.ShloMosaic.Lib.Pointwise

@[expose] public section

set_option maxRecDepth 16384

noncomputable section

namespace Cert.FirstIdeal.Value

open Idealize.ShloMosaic Idealize.ShloMosaic.TcCoe Idealize.SL.Sem
open Cert.FirstIdeal Cert.FirstIdeal.Gen Cert.FirstIdeal.Rd Cert.Spec

/-- The pieces the first point copies into the scratch buffer of weight 0. -/
theorem pieces0_A (c : Dev nD) (t : Fin cfg0.N) (arg2 : Memref sig .tc .vmem S1x1x1024 .f32) (harg2 : arg2.IsWhole) (arg6 : Memref sig .tc .vmem S1x1024 .f32) (harg6 : arg6.IsWhole) (arg7 : Memref sig .tc .vmem S512x1024 .f32) (harg7 : arg7.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : cond0_0 (grid0.coords t)) (hc1 : cond0_1 (grid0.coords t)) (hc2 : cond0_2 (grid0.coords t)) (hc3 : ¬cond0_3 (grid0.coords t))
    (x0 : Vec Ideal S1x1x1024 .f32) (x1 : Vec Ideal S1x1024 .f32)
    (fh0 : HbBuf0 (F := Ideal) c hbM0_0) (fh1 : HbBuf0 (F := Ideal) c hbM0_1) (fh2 : HbBuf0 (F := Ideal) c hbM0_2) (fh3 : HbBuf0 (F := Ideal) c hbM0_3) :
    (runA (F := Ideal) c t arg2 harg2 arg6 harg6 arg7 harg7 arg8 harg8 arg9 harg9 arg10 harg10 hc0 hc1 hc2 hc3 x0 x1 fh0 fh1 fh2 fh3).1 = copies0 c fh1 := by
  unfold runA
  frame_out
  rfl

/-- The pieces the first point copies into the scratch buffer of weight 1. -/
theorem pieces1_A (c : Dev nD) (t : Fin cfg0.N) (arg2 : Memref sig .tc .vmem S1x1x1024 .f32) (harg2 : arg2.IsWhole) (arg6 : Memref sig .tc .vmem S1x1024 .f32) (harg6 : arg6.IsWhole) (arg7 : Memref sig .tc .vmem S512x1024 .f32) (harg7 : arg7.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : cond0_0 (grid0.coords t)) (hc1 : cond0_1 (grid0.coords t)) (hc2 : cond0_2 (grid0.coords t)) (hc3 : ¬cond0_3 (grid0.coords t))
    (x0 : Vec Ideal S1x1x1024 .f32) (x1 : Vec Ideal S1x1024 .f32)
    (fh0 : HbBuf0 (F := Ideal) c hbM0_0) (fh1 : HbBuf0 (F := Ideal) c hbM0_1) (fh2 : HbBuf0 (F := Ideal) c hbM0_2) (fh3 : HbBuf0 (F := Ideal) c hbM0_3) :
    (runA (F := Ideal) c t arg2 harg2 arg6 harg6 arg7 harg7 arg8 harg8 arg9 harg9 arg10 harg10 hc0 hc1 hc2 hc3 x0 x1 fh0 fh1 fh2 fh3).2.1 = copies1 c fh2 := by
  unfold runA
  frame_out
  rfl

/-- The pieces the first point copies into the scratch buffer of weight 2. -/
theorem pieces2_A (c : Dev nD) (t : Fin cfg0.N) (arg2 : Memref sig .tc .vmem S1x1x1024 .f32) (harg2 : arg2.IsWhole) (arg6 : Memref sig .tc .vmem S1x1024 .f32) (harg6 : arg6.IsWhole) (arg7 : Memref sig .tc .vmem S512x1024 .f32) (harg7 : arg7.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : cond0_0 (grid0.coords t)) (hc1 : cond0_1 (grid0.coords t)) (hc2 : cond0_2 (grid0.coords t)) (hc3 : ¬cond0_3 (grid0.coords t))
    (x0 : Vec Ideal S1x1x1024 .f32) (x1 : Vec Ideal S1x1024 .f32)
    (fh0 : HbBuf0 (F := Ideal) c hbM0_0) (fh1 : HbBuf0 (F := Ideal) c hbM0_1) (fh2 : HbBuf0 (F := Ideal) c hbM0_2) (fh3 : HbBuf0 (F := Ideal) c hbM0_3) :
    (runA (F := Ideal) c t arg2 harg2 arg6 harg6 arg7 harg7 arg8 harg8 arg9 harg9 arg10 harg10 hc0 hc1 hc2 hc3 x0 x1 fh0 fh1 fh2 fh3).2.2.1 = copies2 c fh3 := by
  unfold runA
  frame_out
  rfl

/-- The values of the first point's body, over any loads that read the chunks of three weights. -/
theorem chain_A (x : Vec Ideal S1x512x1024 .f32) (g : Vec Ideal S1x1x1024 .f32) (r : Fin 512) (j : Fin 1024)
    (WG WU : Fin 1024 → Fin 2816 → EReal) (WD : Fin 2816 → Fin 1024 → EReal)
    (g0 g1 g2 g3 g4 g5 g6 g7 g8 g9 g10 u0 u1 u2 u3 u4 u5 u6 u7 u8 u9 u10 : Vec Ideal S1024x256 .f32) (d0 d1 d2 d3 d4 d5 d6 d7 d8 d9 d10 : Vec Ideal S256x1024 .f32)
    (eg0 : Cols g0 WG 0) (eu0 : Cols u0 WU 0) (ed0 : Rows d0 WD 0)
    (eg1 : Cols g1 WG 256) (eu1 : Cols u1 WU 256) (ed1 : Rows d1 WD 256)
    (eg2 : Cols g2 WG 512) (eu2 : Cols u2 WU 512) (ed2 : Rows d2 WD 512)
    (eg3 : Cols g3 WG 768) (eu3 : Cols u3 WU 768) (ed3 : Rows d3 WD 768)
    (eg4 : Cols g4 WG 1024) (eu4 : Cols u4 WU 1024) (ed4 : Rows d4 WD 1024)
    (eg5 : Cols g5 WG 1280) (eu5 : Cols u5 WU 1280) (ed5 : Rows d5 WD 1280)
    (eg6 : Cols g6 WG 1536) (eu6 : Cols u6 WU 1536) (ed6 : Rows d6 WD 1536)
    (eg7 : Cols g7 WG 1792) (eu7 : Cols u7 WU 1792) (ed7 : Rows d7 WD 1792)
    (eg8 : Cols g8 WG 2048) (eu8 : Cols u8 WU 2048) (ed8 : Rows d8 WD 2048)
    (eg9 : Cols g9 WG 2304) (eu9 : Cols u9 WU 2304) (ed9 : Rows d9 WD 2304)
    (eg10 : Cols g10 WG 2560) (eu10 : Cols u10 WU 2560) (ed10 : Rows d10 WD 2560) :
    k0_pay1 (k0_pay3 x) (k0_pay16 (k0_pay4 x g) (k0_pay15 (k0_pay4 x g) (k0_pay14 (k0_pay4 x g) (k0_pay13 (k0_pay4 x g) (k0_pay12 (k0_pay4 x g) (k0_pay11 (k0_pay4 x g) (k0_pay10 (k0_pay4 x g) (k0_pay9 (k0_pay4 x g) (k0_pay8 (k0_pay4 x g) (k0_pay7 (k0_pay4 x g) (k0_pay6 (k0_pay4 x g) k0_pay5 g0 u0 d0) g1 u1 d1) g2 u2 d2) g3 u3 d3) g4 u4 d4) g5 u5 d5) g6 u6 d6) g7 u7 d7) g8 u8 d8) g9 u9 d9) g10 u10 d10) (Scalar.ofBits .f32 0x3F000000#32) (ix2 r j)
      = ffnAt (fun k => x (ix3 0 r k)) (fun k => g (ix3 0 0 k)) WG WU WD j := by
  refine (out1 _ _ r j).trans ?_
  rw [copy3, step16, step15, step14, step13, step12, step11, step10, step9, step8, step7, step6, zero5, zero_add]
  rw [step_chunk _ g0 u0 d0 r j _ WG WU WD 0 (by decide) (fun k => norm4 x g r k) (fun a b => eg0 a b _) (fun a b => eu0 a b _) (fun a b => ed0 a b _),
    step_chunk _ g1 u1 d1 r j _ WG WU WD 256 (by decide) (fun k => norm4 x g r k) (fun a b => eg1 a b _) (fun a b => eu1 a b _) (fun a b => ed1 a b _),
    step_chunk _ g2 u2 d2 r j _ WG WU WD 512 (by decide) (fun k => norm4 x g r k) (fun a b => eg2 a b _) (fun a b => eu2 a b _) (fun a b => ed2 a b _),
    step_chunk _ g3 u3 d3 r j _ WG WU WD 768 (by decide) (fun k => norm4 x g r k) (fun a b => eg3 a b _) (fun a b => eu3 a b _) (fun a b => ed3 a b _),
    step_chunk _ g4 u4 d4 r j _ WG WU WD 1024 (by decide) (fun k => norm4 x g r k) (fun a b => eg4 a b _) (fun a b => eu4 a b _) (fun a b => ed4 a b _),
    step_chunk _ g5 u5 d5 r j _ WG WU WD 1280 (by decide) (fun k => norm4 x g r k) (fun a b => eg5 a b _) (fun a b => eu5 a b _) (fun a b => ed5 a b _),
    step_chunk _ g6 u6 d6 r j _ WG WU WD 1536 (by decide) (fun k => norm4 x g r k) (fun a b => eg6 a b _) (fun a b => eu6 a b _) (fun a b => ed6 a b _),
    step_chunk _ g7 u7 d7 r j _ WG WU WD 1792 (by decide) (fun k => norm4 x g r k) (fun a b => eg7 a b _) (fun a b => eu7 a b _) (fun a b => ed7 a b _),
    step_chunk _ g8 u8 d8 r j _ WG WU WD 2048 (by decide) (fun k => norm4 x g r k) (fun a b => eg8 a b _) (fun a b => eu8 a b _) (fun a b => ed8 a b _),
    step_chunk _ g9 u9 d9 r j _ WG WU WD 2304 (by decide) (fun k => norm4 x g r k) (fun a b => eg9 a b _) (fun a b => eu9 a b _) (fun a b => ed9 a b _),
    step_chunk _ g10 u10 d10 r j _ WG WU WD 2560 (by decide) (fun k => norm4 x g r k) (fun a b => eg10 a b _) (fun a b => eu10 a b _) (fun a b => ed10 a b _)]
  rw [ffnAt, sum_chunks]

theorem out_A (c : Dev nD) (t : Fin cfg0.N) (arg2 : Memref sig .tc .vmem S1x1x1024 .f32) (harg2 : arg2.IsWhole) (arg6 : Memref sig .tc .vmem S1x1024 .f32) (harg6 : arg6.IsWhole) (arg7 : Memref sig .tc .vmem S512x1024 .f32) (harg7 : arg7.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : cond0_0 (grid0.coords t)) (hc1 : cond0_1 (grid0.coords t)) (hc2 : cond0_2 (grid0.coords t)) (hc3 : ¬cond0_3 (grid0.coords t))
    (x0 : Vec Ideal S1x1x1024 .f32) (x1 : Vec Ideal S1x1024 .f32)
    (fh0 : HbBuf0 (F := Ideal) c hbM0_0) (fh1 : HbBuf0 (F := Ideal) c hbM0_1) (fh2 : HbBuf0 (F := Ideal) c hbM0_2) (fh3 : HbBuf0 (F := Ideal) c hbM0_3)
    (r : Fin 512) (j : Fin 1024) :
    VO0_2.read (Elt Ideal) (VO0_2.writes (Elt Ideal) VO0_2.junk (runA (F := Ideal) c t arg2 harg2 arg6 harg6 arg7 harg7 arg8 harg8 arg9 harg9 arg10 harg10 hc0 hc1 hc2 hc3 x0 x1 fh0 fh1 fh2 fh3).2.2.2.1) (ix2 r j)
      = ffnAt (fun k => (fh0 : Vec Ideal S512x32x1024 .f32) (ix3 r (Ring.bk 32 t.val) k)) (fun k => x0 (ix3 0 0 k)) (fun k f => (fh1 : Vec Ideal S4x1024x2816 .f32) (ix3 0 k f)) (fun k f => (fh2 : Vec Ideal S4x1024x2816 .f32) (ix3 0 k f)) (fun f k => (fh3 : Vec Ideal S4x2816x1024 .f32) (ix3 0 f k)) j := by
  unfold runA
  frame_out
  refine (chain_A _ x0 r j (fun k f => (fh1 : Vec Ideal S4x1024x2816 .f32) (ix3 0 k f)) (fun k f => (fh2 : Vec Ideal S4x1024x2816 .f32) (ix3 0 k f)) (fun f k => (fh3 : Vec Ideal S4x2816x1024 .f32) (ix3 0 f k)) _ _ _ _ _ _ _ _ _ _ _ _ _ _ _ _ _ _ _ _ _ _ _ _ _ _ _ _ _ _ _ _ _
    (fun a b _ => load0 _ c fh1 0 (by decide) _ a b) (fun a b _ => load1 _ c fh2 0 (by decide) _ a b) (fun a b _ => load2 _ c fh3 0 (by decide) _ a b)
    (fun a b _ => load0 _ c fh1 256 (by decide) _ a b) (fun a b _ => load1 _ c fh2 256 (by decide) _ a b) (fun a b _ => load2 _ c fh3 256 (by decide) _ a b)
    (fun a b _ => load0 _ c fh1 512 (by decide) _ a b) (fun a b _ => load1 _ c fh2 512 (by decide) _ a b) (fun a b _ => load2 _ c fh3 512 (by decide) _ a b)
    (fun a b _ => load0 _ c fh1 768 (by decide) _ a b) (fun a b _ => load1 _ c fh2 768 (by decide) _ a b) (fun a b _ => load2 _ c fh3 768 (by decide) _ a b)
    (fun a b _ => load0 _ c fh1 1024 (by decide) _ a b) (fun a b _ => load1 _ c fh2 1024 (by decide) _ a b) (fun a b _ => load2 _ c fh3 1024 (by decide) _ a b)
    (fun a b _ => load0 _ c fh1 1280 (by decide) _ a b) (fun a b _ => load1 _ c fh2 1280 (by decide) _ a b) (fun a b _ => load2 _ c fh3 1280 (by decide) _ a b)
    (fun a b _ => load0 _ c fh1 1536 (by decide) _ a b) (fun a b _ => load1 _ c fh2 1536 (by decide) _ a b) (fun a b _ => load2 _ c fh3 1536 (by decide) _ a b)
    (fun a b _ => load0 _ c fh1 1792 (by decide) _ a b) (fun a b _ => load1 _ c fh2 1792 (by decide) _ a b) (fun a b _ => load2 _ c fh3 1792 (by decide) _ a b)
    (fun a b _ => load0 _ c fh1 2048 (by decide) _ a b) (fun a b _ => load1 _ c fh2 2048 (by decide) _ a b) (fun a b _ => load2 _ c fh3 2048 (by decide) _ a b)
    (fun a b _ => load0 _ c fh1 2304 (by decide) _ a b) (fun a b _ => load1 _ c fh2 2304 (by decide) _ a b) (fun a b _ => load2 _ c fh3 2304 (by decide) _ a b)
    (fun a b _ => load0 _ c fh1 2560 (by decide) _ a b) (fun a b _ => load1 _ c fh2 2560 (by decide) _ a b) (fun a b _ => load2 _ c fh3 2560 (by decide) _ a b)).trans ?_
  exact congrArg (fun y : Fin 1024 → EReal => ffnAt y (fun k => x0 (ix3 0 0 k)) (fun k f => (fh1 : Vec Ideal S4x1024x2816 .f32) (ix3 0 k f)) (fun k f => (fh2 : Vec Ideal S4x1024x2816 .f32) (ix3 0 k f)) (fun f k => (fh3 : Vec Ideal S4x2816x1024 .f32) (ix3 0 f k)) j)
    (funext fun k => slot_read c (Ring.sl 2 t.val) (Ring.bk 32 t.val) fh0 _ _ _ (off7 t) r k)

end Cert.FirstIdeal.Value

end
end
-- ==== Proof.FirstArray.lean ====
/- The first half step's kernel: its arrays at coordinates, and the result buffer when it ends. -/
module

public import proofs.«01_k».proof.Proof.FirstIdealBody
public import proofs.«01_k».proof.Proof.FirstBlockA
public import Idealize.ShloMosaic.Lib.Pipeline.ValueKit
public import Idealize.ShloMosaic.Lib.Pointwise

@[expose] public section

set_option maxRecDepth 16384

noncomputable section

namespace Cert.FirstIdeal.Value

open Idealize.ShloMosaic Idealize.ShloMosaic.TcCoe Idealize.SL.Sem
open Cert.FirstIdeal Cert.FirstIdeal.Gen Cert.FirstIdeal.Rd Cert.Spec

variable (m : (ℓ : Loc nD τ sig) → Buf (Elt Ideal) ℓ) (c : Dev nD) (t : Fin cfg0.N)

/-- Entry `j` of token `(b, l)` after the half step, from the arguments. -/
def tokenAt (b : Fin 2) (l : Fin 8192) (j : Fin 1024) : EReal :=
  ffnAt (fun k => m ((c : Thread nD τ).loc main_arg0) (ix3 b l k)) (fun i => m ((c : Thread nD τ).loc main_arg1) (ix2 0 i))
    (fun k f => m ((c : Thread nD τ).loc main_arg2) (ix3 0 k f)) (fun k f => m ((c : Thread nD τ).loc main_arg3) (ix3 0 k f))
    (fun f k => m ((c : Thread nD τ).loc main_arg4) (ix3 0 f k)) j

/-- Every window's block index, in closed form. -/
theorem idx : ∀ t : Fin cfg0.N, win0_0.index t = ![0, 0, 0] ∧ win0_2.index t = ![t.val, 0] :=
  (by decide +kernel : ∀ t : Fin grid0.N, _)

/-- The step of a grid point within a chunk. -/
abbrev stepOf (t : Fin cfg0.N) : Fin 32 := Ring.bk 32 t.val

/-- Row `r` of the block at point `t`, as a row of the whole array. -/
def rowOf (t : Fin cfg0.N) (r : Fin 512) : Fin 16384 := ⟨t.val * 512 + r.val, by have : t.val < 32 := t.isLt; omega⟩

/-- The chunk of a row of the array. -/
def chunkOf (i : Fin 16384) : Fin 512 := ⟨i.val % 512, by omega⟩

/-- Its step within the chunk. -/
def stepIn (i : Fin 16384) : Fin 32 := ⟨i.val / 512, by omega⟩

theorem stepOf_val (t : Fin cfg0.N) : (stepOf t).val = t.val := Nat.mod_eq_of_lt t.isLt

theorem chunkOf_row (t : Fin cfg0.N) (r : Fin 512) : chunkOf (rowOf t r) = r := Fin.ext (by simp only [chunkOf, rowOf]; omega)

theorem stepIn_row (t : Fin cfg0.N) (r : Fin 512) : stepIn (rowOf t r) = stepOf t :=
  Fin.ext ((by simp only [stepIn, rowOf]; omega : (stepIn (rowOf t r)).val = t.val).trans (stepOf_val t).symm)

/-- The batch row of chunk `n`. -/
def rowB (n : Fin 512) : Fin 2 := ⟨n.val / 256, by omega⟩

/-- The place in the sequence of step `u` of chunk `n`. -/
def rowL (n : Fin 512) (u : Fin 32) : Fin 8192 := ⟨n.val % 256 * 32 + u.val, by omega⟩

theorem entry0 : V m c main_v0 = shapeCast S512x32x1024 (m ((c : Thread nD τ).loc main_arg0)) shapeCasts_S2x8192x1024_S512x32x1024 := by
  unfold V V0
  simp only [List.flatten_cons, List.flatten_nil, List.append_nil, hostOps0]
  after_results
  try rfl

theorem entry1 : V m c main_v1 = broadcastInDim S4x1x1024 ![0, 2] bcast_S4x1024_S4x1x1024_0_2 (m ((c : Thread nD τ).loc main_arg1)) := by
  unfold V V0
  simp only [List.flatten_cons, List.flatten_nil, List.append_nil, hostOps0]
  after_results
  try rfl

theorem chunk_at (x : FVec Ideal S2x8192x1024 .f32) (b : Fin 2) (q : Fin 256) (u : Fin 32) (k : Fin 1024) :
    shapeCast S512x32x1024 x shapeCasts_S2x8192x1024_S512x32x1024 (ix3 ⟨b.val * 256 + q.val, by omega⟩ u k) = x (ix3 b ⟨q.val * 32 + u.val, by omega⟩ k) := by
  pointwise
  refine congrArg (fun n => x (ix3 b n k)) (Fin.ext ?_)
  show (b.val * 256 + q.val) % 256 * 32 + u.val = q.val * 32 + u.val
  omega

theorem chunk_at' (x : FVec Ideal S2x8192x1024 .f32) (n : Fin 512) (u : Fin 32) (k : Fin 1024) :
    shapeCast S512x32x1024 x shapeCasts_S2x8192x1024_S512x32x1024 (ix3 n u k) = x (ix3 (rowB n) (rowL n u) k) := by
  have e : n = ⟨(rowB n).val * 256 + n.val % 256, by simp only [rowB]; omega⟩ := Fin.ext (by simp only [rowB]; omega)
  exact (congrArg (fun i => shapeCast S512x32x1024 x shapeCasts_S2x8192x1024_S512x32x1024 (ix3 i u k)) e).trans (chunk_at x (rowB n) ⟨n.val % 256, by omega⟩ u k)

theorem rows_at (n : Fin 512) (u : Fin 32) (k : Fin 1024) : (V m c main_v0 : Vec Ideal S512x32x1024 .f32) (ix3 n u k) = m ((c : Thread nD τ).loc main_arg0) (ix3 (rowB n) (rowL n u) k) := by
  rw [entry0]
  exact chunk_at' _ n u k

theorem read1 (k : Fin 1024) : iblk m c 0 t (ix3 0 0 k) = m ((c : Thread nD τ).loc main_arg1) (ix2 0 k) := by
  have e : iblk m c 0 t (ix3 0 0 k) = V m c main_v1 (ix3 (0 : Fin 4) (0 : Fin 1) k) := by blk_ext [iblk, idx t]
  rw [e, entry1]
  pointwise

/-- After the first point the scratch buffers hold layer 0 of the three weights. -/
theorem held0 (k : Fin 1024) (f : Fin 2816) : sS0 m c (ix2 k f) = m ((c : Thread nD τ).loc main_arg2) (ix3 0 k f) := by
  unfold sS0
  rw [View.read_writes_junk_eq_canon, pieces0_A]
  exact (filled0 c _ k f).trans (congrFun (V_main_arg2 m c) _)

theorem held1 (k : Fin 1024) (f : Fin 2816) : sS1 m c (ix2 k f) = m ((c : Thread nD τ).loc main_arg3) (ix3 0 k f) := by
  unfold sS1
  rw [View.read_writes_junk_eq_canon, pieces1_A]
  exact (filled1 c _ k f).trans (congrFun (V_main_arg3 m c) _)

theorem held2 (f : Fin 2816) (k : Fin 1024) : sS2 m c (ix2 f k) = m ((c : Thread nD τ).loc main_arg4) (ix3 0 f k) := by
  unfold sS2
  rw [View.read_writes_junk_eq_canon, pieces2_A]
  exact (filled2 c _ f k).trans (congrFun (V_main_arg4 m c) _)

/-- What point `t` leaves: row `r` is the token of step `t` in chunk `r`. -/
theorem point (r : Fin 512) (j : Fin 1024) : outAt m c t (ix2 r j) = tokenAt m c (rowB r) (rowL r (stepOf t)) j := by
  unfold tokenAt
  by_cases h : t.val = 0
  · rw [outAt_A m c t h]
    refine (out_A c t _ _ _ _ _ _ _ _ _ _ _ _ _ _ _ _ _ _ _ _ _ _ r j).trans ?_
    simp only [read1]
    rw [V_main_arg2, V_main_arg3, V_main_arg4]
    exact congrArg (fun f => ffnAt f _ _ _ _ j) (funext fun k => rows_at m c r (stepOf t) k)
  by_cases h1 : t.val < 31
  · rw [outAt_B m c t h h1]
    refine (out_B c t _ _ _ _ _ _ _ _ _ _ _ _ _ _ _ _ _ _ _ _ _ _ r j).trans ?_
    simp only [read1, held0, held1, held2]
    exact congrArg (fun f => ffnAt f _ _ _ _ j) (funext fun k => rows_at m c r (stepOf t) k)
  · rw [outAt_C m c t h h1]
    refine (out_C c t _ _ _ _ _ _ _ _ _ _ _ _ _ _ _ _ _ _ _ _ _ _ r j).trans ?_
    simp only [read1, held0, held1, held2]
    exact congrArg (fun f => ffnAt f _ _ _ _ j) (funext fun k => rows_at m c r (stepOf t) k)

/-- Row `i` of the output array is the token of step `i / 512` in chunk `i % 512`. -/
def arrayAt (i : S16384x1024.Idx) : EReal := tokenAt m c (rowB (chunkOf (i 0))) (rowL (chunkOf (i 0)) (stepIn (i 0))) (i 1)

/-- The output array after the grid. -/
theorem final : (dats m 0 c).arrAt 2 (cfgs 0).N = arrayAt m c := by
  refine (dats m 0 c).arrAt_eq_of_covers 2 _ (by decide +kernel) fun t hf y => ?_
  blk_simp
  rw [after0_2]
  obtain ⟨r, j, rfl⟩ : ∃ (r : Fin 512) (j : Fin 1024), y = ix2 r j := ⟨y 0, y 1, by blk_ext⟩
  rw [point]
  have e : ((cfg0.win 2).blk t).view.emb (ix2 r j) = (ix2 (rowOf t r) j : S16384x1024.Idx) := by blk_ext [idx t, rowOf]
  refine Eq.trans ?_ (congrArg (arrayAt m c) e).symm
  show _ = tokenAt m c (rowB (chunkOf (rowOf t r))) (rowL (chunkOf (rowOf t r)) (stepIn (rowOf t r))) j
  rw [chunkOf_row, stepIn_row]

/-- The result: every token's row after the half step. -/
def resultAt : S2x8192x1024.Idx → EReal := fun i => tokenAt m c (i 0) (i 1) (i 2)

theorem split_at (y : FVec Ideal S16384x1024 .f32) (u : Fin 32) (n : Fin 512) (k : Fin 1024) :
    shapeCast S32x512x1024 y shapeCasts_S16384x1024_S32x512x1024 (ix3 u n k) = y (ix2 ⟨u.val * 512 + n.val, by omega⟩ k) := by
  pointwise

theorem turn_at (y : FVec Ideal S32x512x1024 .f32) (u : Fin 32) (n : Fin 512) (k : Fin 1024) : transpose S512x32x1024 [1, 0, 2] y transposes_S32x512x1024_S512x32x1024_1_0_2 (ix3 n u k) = y (ix3 u n k) := by
  pointwise

theorem back_at (y : FVec Ideal S512x32x1024 .f32) (b : Fin 2) (q : Fin 256) (u : Fin 32) (j : Fin 1024) :
    shapeCast S2x8192x1024 y shapeCasts_S512x32x1024_S2x8192x1024 (ix3 b ⟨q.val * 32 + u.val, by omega⟩ j) = y (ix3 ⟨b.val * 256 + q.val, by omega⟩ u j) := by
  pointwise
  refine congrArg (fun n => y (ix3 n u j)) (Fin.ext ?_)
  show b.val * 256 + (q.val * 32 + u.val) / 32 = b.val * 256 + q.val
  omega

theorem array_at (n : Fin 512) (u : Fin 32) (j : Fin 1024) : arrayAt m c (ix2 ⟨u.val * 512 + n.val, by omega⟩ j) = tokenAt m c (rowB n) (rowL n u) j := by
  have e : chunkOf ⟨u.val * 512 + n.val, by omega⟩ = n := Fin.ext (by simp only [chunkOf]; omega)
  have e' : stepIn ⟨u.val * 512 + n.val, by omega⟩ = u := Fin.ext (by simp only [stepIn]; omega)
  show tokenAt m c (rowB (chunkOf ⟨u.val * 512 + n.val, _⟩)) (rowL (chunkOf ⟨u.val * 512 + n.val, _⟩) (stepIn ⟨u.val * 512 + n.val, _⟩)) j = _
  rw [e, e']

/-- The output array's rows, by token, are the result. -/
theorem order_back : shapeCast S2x8192x1024 (transpose S512x32x1024 [1, 0, 2] (shapeCast S32x512x1024 (arrayAt m c : FVec Ideal S16384x1024 .f32) shapeCasts_S16384x1024_S32x512x1024) transposes_S32x512x1024_S512x32x1024_1_0_2) shapeCasts_S512x32x1024_S2x8192x1024 = resultAt m c := by
  funext i
  obtain ⟨b, l, j, rfl⟩ : ∃ (b : Fin 2) (l : Fin 8192) (j : Fin 1024), i = ix3 b l j := ⟨i 0, i 1, i 2, by blk_ext⟩
  obtain ⟨q, u, rfl⟩ : ∃ (q : Fin 256) (u : Fin 32), l = ⟨q.val * 32 + u.val, by omega⟩ := ⟨⟨l.val / 32, by omega⟩, ⟨l.val % 32, by omega⟩, Fin.ext (by show l.val = l.val / 32 * 32 + l.val % 32; omega)⟩
  refine (back_at _ b q u j).trans ((turn_at _ u _ j).trans ((split_at _ u _ j).trans ((array_at m c _ u j).trans ?_)))
  unfold resultAt
  have hb := b.isLt
  have hq := q.isLt
  refine congrArg₂ (fun b l => tokenAt m c b l j) (Fin.ext ?_) (Fin.ext ?_)
  · show (b.val * 256 + q.val) / 256 = b.val
    omega
  · show (b.val * 256 + q.val) % 256 * 32 + u.val = q.val * 32 + u.val
    omega

/-- The result buffer when the program ends. -/
theorem tail : Pipeline.afterTail₀ cfgs (dats m) 0 (V0 m) [hostOps1] c main_v6 = resultAt m c := by
  unfold Pipeline.afterTail₀
  simp only [List.flatten_cons, List.flatten_nil, List.append_nil, hostOps1]
  after_results
  have e := (Pipeline.withArrays_arr spec0 (by decide) c (V0 m c) (fun w => (dats m 0 c).arrAt w (cfgs 0).N) 2).trans (final m c)
  refine Eq.trans ?_ (order_back m c)
  rw [← e]
  rfl

variable (ρ : Dev nD → PrngReg)

/-- The run: the result buffer ends at every token's row after the half step. -/
theorem run : θ_run defs (onTc (τ := τ) (main (F := Ideal))) ⟨m, fun _ => 0, ρ⟩ (fun r => ∀ c : Dev nD,
    r.2.mem ((c.tc : Thread nD τ).loc main_v6) = resultAt m c) :=
  θ_run_mono (run_main m ρ) fun r h c => ((h c).2 main_v6 (by decide)).trans (tail m c)

end Cert.FirstIdeal.Value

end
end
-- ==== Proof.FirstRef.lean ====
/- What the first half step's reference computes, read at one entry: the per-token function `Spec.ffnAt` of that token's
   row and of layer 0's weights. -/
module

public import proofs.«01_k».proof.Proof.Gen.FirstRefIdeal.Read
public import proofs.«01_k».proof.Proof.FfnSpec
public import Idealize.ShloMosaic.Lib.Pipeline.ValueKit
public import Idealize.ShloMosaic.Lib.Pointwise

@[expose] public section

set_option maxRecDepth 16384

noncomputable section

namespace Cert.FirstRefIdeal.Value

open Idealize.ShloMosaic Idealize.ShloMosaic.TcCoe Idealize.SL.Sem
open Cert.FirstRefIdeal Cert.FirstRefIdeal.Gen Cert.FirstRefIdeal.Read Cert.Spec

variable (x0 : FVec Ideal S2x8192x1024 .f32) (x1 : FVec Ideal S4x1024 .f32) (x2 x3 : FVec Ideal S4x1024x2816 .f32)
  (x4 : FVec Ideal S4x2816x1024 .f32) (b : Fin 2) (l : Fin 8192)

/-- The normed row. -/
theorem norm_at (k : Fin 1024) :
    val_main_v14 (F := Ideal) x0 x1 (ix3 b l k) = rmsAt (fun i => x0 (ix3 b l i)) (fun i => x1 (ix2 0 i)) k := by
  unfold rmsAt
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- A hidden feature. -/
theorem hid_at (f : Fin 2816) :
    val_main_v24 (F := Ideal) x0 x1 x2 x3 (ix3 b l f) = hidAt (rmsAt (fun i => x0 (ix3 b l i)) (fun i => x1 (ix2 0 i)))
      (fun k f => x2 (ix3 0 k f)) (fun k f => x3 (ix3 0 k f)) f := by
  unfold hidAt gateAt Ideal.logistic
  pointwise [val_main_v24, val_main_v23, val_main_v22, val_main_v21, val_main_v18, val_main_v17, val_main_v16, val_main_v15,
    val_main_call0_v5, val_main_call0_v4, val_main_call0_v3, val_main_call0_v2, val_main_call0_v1, val_main_call0_v0,
    val_main_call0_cst, val_main_call0_cst_0]
  simp only [norm_at]

/-- The reference's result. -/
theorem ref_at (j : Fin 1024) :
    val_main_v28 (F := Ideal) x0 x1 x2 x3 x4 (ix3 b l j) = ffnAt (fun k => x0 (ix3 b l k)) (fun i => x1 (ix2 0 i))
      (fun k f => x2 (ix3 0 k f)) (fun k f => x3 (ix3 0 k f)) (fun f j => x4 (ix3 0 f j)) j := by
  unfold ffnAt
  pointwise [val_main_v28, val_main_v27, val_main_v26, val_main_v25, val_main_v20, val_main_v19, val_main_cst_2]
  simp only [hid_at]

end Cert.FirstRefIdeal.Value

end
end
-- ==== Proof.FirstEq.lean ====
/- The first half step's reference and its kernel give the same result from the same arguments. -/
module

public import proofs.«01_k».proof.Proof.FirstArray
public import proofs.«01_k».proof.Proof.FirstRef

@[expose] public section

set_option maxRecDepth 16384

noncomputable section

namespace Cert.FirstEq

open Idealize.ShloMosaic Idealize.ShloMosaic.TcCoe Idealize.SL.Sem

variable (m : (ℓ : Loc Cert.FirstIdeal.nD Cert.FirstIdeal.τ Cert.FirstIdeal.sig) → Buf (Elt Ideal) ℓ)
  (m' : (ℓ : Loc Cert.FirstRefIdeal.nD Cert.FirstRefIdeal.τ Cert.FirstRefIdeal.sig) → Buf (Elt Ideal) ℓ) (c : Dev Cert.FirstIdeal.nD)

/-- The reference's result is the kernel's, where the arguments agree. -/
theorem result_eq
    (h0 : m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0))
    (h1 : m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1))
    (h2 : m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2))
    (h3 : m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3))
    (h4 : m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)) :
    Cert.FirstRefIdeal.Read.val_main_v28 (F := Ideal) (m' ((c.tc : Thread Cert.FirstRefIdeal.nD Cert.FirstRefIdeal.τ).loc Cert.FirstRefIdeal.main_arg0)) (m' ((c.tc : Thread Cert.FirstRefIdeal.nD Cert.FirstRefIdeal.τ).loc Cert.FirstRefIdeal.main_arg1)) (m' ((c.tc : Thread Cert.FirstRefIdeal.nD Cert.FirstRefIdeal.τ).loc Cert.FirstRefIdeal.main_arg2)) (m' ((c.tc : Thread Cert.FirstRefIdeal.nD Cert.FirstRefIdeal.τ).loc Cert.FirstRefIdeal.main_arg3)) (m' ((c.tc : Thread Cert.FirstRefIdeal.nD Cert.FirstRefIdeal.τ).loc Cert.FirstRefIdeal.main_arg4)) = Cert.FirstIdeal.Value.resultAt m c := by
  funext i
  obtain ⟨b, l, j, rfl⟩ : ∃ (b : Fin 2) (l : Fin 8192) (j : Fin 1024), i = ix3 b l j := ⟨i 0, i 1, i 2, by blk_ext⟩
  refine (Cert.FirstRefIdeal.Value.ref_at _ _ _ _ _ b l j).trans ?_
  rw [h0, h1, h2, h3, h4]
  rfl

end Cert.FirstEq

end
end
-- ==== Proof.LastIdealRing.lean ====
/- The copies of LastIdeal's result out of the two tiles: names, cases and the ring they form. -/
module

public import proofs.«01_k».proof.Proof.Gen.LastIdeal.Launch
public import proofs.«01_k».proof.Proof.Gen.LastIdeal.Skeleton
public import proofs.«01_k».proof.Proof.Gen.LastIdeal.Points
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Ring.WriteBehind
public import Idealize.ShloMosaic.Lib.Tactic
public import Idealize.ShloMosaic.Lib.WordCmp
public import Idealize.ShloMosaic.Lib.Pointwise
public import Idealize.ShloMosaic.Lib.Pipeline.ValueKit

@[expose] public section

set_option maxRecDepth 16384

noncomputable section

namespace Cert.LastIdeal.Wb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers' contents when the call is entered. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The result's array, which the body writes by its own copies. -/
def R0 : Finset (Ref sig .tc) := {main_v5}

/-- The conditions of the body's branches at grid point `i`: a copy two steps back is waited, the first point loads the weights,
    the later points find them, the last point drains, the last point also waits the step before. -/
abbrev cond0_0 (i : grid0.Coords) : Prop := k0_cond1 i = 1#1
abbrev cond0_3 (i : grid0.Coords) : Prop := k0_cond2 i = 1#1
abbrev cond0_4 (i : grid0.Coords) : Prop := k0_cond3 i = 1#1
abbrev cond0_1 (i : grid0.Coords) : Prop := k0_cond4 i = 1#1
abbrev cond0_2 (i : grid0.Coords) : Prop := k0_cond5 i = 1#1
theorem hcond0_0 : ∀ t : Fin cfg0.N, cond0_0 (grid0.coords t) ↔ 2 ≤ t.val :=
  (by decide +kernel : ∀ t : Fin grid0.N, cond0_0 (grid0.coords t) ↔ 2 ≤ t.val)
theorem hcond0_3 : ∀ t : Fin cfg0.N, cond0_3 (grid0.coords t) ↔ t.val = 0 :=
  (by decide +kernel : ∀ t : Fin grid0.N, cond0_3 (grid0.coords t) ↔ t.val = 0)
theorem hcond0_4 : ∀ t : Fin cfg0.N, cond0_4 (grid0.coords t) ↔ 1 ≤ t.val :=
  (by decide +kernel : ∀ t : Fin grid0.N, cond0_4 (grid0.coords t) ↔ 1 ≤ t.val)
theorem hcond0_1 : ∀ t : Fin cfg0.N, cond0_1 (grid0.coords t) ↔ t.val = 31 :=
  (by decide +kernel : ∀ t : Fin grid0.N, cond0_1 (grid0.coords t) ↔ t.val = 31)
theorem hcond0_2 : ∀ t : Fin cfg0.N, cond0_2 (grid0.coords t) ↔ 1 ≤ t.val :=
  (by decide +kernel : ∀ t : Fin grid0.N, cond0_2 (grid0.coords t) ↔ 1 ≤ t.val)

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev scM0_0 : Memref sig .tc .vmem S1024x2816 .f32 := Memref.whole cc0_scratch0
abbrev scM0_1 : Memref sig .tc .vmem S1024x2816 .f32 := Memref.whole cc0_scratch1
abbrev scM0_2 : Memref sig .tc .vmem S2816x1024 .f32 := Memref.whole cc0_scratch2
abbrev scM0_3 : Memref sig .tc .vmem S2x512x1024 .f32 := Memref.whole cc0_scratch4
abbrev hbM0_0 : Memref sig .tc .hbm S4x1024x2816 .f32 := Memref.whole main_arg2
abbrev hbM0_1 : Memref sig .tc .hbm S4x1024x2816 .f32 := Memref.whole main_arg3
abbrev hbM0_2 : Memref sig .tc .hbm S4x2816x1024 .f32 := Memref.whole main_arg4
abbrev hbM0_3 : Memref sig .tc .hbm S512x32x1024 .f32 := Memref.whole main_v5
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 35 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38] : Fin 35 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34] (by decide) (by decide)]; rfl
def H0 : Finset (Ref sig .tc) := {main_arg2, main_arg3, main_arg4}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg3) ∗ hbPt0 c hbM0_2 (V m c main_arg4)) := by
  rw [BI.bigSep_eq_bigSepL_of_eq [main_arg2, main_arg3, main_arg4] (by decide) (by decide)]; rfl
/-- What every point finds and leaves alike: the semaphores of the weights' copies at zero and the weights in main memory. -/
def idle0 (c : Dev nD) (fh0 : HbBuf0 (F := F) c hbM0_0) (fh1 : HbBuf0 (F := F) c hbM0_1) (fh2 : HbBuf0 (F := F) c hbM0_2) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ hbPt0 c hbM0_0 fh0 ∗ hbPt0 c hbM0_1 fh1 ∗ hbPt0 c hbM0_2 fh2)

instance : NeZero grid0.N := ⟨by rw [N_0]; decide⟩
theorem inb_wtile0_0 (g : Fin 2) (m : Fin 1) : ∀ a, (![g.val, 0, 0] : Fin 3 → Nat) a + S1x512x1024.size a ≤ S2x512x1024.size a := by
  have := g.isLt; have := m.isLt; intro a; fin_cases a <;> simp <;> omega
theorem inb_wpiece0_0 (u : Fin 32) (m : Fin 1) : ∀ a, (![0, 1 * u.val, 0] : Fin 3 → Nat) a + S512x1x1024.size a ≤ S512x32x1024.size a := by
  have := u.isLt; have := m.isLt; intro a; fin_cases a <;> simp <;> omega
theorem inb_wcell0_0 (g : Fin 2) (m : Fin 1) : ∀ a, (![g.val] : Fin 1 → Nat) a + S1.size a ≤ S2.size a := by
  have := g.isLt; have := m.isLt; intro a; fin_cases a <;> simp <;> omega
def wtile0_0 (g : Fin 2) (m : Fin 1) : Memref sig .tc .vmem S512x1024 .f32 :=
  (scM0_3.slice (Rect.unit (s := S2x512x1024) ![g.val, 0, 0] S1x512x1024.size (inb_wtile0_0 g m)) (fun _ => rfl)).squeeze S512x1024 squeezes_S1x512x1024_S512x1024
def wpiece0_0 (u : Fin 32) (m : Fin 1) : Memref sig .tc .hbm S512x1024 .f32 :=
  (hbM0_3.slice (Rect.unit (s := S512x32x1024) ![0, 1 * u.val, 0] S512x1x1024.size (inb_wpiece0_0 u m)) (fun _ => rfl)).squeeze S512x1024 squeezes_S512x1x1024_S512x1024
def wcellA0_0 (g : Fin 2) (m : Fin 1) : DmaSems sig S_ := (cc0_scratch5.slice (Rect.unit (s := S2) ![g.val] S1.size (inb_wcell0_0 g m))).squeeze S_ squeezes_S1_S_
abbrev wcellR0_0 (g : Fin 2) (m : Fin 1) : SemLoc sig := SemLoc.dma (wcellA0_0 g m).sem
theorem wcellR0_0_0_0 : wcellR0_0 0 0 = SemLoc.dma 37 := by decide
theorem wcellR0_0_1_0 : wcellR0_0 1 0 = SemLoc.dma 38 := by decide

section WRing0_0
variable (c : Dev nD)
abbrev wtileP0_0 (g : Fin 2) (m : Fin 1) (e : HbBuf0 (F := F) c (wtile0_0 g m)) : sProp 𝕄 := (wtile0_0 g m).view.loc (c : Thread nD τ) ↦[(wtile0_0 g m).view.set]{fullShare} e
abbrev wcellP0_0 (g : Fin 2) (m : Fin 1) : sProp 𝕄 := semVal ((c : Thread nD τ), wcellR0_0 g m) 0
abbrev wpieceP0_0 (u : Fin 32) (m : Fin 1) (f : HbBuf0 (F := F) c (wpiece0_0 u m)) : sProp 𝕄 := (wpiece0_0 u m).view.loc (c : Thread nD τ) ↦[(wpiece0_0 u m).view.set]{fullShare} f
/-- The copy of tile `g` to piece `u` under way: when it lands it gives back the piece at `f` and the tile. -/
abbrev wflightP0_0 (g : Fin 2) (m : Fin 1) (u : Fin 32) (f : HbBuf0 (F := F) c (wpiece0_0 u m)) : sProp 𝕄 :=
  iprop(∃ e, Transfers.Flight countersEmb (c : Thread nD τ) (wcellR0_0 g m) default ((wpiece0_0 u m).view.amount (wcellR0_0 g m)) iprop(wpieceP0_0 c u m f ∗ wtileP0_0 c g m e))
/-- Group `g` free: its semaphore at zero and its tile at anything. -/
abbrev wfree0_0 (g : Fin 2) : sProp 𝕄 := iprop((wcellP0_0 c g 0 ∗ ∃ e, wtileP0_0 c g 0 e))
/-- Group `g` under way with step `u`'s copy, which delivers the result's contents `G`. -/
abbrev winfl0_0 (G : Buf (Elt F) ((c : Thread nD τ).loc main_v5)) (g : Fin 2) (u : Fin 32) : sProp 𝕄 := iprop(wflightP0_0 c g 0 u G)
/-- Step `u`'s piece not yet written, and written. -/
abbrev wahead0_0 (u : Fin 32) : sProp 𝕄 := iprop(∃ f, wpieceP0_0 c u 0 f)
abbrev wbehind0_0 (G : Buf (Elt F) ((c : Thread nD τ).loc main_v5)) (u : Fin 32) : sProp 𝕄 := wpieceP0_0 c u 0 G
/-- The ring before step `k`, each copy waited two steps later. -/
def wringAt0_0 (G : Buf (Elt F) ((c : Thread nD τ).loc main_v5)) (k : ℕ) : sProp 𝕄 := Ring.AtBΦ 2 (wfree0_0 c) (winfl0_0 c G) (wahead0_0 c) (wbehind0_0 c G) k
theorem wfree0_0_eq (g : Fin 2) : (bigSep Finset.univ (fun m : Fin 1 => iprop(wcellP0_0 (F := F) c g m ∗ ∃ e, wtileP0_0 c g m e)) : sProp 𝕄) = wfree0_0 c g := by
  rw [BI.bigSep_eq_bigSepL_of_eq [0] (by decide) (by decide)]; rfl
theorem wahead0_0_eq (u : Fin 32) : (bigSep Finset.univ (fun m : Fin 1 => iprop(∃ f, wpieceP0_0 (F := F) c u m f)) : sProp 𝕄) = wahead0_0 c u := by
  rw [BI.bigSep_eq_bigSepL_of_eq [0] (by decide) (by decide)]; rfl
omit [FloatOps F] in
theorem wcellP0_0_0_0 : wcellP0_0 (F := F) c 0 0 = semVal ((c : Thread nD τ), SemLoc.dma 37) 0 := congrArg (fun x => (semVal ((c : Thread nD τ), x) 0 : sProp 𝕄)) wcellR0_0_0_0
omit [FloatOps F] in
theorem wcellP0_0_1_0 : wcellP0_0 (F := F) c 1 0 = semVal ((c : Thread nD τ), SemLoc.dma 38) 0 := congrArg (fun x => (semVal ((c : Thread nD τ), x) 0 : sProp 𝕄)) wcellR0_0_1_0
end WRing0_0

abbrev wtileOff0_0 (i : Fin 2 × Fin 1) : Fin 3 → Nat := ![i.1.val, 0, 0]
theorem inb_wtile0_0' (i : Fin 2 × Fin 1) : ∀ a, wtileOff0_0 i a + S1x512x1024.size a ≤ S2x512x1024.size a := inb_wtile0_0 i.1 i.2
abbrev wtileSet0_0 (i : Fin 2 × Fin 1) : Finset S2x512x1024.Idx := (Rect.unit (s := S2x512x1024) (wtileOff0_0 i) S1x512x1024.size (inb_wtile0_0' i)).set
theorem wtileSet0_0_eq (g : Fin 2) (m : Fin 1) : (wtile0_0 g m).view.set = wtileSet0_0 (g, m) := by
  simp only [wtile0_0, Memref.view_squeeze, View.set_reshape]; exact View.set_slice_whole _ _
def wtileIx0_0 (i : Fin 2 × Fin 1) : Fin 3 → ℕ := ![i.1.val, 0, 0]
def wtileUn0_0 (v : Fin 3 → ℕ) : Fin 2 × Fin 1 := (Fin.ofNat 2 (v 0), Fin.ofNat 1 (0))
theorem wtileUn0_0_left : ∀ i : Fin 2 × Fin 1, wtileUn0_0 (wtileIx0_0 i) = i := by decide +kernel
theorem wtiles0_0_disjoint (i i' : Fin 2 × Fin 1) (h : i ≠ i') : Disjoint (wtileSet0_0 i) (wtileSet0_0 i') :=
  Ring.boxes_disjoint (s := S2x512x1024) S1x512x1024.size wtileOff0_0 inb_wtile0_0' wtileIx0_0
    (fun i a => by fin_cases a <;> simp [wtileOff0_0, wtileIx0_0] <;> omega) wtileUn0_0 wtileUn0_0_left i i' h

abbrev wpieceOff0_0 (i : Fin 32 × Fin 1) : Fin 3 → Nat := ![0, 1 * i.1.val, 0]
theorem inb_wpiece0_0' (i : Fin 32 × Fin 1) : ∀ a, wpieceOff0_0 i a + S512x1x1024.size a ≤ S512x32x1024.size a := inb_wpiece0_0 i.1 i.2
abbrev wpieceSet0_0 (i : Fin 32 × Fin 1) : Finset S512x32x1024.Idx := (Rect.unit (s := S512x32x1024) (wpieceOff0_0 i) S512x1x1024.size (inb_wpiece0_0' i)).set
theorem wpieceSet0_0_eq (u : Fin 32) (m : Fin 1) : (wpiece0_0 u m).view.set = wpieceSet0_0 (u, m) := by
  simp only [wpiece0_0, Memref.view_squeeze, View.set_reshape]; exact View.set_slice_whole _ _
def wpieceIx0_0 (i : Fin 32 × Fin 1) : Fin 3 → ℕ := ![0, 1 * i.1.val, 0]
def wpieceUn0_0 (v : Fin 3 → ℕ) : Fin 32 × Fin 1 := (Fin.ofNat 32 (v 1), Fin.ofNat 1 (0))
theorem wpieceUn0_0_left : ∀ i : Fin 32 × Fin 1, wpieceUn0_0 (wpieceIx0_0 i) = i := by decide +kernel
theorem wpieces0_0_disjoint (i i' : Fin 32 × Fin 1) (h : i ≠ i') : Disjoint (wpieceSet0_0 i) (wpieceSet0_0 i') :=
  Ring.boxes_disjoint (s := S512x32x1024) S512x1x1024.size wpieceOff0_0 inb_wpiece0_0' wpieceIx0_0
    (fun i a => by fin_cases a <;> simp [wpieceOff0_0, wpieceIx0_0] <;> omega) wpieceUn0_0 wpieceUn0_0_left i i' h

section WInOut0_0
variable (c : Dev nD)
theorem wtileP0_0_eq (g : Fin 2) (m : Fin 1) (e) : wtileP0_0 (F := F) c g m e = (((c : Thread nD τ).loc cc0_scratch4) ↦[wtileSet0_0 (g, m)]{fullShare} e : sProp 𝕄) := by
  unfold wtileP0_0; rw [wtileSet0_0_eq]; rfl
theorem wpieceP0_0_eq (u : Fin 32) (m : Fin 1) (f) : wpieceP0_0 (F := F) c u m f = (((c : Thread nD τ).loc main_v5) ↦[wpieceSet0_0 (u, m)]{fullShare} f : sProp 𝕄) := by
  unfold wpieceP0_0; rw [wpieceSet0_0_eq]; rfl
abbrev wtileSpare0_0 : sProp 𝕄 := iprop(∃ f : Buf (Elt F) ((c : Thread nD τ).loc cc0_scratch4), ((c : Thread nD τ).loc cc0_scratch4) ↦[Finset.univ \ Finset.univ.biUnion wtileSet0_0]{fullShare} f)
abbrev wpieceSpare0_0 : sProp 𝕄 := iprop(∃ f : Buf (Elt F) ((c : Thread nD τ).loc main_v5), ((c : Thread nD τ).loc main_v5) ↦[Finset.univ \ Finset.univ.biUnion wpieceSet0_0]{fullShare} f)
theorem wtiles0_0_in : iprop(∃ d, owns (c : Thread nD τ) scM0_3 fullShare d) ⊢ (iprop(bigSep Finset.univ (fun i : Fin 2 × Fin 1 => iprop(∃ e, wtileP0_0 (F := F) c i.1 i.2 e)) ∗ wtileSpare0_0 c) : sProp 𝕄) := by
  simp only [scM0_3, owns_whole]
  exact Ring.pieces_split_spare (U := Pipeline.UD sig nD τ) (ℓ := (c : Thread nD τ).loc cc0_scratch4) (q := fullShare) wtileSet0_0 wtiles0_0_disjoint
    (fun i e => wtileP0_0 c i.1 i.2 e) (fun i e => wtileP0_0_eq c i.1 i.2 e)
theorem wtiles0_0_out : (iprop(bigSep Finset.univ (fun i : Fin 2 × Fin 1 => iprop(∃ e, wtileP0_0 (F := F) c i.1 i.2 e)) ∗ wtileSpare0_0 c) : sProp 𝕄) ⊢ iprop(∃ d, owns (c : Thread nD τ) scM0_3 fullShare d) := by
  simp only [scM0_3, owns_whole]
  exact Ring.pieces_join_spare (U := Pipeline.UD sig nD τ) (ℓ := (c : Thread nD τ).loc cc0_scratch4) (q := fullShare) wtileSet0_0 wtiles0_0_disjoint
    (fun i e => wtileP0_0 c i.1 i.2 e) (fun i e => wtileP0_0_eq c i.1 i.2 e)
end WInOut0_0

section WCanon0_0
omit [FloatOps F]
set_option synthInstance.maxSize 4096 in
theorem wcoff0_0_1 : ∀ t : Fin grid0.N, k0_off6 (grid0.coords t) = ![(Ring.sl 2 t.val).val] := by decide +kernel
@[sl_canon] theorem wcanon0_0_1 (t : Fin grid0.N) :
    (cc0_scratch5.slice (Rect.unit (s := S2) (k0_off6 (grid0.coords t)) S1.size (k0_off6_inb (grid0.coords t)))).squeeze S_ squeezes_S1_S_ = wcellA0_0 (Ring.sl 2 t.val) 0 :=
  congrArg (fun A : DmaSems sig S1 => A.squeeze S_ squeezes_S1_S_) (SemArray.slice_unit_congr _ (wcoff0_0_1 t) _ _)
@[sl_canon] theorem wcanon0_0_1' (t : Fin grid0.N) :
    (cc0_scratch5.slice (Rect.unit (s := S2) (k0_off6 (grid0.coords t)) ![1] (k0_off6_inb (grid0.coords t)))).squeeze S_ squeezes_S1_S_ = wcellA0_0 (Ring.sl 2 t.val) 0 :=
  wcanon0_0_1 t
set_option synthInstance.maxSize 4096 in
theorem wcoff0_0_2 : ∀ t : Fin grid0.N, k0_off8 (grid0.coords t) = ![(Ring.sl 2 t.val).val, 0, 0] := by decide +kernel
@[sl_canon] theorem wcanon0_0_2 (t : Fin grid0.N) :
    (scM0_3.slice (Rect.unit (s := S2x512x1024) (k0_off8 (grid0.coords t)) S1x512x1024.size (k0_off8_inb (grid0.coords t))) (fun _ => rfl)).squeeze S512x1024 squeezes_S1x512x1024_S512x1024 = wtile0_0 (Ring.sl 2 t.val) 0 :=
  congrArg (fun M : Memref sig .tc .vmem S1x512x1024 .f32 => M.squeeze S512x1024 squeezes_S1x512x1024_S512x1024) (Memref.slice_unit_congr _ (wcoff0_0_2 t) _ _ (fun _ => rfl) (fun _ => rfl))
@[sl_canon] theorem wcanon0_0_2' (t : Fin grid0.N) :
    (scM0_3.slice (Rect.unit (s := S2x512x1024) (k0_off8 (grid0.coords t)) ![1, 512, 1024] (k0_off8_inb (grid0.coords t))) (fun _ => rfl)).squeeze S512x1024 squeezes_S1x512x1024_S512x1024 = wtile0_0 (Ring.sl 2 t.val) 0 :=
  wcanon0_0_2 t
set_option synthInstance.maxSize 4096 in
theorem wcoff0_0_3 : ∀ t : Fin grid0.N, k0_off7 (grid0.coords t) = ![0, 1 * (Ring.bk 32 t.val).val, 0] := by decide +kernel
@[sl_canon] theorem wcanon0_0_3 (t : Fin grid0.N) :
    (hbM0_3.slice (Rect.unit (s := S512x32x1024) (k0_off7 (grid0.coords t)) S512x1x1024.size (k0_off7_inb (grid0.coords t))) (fun _ => rfl)).squeeze S512x1024 squeezes_S512x1x1024_S512x1024 = wpiece0_0 (Ring.bk 32 t.val) 0 :=
  congrArg (fun M : Memref sig .tc .hbm S512x1x1024 .f32 => M.squeeze S512x1024 squeezes_S512x1x1024_S512x1024) (Memref.slice_unit_congr _ (wcoff0_0_3 t) _ _ (fun _ => rfl) (fun _ => rfl))
@[sl_canon] theorem wcanon0_0_3' (t : Fin grid0.N) :
    (hbM0_3.slice (Rect.unit (s := S512x32x1024) (k0_off7 (grid0.coords t)) ![512, 1, 1024] (k0_off7_inb (grid0.coords t))) (fun _ => rfl)).squeeze S512x1024 squeezes_S512x1x1024_S512x1024 = wpiece0_0 (Ring.bk 32 t.val) 0 :=
  wcanon0_0_3 t
set_option synthInstance.maxSize 4096 in
theorem wcoff0_0_4 : ∀ t : Fin grid0.N, k0_off1 (grid0.coords t) = ![(Ring.sl 2 t.val).val] := by decide +kernel
@[sl_canon] theorem wcanon0_0_4 (t : Fin grid0.N) (h0 : cond0_0 (grid0.coords t)) :
    (cc0_scratch5.slice (Rect.unit (s := S2) (k0_off1 (grid0.coords t)) S1.size (k0_off1_inb (grid0.coords t) h0))).squeeze S_ squeezes_S1_S_ = wcellA0_0 (Ring.sl 2 t.val) 0 :=
  congrArg (fun A : DmaSems sig S1 => A.squeeze S_ squeezes_S1_S_) (SemArray.slice_unit_congr _ (wcoff0_0_4 t) _ _)
@[sl_canon] theorem wcanon0_0_4' (t : Fin grid0.N) (h0 : cond0_0 (grid0.coords t)) :
    (cc0_scratch5.slice (Rect.unit (s := S2) (k0_off1 (grid0.coords t)) ![1] (k0_off1_inb (grid0.coords t) h0))).squeeze S_ squeezes_S1_S_ = wcellA0_0 (Ring.sl 2 t.val) 0 :=
  wcanon0_0_4 t h0
set_option synthInstance.maxSize 4096 in
theorem wcoff0_0_5 : ∀ t : Fin grid0.N, k0_off3 (grid0.coords t) = ![(Ring.sl 2 t.val).val, 0, 0] := by decide +kernel
@[sl_canon] theorem wcanon0_0_5 (t : Fin grid0.N) (h0 : cond0_0 (grid0.coords t)) :
    (scM0_3.slice (Rect.unit (s := S2x512x1024) (k0_off3 (grid0.coords t)) S1x512x1024.size (k0_off3_inb (grid0.coords t) h0)) (fun _ => rfl)).squeeze S512x1024 squeezes_S1x512x1024_S512x1024 = wtile0_0 (Ring.sl 2 t.val) 0 :=
  congrArg (fun M : Memref sig .tc .vmem S1x512x1024 .f32 => M.squeeze S512x1024 squeezes_S1x512x1024_S512x1024) (Memref.slice_unit_congr _ (wcoff0_0_5 t) _ _ (fun _ => rfl) (fun _ => rfl))
@[sl_canon] theorem wcanon0_0_5' (t : Fin grid0.N) (h0 : cond0_0 (grid0.coords t)) :
    (scM0_3.slice (Rect.unit (s := S2x512x1024) (k0_off3 (grid0.coords t)) ![1, 512, 1024] (k0_off3_inb (grid0.coords t) h0)) (fun _ => rfl)).squeeze S512x1024 squeezes_S1x512x1024_S512x1024 = wtile0_0 (Ring.sl 2 t.val) 0 :=
  wcanon0_0_5 t h0
set_option synthInstance.maxSize 4096 in
theorem wcoff0_0_6 : ∀ t : Fin grid0.N, k0_off9 (grid0.coords t) = ![(Ring.sl 2 t.val).val] := by decide +kernel
@[sl_canon] theorem wcanon0_0_6 (t : Fin grid0.N) (h1 : cond0_1 (grid0.coords t)) :
    (cc0_scratch5.slice (Rect.unit (s := S2) (k0_off9 (grid0.coords t)) S1.size (k0_off9_inb (grid0.coords t) h1))).squeeze S_ squeezes_S1_S_ = wcellA0_0 (Ring.sl 2 t.val) 0 :=
  congrArg (fun A : DmaSems sig S1 => A.squeeze S_ squeezes_S1_S_) (SemArray.slice_unit_congr _ (wcoff0_0_6 t) _ _)
@[sl_canon] theorem wcanon0_0_6' (t : Fin grid0.N) (h1 : cond0_1 (grid0.coords t)) :
    (cc0_scratch5.slice (Rect.unit (s := S2) (k0_off9 (grid0.coords t)) ![1] (k0_off9_inb (grid0.coords t) h1))).squeeze S_ squeezes_S1_S_ = wcellA0_0 (Ring.sl 2 t.val) 0 :=
  wcanon0_0_6 t h1
set_option synthInstance.maxSize 4096 in
theorem wcoff0_0_7 : ∀ t : Fin grid0.N, k0_off11 (grid0.coords t) = ![(Ring.sl 2 t.val).val, 0, 0] := by decide +kernel
@[sl_canon] theorem wcanon0_0_7 (t : Fin grid0.N) (h1 : cond0_1 (grid0.coords t)) :
    (scM0_3.slice (Rect.unit (s := S2x512x1024) (k0_off11 (grid0.coords t)) S1x512x1024.size (k0_off11_inb (grid0.coords t) h1)) (fun _ => rfl)).squeeze S512x1024 squeezes_S1x512x1024_S512x1024 = wtile0_0 (Ring.sl 2 t.val) 0 :=
  congrArg (fun M : Memref sig .tc .vmem S1x512x1024 .f32 => M.squeeze S512x1024 squeezes_S1x512x1024_S512x1024) (Memref.slice_unit_congr _ (wcoff0_0_7 t) _ _ (fun _ => rfl) (fun _ => rfl))
@[sl_canon] theorem wcanon0_0_7' (t : Fin grid0.N) (h1 : cond0_1 (grid0.coords t)) :
    (scM0_3.slice (Rect.unit (s := S2x512x1024) (k0_off11 (grid0.coords t)) ![1, 512, 1024] (k0_off11_inb (grid0.coords t) h1)) (fun _ => rfl)).squeeze S512x1024 squeezes_S1x512x1024_S512x1024 = wtile0_0 (Ring.sl 2 t.val) 0 :=
  wcanon0_0_7 t h1
set_option synthInstance.maxSize 4096 in
theorem wcoff0_0_8 : ∀ t : Fin grid0.N, k0_off12 (grid0.coords t) = ![(Ring.sl 2 (t.val + 1)).val] := by decide +kernel
@[sl_canon] theorem wcanon0_0_8 (t : Fin grid0.N) (h1 : cond0_1 (grid0.coords t)) (h2 : cond0_2 (grid0.coords t)) :
    (cc0_scratch5.slice (Rect.unit (s := S2) (k0_off12 (grid0.coords t)) S1.size (k0_off12_inb (grid0.coords t) h1 h2))).squeeze S_ squeezes_S1_S_ = wcellA0_0 (Ring.sl 2 (t.val + 1)) 0 :=
  congrArg (fun A : DmaSems sig S1 => A.squeeze S_ squeezes_S1_S_) (SemArray.slice_unit_congr _ (wcoff0_0_8 t) _ _)
@[sl_canon] theorem wcanon0_0_8' (t : Fin grid0.N) (h1 : cond0_1 (grid0.coords t)) (h2 : cond0_2 (grid0.coords t)) :
    (cc0_scratch5.slice (Rect.unit (s := S2) (k0_off12 (grid0.coords t)) ![1] (k0_off12_inb (grid0.coords t) h1 h2))).squeeze S_ squeezes_S1_S_ = wcellA0_0 (Ring.sl 2 (t.val + 1)) 0 :=
  wcanon0_0_8 t h1 h2
set_option synthInstance.maxSize 4096 in
theorem wcoff0_0_9 : ∀ t : Fin grid0.N, k0_off14 (grid0.coords t) = ![(Ring.sl 2 (t.val + 1)).val, 0, 0] := by decide +kernel
@[sl_canon] theorem wcanon0_0_9 (t : Fin grid0.N) (h1 : cond0_1 (grid0.coords t)) (h2 : cond0_2 (grid0.coords t)) :
    (scM0_3.slice (Rect.unit (s := S2x512x1024) (k0_off14 (grid0.coords t)) S1x512x1024.size (k0_off14_inb (grid0.coords t) h1 h2)) (fun _ => rfl)).squeeze S512x1024 squeezes_S1x512x1024_S512x1024 = wtile0_0 (Ring.sl 2 (t.val + 1)) 0 :=
  congrArg (fun M : Memref sig .tc .vmem S1x512x1024 .f32 => M.squeeze S512x1024 squeezes_S1x512x1024_S512x1024) (Memref.slice_unit_congr _ (wcoff0_0_9 t) _ _ (fun _ => rfl) (fun _ => rfl))
@[sl_canon] theorem wcanon0_0_9' (t : Fin grid0.N) (h1 : cond0_1 (grid0.coords t)) (h2 : cond0_2 (grid0.coords t)) :
    (scM0_3.slice (Rect.unit (s := S2x512x1024) (k0_off14 (grid0.coords t)) ![1, 512, 1024] (k0_off14_inb (grid0.coords t) h1 h2)) (fun _ => rfl)).squeeze S512x1024 squeezes_S1x512x1024_S512x1024 = wtile0_0 (Ring.sl 2 (t.val + 1)) 0 :=
  wcanon0_0_9 t h1 h2
set_option synthInstance.maxSize 4096 in
theorem wcoff0_0_10 : ∀ t : Fin grid0.N, k0_off4 (grid0.coords t) = ![(Ring.sl 2 t.val).val, 0, 0] := by decide +kernel
instance (priority := high) wclosedOff0_0_10 (t : Fin grid0.N) : ClosedOff (k0_off4 (grid0.coords t)) := ⟨![(Ring.sl 2 t.val).val, 0, 0], wcoff0_0_10 t⟩
set_option synthInstance.maxSize 4096 in
theorem wcoff0_0_11 : ∀ t : Fin grid0.N, k0_off5 (grid0.coords t) = ![(Ring.sl 2 t.val).val, 0, 0] := by decide +kernel
instance (priority := high) wclosedOff0_0_11 (t : Fin grid0.N) : ClosedOff (k0_off5 (grid0.coords t)) := ⟨![(Ring.sl 2 t.val).val, 0, 0], wcoff0_0_11 t⟩
end WCanon0_0

variable (c : Dev nD)

/-- A tile's rows and features of what a store to its whole block put there: the block's one leading index dropped. -/
def dropLead (v : Vec F S1x512x1024 .f32) : Vec F S512x1024 .f32 := fun y => v (Shape.reshapeEquiv squeezes_S1x512x1024_S512x1024.numel_eq y)

theorem sread_tile (g : Fin 2) (off : Fin 3 → Nat) (inb : ∀ a, off a + S1x512x1024.size a ≤ S2x512x1024.size a) (h : off = ![g.val, 0, 0])
    (e : HbBuf0 (F := F) c (wtile0_0 g 0)) (v : Vec F S1x512x1024 .f32) :
    (wtile0_0 g 0).view.read (Elt F) (View.write (Elt F) (scM0_3.access (Rect.unit (s := S2x512x1024) off S1x512x1024.size inb)) e v Finset.univ) = dropLead v := by
  subst h
  funext y
  exact congrFun (View.read_write_univ (v := scM0_3.access (Rect.unit (s := S2x512x1024) ![g.val, 0, 0] S1x512x1024.size inb)) e v) (Shape.reshapeEquiv squeezes_S1x512x1024_S512x1024.numel_eq y)

theorem read_piece_whole (u : Fin 32) (f : HbBuf0 (F := F) c (wpiece0_0 u 0)) (x : Vec F S512x1024 .f32) :
    (wpiece0_0 u 0).view.read (Elt F) ((wpiece0_0 u 0).view.writes (Elt F) f [⟨Rect.whole S512x1024, x⟩]) = x := by
  rw [← View.write_univ_eq_writes_whole]
  exact View.read_write_univ _ _

/-- A piece of the result array is held alike at two contents that read alike through it. -/
theorem wpieceP_congr (u : Fin 32) (f g : HbBuf0 (F := F) c (wpiece0_0 u 0)) (h : (wpiece0_0 u 0).view.read (Elt F) f = (wpiece0_0 u 0).view.read (Elt F) g) :
    wpieceP0_0 (F := F) c u 0 f = wpieceP0_0 c u 0 g := by
  refine pointsTo_congr fun i hi => ?_
  obtain ⟨x, -, rfl⟩ := Finset.mem_map.mp hi
  exact congrFun h x

/-- The result array whose rows of step `u` are `o u`. -/
def glue (o : Fin 32 → Vec F S512x1024 .f32) : Buf (Elt F) ((c : Thread nD τ).loc main_v5) := fun i : S512x32x1024.Idx => o (i 1) (ix2 (i 0) (i 2))

theorem dropMid (y : S512x1024.Idx) : Shape.reshapeEquiv squeezes_S512x1x1024_S512x1024.numel_eq y = ix3 (y 0) 0 (y 1) := by
  pointwise

theorem read_glue (o : Fin 32 → Vec F S512x1024 .f32) (u : Fin 32) : (wpiece0_0 u 0).view.read (Elt F) (glue c o) = o u := by
  funext y
  show glue c o ((Rect.unit (s := S512x32x1024) ![0, 1 * u.val, 0] S512x1x1024.size (inb_wpiece0_0 u 0)).emb (Shape.reshapeEquiv squeezes_S512x1x1024_S512x1024.numel_eq y)) = _
  rw [dropMid]
  unfold glue
  congr 1
  · congr 1
    apply Fin.ext
    show 1 * u.val + 1 * 0 = u.val
    omega
  · funext a
    apply Fin.ext
    match a with
    | ⟨0, _⟩ => show 0 + 1 * (y 0).val = (y 0).val; omega
    | ⟨1, _⟩ => show 0 + 1 * (y 1).val = (y 1).val; omega

/-- A copy in flight whose data is step `u`'s rows is a copy in flight of the glued array's. -/
theorem wflight_glue (o : Fin 32 → Vec F S512x1024 .f32) (g : Fin 2) (u : Fin 32) :
    iprop(∃ f, ⌜(wpiece0_0 u 0).view.read (Elt F) f = o u⌝ ∗ wflightP0_0 (F := F) c g 0 u f) ⊢ winfl0_0 c (glue c o) g u := by
  iintro ⟨%f, %hf, ⟨%e, Hf⟩⟩
  iexists e
  rw [← wpieceP_congr c u f (glue c o) (hf.trans (read_glue c o u).symm)]
  iexact Hf

theorem wpiece_glue (o : Fin 32 → Vec F S512x1024 .f32) (u : Fin 32) :
    iprop(∃ f, ⌜(wpiece0_0 u 0).view.read (Elt F) f = o u⌝ ∗ wpieceP0_0 (F := F) c u 0 f) ⊢ wpieceP0_0 c u 0 (glue c o) := by
  iintro ⟨%f, %hf, Hf⟩
  rw [← wpieceP_congr c u f (glue c o) (hf.trans (read_glue c o u).symm)]
  iexact Hf

end Cert.LastIdeal.Wb

end
end
-- ==== Proof.LastIdealRunA.lean ====
/- The last half step's kernel run at its first point. -/
module

public import proofs.«01_k».proof.Proof.LastIdealRing

@[expose] public section

set_option maxRecDepth 16384

noncomputable section

namespace Cert.LastIdeal.Wb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2400000 in set_option sl_exec.dmaWindow true in set_option sl_exec.dmaWindowSet true in
/-- What the body leaves of its block of the result, found by running it, at the first point: the three weights copied into scratch, the block stored to its tile and its copy out begun. -/
def runA (c : Dev nD) (t : Fin cfg0.N) (arg1 : Memref sig .tc .vmem S512x1024 .f32) (harg1 : arg1.IsWhole) (arg2 : Memref sig .tc .vmem S1x1x1024 .f32) (harg2 : arg2.IsWhole) (arg6 : Memref sig .tc .vmem S1x1024 .f32) (harg6 : arg6.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : ¬cond0_0 (grid0.coords t)) (hc3 : cond0_3 (grid0.coords t)) (hc4 : ¬cond0_4 (grid0.coords t)) (hc1 : ¬cond0_1 (grid0.coords t))
    (x0 : Vec F S512x1024 .f32) (x1 : Vec F S1x1x1024 .f32) (x2 : Vec F S1x1024 .f32) (fh0 : HbBuf0 (F := F) c hbM0_0) (fh1 : HbBuf0 (F := F) c hbM0_1) (fh2 : HbBuf0 (F := F) c hbM0_2) :
    Σ' (LS0 : List (View.Piece (Elt F) S1024x2816 .f32)), Σ' (LS1 : List (View.Piece (Elt F) S1024x2816 .f32)), Σ' (LS2 : List (View.Piece (Elt F) S2816x1024 .f32)), { out : Vec F S512x1024 .f32 //
      ∀ (W : Waits sig Unit) (K : PUnit → sProp 𝕄),
        iprop(owns (c : Thread nD τ) arg1 fullShare x0 ∗ owns (c : Thread nD τ) arg2 fullShare x1 ∗ owns (c : Thread nD τ) arg6 fullShare x2 ∗ (∃ d, owns (c : Thread nD τ) arg8 fullShare d) ∗ (∃ d, owns (c : Thread nD τ) arg9 fullShare d) ∗ (∃ d, owns (c : Thread nD τ) arg10 fullShare d) ∗ idle0 c fh0 fh1 fh2 ∗ (∃ f, wpieceP0_0 c (Ring.bk 32 t.val) 0 f) ∗ wcellP0_0 c (Ring.sl 2 t.val) 0 ∗ (∃ e, wtileP0_0 c (Ring.sl 2 t.val) 0 e) ∗ owes (c : Thread nD τ) 0 W
          ∗ (iprop(owns (c : Thread nD τ) arg1 fullShare x0 ∗ owns (c : Thread nD τ) arg2 fullShare x1 ∗ owns (c : Thread nD τ) arg6 fullShare x2 ∗ (∃ f, arg8.view.loc (c : Thread nD τ) ↦[arg8.view.set]{fullShare} (arg8.view.writes (Elt F) f LS0)) ∗ (∃ f, arg9.view.loc (c : Thread nD τ) ↦[arg9.view.set]{fullShare} (arg9.view.writes (Elt F) f LS1)) ∗ (∃ f, arg10.view.loc (c : Thread nD τ) ↦[arg10.view.set]{fullShare} (arg10.view.writes (Elt F) f LS2)) ∗ idle0 c fh0 fh1 fh2 ∗ (∃ f, ⌜(wpiece0_0 (Ring.bk 32 t.val) 0).view.read (Elt F) f = out⌝ ∗ wflightP0_0 c (Ring.sl 2 t.val) 0 (Ring.bk 32 t.val) f) ∗ (∃ W', owes (c : Thread nD τ) 0 W')) -∗ K ⟨⟩))
          ⊢ wp frame (wpE (defs₀ (F := F)) Variants.none c none) Set.univ (cc0_ffn (grid0.coords t) arg1 harg1 arg2 harg2 (Memref.whole main_arg2) (Memref.isWhole_whole _) (Memref.whole main_arg3) (Memref.isWhole_whole _) (Memref.whole main_arg4) (Memref.isWhole_whole _) arg6 harg6 (Memref.whole main_v5) (Memref.isWhole_whole _) arg8 harg8 arg9 harg9 arg10 harg10 cc0_scratch3 scM0_3 (Memref.isWhole_whole _) cc0_scratch5) K } := by
  refine ⟨?_, ?_, ?_, ?_, fun W K => ?run⟩
  case run =>
    haveI : Fact (¬cond0_0 (grid0.coords t)) := ⟨hc0⟩
    haveI : Fact (cond0_3 (grid0.coords t)) := ⟨hc3⟩
    haveI : Fact (¬cond0_4 (grid0.coords t)) := ⟨hc4⟩
    haveI : Fact (¬cond0_1 (grid0.coords t)) := ⟨hc1⟩
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns idle0
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hh0, Hh1, Hh2⟩, ⟨%fp, Hp⟩, Hq, ⟨%et, Ht⟩, HW, Hk⟩
    obtain rfl := harg1.eq_unread hf0; obtain rfl := harg2.eq_unread hf1; obtain rfl := harg6.eq_unread hf2
    sl_exec (disch := first | sl_exact hc0 | sl_exact hc3 | sl_exact hc4 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg6.read_unread _
      iexact H2
    isplitl [HS0]; · iexists _; iexact HS0
    isplitl [HS1]; · iexists _; iexact HS1
    isplitl [HS2]; · iexists _; iexact HS2
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hh0 Hh1 Hh2]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hh0]; · iexact Hh0
      isplitl [Hh1]; · iexact Hh1
      iexact Hh2
    isplitl [Hq]
    · iexists _; isplitr; swap; · iexists _; iexact Hq
      ipureintro; refine (read_piece_whole c _ _ _).trans ?_
      unfold runA.sl.dma38 runA.sl.Ht_w1; exact sread_tile (F := F) c _ _ _ (wcoff0_0_10 t) _ _
    iexists _; iexact HW

end Cert.LastIdeal.Wb

end
end
-- ==== Proof.LastIdealRunB.lean ====
/- The last half step's kernel run at its second point. -/
module

public import proofs.«01_k».proof.Proof.LastIdealRing

@[expose] public section

set_option maxRecDepth 16384

noncomputable section

namespace Cert.LastIdeal.Wb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2400000 in set_option sl_exec.dmaWindow true in set_option sl_exec.dmaWindowSet true in
/-- What the body leaves of its block of the result, found by running it, at the second point: the block stored to its tile and its copy out begun. -/
def runB (c : Dev nD) (t : Fin cfg0.N) (arg1 : Memref sig .tc .vmem S512x1024 .f32) (harg1 : arg1.IsWhole) (arg2 : Memref sig .tc .vmem S1x1x1024 .f32) (harg2 : arg2.IsWhole) (arg6 : Memref sig .tc .vmem S1x1024 .f32) (harg6 : arg6.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : ¬cond0_0 (grid0.coords t)) (hc3 : ¬cond0_3 (grid0.coords t)) (hc4 : cond0_4 (grid0.coords t)) (hc1 : ¬cond0_1 (grid0.coords t))
    (x0 : Vec F S512x1024 .f32) (x1 : Vec F S1x1x1024 .f32) (x2 : Vec F S1x1024 .f32) (xs0 : Vec F S1024x2816 .f32) (xs1 : Vec F S1024x2816 .f32) (xs2 : Vec F S2816x1024 .f32) :
    { out : Vec F S512x1024 .f32 //
      ∀ (W : Waits sig Unit) (K : PUnit → sProp 𝕄),
        iprop(owns (c : Thread nD τ) arg1 fullShare x0 ∗ owns (c : Thread nD τ) arg2 fullShare x1 ∗ owns (c : Thread nD τ) arg6 fullShare x2 ∗ owns (c : Thread nD τ) arg8 fullShare xs0 ∗ owns (c : Thread nD τ) arg9 fullShare xs1 ∗ owns (c : Thread nD τ) arg10 fullShare xs2 ∗ (∃ f, wpieceP0_0 c (Ring.bk 32 t.val) 0 f) ∗ wcellP0_0 c (Ring.sl 2 t.val) 0 ∗ (∃ e, wtileP0_0 c (Ring.sl 2 t.val) 0 e) ∗ owes (c : Thread nD τ) 0 W
          ∗ (iprop(owns (c : Thread nD τ) arg1 fullShare x0 ∗ owns (c : Thread nD τ) arg2 fullShare x1 ∗ owns (c : Thread nD τ) arg6 fullShare x2 ∗ owns (c : Thread nD τ) arg8 fullShare xs0 ∗ owns (c : Thread nD τ) arg9 fullShare xs1 ∗ owns (c : Thread nD τ) arg10 fullShare xs2 ∗ (∃ f, ⌜(wpiece0_0 (Ring.bk 32 t.val) 0).view.read (Elt F) f = out⌝ ∗ wflightP0_0 c (Ring.sl 2 t.val) 0 (Ring.bk 32 t.val) f) ∗ (∃ W', owes (c : Thread nD τ) 0 W')) -∗ K ⟨⟩))
          ⊢ wp frame (wpE (defs₀ (F := F)) Variants.none c none) Set.univ (cc0_ffn (grid0.coords t) arg1 harg1 arg2 harg2 (Memref.whole main_arg2) (Memref.isWhole_whole _) (Memref.whole main_arg3) (Memref.isWhole_whole _) (Memref.whole main_arg4) (Memref.isWhole_whole _) arg6 harg6 (Memref.whole main_v5) (Memref.isWhole_whole _) arg8 harg8 arg9 harg9 arg10 harg10 cc0_scratch3 scM0_3 (Memref.isWhole_whole _) cc0_scratch5) K } := by
  refine ⟨?_, fun W K => ?run⟩
  case run =>
    haveI : Fact (¬cond0_0 (grid0.coords t)) := ⟨hc0⟩
    haveI : Fact (¬cond0_3 (grid0.coords t)) := ⟨hc3⟩
    haveI : Fact (cond0_4 (grid0.coords t)) := ⟨hc4⟩
    haveI : Fact (¬cond0_1 (grid0.coords t)) := ⟨hc1⟩
    simp only [cc0_ffn_eq_skeleton]; unfold cc0_ffn_skel
    simp only [k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fp, Hp⟩, Hq, ⟨%et, Ht⟩, HW, Hk⟩
    obtain rfl := harg1.eq_unread hf0; obtain rfl := harg2.eq_unread hf1; obtain rfl := harg6.eq_unread hf2; obtain rfl := harg8.eq_unread hfs0; obtain rfl := harg9.eq_unread hfs1; obtain rfl := harg10.eq_unread hfs2
    sl_exec (disch := first | sl_exact hc0 | sl_exact hc3 | sl_exact hc4 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg6.read_unread _
      iexact H2
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [Hq]
    · iexists _; isplitr; swap; · iexists _; iexact Hq
      ipureintro; refine (read_piece_whole c _ _ _).trans ?_
      unfold runB.sl.dma38 runB.sl.Ht_w1; exact sread_tile (F := F) c _ _ _ (wcoff0_0_11 t) _ _
    iexists _; iexact HW

end Cert.LastIdeal.Wb

end
end
-- ==== Proof.LastIdealRunC.lean ====
/- The last half step's kernel run at its middle points. -/
module

public import proofs.«01_k».proof.Proof.LastIdealRing

@[expose] public section

set_option maxRecDepth 16384

noncomputable section

namespace Cert.LastIdeal.Wb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2400000 in set_option sl_exec.dmaWindow true in set_option sl_exec.dmaWindowSet true in
/-- What the body leaves of its block of the result, found by running it, at every point from the third to the one before last: the copy begun two points before waited for, the block stored to its tile and its copy out begun. -/
def runC (c : Dev nD) (t : Fin cfg0.N) (arg1 : Memref sig .tc .vmem S512x1024 .f32) (harg1 : arg1.IsWhole) (arg2 : Memref sig .tc .vmem S1x1x1024 .f32) (harg2 : arg2.IsWhole) (arg6 : Memref sig .tc .vmem S1x1024 .f32) (harg6 : arg6.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : cond0_0 (grid0.coords t)) (hc3 : ¬cond0_3 (grid0.coords t)) (hc4 : cond0_4 (grid0.coords t)) (hc1 : ¬cond0_1 (grid0.coords t))
    (x0 : Vec F S512x1024 .f32) (x1 : Vec F S1x1x1024 .f32) (x2 : Vec F S1x1024 .f32) (xs0 : Vec F S1024x2816 .f32) (xs1 : Vec F S1024x2816 .f32) (xs2 : Vec F S2816x1024 .f32) :
    { out : Vec F S512x1024 .f32 //
      ∀ (g2 : HbBuf0 (F := F) c (wpiece0_0 (Ring.bk 32 (t.val - 2)) 0)) (W : Waits sig Unit) (K : PUnit → sProp 𝕄),
        iprop(owns (c : Thread nD τ) arg1 fullShare x0 ∗ owns (c : Thread nD τ) arg2 fullShare x1 ∗ owns (c : Thread nD τ) arg6 fullShare x2 ∗ owns (c : Thread nD τ) arg8 fullShare xs0 ∗ owns (c : Thread nD τ) arg9 fullShare xs1 ∗ owns (c : Thread nD τ) arg10 fullShare xs2 ∗ (∃ f, wpieceP0_0 c (Ring.bk 32 t.val) 0 f) ∗ wflightP0_0 c (Ring.sl 2 t.val) 0 (Ring.bk 32 (t.val - 2)) g2 ∗ owes (c : Thread nD τ) 0 W
          ∗ (iprop(owns (c : Thread nD τ) arg1 fullShare x0 ∗ owns (c : Thread nD τ) arg2 fullShare x1 ∗ owns (c : Thread nD τ) arg6 fullShare x2 ∗ owns (c : Thread nD τ) arg8 fullShare xs0 ∗ owns (c : Thread nD τ) arg9 fullShare xs1 ∗ owns (c : Thread nD τ) arg10 fullShare xs2 ∗ wpieceP0_0 c (Ring.bk 32 (t.val - 2)) 0 g2 ∗ (∃ f, ⌜(wpiece0_0 (Ring.bk 32 t.val) 0).view.read (Elt F) f = out⌝ ∗ wflightP0_0 c (Ring.sl 2 t.val) 0 (Ring.bk 32 t.val) f) ∗ (∃ W', owes (c : Thread nD τ) 0 W')) -∗ K ⟨⟩))
          ⊢ wp frame (wpE (defs₀ (F := F)) Variants.none c none) Set.univ (cc0_ffn (grid0.coords t) arg1 harg1 arg2 harg2 (Memref.whole main_arg2) (Memref.isWhole_whole _) (Memref.whole main_arg3) (Memref.isWhole_whole _) (Memref.whole main_arg4) (Memref.isWhole_whole _) arg6 harg6 (Memref.whole main_v5) (Memref.isWhole_whole _) arg8 harg8 arg9 harg9 arg10 harg10 cc0_scratch3 scM0_3 (Memref.isWhole_whole _) cc0_scratch5) K } := by
  refine ⟨?_, fun g2 W K => ?run⟩
  case run =>
    haveI : Fact (cond0_0 (grid0.coords t)) := ⟨hc0⟩
    haveI : Fact (¬cond0_3 (grid0.coords t)) := ⟨hc3⟩
    haveI : Fact (cond0_4 (grid0.coords t)) := ⟨hc4⟩
    haveI : Fact (¬cond0_1 (grid0.coords t)) := ⟨hc1⟩
    simp only [cc0_ffn_eq_skeleton]; unfold cc0_ffn_skel
    simp only [k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fp, Hp⟩, ⟨%fe, HF⟩, HW, Hk⟩
    obtain rfl := harg1.eq_unread hf0; obtain rfl := harg2.eq_unread hf1; obtain rfl := harg6.eq_unread hf2; obtain rfl := harg8.eq_unread hfs0; obtain rfl := harg9.eq_unread hfs1; obtain rfl := harg10.eq_unread hfs2
    sl_exec (disch := first | sl_exact hc0 | sl_exact hc3 | sl_exact hc4 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg6.read_unread _
      iexact H2
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HF_dst]; · iexact HF_dst
    isplitl [HF]
    · iexists _; isplitr; swap; · iexists _; iexact HF
      ipureintro; refine (read_piece_whole c _ _ _).trans ?_
      unfold runC.sl.dma38 runC.sl.HF_src_w1; exact sread_tile (F := F) c _ _ _ (wcoff0_0_11 t) _ _
    iexists _; iexact HW

end Cert.LastIdeal.Wb

end
end
-- ==== Proof.LastIdealRunD.lean ====
/- The last half step's kernel run at its last point. -/
module

public import proofs.«01_k».proof.Proof.LastIdealRing

@[expose] public section

set_option maxRecDepth 16384

noncomputable section

namespace Cert.LastIdeal.Wb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2400000 in set_option sl_exec.dmaWindow true in set_option sl_exec.dmaWindowSet true in
/-- What the body leaves of its block of the result, found by running it, at the last point: the block stored and copied out, and the copies of the last three points waited for. -/
def runD (c : Dev nD) (t : Fin cfg0.N) (arg1 : Memref sig .tc .vmem S512x1024 .f32) (harg1 : arg1.IsWhole) (arg2 : Memref sig .tc .vmem S1x1x1024 .f32) (harg2 : arg2.IsWhole) (arg6 : Memref sig .tc .vmem S1x1024 .f32) (harg6 : arg6.IsWhole)
    (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (hc0 : cond0_0 (grid0.coords t)) (hc3 : ¬cond0_3 (grid0.coords t)) (hc4 : cond0_4 (grid0.coords t)) (hc1 : cond0_1 (grid0.coords t)) (hc2 : cond0_2 (grid0.coords t))
    (x0 : Vec F S512x1024 .f32) (x1 : Vec F S1x1x1024 .f32) (x2 : Vec F S1x1024 .f32) (xs0 : Vec F S1024x2816 .f32) (xs1 : Vec F S1024x2816 .f32) (xs2 : Vec F S2816x1024 .f32) :
    { out : Vec F S512x1024 .f32 //
      ∀ (g2 : HbBuf0 (F := F) c (wpiece0_0 (Ring.bk 32 (t.val - 2)) 0)) (g1 : HbBuf0 (F := F) c (wpiece0_0 (Ring.bk 32 (t.val - 1)) 0)) (W : Waits sig Unit) (K : PUnit → sProp 𝕄),
        iprop(owns (c : Thread nD τ) arg1 fullShare x0 ∗ owns (c : Thread nD τ) arg2 fullShare x1 ∗ owns (c : Thread nD τ) arg6 fullShare x2 ∗ owns (c : Thread nD τ) arg8 fullShare xs0 ∗ owns (c : Thread nD τ) arg9 fullShare xs1 ∗ owns (c : Thread nD τ) arg10 fullShare xs2 ∗ (∃ f, wpieceP0_0 c (Ring.bk 32 t.val) 0 f) ∗ wflightP0_0 c (Ring.sl 2 t.val) 0 (Ring.bk 32 (t.val - 2)) g2 ∗ wflightP0_0 c (Ring.sl 2 (t.val + 1)) 0 (Ring.bk 32 (t.val - 1)) g1 ∗ owes (c : Thread nD τ) 0 W
          ∗ (iprop(owns (c : Thread nD τ) arg1 fullShare x0 ∗ owns (c : Thread nD τ) arg2 fullShare x1 ∗ owns (c : Thread nD τ) arg6 fullShare x2 ∗ owns (c : Thread nD τ) arg8 fullShare xs0 ∗ owns (c : Thread nD τ) arg9 fullShare xs1 ∗ owns (c : Thread nD τ) arg10 fullShare xs2 ∗ (∃ f, ⌜(wpiece0_0 (Ring.bk 32 t.val) 0).view.read (Elt F) f = out⌝ ∗ wpieceP0_0 c (Ring.bk 32 t.val) 0 f) ∗ wpieceP0_0 c (Ring.bk 32 (t.val - 2)) 0 g2 ∗ wpieceP0_0 c (Ring.bk 32 (t.val - 1)) 0 g1 ∗ wcellP0_0 c (Ring.sl 2 t.val) 0 ∗ (∃ e, wtileP0_0 c (Ring.sl 2 t.val) 0 e) ∗ wcellP0_0 c (Ring.sl 2 (t.val + 1)) 0 ∗ (∃ e, wtileP0_0 c (Ring.sl 2 (t.val + 1)) 0 e) ∗ (∃ W', owes (c : Thread nD τ) 0 W')) -∗ K ⟨⟩))
          ⊢ wp frame (wpE (defs₀ (F := F)) Variants.none c none) Set.univ (cc0_ffn (grid0.coords t) arg1 harg1 arg2 harg2 (Memref.whole main_arg2) (Memref.isWhole_whole _) (Memref.whole main_arg3) (Memref.isWhole_whole _) (Memref.whole main_arg4) (Memref.isWhole_whole _) arg6 harg6 (Memref.whole main_v5) (Memref.isWhole_whole _) arg8 harg8 arg9 harg9 arg10 harg10 cc0_scratch3 scM0_3 (Memref.isWhole_whole _) cc0_scratch5) K } := by
  refine ⟨?_, fun g2 g1 W K => ?run⟩
  case run =>
    haveI : Fact (cond0_0 (grid0.coords t)) := ⟨hc0⟩
    haveI : Fact (¬cond0_3 (grid0.coords t)) := ⟨hc3⟩
    haveI : Fact (cond0_4 (grid0.coords t)) := ⟨hc4⟩
    haveI : Fact (cond0_1 (grid0.coords t)) := ⟨hc1⟩
    haveI : Fact (cond0_2 (grid0.coords t)) := ⟨hc2⟩
    simp only [cc0_ffn_eq_skeleton]; unfold cc0_ffn_skel
    simp only [k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fp, Hp⟩, ⟨%fe, HF⟩, ⟨%ie, HI⟩, HW, Hk⟩
    obtain rfl := harg1.eq_unread hf0; obtain rfl := harg2.eq_unread hf1; obtain rfl := harg6.eq_unread hf2; obtain rfl := harg8.eq_unread hfs0; obtain rfl := harg9.eq_unread hfs1; obtain rfl := harg10.eq_unread hfs2
    sl_exec (disch := first | sl_exact hc0 | sl_exact hc3 | sl_exact hc4 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg6.read_unread _
      iexact H2
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [Hp]
    · iexists _; isplitr; swap; · iexact Hp
      ipureintro; refine (read_piece_whole c _ _ _).trans ?_
      unfold runD.sl.dma38 runD.sl.HF_src_w1; exact sread_tile (F := F) c _ _ _ (wcoff0_0_11 t) _ _
    isplitl [HF_dst]; · iexact HF_dst
    isplitl [HI_dst]; · iexact HI_dst
    isplitl [HF]; · iexact HF
    isplitl [HF_src]; · iexists _; iexact HF_src
    isplitl [HI]; · iexact HI
    isplitl [HI_src]; · iexists _; iexact HI_src
    iexists _; iexact HW

end Cert.LastIdeal.Wb

end
end
-- ==== Proof.LastIdealFlow.lean ====
/- The last half step's kernel: what each grid point leaves in the result array, and what the points hand on. -/
module

public import proofs.«01_k».proof.Proof.LastIdealRunA
public import proofs.«01_k».proof.Proof.LastIdealRunB
public import proofs.«01_k».proof.Proof.LastIdealRunC
public import proofs.«01_k».proof.Proof.LastIdealRunD

@[expose] public section

set_option maxRecDepth 16384

noncomputable section

namespace Cert.LastIdeal.Wb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (c : Dev nD)

/-! ## The whole result array, in pieces and joined -/

theorem wpieces0_0_eq : (bigSep Finset.univ (fun i : Fin 32 × Fin 1 => iprop(∃ f, wpieceP0_0 (F := F) c i.1 i.2 f)) : sProp 𝕄) = bigSep Finset.univ (wahead0_0 (F := F) c) :=
  (BI.bigSep_univ_prod _).trans (BI.bigSep_congr fun u _ => wahead0_0_eq (F := F) c u)

theorem wpieces0_0_in (f : Buf (Elt F) ((c : Thread nD τ).loc main_v5)) : hbPt0 c hbM0_3 f ⊢ (iprop(bigSep Finset.univ (wahead0_0 (F := F) c) ∗ wpieceSpare0_0 c) : sProp 𝕄) := by
  rw [← wpieces0_0_eq]
  refine BIBase.Entails.trans ?_ (Ring.pieces_split_spare (U := Pipeline.UD sig nD τ) (ℓ := (c : Thread nD τ).loc main_v5) (q := fullShare) wpieceSet0_0 wpieces0_0_disjoint
    (fun i f => wpieceP0_0 (F := F) c i.1 i.2 f) (fun i f => wpieceP0_0_eq c i.1 i.2 f))
  unfold hbPt0
  iintro H
  iexists f
  iexact H

theorem wpieces_cover : Finset.univ.biUnion (fun u : Fin 32 => wpieceSet0_0 (u, 0)) = (Finset.univ : Finset S512x32x1024.Idx) := by
  rw [show (Finset.univ : Finset S512x32x1024.Idx) = (Rect.unit (s := S512x32x1024) (fun _ => 0) S512x32x1024.size (fun a => by simp)).set from
    (Finset.eq_univ_of_forall fun y => Rect.mem_set_unit.mpr fun a => ⟨Nat.zero_le _, by have := (y a).isLt; simpa using this⟩).symm]
  exact Ring.boxes_cover_box (s := S512x32x1024) ⟨1, by decide⟩ 1 (fun u => wpieceOff0_0 (u, 0)) S512x1x1024.size (fun u => inb_wpiece0_0' (u, 0)) _ _ _
    (fun u => by simp [wpieceOff0_0]) (fun u a ha => by match a with | ⟨0, _⟩ => rfl | ⟨1, _⟩ => exact absurd rfl ha | ⟨2, _⟩ => rfl) rfl
    (fun a ha => by match a with | ⟨0, _⟩ => rfl | ⟨1, _⟩ => exact absurd rfl ha | ⟨2, _⟩ => rfl) rfl

/-- Pieces that tile a buffer, all held at the same contents, are the buffer at those contents. -/
theorem pieces_joinV {ℓ : Loc nD τ sig} {q : PosShare TreeShare} (J : Fin 32 → Finset (Idx ℓ)) (hd : ∀ i i', i ≠ i' → Disjoint (J i) (J i')) (hc : Finset.univ.biUnion J = Finset.univ)
    (f : Buf (Elt F) ℓ) (Q : Fin 32 → sProp 𝕄) (e : ∀ i, Q i = (ℓ ↦[J i]{q} f : sProp 𝕄)) : (bigSep Finset.univ Q : sProp 𝕄) ⊢ (ℓ ↦{q} f : sProp 𝕄) := by
  have h := pointsTo_biUnion (Ix := Unit) (Name := ℕ) (U := Pipeline.UD sig nD τ) (Lvl := ℕ) (q := q) (f := f) Finset.univ J (fun i _ i' _ h => hd i i' h)
  rw [hc] at h
  rw [BI.bigSep_congr fun i _ => e i, ← h]

theorem wpieces0_0_out (G : Buf (Elt F) ((c : Thread nD τ).loc main_v5)) : (bigSep Finset.univ (wbehind0_0 (F := F) c G) : sProp 𝕄) ⊢ hbPt0 c hbM0_3 G := by
  unfold hbPt0
  exact pieces_joinV (ℓ := (c : Thread nD τ).loc main_v5) (q := fullShare) (fun u => wpieceSet0_0 (u, 0)) (fun u v h => wpieces0_0_disjoint (u, 0) (v, 0) fun e => h (congrArg Prod.fst e))
    wpieces_cover G _ (fun u => wpieceP0_0_eq c u 0 G)

theorem wcells0_0_eq : (bigSep Finset.univ (fun i : Fin 2 × Fin 1 => wcellP0_0 (F := F) c i.1 i.2) : sProp 𝕄) = iprop(semVal ((c : Thread nD τ), SemLoc.dma 37) 0 ∗ semVal ((c : Thread nD τ), SemLoc.dma 38) 0) := by
  rw [BI.bigSep_eq_bigSepL_of_eq [(0, 0), (1, 0)] (by decide) (by decide)]; simp only [BI.bigSepL_cons_cons, BI.bigSepL_singleton, wcellP0_0_0_0, wcellP0_0_1_0]; rfl
theorem wfrees0_0_eq : iprop(bigSep Finset.univ (fun i : Fin 2 × Fin 1 => wcellP0_0 (F := F) c i.1 i.2) ∗ bigSep Finset.univ (fun i : Fin 2 × Fin 1 => iprop(∃ e, wtileP0_0 (F := F) c i.1 i.2 e))) = (bigSep Finset.univ (wfree0_0 c) : sProp 𝕄) := by
  exact (Ring.groups_of_parts (fun g m => wcellP0_0 (F := F) c g m) (fun g m => iprop(∃ e, wtileP0_0 (F := F) c g m e))).trans (BI.bigSep_congr fun g _ => wfree0_0_eq c g)

/-- The ring before the first point, out of the tiles, their cells and the result array at any contents. -/
theorem wring0_0_in (G f : Buf (Elt F) ((c : Thread nD τ).loc main_v5)) :
    iprop((∃ d, owns (c : Thread nD τ) scM0_3 fullShare d) ∗ (semVal ((c : Thread nD τ), SemLoc.dma 37) 0 ∗ semVal ((c : Thread nD τ), SemLoc.dma 38) 0) ∗ hbPt0 (F := F) c hbM0_3 f)
      ⊢ iprop(wringAt0_0 (F := F) c G 0 ∗ wtileSpare0_0 c ∗ wpieceSpare0_0 c) := by
  unfold wringAt0_0; rw [Ring.AtBΦ_lt _ _ _ _ _ 0 (by decide), Ring.AtB_zero]; unfold Ring.AtB₀
  rw [← wfrees0_0_eq, wcells0_0_eq]
  iintro ⟨HS, HQ, HD⟩
  ihave HS' := (wtiles0_0_in (F := F) c) $$ HS
  icases HS' with ⟨HT, HTsp⟩
  ihave HD' := (wpieces0_0_in (F := F) c f) $$ HD
  icases HD' with ⟨HP, HPsp⟩
  isplitl [HP HQ HT]
  · isplitl [HP]
    · iexact HP
    isplitl [HQ]
    · iexact HQ
    iexact HT
  isplitl [HTsp]
  · iexact HTsp
  iexact HPsp

/-- The ring after the last point, joined back: the result array at `G`. -/
theorem wring0_0_out (G : Buf (Elt F) ((c : Thread nD τ).loc main_v5)) :
    iprop(wringAt0_0 (F := F) c G 32 ∗ wtileSpare0_0 c)
      ⊢ iprop((∃ d, owns (c : Thread nD τ) scM0_3 fullShare d) ∗ (semVal ((c : Thread nD τ), SemLoc.dma 37) 0 ∗ semVal ((c : Thread nD τ), SemLoc.dma 38) 0) ∗ hbPt0 (F := F) c hbM0_3 G) := by
  unfold wringAt0_0; rw [Ring.AtBΦ_ge _ _ _ _ _ 32 (by decide)]; unfold Ring.AtBEnd
  rw [← wfrees0_0_eq, wcells0_0_eq]
  iintro ⟨⟨HP, HQ, HT⟩, HTsp⟩
  isplitl [HT HTsp]
  · iapply (wtiles0_0_out (F := F) c)
    isplitl [HT]
    · iexact HT
    iexact HTsp
  isplitl [HQ]
  · iexact HQ
  iapply (wpieces0_0_out (F := F) c G)
  iexact HP

/-! ## What each point leaves -/

theorem no0 (t : Fin cfg0.N) (h : t.val < 2) : ¬cond0_0 (grid0.coords t) := fun e => by have := (hcond0_0 t).mp e; omega
theorem no3 (t : Fin cfg0.N) (h : t.val ≠ 0) : ¬cond0_3 (grid0.coords t) := fun e => h ((hcond0_3 t).mp e)
theorem no4 (t : Fin cfg0.N) (h : t.val = 0) : ¬cond0_4 (grid0.coords t) := fun e => by have := (hcond0_4 t).mp e; omega
theorem no1 (t : Fin cfg0.N) (h : t.val ≠ 31) : ¬cond0_1 (grid0.coords t) := fun e => h ((hcond0_1 t).mp e)

/-- The grid point of step `u`. -/
def pt (u : Fin 32) : Fin cfg0.N := ⟨u.val, by rw [show cfg0.N = 32 from N_0]; exact u.isLt⟩
theorem pt_bk (t : Fin cfg0.N) : pt (Ring.bk 32 t.val) = t := by
  have h : t.val < 32 := lt_of_lt_of_eq t.isLt (show cfg0.N = 32 from N_0)
  apply Fin.ext
  exact Ring.bk_val (NB := 32) h

/-- The run of the first point. -/
abbrev runFirst (t : Fin cfg0.N) (h : t.val = 0) := runA (F := F) c t (ms0_0 t) (hs0_0 t) (ms0_1 t) (hs0_1 t) (ms0_2 t) (hs0_2 t) scM0_0 (Memref.isWhole_whole _) scM0_1 (Memref.isWhole_whole _) scM0_2 (Memref.isWhole_whole _) (no0 t (by omega)) ((hcond0_3 t).mpr h) (no4 t h) (no1 t (by omega)) (iblk m c 0 t) (iblk m c 1 t) (iblk m c 2 t) (V m c main_arg2) (V m c main_arg3) (V m c main_arg4)
abbrev first := runFirst m c (pt 0) rfl

/-- The copies of weight 0 cover its scratch buffer. -/
theorem scover0 (y : S1024x2816.Idx) : ∃ pc ∈ (first m c).1, y ∈ pc.1.set := View.cover_of_tiledL (first m c).1 S1024x256.size (by sl_kernel_rfl) y
/-- What the first point leaves in the scratch buffer of weight 0. -/
def sS0 : Vec F S1024x2816 .f32 := scM0_0.view.read (Elt F) (scM0_0.view.writes (Elt F) scM0_0.view.junk (first m c).1)

/-- The copies of weight 1 cover its scratch buffer. -/
theorem scover1 (y : S1024x2816.Idx) : ∃ pc ∈ (first m c).2.1, y ∈ pc.1.set := View.cover_of_tiledL (first m c).2.1 S1024x256.size (by sl_kernel_rfl) y
/-- What the first point leaves in the scratch buffer of weight 1. -/
def sS1 : Vec F S1024x2816 .f32 := scM0_1.view.read (Elt F) (scM0_1.view.writes (Elt F) scM0_1.view.junk (first m c).2.1)

/-- The copies of weight 2 cover its scratch buffer. -/
theorem scover2 (y : S2816x1024.Idx) : ∃ pc ∈ (first m c).2.2.1, y ∈ pc.1.set := View.cover_of_tiledL (first m c).2.2.1 S256x1024.size (by sl_kernel_rfl) y
/-- What the first point leaves in the scratch buffer of weight 2. -/
def sS2 : Vec F S2816x1024 .f32 := scM0_2.view.read (Elt F) (scM0_2.view.writes (Elt F) scM0_2.view.junk (first m c).2.2.1)

theorem sfirst0 (t : Fin cfg0.N) (h : t.val = 0) (f : scM0_0.view.ty.Contents (Elt F)) : scM0_0.view.read (Elt F) (scM0_0.view.writes (Elt F) f (runFirst m c t h).1) = sS0 m c := by
  obtain rfl : t = pt 0 := Fin.ext h
  exact View.read_writes_of_cover _ _ _ _ _ (scover0 m c)

theorem sfirst1 (t : Fin cfg0.N) (h : t.val = 0) (f : scM0_1.view.ty.Contents (Elt F)) : scM0_1.view.read (Elt F) (scM0_1.view.writes (Elt F) f (runFirst m c t h).2.1) = sS1 m c := by
  obtain rfl : t = pt 0 := Fin.ext h
  exact View.read_writes_of_cover _ _ _ _ _ (scover1 m c)

theorem sfirst2 (t : Fin cfg0.N) (h : t.val = 0) (f : scM0_2.view.ty.Contents (Elt F)) : scM0_2.view.read (Elt F) (scM0_2.view.writes (Elt F) f (runFirst m c t h).2.2.1) = sS2 m c := by
  obtain rfl : t = pt 0 := Fin.ext h
  exact View.read_writes_of_cover _ _ _ _ _ (scover2 m c)

/-- The rows point `t` leaves. -/
def outAt (t : Fin cfg0.N) : Vec F S512x1024 .f32 :=
  if h0 : t.val = 0 then (runFirst m c t h0).2.2.2.1
  else if h1 : t.val = 1 then (runB (F := F) c t (ms0_0 t) (hs0_0 t) (ms0_1 t) (hs0_1 t) (ms0_2 t) (hs0_2 t) scM0_0 (Memref.isWhole_whole _) scM0_1 (Memref.isWhole_whole _) scM0_2 (Memref.isWhole_whole _) (no0 t (by omega)) (no3 t h0) ((hcond0_4 t).mpr (by omega)) (no1 t (by omega)) (iblk m c 0 t) (iblk m c 1 t) (iblk m c 2 t) (sS0 m c) (sS1 m c) (sS2 m c)).1
  else if h3 : t.val = 31 then (runD (F := F) c t (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr (by omega)) (no3 t h0) ((hcond0_4 t).mpr (by omega)) ((hcond0_1 t).mpr h3) ((hcond0_2 t).mpr (by omega)) (iblk m c 0 t) (iblk m c 1 t) (iblk m c 2 t) (sS0 m c) (sS1 m c) (sS2 m c)).1
  else (runC (F := F) c t (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr (by omega)) (no3 t h0) ((hcond0_4 t).mpr (by omega)) (no1 t h3) (iblk m c 0 t) (iblk m c 1 t) (iblk m c 2 t) (sS0 m c) (sS1 m c) (sS2 m c)).1

/-- The result array when every point is done. -/
abbrev res : Buf (Elt F) ((c : Thread nD τ).loc main_v5) := glue c fun u => outAt m c (pt u)

theorem flight_res (t : Fin cfg0.N) (g : Fin 2) (x : Vec F S512x1024 .f32) (h : outAt m c t = x) :
    iprop(∃ f, ⌜(wpiece0_0 (Ring.bk 32 t.val) 0).view.read (Elt F) f = x⌝ ∗ wflightP0_0 (F := F) c g 0 (Ring.bk 32 t.val) f) ⊢ winfl0_0 c (res m c) g (Ring.bk 32 t.val) := by
  have e := wflight_glue (F := F) c (fun u => outAt m c (pt u)) g (Ring.bk 32 t.val)
  rw [pt_bk, h] at e
  exact e

theorem piece_res (t : Fin cfg0.N) (x : Vec F S512x1024 .f32) (h : outAt m c t = x) :
    iprop(∃ f, ⌜(wpiece0_0 (Ring.bk 32 t.val) 0).view.read (Elt F) f = x⌝ ∗ wpieceP0_0 (F := F) c (Ring.bk 32 t.val) 0 f) ⊢ wpieceP0_0 c (Ring.bk 32 t.val) 0 (res m c) := by
  have e := wpiece_glue (F := F) c (fun u => outAt m c (pt u)) (Ring.bk 32 t.val)
  rw [pt_bk, h] at e
  exact e

/-! ## The invariant -/

/-- The three scratch buffers before point `k`: at anything before the first, at the weights' layer after it. -/
def scr (k : ℕ) : sProp 𝕄 :=
  if k = 0 then iprop((∃ d, owns (c : Thread nD τ) scM0_0 fullShare d) ∗ (∃ d, owns (c : Thread nD τ) scM0_1 fullShare d) ∗ (∃ d, owns (c : Thread nD τ) scM0_2 fullShare d))
  else iprop(owns (c : Thread nD τ) scM0_0 fullShare (sS0 m c) ∗ owns (c : Thread nD τ) scM0_1 fullShare (sS1 m c) ∗ owns (c : Thread nD τ) scM0_2 fullShare (sS2 m c))
theorem scr_zero (k : ℕ) (h : k = 0) : scr m c k = iprop((∃ d, owns (c : Thread nD τ) scM0_0 fullShare d) ∗ (∃ d, owns (c : Thread nD τ) scM0_1 fullShare d) ∗ (∃ d, owns (c : Thread nD τ) scM0_2 fullShare d)) := if_pos h
theorem scr_pos (k : ℕ) (h : k ≠ 0) : scr m c k = iprop(owns (c : Thread nD τ) scM0_0 fullShare (sS0 m c) ∗ owns (c : Thread nD τ) scM0_1 fullShare (sS1 m c) ∗ owns (c : Thread nD τ) scM0_2 fullShare (sS2 m c)) := if_neg h

/-- What the points hand on: the scratch buffers, the weights and their idle cells, and the ring. -/
def PhiW (k : ℕ) : sProp 𝕄 := iprop(scr m c k ∗ idle0 c (V m c main_arg2) (V m c main_arg3) (V m c main_arg4) ∗ wringAt0_0 c (res m c) k ∗ wtileSpare0_0 c ∗ wpieceSpare0_0 c)

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := PhiW m c t.val
  q _ := fullShare
  owed _ := 0

theorem A_eq (c : Dev nD) (w : Fin cfg0.W) : (dats m 0 c).A w = V m c (Pipeline.arrRef spec0 w) := by
  dsimp only [dats]
theorem Phi_castSucc (t : Fin cfg0.N) : (dats m 0 c).Φ t.castSucc = PhiW m c t.val := by
  dsimp only [dats]; simp only [Fin.coe_castSucc]
theorem Phi_succ (t : Fin cfg0.N) : (dats m 0 c).Φ t.succ = PhiW m c (t.val + 1) := by
  dsimp only [dats]; simp only [Fin.val_succ]
theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d

/-- What the body is called with at point `t`, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

end Cert.LastIdeal.Wb

end
end
-- ==== Proof.LastIdealBody.lean ====
/- The last half step's kernel: its run, with the contents it leaves. -/
module

public import proofs.«01_k».proof.Proof.LastIdealFlow

@[expose] public section

set_option maxRecDepth 16384

noncomputable section

namespace Cert.LastIdeal.Wb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (c : Dev nD)

theorem sound_A (t : Fin cfg0.N) (h : t.val = 0) : bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, Phi_castSucc m c t, Phi_succ m c t]
  unfold Dat.owesAt Pipeline.owesWithin
  rw [show (dats m 0 c).owed t.castSucc = 0 from rfl, show (dats m 0 c).owed t.succ = 0 from rfl]
  unfold PhiW wringAt0_0
  rw [scr_zero m c t.val h, scr_pos m c (t.val + 1) (by omega), Ring.AtBΦ_lt _ _ _ _ _ t.val (by omega), Ring.AtB2_zero' 2 _ _ _ _ t.val h, Ring.AtBΦ_lt _ _ _ _ _ (t.val + 1) (by omega), Ring.AtB22_next_zero' _ _ _ _ t.val h]
  iintro ⟨⟨⟨HS0, HS1, HS2⟩, Hid, ⟨⟨Hp, HA⟩, ⟨Hq, Ht⟩, Hfx⟩, HTs, HPs⟩, ⟨%W, -, HW⟩, ⟨%d0, H0⟩, ⟨%d1, H1⟩, ⟨%d2, H2⟩⟩
  iapply ((runFirst m c t h).2.2.2.2 W _)
  isplitl [H0]; · iexact H0
  isplitl [H1]; · iexact H1
  isplitl [H2]; · iexact H2
  isplitl [HS0]; · iexact HS0
  isplitl [HS1]; · iexact HS1
  isplitl [HS2]; · iexact HS2
  isplitl [Hid]; · iexact Hid
  isplitl [Hp]; · iexact Hp
  isplitl [Hq]; · iexact Hq
  isplitl [Ht]; · iexact Ht
  isplitl [HW]; · iexact HW
  iintro ⟨H0, H1, H2, ⟨%f0, HS0⟩, ⟨%f1, HS1⟩, ⟨%f2, HS2⟩, Hid, Hn, ⟨%W', HW'⟩⟩
  ihave Hn' := (flight_res m c t _ _ (dif_pos h)) $$ Hn
  isplitl [HS0 HS1 HS2 Hid HTs HPs HA Hfx Hn']
  · isplitl [HS0 HS1 HS2]
    · isplitl [HS0]
      · unfold owns; iexists _; isplitr; swap; · iexact HS0
        ipureintro; exact sfirst0 m c t h _
      isplitl [HS1]
      · unfold owns; iexists _; isplitr; swap; · iexact HS1
        ipureintro; exact sfirst1 m c t h _
      unfold owns; iexists _; isplitr; swap; · iexact HS2
      ipureintro; exact sfirst2 m c t h _
    isplitl [Hid]; · iexact Hid
    isplitl [HA Hfx Hn']
    · isplitl [HA]; · iexact HA
      isplitl [Hfx]; · iexact Hfx
      iexact Hn'
    isplitl [HTs]; · iexact HTs
    iexact HPs
  isplitl [HW']
  · iexists W'; isplitr; · ipureintro; exact fun _ _ => Or.inl trivial
    iexact HW'
  isplitl [H0]; · iexact H0
  isplitl [H1]; · iexact H1
  iexact H2

theorem sound_B (t : Fin cfg0.N) (h : t.val = 1) : bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, Phi_castSucc m c t, Phi_succ m c t]
  unfold Dat.owesAt Pipeline.owesWithin
  rw [show (dats m 0 c).owed t.castSucc = 0 from rfl, show (dats m 0 c).owed t.succ = 0 from rfl]
  unfold PhiW wringAt0_0
  rw [scr_pos m c t.val (by omega), scr_pos m c (t.val + 1) (by omega), Ring.AtBΦ_lt _ _ _ _ _ t.val (by omega), Ring.AtB22_one' _ _ _ _ t.val h (by decide), Ring.AtBΦ_lt _ _ _ _ _ (t.val + 1) (by omega), Ring.AtB22_next_one' _ _ _ _ t.val h]
  iintro ⟨⟨⟨HS0, HS1, HS2⟩, Hid, ⟨⟨Hp, HA⟩, ⟨Hq, Ht⟩, Hfx⟩, HTs, HPs⟩, ⟨%W, -, HW⟩, ⟨%d0, H0⟩, ⟨%d1, H1⟩, ⟨%d2, H2⟩⟩
  iapply ((runB (F := F) c t (ms0_0 t) (hs0_0 t) (ms0_1 t) (hs0_1 t) (ms0_2 t) (hs0_2 t) scM0_0 (Memref.isWhole_whole _) scM0_1 (Memref.isWhole_whole _) scM0_2 (Memref.isWhole_whole _) (no0 t (by omega)) (no3 t (by omega)) ((hcond0_4 t).mpr (by omega)) (no1 t (by omega)) (iblk m c 0 t) (iblk m c 1 t) (iblk m c 2 t) (sS0 m c) (sS1 m c) (sS2 m c)).2 W _)
  isplitl [H0]; · iexact H0
  isplitl [H1]; · iexact H1
  isplitl [H2]; · iexact H2
  isplitl [HS0]; · iexact HS0
  isplitl [HS1]; · iexact HS1
  isplitl [HS2]; · iexact HS2
  isplitl [Hp]; · iexact Hp
  isplitl [Hq]; · iexact Hq
  isplitl [Ht]; · iexact Ht
  isplitl [HW]; · iexact HW
  iintro ⟨H0, H1, H2, HS0, HS1, HS2, Hn, ⟨%W', HW'⟩⟩
  ihave Hn' := (flight_res m c t _ _ ((dif_neg (by omega)).trans (dif_pos h))) $$ Hn
  isplitl [HS0 HS1 HS2 Hid HTs HPs HA Hfx Hn']
  · isplitl [HS0 HS1 HS2]
    · isplitl [HS0]; · iexact HS0
      isplitl [HS1]; · iexact HS1
      iexact HS2
    isplitl [Hid]; · iexact Hid
    isplitl [HA Hfx Hn']
    · isplitl [HA]; · iexact HA
      isplitl [Hfx]; · iexact Hfx
      iexact Hn'
    isplitl [HTs]; · iexact HTs
    iexact HPs
  isplitl [HW']
  · iexists W'; isplitr; · ipureintro; exact fun _ _ => Or.inl trivial
    iexact HW'
  isplitl [H0]; · iexact H0
  isplitl [H1]; · iexact H1
  iexact H2

theorem sound_C (t : Fin cfg0.N) (h2 : 2 ≤ t.val) (h : t.val < 31) : bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, Phi_castSucc m c t, Phi_succ m c t]
  unfold Dat.owesAt Pipeline.owesWithin
  rw [show (dats m 0 c).owed t.castSucc = 0 from rfl, show (dats m 0 c).owed t.succ = 0 from rfl]
  unfold PhiW wringAt0_0
  rw [scr_pos m c t.val (by omega), scr_pos m c (t.val + 1) (by omega), Ring.AtBΦ_lt _ _ _ _ _ t.val (by omega), Ring.AtB22_here _ _ _ _ t.val h2 (by omega), Ring.AtBΦ_lt _ _ _ _ _ (t.val + 1) (by omega), Ring.AtB22_next _ _ _ _ t.val h2 (by omega)]
  iintro ⟨⟨⟨HS0, HS1, HS2⟩, Hid, ⟨⟨Hp, HA⟩, HB, HF, Hfx⟩, HTs, HPs⟩, ⟨%W, -, HW⟩, ⟨%d0, H0⟩, ⟨%d1, H1⟩, ⟨%d2, H2⟩⟩
  iapply ((runC (F := F) c t (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr (by omega)) (no3 t (by omega)) ((hcond0_4 t).mpr (by omega)) (no1 t (by omega)) (iblk m c 0 t) (iblk m c 1 t) (iblk m c 2 t) (sS0 m c) (sS1 m c) (sS2 m c)).2 (res m c) W _)
  isplitl [H0]; · iexact H0
  isplitl [H1]; · iexact H1
  isplitl [H2]; · iexact H2
  isplitl [HS0]; · iexact HS0
  isplitl [HS1]; · iexact HS1
  isplitl [HS2]; · iexact HS2
  isplitl [Hp]; · iexact Hp
  isplitl [HF]; · iexact HF
  isplitl [HW]; · iexact HW
  iintro ⟨H0, H1, H2, HS0, HS1, HS2, Ho, Hn, ⟨%W', HW'⟩⟩
  ihave Hn' := (flight_res m c t _ _ ((dif_neg (by omega)).trans ((dif_neg (by omega)).trans (dif_neg (by omega))))) $$ Hn
  isplitl [HS0 HS1 HS2 Hid HTs HPs HA Ho HB Hfx Hn']
  · isplitl [HS0 HS1 HS2]
    · isplitl [HS0]; · iexact HS0
      isplitl [HS1]; · iexact HS1
      iexact HS2
    isplitl [Hid]; · iexact Hid
    isplitl [HA Ho HB Hfx Hn']
    · isplitl [HA]; · iexact HA
      isplitl [Ho HB]
      · isplitl [Ho]; · iexact Ho
        iexact HB
      isplitl [Hfx]; · iexact Hfx
      iexact Hn'
    isplitl [HTs]; · iexact HTs
    iexact HPs
  isplitl [HW']
  · iexists W'; isplitr; · ipureintro; exact fun _ _ => Or.inl trivial
    iexact HW'
  isplitl [H0]; · iexact H0
  isplitl [H1]; · iexact H1
  iexact H2

theorem sound_D (t : Fin cfg0.N) (h : t.val = 31) : bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, Phi_castSucc m c t, Phi_succ m c t]
  unfold Dat.owesAt Pipeline.owesWithin
  rw [show (dats m 0 c).owed t.castSucc = 0 from rfl, show (dats m 0 c).owed t.succ = 0 from rfl]
  unfold PhiW wringAt0_0
  rw [scr_pos m c t.val (by omega), scr_pos m c (t.val + 1) (by omega), Ring.AtBΦ_lt _ _ _ _ _ t.val (by omega), Ring.AtB22_here_last _ _ _ _ t.val (by omega) (by omega), Ring.AtBΦ_end _ _ _ _ _ (t.val + 1) (by omega), Ring.AtB22_drained _ _ t.val (by omega) (by omega)]
  iintro ⟨⟨⟨HS0, HS1, HS2⟩, Hid, ⟨Hp, HB, HF, HI⟩, HTs, HPs⟩, ⟨%W, -, HW⟩, ⟨%d0, H0⟩, ⟨%d1, H1⟩, ⟨%d2, H2⟩⟩
  iapply ((runD (F := F) c t (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr (by omega)) (no3 t (by omega)) ((hcond0_4 t).mpr (by omega)) ((hcond0_1 t).mpr h) ((hcond0_2 t).mpr (by omega)) (iblk m c 0 t) (iblk m c 1 t) (iblk m c 2 t) (sS0 m c) (sS1 m c) (sS2 m c)).2 (res m c) (res m c) W _)
  isplitl [H0]; · iexact H0
  isplitl [H1]; · iexact H1
  isplitl [H2]; · iexact H2
  isplitl [HS0]; · iexact HS0
  isplitl [HS1]; · iexact HS1
  isplitl [HS2]; · iexact HS2
  isplitl [Hp]; · iexact Hp
  isplitl [HF]; · iexact HF
  isplitl [HI]; · iexact HI
  isplitl [HW]; · iexact HW
  iintro ⟨H0, H1, H2, HS0, HS1, HS2, Hn, Ho, Hl, Hq, Ht, Hq', Ht', ⟨%W', HW'⟩⟩
  ihave Hn' := (piece_res m c t _ ((dif_neg (by omega)).trans ((dif_neg (by omega)).trans (dif_pos h)))) $$ Hn
  isplitl [HS0 HS1 HS2 Hid HTs HPs Hn' Ho Hl HB Hq Ht Hq' Ht']
  · isplitl [HS0 HS1 HS2]
    · isplitl [HS0]; · iexact HS0
      isplitl [HS1]; · iexact HS1
      iexact HS2
    isplitl [Hid]; · iexact Hid
    isplitl [Hn' Ho Hl HB Hq Ht Hq' Ht']
    · isplitl [Hn' Ho Hl HB]
      · isplitl [Hn']; · iexact Hn'
        isplitl [Ho]; · iexact Ho
        isplitl [Hl]; · iexact Hl
        iexact HB
      isplitl [Hq Ht]
      · isplitl [Hq]; · iexact Hq
        iexact Ht
      isplitl [Hq']; · iexact Hq'
      iexact Ht'
    isplitl [HTs]; · iexact HTs
    iexact HPs
  isplitl [HW']
  · iexists W'; isplitr; · ipureintro; exact fun _ _ => Or.inl trivial
    iexact HW'
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

/-- The body's triple at every point. -/
theorem sound_body (t : Fin cfg0.N) : bodyPre m c t ⊢ wp frame (wpE (defs₀ (F := F)) Variants.none c none) Set.univ (bodyAt0 t) (fun _ => bodyPost m c t) := by
  have hN : t.val < 32 := lt_of_lt_of_eq t.isLt (show cfg0.N = 32 from N_0)
  by_cases h0 : t.val = 0
  · exact sound_A m c t h0
  by_cases h1 : t.val = 1
  · exact sound_B m c t h1
  by_cases h3 : t.val = 31
  · exact sound_D m c t h3
  exact sound_C m c t (by omega) (by omega)

theorem body_obligation : BodyObligation (dats (F := F) m 0 c) (defs₀ (F := F)) Variants.none () Set.univ := fun t => by
  rw [bigSep_W0, bigSep_W0, defs₀_row]
  exact triple_restated (sound_body m c t) rfl .rfl fun _ => .rfl

/-- The result array's contents when the region is left. -/
def resG (c : Dev nD) (b : Ref sig .tc) : Buf (Elt F) ((c.tc : Thread nD τ).loc b) := if h : b = main_v5 then h ▸ res m c else V m c b

theorem PhiDRV_eq (G : (c : Dev nD) → (b : Ref sig .tc) → Buf (Elt F) ((c.tc : Thread nD τ).loc b)) :
    (Pipeline.ΦDRV osem0 spec0 H0 R0 (V m) G c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))
        ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) ∗ iprop(hbPt0 c hbM0_0 (V m c main_arg2) ∗ hbPt0 c hbM0_1 (V m c main_arg3) ∗ hbPt0 c hbM0_2 (V m c main_arg4)) ∗ hbPt0 c hbM0_3 (G c main_v5)) := by
  unfold Pipeline.ΦDRV
  rw [scopedRest0_eq, ownSems00_eq, hbmPts0_eq, show R0 = {main_v5} from rfl, BI.bigSep_singleton]; simp only [scM0_0, scM0_1, scM0_2, scM0_3, owns_whole]; try rfl

theorem hin : Pipeline.ΦDRV osem0 spec0 H0 R0 (V m) (V m) c ⊢ (dats m 0 c).Φ 0 := by
  rw [PhiDRV_eq, show (dats m 0 c).Φ 0 = PhiW m c 0 from rfl]
  unfold PhiW idle0
  rw [scr_zero m c 0 rfl]
  iintro ⟨⟨HS0, HS1, HS2, HS3⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34⟩, ⟨Hh0, Hh1, Hh2⟩, Ho⟩
  isplitl [HS0 HS1 HS2]
  · isplitl [HS0]; · iexact HS0
    isplitl [HS1]; · iexact HS1
    iexact HS2
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hh0 Hh1 Hh2]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hh0]; · iexact Hh0
    isplitl [Hh1]; · iexact Hh1
    iexact Hh2
  iapply (wring0_0_in (F := F) c (res m c) (V m c main_v5))
  isplitl [HS3]; · iexact HS3
  isplitl [Hq33 Hq34]
  · isplitl [Hq33]; · iexact Hq33
    iexact Hq34
  iexact Ho

theorem hout : (dats m 0 c).Φ (Fin.last cfg0.N) ⊢ Pipeline.ΦDRV osem0 spec0 H0 R0 (V m) (resG m) c := by
  rw [PhiDRV_eq, show (dats m 0 c).Φ (Fin.last cfg0.N) = PhiW m c grid0.N from rfl, show resG m c main_v5 = res m c from dif_pos rfl]
  unfold PhiW idle0
  rw [show grid0.N = 32 from N_0, scr_pos m c 32 (by decide)]
  iintro ⟨⟨HS0, HS1, HS2⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hh0, Hh1, Hh2⟩, HR, HTs, -⟩
  ihave HX := (wring0_0_out (F := F) c (res m c)) $$ [HR HTs]
  · isplitl [HR]; · iexact HR
    iexact HTs
  icases HX with ⟨HS3, ⟨Hq33, Hq34⟩, Ho⟩
  isplitl [HS0 HS1 HS2 HS3]
  · isplitl [HS0]; · iexists _; iexact HS0
    isplitl [HS1]; · iexists _; iexact HS1
    isplitl [HS2]; · iexists _; iexact HS2
    iexact HS3
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    iexact Hq34
  isplitl [Hh0 Hh1 Hh2]
  · isplitl [Hh0]; · iexact Hh0
    isplitl [Hh1]; · iexact Hh1
    iexact Hh2
  iexact Ho

/-- The contents of every buffer that is no operand of the region, when the program ends. -/
abbrev fin (b : Ref sig .tc) : Buf (Elt F) ((c.tc : Thread nD τ).loc b) :=
  StableHlo.after (List.flatten [hostOps1]) (Pipeline.withArrays spec0 c (Pipeline.withR (V0 m c) R0 c (resG m c)) fun w => (dats m 0 c).arrAt w cfg0.N) (Proc.devRef .tc b)

set_option backward.isDefEq.respectTransparency.types false in
set_option maxHeartbeats 800000 in
/-- The program runs to its end, with every buffer that is no operand of the region at `fin` and every counter at zero. -/
theorem run_main : θ_run defs (onTc (τ := τ) (main (F := F))) ⟨m, fun _ => 0, ρ⟩ (fun r => (∀ c : Dev nD, ∀ b ∈ Pipeline.restRefs sig spec0, r.2.mem ((c.tc : Thread nD τ).loc b) = fin m c b) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := resG m)
    (hmain := hmain m Variants.none) (hA := A_eq m) (hin := hin m) (hout := hout m) (Q' := _) (hQ' := fun r h => ⟨fun c => (h.1 c).2, h.2⟩)

theorem fin_keep (b : Ref sig .tc) (hb : ∀ w, Pipeline.arrRef spec0 w ≠ b) (hr : b ∉ R0) :
    Pipeline.withArrays spec0 c (Pipeline.withR (V0 m c) R0 c (resG m c)) (fun w => (dats m 0 c).arrAt w cfg0.N) (Proc.devRef .tc b) = V m c b :=
  (Pipeline.withArrays_of_ne spec0 c _ _ b hb).trans (Pipeline.withR_of_not_mem _ R0 c _ b hr)

theorem fin_main_arg0 : fin m c main_arg0 = m ((c : Thread nD τ).loc main_arg0) := by
  unfold fin
  simp only [List.flatten_cons, List.flatten_nil, List.append_nil, hostOps1]
  after_results
  exact (fin_keep m c main_arg0 (by decide) (by decide)).trans (V_main_arg0 m c)

theorem fin_main_arg1 : fin m c main_arg1 = m ((c : Thread nD τ).loc main_arg1) := by
  unfold fin
  simp only [List.flatten_cons, List.flatten_nil, List.append_nil, hostOps1]
  after_results
  exact (fin_keep m c main_arg1 (by decide) (by decide)).trans (V_main_arg1 m c)

theorem fin_main_arg2 : fin m c main_arg2 = m ((c : Thread nD τ).loc main_arg2) := by
  unfold fin
  simp only [List.flatten_cons, List.flatten_nil, List.append_nil, hostOps1]
  after_results
  exact (fin_keep m c main_arg2 (by decide) (by decide)).trans (V_main_arg2 m c)

theorem fin_main_arg3 : fin m c main_arg3 = m ((c : Thread nD τ).loc main_arg3) := by
  unfold fin
  simp only [List.flatten_cons, List.flatten_nil, List.append_nil, hostOps1]
  after_results
  exact (fin_keep m c main_arg3 (by decide) (by decide)).trans (V_main_arg3 m c)

theorem fin_main_arg4 : fin m c main_arg4 = m ((c : Thread nD τ).loc main_arg4) := by
  unfold fin
  simp only [List.flatten_cons, List.flatten_nil, List.append_nil, hostOps1]
  after_results
  exact (fin_keep m c main_arg4 (by decide) (by decide)).trans (V_main_arg4 m c)

theorem fin_main_arg5 : fin m c main_arg5 = m ((c : Thread nD τ).loc main_arg5) := by
  unfold fin
  simp only [List.flatten_cons, List.flatten_nil, List.append_nil, hostOps1]
  after_results
  exact (fin_keep m c main_arg5 (by decide) (by decide)).trans (V_main_arg5 m c)

/-- The program runs to its end, with its arguments unchanged and every counter at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_mono (run_main m ρ) fun r h => ⟨fun c => ⟨(h.1 c main_arg0 (by decide)).trans (fin_main_arg0 m c), (h.1 c main_arg1 (by decide)).trans (fin_main_arg1 m c), (h.1 c main_arg2 (by decide)).trans (fin_main_arg2 m c), (h.1 c main_arg3 (by decide)).trans (fin_main_arg3 m c), (h.1 c main_arg4 (by decide)).trans (fin_main_arg4 m c), (h.1 c main_arg5 (by decide)).trans (fin_main_arg5 m c)⟩, h.2⟩

end Cert.LastIdeal.Wb

end
end
-- ==== Proof.LastPay.lean ====
/- Entries of the values the feed-forward kernel's body computes: the normed rows, and the accumulated product of one or several chunks of hidden features. -/
module

public import proofs.«01_k».proof.Proof.Gen.LastIdeal.Skeleton
public import proofs.«01_k».proof.Proof.FfnSpec
public import Idealize.ShloMosaic.Lib.Pipeline.ValueKit
public import Idealize.ShloMosaic.Lib.Pointwise

@[expose] public section

set_option maxRecDepth 16384

noncomputable section

namespace Cert.LastIdeal.Value

open Idealize.ShloMosaic
open Cert.LastIdeal Cert.LastIdeal.Gen Cert.Spec

/-- Row `r` of the normed block against column `i` of a chunk of a weight. -/
def projAt (h : FVec Ideal S512x1024 .bf16) (w : Vec Ideal S1024x256 .f32) (r : Fin 512) (i : Fin 256) : EReal := ∑ k : Fin 1024, h (ix2 r k) * w (ix2 k i)

/-- What one chunk of 256 hidden features adds to entry `(r, j)`. -/
def stepAt (h : FVec Ideal S512x1024 .bf16) (wg wu : Vec Ideal S1024x256 .f32) (wd : Vec Ideal S256x1024 .f32) (r : Fin 512) (j : Fin 1024) : EReal :=
  ∑ i : Fin 256, gateAt (projAt h wg r i) (projAt h wu r i) * wd (ix2 i j)

theorem norm4 (x : Vec Ideal S512x1024 .f32) (g : Vec Ideal S1x1x1024 .f32) (r : Fin 512) (j : Fin 1024) :
    (k0_pay4 x g : FVec Ideal S512x1024 .bf16) (ix2 r j) = rmsAt (fun k => x (ix2 r k)) (fun k => g (ix3 0 0 k)) j := by
  unfold rmsAt
  pointwise [k0_pay4, k0_pay3]

theorem norm19 (x : Vec Ideal S512x1024 .f32) (g : Vec Ideal S1x1x1024 .f32) (r : Fin 512) (j : Fin 1024) :
    (k0_pay19 x g : FVec Ideal S512x1024 .bf16) (ix2 r j) = rmsAt (fun k => x (ix2 r k)) (fun k => g (ix3 0 0 k)) j := by
  unfold rmsAt
  pointwise [k0_pay19, k0_pay18]

theorem step6 (h : FVec Ideal S512x1024 .bf16) (a : FVec Ideal S512x1024 .f32) (wg wu : Vec Ideal S1024x256 .f32) (wd : Vec Ideal S256x1024 .f32) (r : Fin 512) (j : Fin 1024) :
    k0_pay6 h a wg wu wd (ix2 r j) = a (ix2 r j) + stepAt h wg wu wd r j := by
  unfold stepAt gateAt projAt
  pointwise [k0_pay6]

theorem step7 (h : FVec Ideal S512x1024 .bf16) (a : FVec Ideal S512x1024 .f32) (wg wu : Vec Ideal S1024x256 .f32) (wd : Vec Ideal S256x1024 .f32) (r : Fin 512) (j : Fin 1024) :
    k0_pay7 h a wg wu wd (ix2 r j) = a (ix2 r j) + stepAt h wg wu wd r j := by
  unfold stepAt gateAt projAt
  pointwise [k0_pay7]

theorem step8 (h : FVec Ideal S512x1024 .bf16) (a : FVec Ideal S512x1024 .f32) (wg wu : Vec Ideal S1024x256 .f32) (wd : Vec Ideal S256x1024 .f32) (r : Fin 512) (j : Fin 1024) :
    k0_pay8 h a wg wu wd (ix2 r j) = a (ix2 r j) + stepAt h wg wu wd r j := by
  unfold stepAt gateAt projAt
  pointwise [k0_pay8]

theorem step9 (h : FVec Ideal S512x1024 .bf16) (a : FVec Ideal S512x1024 .f32) (wg wu : Vec Ideal S1024x256 .f32) (wd : Vec Ideal S256x1024 .f32) (r : Fin 512) (j : Fin 1024) :
    k0_pay9 h a wg wu wd (ix2 r j) = a (ix2 r j) + stepAt h wg wu wd r j := by
  unfold stepAt gateAt projAt
  pointwise [k0_pay9]

theorem step10 (h : FVec Ideal S512x1024 .bf16) (a : FVec Ideal S512x1024 .f32) (wg wu : Vec Ideal S1024x256 .f32) (wd : Vec Ideal S256x1024 .f32) (r : Fin 512) (j : Fin 1024) :
    k0_pay10 h a wg wu wd (ix2 r j) = a (ix2 r j) + stepAt h wg wu wd r j := by
  unfold stepAt gateAt projAt
  pointwise [k0_pay10]

theorem step11 (h : FVec Ideal S512x1024 .bf16) (a : FVec Ideal S512x1024 .f32) (wg wu : Vec Ideal S1024x256 .f32) (wd : Vec Ideal S256x1024 .f32) (r : Fin 512) (j : Fin 1024) :
    k0_pay11 h a wg wu wd (ix2 r j) = a (ix2 r j) + stepAt h wg wu wd r j := by
  unfold stepAt gateAt projAt
  pointwise [k0_pay11]

theorem step12 (h : FVec Ideal S512x1024 .bf16) (a : FVec Ideal S512x1024 .f32) (wg wu : Vec Ideal S1024x256 .f32) (wd : Vec Ideal S256x1024 .f32) (r : Fin 512) (j : Fin 1024) :
    k0_pay12 h a wg wu wd (ix2 r j) = a (ix2 r j) + stepAt h wg wu wd r j := by
  unfold stepAt gateAt projAt
  pointwise [k0_pay12]

theorem step13 (h : FVec Ideal S512x1024 .bf16) (a : FVec Ideal S512x1024 .f32) (wg wu : Vec Ideal S1024x256 .f32) (wd : Vec Ideal S256x1024 .f32) (r : Fin 512) (j : Fin 1024) :
    k0_pay13 h a wg wu wd (ix2 r j) = a (ix2 r j) + stepAt h wg wu wd r j := by
  unfold stepAt gateAt projAt
  pointwise [k0_pay13]

theorem step14 (h : FVec Ideal S512x1024 .bf16) (a : FVec Ideal S512x1024 .f32) (wg wu : Vec Ideal S1024x256 .f32) (wd : Vec Ideal S256x1024 .f32) (r : Fin 512) (j : Fin 1024) :
    k0_pay14 h a wg wu wd (ix2 r j) = a (ix2 r j) + stepAt h wg wu wd r j := by
  unfold stepAt gateAt projAt
  pointwise [k0_pay14]

theorem step15 (h : FVec Ideal S512x1024 .bf16) (a : FVec Ideal S512x1024 .f32) (wg wu : Vec Ideal S1024x256 .f32) (wd : Vec Ideal S256x1024 .f32) (r : Fin 512) (j : Fin 1024) :
    k0_pay15 h a wg wu wd (ix2 r j) = a (ix2 r j) + stepAt h wg wu wd r j := by
  unfold stepAt gateAt projAt
  pointwise [k0_pay15]

theorem step16 (h : FVec Ideal S512x1024 .bf16) (a : FVec Ideal S512x1024 .f32) (wg wu : Vec Ideal S1024x256 .f32) (wd : Vec Ideal S256x1024 .f32) (r : Fin 512) (j : Fin 1024) :
    k0_pay16 h a wg wu wd (ix2 r j) = a (ix2 r j) + stepAt h wg wu wd r j := by
  unfold stepAt gateAt projAt
  pointwise [k0_pay16]

theorem zero5 (r : Fin 512) (j : Fin 1024) : (k0_pay5 : FVec Ideal S512x1024 .f32) (ix2 r j) = 0 := by
  pointwise [k0_pay5]

theorem out1 (x a : FVec Ideal S512x1024 .f32) (g : Vec Ideal S1x1024 .f32) (r : Fin 512) (j : Fin 1024) :
    k0_pay1 x a k0_pay17 g (ix3 0 r j)
      = rmsAt (fun k => x (ix2 r k) + Ideal.ofBits FTy.f32 0x3F000000#32 * a (ix2 r k)) (fun k => g (ix2 0 k)) j := by
  unfold rmsAt
  pointwise [k0_pay1, k0_pay17]

theorem copy3 (x : Vec Ideal S512x1024 .f32) (r : Fin 512) (j : Fin 1024) : k0_pay3 x (ix2 r j) = x (ix2 r j) := by
  pointwise [k0_pay3]

theorem copy18 (x : Vec Ideal S512x1024 .f32) (r : Fin 512) (j : Fin 1024) : k0_pay18 x (ix2 r j) = x (ix2 r j) := by
  pointwise [k0_pay18]

theorem step20 (x : Vec Ideal S512x1024 .f32) (g : Vec Ideal S1x1x1024 .f32) (wg wu : Vec Ideal S1024x256 .f32) (wd : Vec Ideal S256x1024 .f32) (r : Fin 512) (j : Fin 1024) :
    k0_pay20 x g wg wu wd (ix2 r j) = stepAt (k0_pay19 x g) wg wu wd r j := by
  unfold stepAt gateAt projAt
  pointwise [k0_pay20]

theorem proj21 (x : Vec Ideal S512x1024 .f32) (g : Vec Ideal S1x1x1024 .f32) (w : Vec Ideal S1024x256 .f32) (r : Fin 512) (i : Fin 256) :
    k0_pay21 x g w (ix2 r i) = projAt (k0_pay19 x g) w r i := by
  unfold projAt
  pointwise [k0_pay21]

theorem proj27 (h : FVec Ideal S512x1024 .bf16) (w : Vec Ideal S1024x256 .f32) (r : Fin 512) (i : Fin 256) : k0_pay27 h w (ix2 r i) = projAt h w r i := by
  unfold projAt
  pointwise [k0_pay27]

theorem gate25 (h : FVec Ideal S512x1024 .bf16) (wg wu : Vec Ideal S1024x256 .f32) (r : Fin 512) (i : Fin 256) :
    k0_pay25 h wg wu (ix2 r i) = gateAt (projAt h wg r i) (projAt h wu r i) := by
  unfold gateAt projAt
  pointwise [k0_pay25]

theorem step23 (h : FVec Ideal S512x1024 .bf16) (a : FVec Ideal S512x1024 .f32) (p : FVec Ideal S512x256 .f32) (w1 w3 w4 w6 w7 : Vec Ideal S1024x256 .f32) (w2 w5 w8 : Vec Ideal S256x1024 .f32) (q : Vec Ideal S1024x256 .f32) (r : Fin 512) (j : Fin 1024)
    (e : ∀ i, p (ix2 r i) = projAt h q r i) :
    k0_pay23 h a p (k0_pay22 w1) w2 w3 w4 w5 w6 w7 w8 (ix2 r j)
      = a (ix2 r j) + stepAt h q w1 w2 r j + stepAt h w3 w4 w5 r j + stepAt h w6 w7 w8 r j := by
  unfold stepAt
  simp only [← e]
  unfold gateAt projAt
  pointwise [k0_pay23, k0_pay22]

theorem step24 (h : FVec Ideal S512x1024 .bf16) (a : FVec Ideal S512x1024 .f32) (w0 w1 w3 w4 : Vec Ideal S1024x256 .f32) (w2 w5 : Vec Ideal S256x1024 .f32) (r : Fin 512) (j : Fin 1024) :
    k0_pay24 h a w0 w1 w2 w3 w4 w5 (ix2 r j) = a (ix2 r j) + stepAt h w0 w1 w2 r j + stepAt h w3 w4 w5 r j := by
  unfold stepAt gateAt projAt
  pointwise [k0_pay24]

theorem step26 (h : FVec Ideal S512x1024 .bf16) (a : FVec Ideal S512x1024 .f32) (p : FVec Ideal S512x256 .f32) (q0 q1 w3 w4 w6 w7 : Vec Ideal S1024x256 .f32) (w2 w5 w8 : Vec Ideal S256x1024 .f32) (r : Fin 512) (j : Fin 1024)
    (e : ∀ i, p (ix2 r i) = gateAt (projAt h q0 r i) (projAt h q1 r i)) :
    k0_pay26 h a p w2 w3 w4 w5 w6 w7 w8 (ix2 r j)
      = a (ix2 r j) + stepAt h q0 q1 w2 r j + stepAt h w3 w4 w5 r j + stepAt h w6 w7 w8 r j := by
  unfold stepAt
  simp only [← e]
  unfold gateAt projAt
  pointwise [k0_pay26]

theorem half28 (x a : FVec Ideal S512x1024 .f32) (h : FVec Ideal S512x1024 .bf16) (p : FVec Ideal S512x256 .f32) (q w1 w3 w4 : Vec Ideal S1024x256 .f32) (w2 w5 : Vec Ideal S256x1024 .f32) (r : Fin 512) (j : Fin 1024)
    (e : ∀ i, p (ix2 r i) = projAt h q r i) :
    k0_pay28 x h a p w1 w2 w3 w4 w5 (ix2 r j)
      = x (ix2 r j) + Ideal.ofBits FTy.f32 0x3F000000#32 * (a (ix2 r j) + stepAt h q w1 w2 r j + stepAt h w3 w4 w5 r j) := by
  unfold stepAt
  simp only [← e]
  unfold gateAt projAt
  pointwise [k0_pay28]

theorem inv30 (x a : FVec Ideal S512x1024 .f32) (h : FVec Ideal S512x1024 .bf16) (p : FVec Ideal S512x256 .f32) (w1 w3 w4 : Vec Ideal S1024x256 .f32) (w2 w5 : Vec Ideal S256x1024 .f32) (y : Fin 1024 → EReal) (r : Fin 512) (j : Fin 1024)
    (e : ∀ k, k0_pay28 x h a p w1 w2 w3 w4 w5 (ix2 r k) = y k) (g : Vec Ideal S1x1024 .f32) :
    k0_pay2 (k0_pay28 x h a p w1 w2 w3 w4 w5) (k0_pay29 g) (k0_pay30 x h a p w1 w2 w3 w4 w5) (ix3 0 r j) = rmsAt y (fun k => g (ix2 0 k)) j := by
  rw [← funext e]
  unfold rmsAt
  unfold k0_pay30
  generalize k0_pay28 x h a p w1 w2 w3 w4 w5 = z
  pointwise [k0_pay2, k0_pay29]

end Cert.LastIdeal.Value

end
end
-- ==== Proof.LastBlockB.lean ====
/- The last half step's kernel's body at every point after the first: the block it leaves is the norm of the half step of its rows over the weights carried in scratch. -/
module

public import proofs.«01_k».proof.Proof.LastIdealFlow
public import proofs.«01_k».proof.Proof.LastPay
public import Idealize.ShloMosaic.Lib.Pipeline.ValueKit
public import Idealize.ShloMosaic.Lib.Pointwise

@[expose] public section

set_option maxRecDepth 16384

noncomputable section

namespace Cert.LastIdeal.Value

open Idealize.ShloMosaic Idealize.ShloMosaic.TcCoe Idealize.SL.Sem
open Cert.LastIdeal Cert.LastIdeal.Gen Cert.LastIdeal.Wb Cert.Spec

/-- A step over the 256 columns from `o` of the gate and up weights, and the same rows of the down weight, is that chunk of the sum over the hidden features. -/
theorem step_chunk (h : FVec Ideal S512x1024 .bf16) (wg wu : Vec Ideal S1024x256 .f32) (wd : Vec Ideal S256x1024 .f32) (r : Fin 512) (j : Fin 1024) (n : Fin 1024 → EReal)
    (WG WU : Fin 1024 → Fin 2816 → EReal) (WD : Fin 2816 → Fin 1024 → EReal) (o : Nat) (ho : o + 256 ≤ 2816)
    (eh : ∀ k, h (ix2 r k) = n k) (eg : ∀ (k : Fin 1024) (i : Fin 256), wg (ix2 k i) = WG k ⟨o + i.val, by omega⟩)
    (eu : ∀ (k : Fin 1024) (i : Fin 256), wu (ix2 k i) = WU k ⟨o + i.val, by omega⟩)
    (ed : ∀ (i : Fin 256) (k : Fin 1024), wd (ix2 i k) = WD ⟨o + i.val, by omega⟩ k) :
    stepAt h wg wu wd r j = chunkAt (fun f => hidAt n WG WU f * WD f j) o ho := by
  unfold stepAt chunkAt projAt hidAt
  simp only [eh, eg, eu, ed]

theorem ldg0 (x : Vec Ideal S1024x2816 .f32) (k : Fin 1024) (i : Fin 256) :
    View.ld x (Rect.unit ![0, 0] ![1024, 256] inb_S1024x2816_S1024x256_0_0) (ix2 k i) = x (ix2 k ⟨0 + i.val, by omega⟩) := by
  pointwise

theorem ldd0 (x : Vec Ideal S2816x1024 .f32) (i : Fin 256) (k : Fin 1024) :
    View.ld x (Rect.unit ![0, 0] ![256, 1024] inb_S2816x1024_S256x1024_0_0) (ix2 i k) = x (ix2 ⟨0 + i.val, by omega⟩ k) := by
  pointwise

theorem ldg256 (x : Vec Ideal S1024x2816 .f32) (k : Fin 1024) (i : Fin 256) :
    View.ld x (Rect.unit ![0, 256] ![1024, 256] inb_S1024x2816_S1024x256_0_256) (ix2 k i) = x (ix2 k ⟨256 + i.val, by omega⟩) := by
  pointwise

theorem ldd256 (x : Vec Ideal S2816x1024 .f32) (i : Fin 256) (k : Fin 1024) :
    View.ld x (Rect.unit ![256, 0] ![256, 1024] inb_S2816x1024_S256x1024_256_0) (ix2 i k) = x (ix2 ⟨256 + i.val, by omega⟩ k) := by
  pointwise

theorem ldg512 (x : Vec Ideal S1024x2816 .f32) (k : Fin 1024) (i : Fin 256) :
    View.ld x (Rect.unit ![0, 512] ![1024, 256] inb_S1024x2816_S1024x256_0_512) (ix2 k i) = x (ix2 k ⟨512 + i.val, by omega⟩) := by
  pointwise

theorem ldd512 (x : Vec Ideal S2816x1024 .f32) (i : Fin 256) (k : Fin 1024) :
    View.ld x (Rect.unit ![512, 0] ![256, 1024] inb_S2816x1024_S256x1024_512_0) (ix2 i k) = x (ix2 ⟨512 + i.val, by omega⟩ k) := by
  pointwise

theorem ldg768 (x : Vec Ideal S1024x2816 .f32) (k : Fin 1024) (i : Fin 256) :
    View.ld x (Rect.unit ![0, 768] ![1024, 256] inb_S1024x2816_S1024x256_0_768) (ix2 k i) = x (ix2 k ⟨768 + i.val, by omega⟩) := by
  pointwise

theorem ldd768 (x : Vec Ideal S2816x1024 .f32) (i : Fin 256) (k : Fin 1024) :
    View.ld x (Rect.unit ![768, 0] ![256, 1024] inb_S2816x1024_S256x1024_768_0) (ix2 i k) = x (ix2 ⟨768 + i.val, by omega⟩ k) := by
  pointwise

theorem ldg1024 (x : Vec Ideal S1024x2816 .f32) (k : Fin 1024) (i : Fin 256) :
    View.ld x (Rect.unit ![0, 1024] ![1024, 256] inb_S1024x2816_S1024x256_0_1024) (ix2 k i) = x (ix2 k ⟨1024 + i.val, by omega⟩) := by
  pointwise

theorem ldd1024 (x : Vec Ideal S2816x1024 .f32) (i : Fin 256) (k : Fin 1024) :
    View.ld x (Rect.unit ![1024, 0] ![256, 1024] inb_S2816x1024_S256x1024_1024_0) (ix2 i k) = x (ix2 ⟨1024 + i.val, by omega⟩ k) := by
  pointwise

theorem ldg1280 (x : Vec Ideal S1024x2816 .f32) (k : Fin 1024) (i : Fin 256) :
    View.ld x (Rect.unit ![0, 1280] ![1024, 256] inb_S1024x2816_S1024x256_0_1280) (ix2 k i) = x (ix2 k ⟨1280 + i.val, by omega⟩) := by
  pointwise

theorem ldd1280 (x : Vec Ideal S2816x1024 .f32) (i : Fin 256) (k : Fin 1024) :
    View.ld x (Rect.unit ![1280, 0] ![256, 1024] inb_S2816x1024_S256x1024_1280_0) (ix2 i k) = x (ix2 ⟨1280 + i.val, by omega⟩ k) := by
  pointwise

theorem ldg1536 (x : Vec Ideal S1024x2816 .f32) (k : Fin 1024) (i : Fin 256) :
    View.ld x (Rect.unit ![0, 1536] ![1024, 256] inb_S1024x2816_S1024x256_0_1536) (ix2 k i) = x (ix2 k ⟨1536 + i.val, by omega⟩) := by
  pointwise

theorem ldd1536 (x : Vec Ideal S2816x1024 .f32) (i : Fin 256) (k : Fin 1024) :
    View.ld x (Rect.unit ![1536, 0] ![256, 1024] inb_S2816x1024_S256x1024_1536_0) (ix2 i k) = x (ix2 ⟨1536 + i.val, by omega⟩ k) := by
  pointwise

theorem ldg1792 (x : Vec Ideal S1024x2816 .f32) (k : Fin 1024) (i : Fin 256) :
    View.ld x (Rect.unit ![0, 1792] ![1024, 256] inb_S1024x2816_S1024x256_0_1792) (ix2 k i) = x (ix2 k ⟨1792 + i.val, by omega⟩) := by
  pointwise

theorem ldd1792 (x : Vec Ideal S2816x1024 .f32) (i : Fin 256) (k : Fin 1024) :
    View.ld x (Rect.unit ![1792, 0] ![256, 1024] inb_S2816x1024_S256x1024_1792_0) (ix2 i k) = x (ix2 ⟨1792 + i.val, by omega⟩ k) := by
  pointwise

theorem ldg2048 (x : Vec Ideal S1024x2816 .f32) (k : Fin 1024) (i : Fin 256) :
    View.ld x (Rect.unit ![0, 2048] ![1024, 256] inb_S1024x2816_S1024x256_0_2048) (ix2 k i) = x (ix2 k ⟨2048 + i.val, by omega⟩) := by
  pointwise

theorem ldd2048 (x : Vec Ideal S2816x1024 .f32) (i : Fin 256) (k : Fin 1024) :
    View.ld x (Rect.unit ![2048, 0] ![256, 1024] inb_S2816x1024_S256x1024_2048_0) (ix2 i k) = x (ix2 ⟨2048 + i.val, by omega⟩ k) := by
  pointwise

theorem ldg2304 (x : Vec Ideal S1024x2816 .f32) (k : Fin 1024) (i : Fin 256) :
    View.ld x (Rect.unit ![0, 2304] ![1024, 256] inb_S1024x2816_S1024x256_0_2304) (ix2 k i) = x (ix2 k ⟨2304 + i.val, by omega⟩) := by
  pointwise

theorem ldd2304 (x : Vec Ideal S2816x1024 .f32) (i : Fin 256) (k : Fin 1024) :
    View.ld x (Rect.unit ![2304, 0] ![256, 1024] inb_S2816x1024_S256x1024_2304_0) (ix2 i k) = x (ix2 ⟨2304 + i.val, by omega⟩ k) := by
  pointwise

theorem ldg2560 (x : Vec Ideal S1024x2816 .f32) (k : Fin 1024) (i : Fin 256) :
    View.ld x (Rect.unit ![0, 2560] ![1024, 256] inb_S1024x2816_S1024x256_0_2560) (ix2 k i) = x (ix2 k ⟨2560 + i.val, by omega⟩) := by
  pointwise

theorem ldd2560 (x : Vec Ideal S2816x1024 .f32) (i : Fin 256) (k : Fin 1024) :
    View.ld x (Rect.unit ![2560, 0] ![256, 1024] inb_S2816x1024_S256x1024_2560_0) (ix2 i k) = x (ix2 ⟨2560 + i.val, by omega⟩ k) := by
  pointwise

theorem drop_at (v : Vec Ideal S1x512x1024 .f32) (r : Fin 512) (j : Fin 1024) : dropLead v (ix2 r j) = v (ix3 0 r j) := by
  unfold dropLead
  refine congrArg v ((Shape.reshapeEquiv_cons_one _ _).trans ?_)
  funext a
  match a with
  | ⟨0, _⟩ => rfl
  | ⟨1, _⟩ => rfl
  | ⟨2, _⟩ => rfl

theorem out_B (c : Dev nD) (t : Fin cfg0.N) (arg1 : Memref sig .tc .vmem S512x1024 .f32) (harg1 : arg1.IsWhole) (arg2 : Memref sig .tc .vmem S1x1x1024 .f32) (harg2 : arg2.IsWhole)
  (arg6 : Memref sig .tc .vmem S1x1024 .f32) (harg6 : arg6.IsWhole)
  (arg8 : Memref sig .tc .vmem S1024x2816 .f32) (harg8 : arg8.IsWhole) (arg9 : Memref sig .tc .vmem S1024x2816 .f32) (harg9 : arg9.IsWhole)
  (arg10 : Memref sig .tc .vmem S2816x1024 .f32) (harg10 : arg10.IsWhole) (hc0 : ¬cond0_0 (grid0.coords t)) (hc3 : ¬cond0_3 (grid0.coords t)) (hc4 : cond0_4 (grid0.coords t)) (hc1 : ¬cond0_1 (grid0.coords t))
    (x0 : Vec Ideal S512x1024 .f32) (x1 : Vec Ideal S1x1x1024 .f32) (x2 : Vec Ideal S1x1024 .f32)
    (xs0 xs1 : Vec Ideal S1024x2816 .f32) (xs2 : Vec Ideal S2816x1024 .f32)
    (r : Fin 512) (j : Fin 1024) :
    (runB (F := Ideal) c t arg1 harg1 arg2 harg2 arg6 harg6 arg8 harg8 arg9 harg9 arg10 harg10 hc0 hc3 hc4 hc1 x0 x1 x2 xs0 xs1 xs2).1 (ix2 r j)
      = rmsAt (ffnAt (fun k => x0 (ix2 r k)) (fun k => x1 (ix3 0 0 k)) (fun k f => xs0 (ix2 k f)) (fun k f => xs1 (ix2 k f))
          (fun f k => xs2 (ix2 f k))) (fun k => x2 (ix2 0 k)) j := by
  unfold runB
  frame_out
  refine (drop_at _ r j).trans ?_
  refine inv30 _ _ _ _ _ _ _ _ _ _ r j (fun j => ?_) x2
  refine (half28 _ _ _ _ _ _ _ _ _ _ r j fun i => proj27 _ _ r i).trans ?_
  rw [step26 _ _ _ _ _ _ _ _ _ _ _ _ r j fun i => gate25 _ _ _ r i, step24,
    step23 _ _ _ _ _ _ _ _ _ _ _ _ r j fun i => proj21 _ _ _ r i, step20, copy18]
  rw [step_chunk _ _ _ _ r j _ (fun k f => xs0 (ix2 k f)) (fun k f => xs1 (ix2 k f)) (fun f k => xs2 (ix2 f k)) 0 (by decide) (fun k => norm19 x0 x1 r k) (ldg0 xs0) (ldg0 xs1) (ldd0 xs2),
    step_chunk _ _ _ _ r j _ (fun k f => xs0 (ix2 k f)) (fun k f => xs1 (ix2 k f)) (fun f k => xs2 (ix2 f k)) 256 (by decide) (fun k => norm19 x0 x1 r k) (ldg256 xs0) (ldg256 xs1) (ldd256 xs2),
    step_chunk _ _ _ _ r j _ (fun k f => xs0 (ix2 k f)) (fun k f => xs1 (ix2 k f)) (fun f k => xs2 (ix2 f k)) 512 (by decide) (fun k => norm19 x0 x1 r k) (ldg512 xs0) (ldg512 xs1) (ldd512 xs2),
    step_chunk _ _ _ _ r j _ (fun k f => xs0 (ix2 k f)) (fun k f => xs1 (ix2 k f)) (fun f k => xs2 (ix2 f k)) 768 (by decide) (fun k => norm19 x0 x1 r k) (ldg768 xs0) (ldg768 xs1) (ldd768 xs2),
    step_chunk _ _ _ _ r j _ (fun k f => xs0 (ix2 k f)) (fun k f => xs1 (ix2 k f)) (fun f k => xs2 (ix2 f k)) 1024 (by decide) (fun k => norm19 x0 x1 r k) (ldg1024 xs0) (ldg1024 xs1) (ldd1024 xs2),
    step_chunk _ _ _ _ r j _ (fun k f => xs0 (ix2 k f)) (fun k f => xs1 (ix2 k f)) (fun f k => xs2 (ix2 f k)) 1280 (by decide) (fun k => norm19 x0 x1 r k) (ldg1280 xs0) (ldg1280 xs1) (ldd1280 xs2),
    step_chunk _ _ _ _ r j _ (fun k f => xs0 (ix2 k f)) (fun k f => xs1 (ix2 k f)) (fun f k => xs2 (ix2 f k)) 1536 (by decide) (fun k => norm19 x0 x1 r k) (ldg1536 xs0) (ldg1536 xs1) (ldd1536 xs2),
    step_chunk _ _ _ _ r j _ (fun k f => xs0 (ix2 k f)) (fun k f => xs1 (ix2 k f)) (fun f k => xs2 (ix2 f k)) 1792 (by decide) (fun k => norm19 x0 x1 r k) (ldg1792 xs0) (ldg1792 xs1) (ldd1792 xs2),
    step_chunk _ _ _ _ r j _ (fun k f => xs0 (ix2 k f)) (fun k f => xs1 (ix2 k f)) (fun f k => xs2 (ix2 f k)) 2048 (by decide) (fun k => norm19 x0 x1 r k) (ldg2048 xs0) (ldg2048 xs1) (ldd2048 xs2),
    step_chunk _ _ _ _ r j _ (fun k f => xs0 (ix2 k f)) (fun k f => xs1 (ix2 k f)) (fun f k => xs2 (ix2 f k)) 2304 (by decide) (fun k => norm19 x0 x1 r k) (ldg2304 xs0) (ldg2304 xs1) (ldd2304 xs2),
    step_chunk _ _ _ _ r j _ (fun k f => xs0 (ix2 k f)) (fun k f => xs1 (ix2 k f)) (fun f k => xs2 (ix2 f k)) 2560 (by decide) (fun k => norm19 x0 x1 r k) (ldg2560 xs0) (ldg2560 xs1) (ldd2560 xs2)]
  rw [ffnAt, sum_chunks]

theorem out_C (c : Dev nD) (t : Fin cfg0.N) (arg1 : Memref sig .tc .vmem S512x1024 .f32) (harg1 : arg1.IsWhole) (arg2 : Memref sig .tc .vmem S1x1x1024 .f32) (harg2 : arg2.IsWhole)
  (arg6 : Memref sig .tc .vmem S1x1024 .f32) (harg6 : arg6.IsWhole)
  (arg8 : Memref sig .tc .vmem S1024x2816 .f32) (harg8 : arg8.IsWhole) (arg9 : Memref sig .tc .vmem S1024x2816 .f32) (harg9 : arg9.IsWhole)
  (arg10 : Memref sig .tc .vmem S2816x1024 .f32) (harg10 : arg10.IsWhole) (hc0 : cond0_0 (grid0.coords t)) (hc3 : ¬cond0_3 (grid0.coords t)) (hc4 : cond0_4 (grid0.coords t)) (hc1 : ¬cond0_1 (grid0.coords t))
    (x0 : Vec Ideal S512x1024 .f32) (x1 : Vec Ideal S1x1x1024 .f32) (x2 : Vec Ideal S1x1024 .f32)
    (xs0 xs1 : Vec Ideal S1024x2816 .f32) (xs2 : Vec Ideal S2816x1024 .f32)
    (r : Fin 512) (j : Fin 1024) :
    (runC (F := Ideal) c t arg1 harg1 arg2 harg2 arg6 harg6 arg8 harg8 arg9 harg9 arg10 harg10 hc0 hc3 hc4 hc1 x0 x1 x2 xs0 xs1 xs2).1 (ix2 r j)
      = rmsAt (ffnAt (fun k => x0 (ix2 r k)) (fun k => x1 (ix3 0 0 k)) (fun k f => xs0 (ix2 k f)) (fun k f => xs1 (ix2 k f))
          (fun f k => xs2 (ix2 f k))) (fun k => x2 (ix2 0 k)) j := by
  unfold runC
  frame_out
  refine (drop_at _ r j).trans ?_
  refine inv30 _ _ _ _ _ _ _ _ _ _ r j (fun j => ?_) x2
  refine (half28 _ _ _ _ _ _ _ _ _ _ r j fun i => proj27 _ _ r i).trans ?_
  rw [step26 _ _ _ _ _ _ _ _ _ _ _ _ r j fun i => gate25 _ _ _ r i, step24,
    step23 _ _ _ _ _ _ _ _ _ _ _ _ r j fun i => proj21 _ _ _ r i, step20, copy18]
  rw [step_chunk _ _ _ _ r j _ (fun k f => xs0 (ix2 k f)) (fun k f => xs1 (ix2 k f)) (fun f k => xs2 (ix2 f k)) 0 (by decide) (fun k => norm19 x0 x1 r k) (ldg0 xs0) (ldg0 xs1) (ldd0 xs2),
    step_chunk _ _ _ _ r j _ (fun k f => xs0 (ix2 k f)) (fun k f => xs1 (ix2 k f)) (fun f k => xs2 (ix2 f k)) 256 (by decide) (fun k => norm19 x0 x1 r k) (ldg256 xs0) (ldg256 xs1) (ldd256 xs2),
    step_chunk _ _ _ _ r j _ (fun k f => xs0 (ix2 k f)) (fun k f => xs1 (ix2 k f)) (fun f k => xs2 (ix2 f k)) 512 (by decide) (fun k => norm19 x0 x1 r k) (ldg512 xs0) (ldg512 xs1) (ldd512 xs2),
    step_chunk _ _ _ _ r j _ (fun k f => xs0 (ix2 k f)) (fun k f => xs1 (ix2 k f)) (fun f k => xs2 (ix2 f k)) 768 (by decide) (fun k => norm19 x0 x1 r k) (ldg768 xs0) (ldg768 xs1) (ldd768 xs2),
    step_chunk _ _ _ _ r j _ (fun k f => xs0 (ix2 k f)) (fun k f => xs1 (ix2 k f)) (fun f k => xs2 (ix2 f k)) 1024 (by decide) (fun k => norm19 x0 x1 r k) (ldg1024 xs0) (ldg1024 xs1) (ldd1024 xs2),
    step_chunk _ _ _ _ r j _ (fun k f => xs0 (ix2 k f)) (fun k f => xs1 (ix2 k f)) (fun f k => xs2 (ix2 f k)) 1280 (by decide) (fun k => norm19 x0 x1 r k) (ldg1280 xs0) (ldg1280 xs1) (ldd1280 xs2),
    step_chunk _ _ _ _ r j _ (fun k f => xs0 (ix2 k f)) (fun k f => xs1 (ix2 k f)) (fun f k => xs2 (ix2 f k)) 1536 (by decide) (fun k => norm19 x0 x1 r k) (ldg1536 xs0) (ldg1536 xs1) (ldd1536 xs2),
    step_chunk _ _ _ _ r j _ (fun k f => xs0 (ix2 k f)) (fun k f => xs1 (ix2 k f)) (fun f k => xs2 (ix2 f k)) 1792 (by decide) (fun k => norm19 x0 x1 r k) (ldg1792 xs0) (ldg1792 xs1) (ldd1792 xs2),
    step_chunk _ _ _ _ r j _ (fun k f => xs0 (ix2 k f)) (fun k f => xs1 (ix2 k f)) (fun f k => xs2 (ix2 f k)) 2048 (by decide) (fun k => norm19 x0 x1 r k) (ldg2048 xs0) (ldg2048 xs1) (ldd2048 xs2),
    step_chunk _ _ _ _ r j _ (fun k f => xs0 (ix2 k f)) (fun k f => xs1 (ix2 k f)) (fun f k => xs2 (ix2 f k)) 2304 (by decide) (fun k => norm19 x0 x1 r k) (ldg2304 xs0) (ldg2304 xs1) (ldd2304 xs2),
    step_chunk _ _ _ _ r j _ (fun k f => xs0 (ix2 k f)) (fun k f => xs1 (ix2 k f)) (fun f k => xs2 (ix2 f k)) 2560 (by decide) (fun k => norm19 x0 x1 r k) (ldg2560 xs0) (ldg2560 xs1) (ldd2560 xs2)]
  rw [ffnAt, sum_chunks]

theorem out_D (c : Dev nD) (t : Fin cfg0.N) (arg1 : Memref sig .tc .vmem S512x1024 .f32) (harg1 : arg1.IsWhole) (arg2 : Memref sig .tc .vmem S1x1x1024 .f32) (harg2 : arg2.IsWhole)
  (arg6 : Memref sig .tc .vmem S1x1024 .f32) (harg6 : arg6.IsWhole)
  (arg8 : Memref sig .tc .vmem S1024x2816 .f32) (harg8 : arg8.IsWhole) (arg9 : Memref sig .tc .vmem S1024x2816 .f32) (harg9 : arg9.IsWhole)
  (arg10 : Memref sig .tc .vmem S2816x1024 .f32) (harg10 : arg10.IsWhole) (hc0 : cond0_0 (grid0.coords t)) (hc3 : ¬cond0_3 (grid0.coords t)) (hc4 : cond0_4 (grid0.coords t)) (hc1 : cond0_1 (grid0.coords t)) (hc2 : cond0_2 (grid0.coords t))
    (x0 : Vec Ideal S512x1024 .f32) (x1 : Vec Ideal S1x1x1024 .f32) (x2 : Vec Ideal S1x1024 .f32)
    (xs0 xs1 : Vec Ideal S1024x2816 .f32) (xs2 : Vec Ideal S2816x1024 .f32)
    (r : Fin 512) (j : Fin 1024) :
    (runD (F := Ideal) c t arg1 harg1 arg2 harg2 arg6 harg6 arg8 harg8 arg9 harg9 arg10 harg10 hc0 hc3 hc4 hc1 hc2 x0 x1 x2 xs0 xs1 xs2).1 (ix2 r j)
      = rmsAt (ffnAt (fun k => x0 (ix2 r k)) (fun k => x1 (ix3 0 0 k)) (fun k f => xs0 (ix2 k f)) (fun k f => xs1 (ix2 k f))
          (fun f k => xs2 (ix2 f k))) (fun k => x2 (ix2 0 k)) j := by
  unfold runD
  frame_out
  refine (drop_at _ r j).trans ?_
  refine inv30 _ _ _ _ _ _ _ _ _ _ r j (fun j => ?_) x2
  refine (half28 _ _ _ _ _ _ _ _ _ _ r j fun i => proj27 _ _ r i).trans ?_
  rw [step26 _ _ _ _ _ _ _ _ _ _ _ _ r j fun i => gate25 _ _ _ r i, step24,
    step23 _ _ _ _ _ _ _ _ _ _ _ _ r j fun i => proj21 _ _ _ r i, step20, copy18]
  rw [step_chunk _ _ _ _ r j _ (fun k f => xs0 (ix2 k f)) (fun k f => xs1 (ix2 k f)) (fun f k => xs2 (ix2 f k)) 0 (by decide) (fun k => norm19 x0 x1 r k) (ldg0 xs0) (ldg0 xs1) (ldd0 xs2),
    step_chunk _ _ _ _ r j _ (fun k f => xs0 (ix2 k f)) (fun k f => xs1 (ix2 k f)) (fun f k => xs2 (ix2 f k)) 256 (by decide) (fun k => norm19 x0 x1 r k) (ldg256 xs0) (ldg256 xs1) (ldd256 xs2),
    step_chunk _ _ _ _ r j _ (fun k f => xs0 (ix2 k f)) (fun k f => xs1 (ix2 k f)) (fun f k => xs2 (ix2 f k)) 512 (by decide) (fun k => norm19 x0 x1 r k) (ldg512 xs0) (ldg512 xs1) (ldd512 xs2),
    step_chunk _ _ _ _ r j _ (fun k f => xs0 (ix2 k f)) (fun k f => xs1 (ix2 k f)) (fun f k => xs2 (ix2 f k)) 768 (by decide) (fun k => norm19 x0 x1 r k) (ldg768 xs0) (ldg768 xs1) (ldd768 xs2),
    step_chunk _ _ _ _ r j _ (fun k f => xs0 (ix2 k f)) (fun k f => xs1 (ix2 k f)) (fun f k => xs2 (ix2 f k)) 1024 (by decide) (fun k => norm19 x0 x1 r k) (ldg1024 xs0) (ldg1024 xs1) (ldd1024 xs2),
    step_chunk _ _ _ _ r j _ (fun k f => xs0 (ix2 k f)) (fun k f => xs1 (ix2 k f)) (fun f k => xs2 (ix2 f k)) 1280 (by decide) (fun k => norm19 x0 x1 r k) (ldg1280 xs0) (ldg1280 xs1) (ldd1280 xs2),
    step_chunk _ _ _ _ r j _ (fun k f => xs0 (ix2 k f)) (fun k f => xs1 (ix2 k f)) (fun f k => xs2 (ix2 f k)) 1536 (by decide) (fun k => norm19 x0 x1 r k) (ldg1536 xs0) (ldg1536 xs1) (ldd1536 xs2),
    step_chunk _ _ _ _ r j _ (fun k f => xs0 (ix2 k f)) (fun k f => xs1 (ix2 k f)) (fun f k => xs2 (ix2 f k)) 1792 (by decide) (fun k => norm19 x0 x1 r k) (ldg1792 xs0) (ldg1792 xs1) (ldd1792 xs2),
    step_chunk _ _ _ _ r j _ (fun k f => xs0 (ix2 k f)) (fun k f => xs1 (ix2 k f)) (fun f k => xs2 (ix2 f k)) 2048 (by decide) (fun k => norm19 x0 x1 r k) (ldg2048 xs0) (ldg2048 xs1) (ldd2048 xs2),
    step_chunk _ _ _ _ r j _ (fun k f => xs0 (ix2 k f)) (fun k f => xs1 (ix2 k f)) (fun f k => xs2 (ix2 f k)) 2304 (by decide) (fun k => norm19 x0 x1 r k) (ldg2304 xs0) (ldg2304 xs1) (ldd2304 xs2),
    step_chunk _ _ _ _ r j _ (fun k f => xs0 (ix2 k f)) (fun k f => xs1 (ix2 k f)) (fun f k => xs2 (ix2 f k)) 2560 (by decide) (fun k => norm19 x0 x1 r k) (ldg2560 xs0) (ldg2560 xs1) (ldd2560 xs2)]
  rw [ffnAt, sum_chunks]

end Cert.LastIdeal.Value

end
end
-- ==== Proof.LastFill.lean ====
/- The copies of layer 3 of the three weights into scratch, made by the last half step's kernel's first point, and what loads of the filled scratch read. -/
module

public import proofs.«01_k».proof.Proof.LastBlockB
public import Idealize.ShloMosaic.Lib.Pipeline.ValueKit
public import Idealize.ShloMosaic.Lib.Pointwise

@[expose] public section

set_option maxRecDepth 16384

noncomputable section

namespace Cert.LastIdeal.Value

open Idealize.ShloMosaic Idealize.ShloMosaic.TcCoe Idealize.SL.Sem
open Cert.LastIdeal Cert.LastIdeal.Gen Cert.LastIdeal.Wb Cert.Spec

/-- Columns `o` to `o + 255` of layer 3 of a gate or up weight, as a copy reads them: entry `(a, b)` is entry `(3, a, o + b)`. -/
theorem col_emb (o : Nat) (inb : ∀ a, (![3, 0, o] : Fin 3 → Nat) a + S1x1024x256.size a ≤ S4x1024x2816.size a)
    (h : S1024x256.numel = S1x1024x256.numel) (a : Fin 1024) (b : Fin 256) (r : Fin 1024) (j : Fin 2816)
    (hr : r.val = a.val) (hj : j.val = o + b.val) :
    (Rect.unit (s := S4x1024x2816) ![3, 0, o] S1x1024x256.size inb).emb (Shape.reshapeEquiv h (ix2 a b)) = ix3 3 r j := by
  rw [Shape.reshapeEquiv_cons_one]
  funext x
  apply Fin.ext
  rw [Rect.emb_apply]
  match x with
  | ⟨0, _⟩ => rfl
  | ⟨1, _⟩ => show 0 + 1 * a.val = r.val; omega
  | ⟨2, _⟩ => show o + 1 * b.val = j.val; omega

/-- Rows `o` to `o + 255` of layer 3 of the down weight likewise. -/
theorem row_emb (o : Nat) (inb : ∀ a, (![3, o, 0] : Fin 3 → Nat) a + S1x256x1024.size a ≤ S4x2816x1024.size a)
    (h : S256x1024.numel = S1x256x1024.numel) (a : Fin 256) (b : Fin 1024) (r : Fin 2816) (j : Fin 1024)
    (hr : r.val = o + a.val) (hj : j.val = b.val) :
    (Rect.unit (s := S4x2816x1024) ![3, o, 0] S1x256x1024.size inb).emb (Shape.reshapeEquiv h (ix2 a b)) = ix3 3 r j := by
  rw [Shape.reshapeEquiv_cons_one]
  funext x
  apply Fin.ext
  rw [Rect.emb_apply]
  match x with
  | ⟨0, _⟩ => rfl
  | ⟨1, _⟩ => show o + 1 * a.val = r.val; omega
  | ⟨2, _⟩ => show 0 + 1 * b.val = j.val; omega

/-- One copy: 256 columns of layer 3 of a weight, from `o`, written to the same columns of its scratch buffer. -/
abbrev colCopy (v : View sig .tc .hbm S4x1024x2816 .f32) (fh : v.ty.Contents (Elt Ideal)) (o : Nat)
    (inb : ∀ a, (![0, o] : Fin 2 → Nat) a + (![1024, 256] : Fin 2 → Nat) a ≤ S1024x2816.size a)
    (inb3 : ∀ a, (![3, 0, o] : Fin 3 → Nat) a + (![1, 1024, 256] : Fin 3 → Nat) a ≤ S4x1024x2816.size a) : View.Piece (Elt Ideal) S1024x2816 .f32 :=
  ⟨Rect.unit (s := S1024x2816) ![0, o] ![1024, 256] inb, ReadAs.same.apply (View.read (Elt Ideal)
    ((v.slice (Rect.unit (s := S4x1024x2816) ![3, 0, o] ![1, 1024, 256] inb3)).reshape S1024x256 squeezes_S1x1024x256_S1024x256.numel_eq) fh)⟩

/-- One copy: 256 rows of layer 3 of a weight, from `o`, written to the same rows of its scratch buffer. -/
abbrev rowCopy (v : View sig .tc .hbm S4x2816x1024 .f32) (fh : v.ty.Contents (Elt Ideal)) (o : Nat)
    (inb : ∀ a, (![o, 0] : Fin 2 → Nat) a + (![256, 1024] : Fin 2 → Nat) a ≤ S2816x1024.size a)
    (inb3 : ∀ a, (![3, o, 0] : Fin 3 → Nat) a + (![1, 256, 1024] : Fin 3 → Nat) a ≤ S4x2816x1024.size a) : View.Piece (Elt Ideal) S2816x1024 .f32 :=
  ⟨Rect.unit (s := S2816x1024) ![o, 0] ![256, 1024] inb, ReadAs.same.apply (View.read (Elt Ideal)
    ((v.slice (Rect.unit (s := S4x2816x1024) ![3, o, 0] ![1, 256, 1024] inb3)).reshape S256x1024 squeezes_S1x256x1024_S256x1024.numel_eq) fh)⟩

/-- The eleven copies of weight 0 into its scratch buffer, the last one first. -/
def copies0 (c : Dev nD) (fh : HbBuf0 (F := Ideal) c hbM0_0) : List (View.Piece (Elt Ideal) S1024x2816 .f32) :=
  [colCopy (View.whole main_arg2) fh 2560 inb_S1024x2816_S1024x256_0_2560 inb_S4x1024x2816_S1x1024x256_3_0_2560,
    colCopy (View.whole main_arg2) fh 2304 inb_S1024x2816_S1024x256_0_2304 inb_S4x1024x2816_S1x1024x256_3_0_2304,
    colCopy (View.whole main_arg2) fh 2048 inb_S1024x2816_S1024x256_0_2048 inb_S4x1024x2816_S1x1024x256_3_0_2048,
    colCopy (View.whole main_arg2) fh 1792 inb_S1024x2816_S1024x256_0_1792 inb_S4x1024x2816_S1x1024x256_3_0_1792,
    colCopy (View.whole main_arg2) fh 1536 inb_S1024x2816_S1024x256_0_1536 inb_S4x1024x2816_S1x1024x256_3_0_1536,
    colCopy (View.whole main_arg2) fh 1280 inb_S1024x2816_S1024x256_0_1280 inb_S4x1024x2816_S1x1024x256_3_0_1280,
    colCopy (View.whole main_arg2) fh 1024 inb_S1024x2816_S1024x256_0_1024 inb_S4x1024x2816_S1x1024x256_3_0_1024,
    colCopy (View.whole main_arg2) fh 768 inb_S1024x2816_S1024x256_0_768 inb_S4x1024x2816_S1x1024x256_3_0_768,
    colCopy (View.whole main_arg2) fh 512 inb_S1024x2816_S1024x256_0_512 inb_S4x1024x2816_S1x1024x256_3_0_512,
    colCopy (View.whole main_arg2) fh 256 inb_S1024x2816_S1024x256_0_256 inb_S4x1024x2816_S1x1024x256_3_0_256,
    colCopy (View.whole main_arg2) fh 0 inb_S1024x2816_S1024x256_0_0 inb_S4x1024x2816_S1x1024x256_3_0_0]

/-- What they leave there. -/
theorem filled0 (c : Dev nD) (fh : HbBuf0 (F := Ideal) c hbM0_0) (r : Fin 1024) (j : Fin 2816) :
    View.canon (copies0 c fh) (ix2 r j) = (fh : Vec Ideal S4x1024x2816 .f32) (ix3 3 r j) := by
  unfold copies0
  canon_tiles q h
  · obtain ⟨a, b, rfl⟩ : ∃ (a : Fin 1024) (b : Fin 256), q = ix2 a b := ⟨q 0, q 1, by blk_ext⟩
    exact congrArg fh (col_emb 2560 _ _ a b _ _ (by simpa using h0) (by simpa using h1))
  · obtain ⟨a, b, rfl⟩ : ∃ (a : Fin 1024) (b : Fin 256), q = ix2 a b := ⟨q 0, q 1, by blk_ext⟩
    exact congrArg fh (col_emb 2304 _ _ a b _ _ (by simpa using h0) (by simpa using h1))
  · obtain ⟨a, b, rfl⟩ : ∃ (a : Fin 1024) (b : Fin 256), q = ix2 a b := ⟨q 0, q 1, by blk_ext⟩
    exact congrArg fh (col_emb 2048 _ _ a b _ _ (by simpa using h0) (by simpa using h1))
  · obtain ⟨a, b, rfl⟩ : ∃ (a : Fin 1024) (b : Fin 256), q = ix2 a b := ⟨q 0, q 1, by blk_ext⟩
    exact congrArg fh (col_emb 1792 _ _ a b _ _ (by simpa using h0) (by simpa using h1))
  · obtain ⟨a, b, rfl⟩ : ∃ (a : Fin 1024) (b : Fin 256), q = ix2 a b := ⟨q 0, q 1, by blk_ext⟩
    exact congrArg fh (col_emb 1536 _ _ a b _ _ (by simpa using h0) (by simpa using h1))
  · obtain ⟨a, b, rfl⟩ : ∃ (a : Fin 1024) (b : Fin 256), q = ix2 a b := ⟨q 0, q 1, by blk_ext⟩
    exact congrArg fh (col_emb 1280 _ _ a b _ _ (by simpa using h0) (by simpa using h1))
  · obtain ⟨a, b, rfl⟩ : ∃ (a : Fin 1024) (b : Fin 256), q = ix2 a b := ⟨q 0, q 1, by blk_ext⟩
    exact congrArg fh (col_emb 1024 _ _ a b _ _ (by simpa using h0) (by simpa using h1))
  · obtain ⟨a, b, rfl⟩ : ∃ (a : Fin 1024) (b : Fin 256), q = ix2 a b := ⟨q 0, q 1, by blk_ext⟩
    exact congrArg fh (col_emb 768 _ _ a b _ _ (by simpa using h0) (by simpa using h1))
  · obtain ⟨a, b, rfl⟩ : ∃ (a : Fin 1024) (b : Fin 256), q = ix2 a b := ⟨q 0, q 1, by blk_ext⟩
    exact congrArg fh (col_emb 512 _ _ a b _ _ (by simpa using h0) (by simpa using h1))
  · obtain ⟨a, b, rfl⟩ : ∃ (a : Fin 1024) (b : Fin 256), q = ix2 a b := ⟨q 0, q 1, by blk_ext⟩
    exact congrArg fh (col_emb 256 _ _ a b _ _ (by simpa using h0) (by simpa using h1))
  · obtain ⟨a, b, rfl⟩ : ∃ (a : Fin 1024) (b : Fin 256), q = ix2 a b := ⟨q 0, q 1, by blk_ext⟩
    exact congrArg fh (col_emb 0 _ _ a b _ _ (by simpa using h0) (by simpa using h1))

/-- The eleven copies of weight 1 into its scratch buffer, the last one first. -/
def copies1 (c : Dev nD) (fh : HbBuf0 (F := Ideal) c hbM0_1) : List (View.Piece (Elt Ideal) S1024x2816 .f32) :=
  [colCopy (View.whole main_arg3) fh 2560 inb_S1024x2816_S1024x256_0_2560 inb_S4x1024x2816_S1x1024x256_3_0_2560,
    colCopy (View.whole main_arg3) fh 2304 inb_S1024x2816_S1024x256_0_2304 inb_S4x1024x2816_S1x1024x256_3_0_2304,
    colCopy (View.whole main_arg3) fh 2048 inb_S1024x2816_S1024x256_0_2048 inb_S4x1024x2816_S1x1024x256_3_0_2048,
    colCopy (View.whole main_arg3) fh 1792 inb_S1024x2816_S1024x256_0_1792 inb_S4x1024x2816_S1x1024x256_3_0_1792,
    colCopy (View.whole main_arg3) fh 1536 inb_S1024x2816_S1024x256_0_1536 inb_S4x1024x2816_S1x1024x256_3_0_1536,
    colCopy (View.whole main_arg3) fh 1280 inb_S1024x2816_S1024x256_0_1280 inb_S4x1024x2816_S1x1024x256_3_0_1280,
    colCopy (View.whole main_arg3) fh 1024 inb_S1024x2816_S1024x256_0_1024 inb_S4x1024x2816_S1x1024x256_3_0_1024,
    colCopy (View.whole main_arg3) fh 768 inb_S1024x2816_S1024x256_0_768 inb_S4x1024x2816_S1x1024x256_3_0_768,
    colCopy (View.whole main_arg3) fh 512 inb_S1024x2816_S1024x256_0_512 inb_S4x1024x2816_S1x1024x256_3_0_512,
    colCopy (View.whole main_arg3) fh 256 inb_S1024x2816_S1024x256_0_256 inb_S4x1024x2816_S1x1024x256_3_0_256,
    colCopy (View.whole main_arg3) fh 0 inb_S1024x2816_S1024x256_0_0 inb_S4x1024x2816_S1x1024x256_3_0_0]

/-- What they leave there. -/
theorem filled1 (c : Dev nD) (fh : HbBuf0 (F := Ideal) c hbM0_1) (r : Fin 1024) (j : Fin 2816) :
    View.canon (copies1 c fh) (ix2 r j) = (fh : Vec Ideal S4x1024x2816 .f32) (ix3 3 r j) := by
  unfold copies1
  canon_tiles q h
  · obtain ⟨a, b, rfl⟩ : ∃ (a : Fin 1024) (b : Fin 256), q = ix2 a b := ⟨q 0, q 1, by blk_ext⟩
    exact congrArg fh (col_emb 2560 _ _ a b _ _ (by simpa using h0) (by simpa using h1))
  · obtain ⟨a, b, rfl⟩ : ∃ (a : Fin 1024) (b : Fin 256), q = ix2 a b := ⟨q 0, q 1, by blk_ext⟩
    exact congrArg fh (col_emb 2304 _ _ a b _ _ (by simpa using h0) (by simpa using h1))
  · obtain ⟨a, b, rfl⟩ : ∃ (a : Fin 1024) (b : Fin 256), q = ix2 a b := ⟨q 0, q 1, by blk_ext⟩
    exact congrArg fh (col_emb 2048 _ _ a b _ _ (by simpa using h0) (by simpa using h1))
  · obtain ⟨a, b, rfl⟩ : ∃ (a : Fin 1024) (b : Fin 256), q = ix2 a b := ⟨q 0, q 1, by blk_ext⟩
    exact congrArg fh (col_emb 1792 _ _ a b _ _ (by simpa using h0) (by simpa using h1))
  · obtain ⟨a, b, rfl⟩ : ∃ (a : Fin 1024) (b : Fin 256), q = ix2 a b := ⟨q 0, q 1, by blk_ext⟩
    exact congrArg fh (col_emb 1536 _ _ a b _ _ (by simpa using h0) (by simpa using h1))
  · obtain ⟨a, b, rfl⟩ : ∃ (a : Fin 1024) (b : Fin 256), q = ix2 a b := ⟨q 0, q 1, by blk_ext⟩
    exact congrArg fh (col_emb 1280 _ _ a b _ _ (by simpa using h0) (by simpa using h1))
  · obtain ⟨a, b, rfl⟩ : ∃ (a : Fin 1024) (b : Fin 256), q = ix2 a b := ⟨q 0, q 1, by blk_ext⟩
    exact congrArg fh (col_emb 1024 _ _ a b _ _ (by simpa using h0) (by simpa using h1))
  · obtain ⟨a, b, rfl⟩ : ∃ (a : Fin 1024) (b : Fin 256), q = ix2 a b := ⟨q 0, q 1, by blk_ext⟩
    exact congrArg fh (col_emb 768 _ _ a b _ _ (by simpa using h0) (by simpa using h1))
  · obtain ⟨a, b, rfl⟩ : ∃ (a : Fin 1024) (b : Fin 256), q = ix2 a b := ⟨q 0, q 1, by blk_ext⟩
    exact congrArg fh (col_emb 512 _ _ a b _ _ (by simpa using h0) (by simpa using h1))
  · obtain ⟨a, b, rfl⟩ : ∃ (a : Fin 1024) (b : Fin 256), q = ix2 a b := ⟨q 0, q 1, by blk_ext⟩
    exact congrArg fh (col_emb 256 _ _ a b _ _ (by simpa using h0) (by simpa using h1))
  · obtain ⟨a, b, rfl⟩ : ∃ (a : Fin 1024) (b : Fin 256), q = ix2 a b := ⟨q 0, q 1, by blk_ext⟩
    exact congrArg fh (col_emb 0 _ _ a b _ _ (by simpa using h0) (by simpa using h1))

/-- The eleven copies of weight 2 into its scratch buffer, the last one first. -/
def copies2 (c : Dev nD) (fh : HbBuf0 (F := Ideal) c hbM0_2) : List (View.Piece (Elt Ideal) S2816x1024 .f32) :=
  [rowCopy (View.whole main_arg4) fh 2560 inb_S2816x1024_S256x1024_2560_0 inb_S4x2816x1024_S1x256x1024_3_2560_0,
    rowCopy (View.whole main_arg4) fh 2304 inb_S2816x1024_S256x1024_2304_0 inb_S4x2816x1024_S1x256x1024_3_2304_0,
    rowCopy (View.whole main_arg4) fh 2048 inb_S2816x1024_S256x1024_2048_0 inb_S4x2816x1024_S1x256x1024_3_2048_0,
    rowCopy (View.whole main_arg4) fh 1792 inb_S2816x1024_S256x1024_1792_0 inb_S4x2816x1024_S1x256x1024_3_1792_0,
    rowCopy (View.whole main_arg4) fh 1536 inb_S2816x1024_S256x1024_1536_0 inb_S4x2816x1024_S1x256x1024_3_1536_0,
    rowCopy (View.whole main_arg4) fh 1280 inb_S2816x1024_S256x1024_1280_0 inb_S4x2816x1024_S1x256x1024_3_1280_0,
    rowCopy (View.whole main_arg4) fh 1024 inb_S2816x1024_S256x1024_1024_0 inb_S4x2816x1024_S1x256x1024_3_1024_0,
    rowCopy (View.whole main_arg4) fh 768 inb_S2816x1024_S256x1024_768_0 inb_S4x2816x1024_S1x256x1024_3_768_0,
    rowCopy (View.whole main_arg4) fh 512 inb_S2816x1024_S256x1024_512_0 inb_S4x2816x1024_S1x256x1024_3_512_0,
    rowCopy (View.whole main_arg4) fh 256 inb_S2816x1024_S256x1024_256_0 inb_S4x2816x1024_S1x256x1024_3_256_0,
    rowCopy (View.whole main_arg4) fh 0 inb_S2816x1024_S256x1024_0_0 inb_S4x2816x1024_S1x256x1024_3_0_0]

/-- What they leave there. -/
theorem filled2 (c : Dev nD) (fh : HbBuf0 (F := Ideal) c hbM0_2) (r : Fin 2816) (j : Fin 1024) :
    View.canon (copies2 c fh) (ix2 r j) = (fh : Vec Ideal S4x2816x1024 .f32) (ix3 3 r j) := by
  unfold copies2
  canon_tiles q h
  · obtain ⟨a, b, rfl⟩ : ∃ (a : Fin 256) (b : Fin 1024), q = ix2 a b := ⟨q 0, q 1, by blk_ext⟩
    exact congrArg fh (row_emb 2560 _ _ a b _ _ (by simpa using h0) (by simpa using h1))
  · obtain ⟨a, b, rfl⟩ : ∃ (a : Fin 256) (b : Fin 1024), q = ix2 a b := ⟨q 0, q 1, by blk_ext⟩
    exact congrArg fh (row_emb 2304 _ _ a b _ _ (by simpa using h0) (by simpa using h1))
  · obtain ⟨a, b, rfl⟩ : ∃ (a : Fin 256) (b : Fin 1024), q = ix2 a b := ⟨q 0, q 1, by blk_ext⟩
    exact congrArg fh (row_emb 2048 _ _ a b _ _ (by simpa using h0) (by simpa using h1))
  · obtain ⟨a, b, rfl⟩ : ∃ (a : Fin 256) (b : Fin 1024), q = ix2 a b := ⟨q 0, q 1, by blk_ext⟩
    exact congrArg fh (row_emb 1792 _ _ a b _ _ (by simpa using h0) (by simpa using h1))
  · obtain ⟨a, b, rfl⟩ : ∃ (a : Fin 256) (b : Fin 1024), q = ix2 a b := ⟨q 0, q 1, by blk_ext⟩
    exact congrArg fh (row_emb 1536 _ _ a b _ _ (by simpa using h0) (by simpa using h1))
  · obtain ⟨a, b, rfl⟩ : ∃ (a : Fin 256) (b : Fin 1024), q = ix2 a b := ⟨q 0, q 1, by blk_ext⟩
    exact congrArg fh (row_emb 1280 _ _ a b _ _ (by simpa using h0) (by simpa using h1))
  · obtain ⟨a, b, rfl⟩ : ∃ (a : Fin 256) (b : Fin 1024), q = ix2 a b := ⟨q 0, q 1, by blk_ext⟩
    exact congrArg fh (row_emb 1024 _ _ a b _ _ (by simpa using h0) (by simpa using h1))
  · obtain ⟨a, b, rfl⟩ : ∃ (a : Fin 256) (b : Fin 1024), q = ix2 a b := ⟨q 0, q 1, by blk_ext⟩
    exact congrArg fh (row_emb 768 _ _ a b _ _ (by simpa using h0) (by simpa using h1))
  · obtain ⟨a, b, rfl⟩ : ∃ (a : Fin 256) (b : Fin 1024), q = ix2 a b := ⟨q 0, q 1, by blk_ext⟩
    exact congrArg fh (row_emb 512 _ _ a b _ _ (by simpa using h0) (by simpa using h1))
  · obtain ⟨a, b, rfl⟩ : ∃ (a : Fin 256) (b : Fin 1024), q = ix2 a b := ⟨q 0, q 1, by blk_ext⟩
    exact congrArg fh (row_emb 256 _ _ a b _ _ (by simpa using h0) (by simpa using h1))
  · obtain ⟨a, b, rfl⟩ : ∃ (a : Fin 256) (b : Fin 1024), q = ix2 a b := ⟨q 0, q 1, by blk_ext⟩
    exact congrArg fh (row_emb 0 _ _ a b _ _ (by simpa using h0) (by simpa using h1))

/-- A load of 256 columns of the filled scratch buffer of weight 0. -/
theorem load0 (v : View sig .tc .vmem S1024x2816 .f32) (c : Dev nD) (fh : HbBuf0 (F := Ideal) c hbM0_0) (o : Nat) (ho : o + 256 ≤ 2816)
    (inb : ∀ a, (![0, o] : Fin 2 → Nat) a + (![1024, 256] : Fin 2 → Nat) a ≤ S1024x2816.size a) (a : Fin 1024) (b : Fin 256) :
    v.readCov (Val := Elt Ideal) (copies0 c fh) (Rect.unit (s := S1024x2816) ![0, o] ![1024, 256] inb).toLoadRect (ix2 a b)
      = (fh : Vec Ideal S4x1024x2816 .f32) (ix3 3 a ⟨o + b.val, by omega⟩) := by
  have e : (Rect.unit (s := S1024x2816) ![0, o] ![1024, 256] inb).toLoadRect.idx (ix2 a b) = ix2 a ⟨o + b.val, by omega⟩ := by
    funext x
    apply Fin.ext
    match x with
    | ⟨0, _⟩ => show 0 + 1 * a.val = a.val; omega
    | ⟨1, _⟩ => show o + 1 * b.val = o + b.val; omega
  rw [View.readCov_eq_canon']
  show View.canon (copies0 c fh) ((Rect.unit (s := S1024x2816) ![0, o] ![1024, 256] inb).toLoadRect.idx (ix2 a b)) = _
  rw [e]
  exact filled0 c fh _ _

/-- A load of 256 columns of the filled scratch buffer of weight 1. -/
theorem load1 (v : View sig .tc .vmem S1024x2816 .f32) (c : Dev nD) (fh : HbBuf0 (F := Ideal) c hbM0_1) (o : Nat) (ho : o + 256 ≤ 2816)
    (inb : ∀ a, (![0, o] : Fin 2 → Nat) a + (![1024, 256] : Fin 2 → Nat) a ≤ S1024x2816.size a) (a : Fin 1024) (b : Fin 256) :
    v.readCov (Val := Elt Ideal) (copies1 c fh) (Rect.unit (s := S1024x2816) ![0, o] ![1024, 256] inb).toLoadRect (ix2 a b)
      = (fh : Vec Ideal S4x1024x2816 .f32) (ix3 3 a ⟨o + b.val, by omega⟩) := by
  have e : (Rect.unit (s := S1024x2816) ![0, o] ![1024, 256] inb).toLoadRect.idx (ix2 a b) = ix2 a ⟨o + b.val, by omega⟩ := by
    funext x
    apply Fin.ext
    match x with
    | ⟨0, _⟩ => show 0 + 1 * a.val = a.val; omega
    | ⟨1, _⟩ => show o + 1 * b.val = o + b.val; omega
  rw [View.readCov_eq_canon']
  show View.canon (copies1 c fh) ((Rect.unit (s := S1024x2816) ![0, o] ![1024, 256] inb).toLoadRect.idx (ix2 a b)) = _
  rw [e]
  exact filled1 c fh _ _

/-- A load of 256 rows of the filled scratch buffer of weight 2. -/
theorem load2 (v : View sig .tc .vmem S2816x1024 .f32) (c : Dev nD) (fh : HbBuf0 (F := Ideal) c hbM0_2) (o : Nat) (ho : o + 256 ≤ 2816)
    (inb : ∀ a, (![o, 0] : Fin 2 → Nat) a + (![256, 1024] : Fin 2 → Nat) a ≤ S2816x1024.size a) (a : Fin 256) (b : Fin 1024) :
    v.readCov (Val := Elt Ideal) (copies2 c fh) (Rect.unit (s := S2816x1024) ![o, 0] ![256, 1024] inb).toLoadRect (ix2 a b)
      = (fh : Vec Ideal S4x2816x1024 .f32) (ix3 3 ⟨o + a.val, by omega⟩ b) := by
  have e : (Rect.unit (s := S2816x1024) ![o, 0] ![256, 1024] inb).toLoadRect.idx (ix2 a b) = ix2 ⟨o + a.val, by omega⟩ b := by
    funext x
    apply Fin.ext
    match x with
    | ⟨0, _⟩ => show o + 1 * a.val = o + a.val; omega
    | ⟨1, _⟩ => show 0 + 1 * b.val = b.val; omega
  rw [View.readCov_eq_canon']
  show View.canon (copies2 c fh) ((Rect.unit (s := S2816x1024) ![o, 0] ![256, 1024] inb).toLoadRect.idx (ix2 a b)) = _
  rw [e]
  exact filled2 c fh _ _

end Cert.LastIdeal.Value

end
end
-- ==== Proof.LastBlockA.lean ====
/- The last half step's kernel's body at the first point: it fills the scratch with layer 3 of the three weights, chunk by chunk, and leaves the norm of the half step of its rows over them. -/
module

public import proofs.«01_k».proof.Proof.LastFill
public import Idealize.ShloMosaic.Lib.Pipeline.ValueKit
public import Idealize.ShloMosaic.Lib.Pointwise

@[expose] public section

set_option maxRecDepth 16384

noncomputable section

namespace Cert.LastIdeal.Value

open Idealize.ShloMosaic Idealize.ShloMosaic.TcCoe Idealize.SL.Sem
open Cert.LastIdeal Cert.LastIdeal.Gen Cert.LastIdeal.Wb Cert.Spec

/-- The pieces the first point copies into the scratch buffer of weight 0. -/
theorem pieces0_A (c : Dev nD) (t : Fin cfg0.N) (arg1 : Memref sig .tc .vmem S512x1024 .f32) (harg1 : arg1.IsWhole) (arg2 : Memref sig .tc .vmem S1x1x1024 .f32) (harg2 : arg2.IsWhole)
  (arg6 : Memref sig .tc .vmem S1x1024 .f32) (harg6 : arg6.IsWhole)
  (arg8 : Memref sig .tc .vmem S1024x2816 .f32) (harg8 : arg8.IsWhole) (arg9 : Memref sig .tc .vmem S1024x2816 .f32) (harg9 : arg9.IsWhole)
  (arg10 : Memref sig .tc .vmem S2816x1024 .f32) (harg10 : arg10.IsWhole) (hc0 : ¬cond0_0 (grid0.coords t)) (hc3 : cond0_3 (grid0.coords t)) (hc4 : ¬cond0_4 (grid0.coords t)) (hc1 : ¬cond0_1 (grid0.coords t))
    (x0 : Vec Ideal S512x1024 .f32) (x1 : Vec Ideal S1x1x1024 .f32) (x2 : Vec Ideal S1x1024 .f32)
    (fh0 : HbBuf0 (F := Ideal) c hbM0_0) (fh1 : HbBuf0 (F := Ideal) c hbM0_1) (fh2 : HbBuf0 (F := Ideal) c hbM0_2) :
    (runA (F := Ideal) c t arg1 harg1 arg2 harg2 arg6 harg6 arg8 harg8 arg9 harg9 arg10 harg10 hc0 hc3 hc4 hc1 x0 x1 x2 fh0 fh1 fh2).1 = copies0 c fh0 := by
  unfold runA
  frame_out
  rfl

/-- The pieces the first point copies into the scratch buffer of weight 1. -/
theorem pieces1_A (c : Dev nD) (t : Fin cfg0.N) (arg1 : Memref sig .tc .vmem S512x1024 .f32) (harg1 : arg1.IsWhole) (arg2 : Memref sig .tc .vmem S1x1x1024 .f32) (harg2 : arg2.IsWhole)
  (arg6 : Memref sig .tc .vmem S1x1024 .f32) (harg6 : arg6.IsWhole)
  (arg8 : Memref sig .tc .vmem S1024x2816 .f32) (harg8 : arg8.IsWhole) (arg9 : Memref sig .tc .vmem S1024x2816 .f32) (harg9 : arg9.IsWhole)
  (arg10 : Memref sig .tc .vmem S2816x1024 .f32) (harg10 : arg10.IsWhole) (hc0 : ¬cond0_0 (grid0.coords t)) (hc3 : cond0_3 (grid0.coords t)) (hc4 : ¬cond0_4 (grid0.coords t)) (hc1 : ¬cond0_1 (grid0.coords t))
    (x0 : Vec Ideal S512x1024 .f32) (x1 : Vec Ideal S1x1x1024 .f32) (x2 : Vec Ideal S1x1024 .f32)
    (fh0 : HbBuf0 (F := Ideal) c hbM0_0) (fh1 : HbBuf0 (F := Ideal) c hbM0_1) (fh2 : HbBuf0 (F := Ideal) c hbM0_2) :
    (runA (F := Ideal) c t arg1 harg1 arg2 harg2 arg6 harg6 arg8 harg8 arg9 harg9 arg10 harg10 hc0 hc3 hc4 hc1 x0 x1 x2 fh0 fh1 fh2).2.1 = copies1 c fh1 := by
  unfold runA
  frame_out
  rfl

/-- The pieces the first point copies into the scratch buffer of weight 2. -/
theorem pieces2_A (c : Dev nD) (t : Fin cfg0.N) (arg1 : Memref sig .tc .vmem S512x1024 .f32) (harg1 : arg1.IsWhole) (arg2 : Memref sig .tc .vmem S1x1x1024 .f32) (harg2 : arg2.IsWhole)
  (arg6 : Memref sig .tc .vmem S1x1024 .f32) (harg6 : arg6.IsWhole)
  (arg8 : Memref sig .tc .vmem S1024x2816 .f32) (harg8 : arg8.IsWhole) (arg9 : Memref sig .tc .vmem S1024x2816 .f32) (harg9 : arg9.IsWhole)
  (arg10 : Memref sig .tc .vmem S2816x1024 .f32) (harg10 : arg10.IsWhole) (hc0 : ¬cond0_0 (grid0.coords t)) (hc3 : cond0_3 (grid0.coords t)) (hc4 : ¬cond0_4 (grid0.coords t)) (hc1 : ¬cond0_1 (grid0.coords t))
    (x0 : Vec Ideal S512x1024 .f32) (x1 : Vec Ideal S1x1x1024 .f32) (x2 : Vec Ideal S1x1024 .f32)
    (fh0 : HbBuf0 (F := Ideal) c hbM0_0) (fh1 : HbBuf0 (F := Ideal) c hbM0_1) (fh2 : HbBuf0 (F := Ideal) c hbM0_2) :
    (runA (F := Ideal) c t arg1 harg1 arg2 harg2 arg6 harg6 arg8 harg8 arg9 harg9 arg10 harg10 hc0 hc3 hc4 hc1 x0 x1 x2 fh0 fh1 fh2).2.2.1 = copies2 c fh2 := by
  unfold runA
  frame_out
  rfl

/-- `w` is the 256 columns of `W` from `o`. -/
def Cols (w : Vec Ideal S1024x256 .f32) (W : Fin 1024 → Fin 2816 → EReal) (o : Nat) : Prop :=
  ∀ (k : Fin 1024) (i : Fin 256) (h : o + i.val < 2816), w (ix2 k i) = W k ⟨o + i.val, h⟩

/-- `w` is the 256 rows of `W` from `o`. -/
def Rows (w : Vec Ideal S256x1024 .f32) (W : Fin 2816 → Fin 1024 → EReal) (o : Nat) : Prop :=
  ∀ (i : Fin 256) (k : Fin 1024) (h : o + i.val < 2816), w (ix2 i k) = W ⟨o + i.val, h⟩ k

/-- The values of the first point's body, over any loads that read the chunks of three weights. -/
theorem chain_A (x0 : Vec Ideal S512x1024 .f32) (x1 : Vec Ideal S1x1x1024 .f32) (x2 : Vec Ideal S1x1024 .f32) (r : Fin 512) (j : Fin 1024)
    (WG WU : Fin 1024 → Fin 2816 → EReal) (WD : Fin 2816 → Fin 1024 → EReal)
    (g0 g1 g2 g3 g4 g5 g6 g7 g8 g9 g10 u0 u1 u2 u3 u4 u5 u6 u7 u8 u9 u10 : Vec Ideal S1024x256 .f32) (d0 d1 d2 d3 d4 d5 d6 d7 d8 d9 d10 : Vec Ideal S256x1024 .f32)
    (eg0 : Cols g0 WG 0) (eu0 : Cols u0 WU 0) (ed0 : Rows d0 WD 0)
    (eg1 : Cols g1 WG 256) (eu1 : Cols u1 WU 256) (ed1 : Rows d1 WD 256)
    (eg2 : Cols g2 WG 512) (eu2 : Cols u2 WU 512) (ed2 : Rows d2 WD 512)
    (eg3 : Cols g3 WG 768) (eu3 : Cols u3 WU 768) (ed3 : Rows d3 WD 768)
    (eg4 : Cols g4 WG 1024) (eu4 : Cols u4 WU 1024) (ed4 : Rows d4 WD 1024)
    (eg5 : Cols g5 WG 1280) (eu5 : Cols u5 WU 1280) (ed5 : Rows d5 WD 1280)
    (eg6 : Cols g6 WG 1536) (eu6 : Cols u6 WU 1536) (ed6 : Rows d6 WD 1536)
    (eg7 : Cols g7 WG 1792) (eu7 : Cols u7 WU 1792) (ed7 : Rows d7 WD 1792)
    (eg8 : Cols g8 WG 2048) (eu8 : Cols u8 WU 2048) (ed8 : Rows d8 WD 2048)
    (eg9 : Cols g9 WG 2304) (eu9 : Cols u9 WU 2304) (ed9 : Rows d9 WD 2304)
    (eg10 : Cols g10 WG 2560) (eu10 : Cols u10 WU 2560) (ed10 : Rows d10 WD 2560) :
    k0_pay1 (k0_pay3 x0) (k0_pay16 (k0_pay4 x0 x1) (k0_pay15 (k0_pay4 x0 x1) (k0_pay14 (k0_pay4 x0 x1) (k0_pay13 (k0_pay4 x0 x1) (k0_pay12 (k0_pay4 x0 x1) (k0_pay11 (k0_pay4 x0 x1) (k0_pay10 (k0_pay4 x0 x1) (k0_pay9 (k0_pay4 x0 x1) (k0_pay8 (k0_pay4 x0 x1) (k0_pay7 (k0_pay4 x0 x1) (k0_pay6 (k0_pay4 x0 x1) k0_pay5 g0 u0 d0) g1 u1 d1) g2 u2 d2) g3 u3 d3) g4 u4 d4) g5 u5 d5) g6 u6 d6) g7 u7 d7) g8 u8 d8) g9 u9 d9) g10 u10 d10) k0_pay17 x2 (ix3 0 r j)
      = rmsAt (ffnAt (fun k => x0 (ix2 r k)) (fun k => x1 (ix3 0 0 k)) WG WU WD) (fun k => x2 (ix2 0 k)) j := by
  refine (out1 _ _ x2 r j).trans (congrFun (congrArg (fun y => rmsAt y fun k => x2 (ix2 0 k)) (funext fun j => ?_)) j)
  rw [copy3, step16, step15, step14, step13, step12, step11, step10, step9, step8, step7, step6, zero5, zero_add]
  rw [step_chunk _ g0 u0 d0 r j _ WG WU WD 0 (by decide) (fun k => norm4 x0 x1 r k) (fun a b => eg0 a b _) (fun a b => eu0 a b _) (fun a b => ed0 a b _),
    step_chunk _ g1 u1 d1 r j _ WG WU WD 256 (by decide) (fun k => norm4 x0 x1 r k) (fun a b => eg1 a b _) (fun a b => eu1 a b _) (fun a b => ed1 a b _),
    step_chunk _ g2 u2 d2 r j _ WG WU WD 512 (by decide) (fun k => norm4 x0 x1 r k) (fun a b => eg2 a b _) (fun a b => eu2 a b _) (fun a b => ed2 a b _),
    step_chunk _ g3 u3 d3 r j _ WG WU WD 768 (by decide) (fun k => norm4 x0 x1 r k) (fun a b => eg3 a b _) (fun a b => eu3 a b _) (fun a b => ed3 a b _),
    step_chunk _ g4 u4 d4 r j _ WG WU WD 1024 (by decide) (fun k => norm4 x0 x1 r k) (fun a b => eg4 a b _) (fun a b => eu4 a b _) (fun a b => ed4 a b _),
    step_chunk _ g5 u5 d5 r j _ WG WU WD 1280 (by decide) (fun k => norm4 x0 x1 r k) (fun a b => eg5 a b _) (fun a b => eu5 a b _) (fun a b => ed5 a b _),
    step_chunk _ g6 u6 d6 r j _ WG WU WD 1536 (by decide) (fun k => norm4 x0 x1 r k) (fun a b => eg6 a b _) (fun a b => eu6 a b _) (fun a b => ed6 a b _),
    step_chunk _ g7 u7 d7 r j _ WG WU WD 1792 (by decide) (fun k => norm4 x0 x1 r k) (fun a b => eg7 a b _) (fun a b => eu7 a b _) (fun a b => ed7 a b _),
    step_chunk _ g8 u8 d8 r j _ WG WU WD 2048 (by decide) (fun k => norm4 x0 x1 r k) (fun a b => eg8 a b _) (fun a b => eu8 a b _) (fun a b => ed8 a b _),
    step_chunk _ g9 u9 d9 r j _ WG WU WD 2304 (by decide) (fun k => norm4 x0 x1 r k) (fun a b => eg9 a b _) (fun a b => eu9 a b _) (fun a b => ed9 a b _),
    step_chunk _ g10 u10 d10 r j _ WG WU WD 2560 (by decide) (fun k => norm4 x0 x1 r k) (fun a b => eg10 a b _) (fun a b => eu10 a b _) (fun a b => ed10 a b _)]
  rw [ffnAt, sum_chunks]

theorem out_A (c : Dev nD) (t : Fin cfg0.N) (arg1 : Memref sig .tc .vmem S512x1024 .f32) (harg1 : arg1.IsWhole) (arg2 : Memref sig .tc .vmem S1x1x1024 .f32) (harg2 : arg2.IsWhole)
  (arg6 : Memref sig .tc .vmem S1x1024 .f32) (harg6 : arg6.IsWhole)
  (arg8 : Memref sig .tc .vmem S1024x2816 .f32) (harg8 : arg8.IsWhole) (arg9 : Memref sig .tc .vmem S1024x2816 .f32) (harg9 : arg9.IsWhole)
  (arg10 : Memref sig .tc .vmem S2816x1024 .f32) (harg10 : arg10.IsWhole) (hc0 : ¬cond0_0 (grid0.coords t)) (hc3 : cond0_3 (grid0.coords t)) (hc4 : ¬cond0_4 (grid0.coords t)) (hc1 : ¬cond0_1 (grid0.coords t))
    (x0 : Vec Ideal S512x1024 .f32) (x1 : Vec Ideal S1x1x1024 .f32) (x2 : Vec Ideal S1x1024 .f32)
    (fh0 : HbBuf0 (F := Ideal) c hbM0_0) (fh1 : HbBuf0 (F := Ideal) c hbM0_1) (fh2 : HbBuf0 (F := Ideal) c hbM0_2)
    (r : Fin 512) (j : Fin 1024) :
    (runA (F := Ideal) c t arg1 harg1 arg2 harg2 arg6 harg6 arg8 harg8 arg9 harg9 arg10 harg10 hc0 hc3 hc4 hc1 x0 x1 x2 fh0 fh1 fh2).2.2.2.1 (ix2 r j)
      = rmsAt (ffnAt (fun k => x0 (ix2 r k)) (fun k => x1 (ix3 0 0 k)) (fun k f => (fh0 : Vec Ideal S4x1024x2816 .f32) (ix3 3 k f))
          (fun k f => (fh1 : Vec Ideal S4x1024x2816 .f32) (ix3 3 k f)) (fun f k => (fh2 : Vec Ideal S4x2816x1024 .f32) (ix3 3 f k))) (fun k => x2 (ix2 0 k)) j := by
  unfold runA
  frame_out
  refine (drop_at _ r j).trans ?_
  exact chain_A x0 x1 x2 r j _ _ _ _ _ _ _ _ _ _ _ _ _ _ _ _ _ _ _ _ _ _ _ _ _ _ _ _ _ _ _ _ _ _ _ _
    (fun a b _ => load0 _ c fh0 0 (by decide) _ a b) (fun a b _ => load1 _ c fh1 0 (by decide) _ a b) (fun a b _ => load2 _ c fh2 0 (by decide) _ a b)
    (fun a b _ => load0 _ c fh0 256 (by decide) _ a b) (fun a b _ => load1 _ c fh1 256 (by decide) _ a b) (fun a b _ => load2 _ c fh2 256 (by decide) _ a b)
    (fun a b _ => load0 _ c fh0 512 (by decide) _ a b) (fun a b _ => load1 _ c fh1 512 (by decide) _ a b) (fun a b _ => load2 _ c fh2 512 (by decide) _ a b)
    (fun a b _ => load0 _ c fh0 768 (by decide) _ a b) (fun a b _ => load1 _ c fh1 768 (by decide) _ a b) (fun a b _ => load2 _ c fh2 768 (by decide) _ a b)
    (fun a b _ => load0 _ c fh0 1024 (by decide) _ a b) (fun a b _ => load1 _ c fh1 1024 (by decide) _ a b) (fun a b _ => load2 _ c fh2 1024 (by decide) _ a b)
    (fun a b _ => load0 _ c fh0 1280 (by decide) _ a b) (fun a b _ => load1 _ c fh1 1280 (by decide) _ a b) (fun a b _ => load2 _ c fh2 1280 (by decide) _ a b)
    (fun a b _ => load0 _ c fh0 1536 (by decide) _ a b) (fun a b _ => load1 _ c fh1 1536 (by decide) _ a b) (fun a b _ => load2 _ c fh2 1536 (by decide) _ a b)
    (fun a b _ => load0 _ c fh0 1792 (by decide) _ a b) (fun a b _ => load1 _ c fh1 1792 (by decide) _ a b) (fun a b _ => load2 _ c fh2 1792 (by decide) _ a b)
    (fun a b _ => load0 _ c fh0 2048 (by decide) _ a b) (fun a b _ => load1 _ c fh1 2048 (by decide) _ a b) (fun a b _ => load2 _ c fh2 2048 (by decide) _ a b)
    (fun a b _ => load0 _ c fh0 2304 (by decide) _ a b) (fun a b _ => load1 _ c fh1 2304 (by decide) _ a b) (fun a b _ => load2 _ c fh2 2304 (by decide) _ a b)
    (fun a b _ => load0 _ c fh0 2560 (by decide) _ a b) (fun a b _ => load1 _ c fh1 2560 (by decide) _ a b) (fun a b _ => load2 _ c fh2 2560 (by decide) _ a b)

end Cert.LastIdeal.Value

end
end
-- ==== Proof.LastArray.lean ====
/- The last half step's kernel: its arrays at coordinates, and the result buffer when it ends. -/
module

public import proofs.«01_k».proof.Proof.LastIdealBody
public import proofs.«01_k».proof.Proof.LastBlockA
public import Idealize.ShloMosaic.Lib.Pipeline.ValueKit
public import Idealize.ShloMosaic.Lib.Pointwise

@[expose] public section

set_option maxRecDepth 16384

noncomputable section

namespace Cert.LastIdeal.Value

open Idealize.ShloMosaic Idealize.ShloMosaic.TcCoe Idealize.SL.Sem
open Cert.LastIdeal Cert.LastIdeal.Gen Cert.LastIdeal.Wb Cert.Spec

variable (m : (ℓ : Loc nD τ sig) → Buf (Elt Ideal) ℓ) (c : Dev nD) (t : Fin cfg0.N)

/-- Token `(b, l)` after the half step, from the arguments. -/
def halfAt (b : Fin 2) (l : Fin 8192) : Fin 1024 → EReal :=
  ffnAt (fun k => m ((c : Thread nD τ).loc main_arg0) (ix3 b l k)) (fun i => m ((c : Thread nD τ).loc main_arg1) (ix2 3 i))
    (fun k f => m ((c : Thread nD τ).loc main_arg2) (ix3 3 k f)) (fun k f => m ((c : Thread nD τ).loc main_arg3) (ix3 3 k f))
    (fun f k => m ((c : Thread nD τ).loc main_arg4) (ix3 3 f k))

/-- Entry `j` of its norm. -/
def tokenAt (b : Fin 2) (l : Fin 8192) (j : Fin 1024) : EReal := rmsAt (halfAt m c b l) (fun i => m ((c : Thread nD τ).loc main_arg5) (ix1 i)) j

/-- Every window's block index, in closed form. -/
theorem idx : ∀ t : Fin cfg0.N, win0_0.index t = ![t.val, 0] ∧ win0_1.index t = ![3, 0, 0] ∧ win0_2.index t = ![0, 0] :=
  (by decide +kernel : ∀ t : Fin grid0.N, _)

/-- The step of a grid point within a chunk. -/
def stepOf (t : Fin cfg0.N) : Fin 32 := ⟨t.val, t.isLt⟩

/-- The batch row of chunk `n`. -/
def rowB (n : Fin 512) : Fin 2 := ⟨n.val / 256, by omega⟩

/-- The place in the sequence of step `u` of chunk `n`. -/
def rowL (n : Fin 512) (u : Fin 32) : Fin 8192 := ⟨n.val % 256 * 32 + u.val, by omega⟩

theorem entry0 : V m c main_v2 = shapeCast S16384x1024 (transpose S32x512x1024 [1, 0, 2] (shapeCast S512x32x1024 (m ((c : Thread nD τ).loc main_arg0)) shapeCasts_S2x8192x1024_S512x32x1024) transposes_S512x32x1024_S32x512x1024_1_0_2) shapeCasts_S32x512x1024_S16384x1024 := by
  unfold V V0
  simp only [List.flatten_cons, List.flatten_nil, List.append_nil, hostOps0]
  after_results
  try rfl

theorem entry1 : V m c main_v3 = broadcastInDim S4x1x1024 ![0, 2] bcast_S4x1024_S4x1x1024_0_2 (m ((c : Thread nD τ).loc main_arg1)) := by
  unfold V V0
  simp only [List.flatten_cons, List.flatten_nil, List.append_nil, hostOps0]
  after_results
  try rfl

theorem entry2 : V m c main_v4 = broadcastInDim S1x1024 ![1] bcast_S1024_S1x1024_1 (m ((c : Thread nD τ).loc main_arg5)) := by
  unfold V V0
  simp only [List.flatten_cons, List.flatten_nil, List.append_nil, hostOps0]
  after_results
  try rfl

theorem flat_at (y : FVec Ideal S32x512x1024 .f32) (u : Fin 32) (n : Fin 512) (k : Fin 1024) :
    shapeCast S16384x1024 y shapeCasts_S32x512x1024_S16384x1024 (ix2 ⟨u.val * 512 + n.val, by omega⟩ k) = y (ix3 u n k) := by
  pointwise

theorem chunk_at (x : FVec Ideal S2x8192x1024 .f32) (b : Fin 2) (q : Fin 256) (u : Fin 32) (k : Fin 1024) :
    shapeCast S512x32x1024 x shapeCasts_S2x8192x1024_S512x32x1024 (ix3 ⟨b.val * 256 + q.val, by omega⟩ u k) = x (ix3 b ⟨q.val * 32 + u.val, by omega⟩ k) := by
  pointwise
  refine congrArg (fun n => x (ix3 b n k)) (Fin.ext ?_)
  show (b.val * 256 + q.val) % 256 * 32 + u.val = q.val * 32 + u.val
  omega

theorem turn_at (x : FVec Ideal S512x32x1024 .f32) (u : Fin 32) (n : Fin 512) (k : Fin 1024) : transpose S32x512x1024 [1, 0, 2] x transposes_S512x32x1024_S32x512x1024_1_0_2 (ix3 u n k) = x (ix3 n u k) := by
  pointwise

theorem chunk_at' (x : FVec Ideal S2x8192x1024 .f32) (n : Fin 512) (u : Fin 32) (k : Fin 1024) :
    shapeCast S512x32x1024 x shapeCasts_S2x8192x1024_S512x32x1024 (ix3 n u k) = x (ix3 (rowB n) (rowL n u) k) := by
  have e : n = ⟨(rowB n).val * 256 + n.val % 256, by simp only [rowB]; omega⟩ := Fin.ext (by simp only [rowB]; omega)
  exact (congrArg (fun i => shapeCast S512x32x1024 x shapeCasts_S2x8192x1024_S512x32x1024 (ix3 i u k)) e).trans (chunk_at x (rowB n) ⟨n.val % 256, by omega⟩ u k)

theorem read0 (r : Fin 512) (k : Fin 1024) : iblk m c 0 t (ix2 r k) = m ((c : Thread nD τ).loc main_arg0) (ix3 (rowB r) (rowL r (stepOf t)) k) := by
  have ht : t.val < 32 := t.isLt
  have e : iblk m c 0 t (ix2 r k) = V m c main_v2 (ix2 (⟨(stepOf t).val * 512 + r.val, by simp only [stepOf]; omega⟩ : Fin 16384) k) := by blk_ext [iblk, idx t, stepOf]
  rw [e, entry0]
  refine (flat_at _ (stepOf t) r k).trans ?_
  refine (turn_at _ (stepOf t) r k).trans ?_
  exact chunk_at' _ r (stepOf t) k

theorem read1 (k : Fin 1024) : iblk m c 1 t (ix3 0 0 k) = m ((c : Thread nD τ).loc main_arg1) (ix2 3 k) := by
  have e : iblk m c 1 t (ix3 0 0 k) = V m c main_v3 (ix3 (3 : Fin 4) (0 : Fin 1) k) := by blk_ext [iblk, idx t]
  rw [e, entry1]
  pointwise

theorem read2 (k : Fin 1024) : iblk m c 2 t (ix2 0 k) = m ((c : Thread nD τ).loc main_arg5) (ix1 k) := by
  have e : iblk m c 2 t (ix2 0 k) = V m c main_v4 (ix2 (0 : Fin 1) k) := by blk_ext [iblk, idx t]
  rw [e, entry2]
  pointwise

/-- After the first point the scratch buffers hold layer 3 of the three weights. -/
theorem held0 (k : Fin 1024) (f : Fin 2816) : sS0 m c (ix2 k f) = m ((c : Thread nD τ).loc main_arg2) (ix3 3 k f) := by
  unfold sS0
  rw [View.read_writes_junk_eq_canon, pieces0_A]
  exact (filled0 c _ k f).trans (congrFun (V_main_arg2 m c) _)

theorem held1 (k : Fin 1024) (f : Fin 2816) : sS1 m c (ix2 k f) = m ((c : Thread nD τ).loc main_arg3) (ix3 3 k f) := by
  unfold sS1
  rw [View.read_writes_junk_eq_canon, pieces1_A]
  exact (filled1 c _ k f).trans (congrFun (V_main_arg3 m c) _)

theorem held2 (f : Fin 2816) (k : Fin 1024) : sS2 m c (ix2 f k) = m ((c : Thread nD τ).loc main_arg4) (ix3 3 f k) := by
  unfold sS2
  rw [View.read_writes_junk_eq_canon, pieces2_A]
  exact (filled2 c _ f k).trans (congrFun (V_main_arg4 m c) _)

/-- What point `t` leaves: row `r` is the token of step `t` in chunk `r`. -/
theorem point (r : Fin 512) (j : Fin 1024) : outAt m c t (ix2 r j) = tokenAt m c (rowB r) (rowL r (stepOf t)) j := by
  unfold tokenAt halfAt outAt
  split_ifs
  · refine (out_A c t _ _ _ _ _ _ _ _ _ _ _ _ _ _ _ _ _ _ _ _ _ _ r j).trans ?_
    simp only [read0, read1, read2]
    rw [V_main_arg2, V_main_arg3, V_main_arg4]
  · refine (out_B c t _ _ _ _ _ _ _ _ _ _ _ _ _ _ _ _ _ _ _ _ _ _ r j).trans ?_
    simp only [read0, read1, read2, held0, held1, held2]
  · refine (out_D c t _ _ _ _ _ _ _ _ _ _ _ _ _ _ _ _ _ _ _ _ _ _ _ r j).trans ?_
    simp only [read0, read1, read2, held0, held1, held2]
  · refine (out_C c t _ _ _ _ _ _ _ _ _ _ _ _ _ _ _ _ _ _ _ _ _ _ r j).trans ?_
    simp only [read0, read1, read2, held0, held1, held2]

/-- The result: every token's row after the half step and the norm. -/
def resultAt : S2x8192x1024.Idx → EReal := fun i => tokenAt m c (i 0) (i 1) (i 2)

theorem back_at (y : FVec Ideal S512x32x1024 .f32) (b : Fin 2) (q : Fin 256) (u : Fin 32) (j : Fin 1024) :
    shapeCast S2x8192x1024 y shapeCasts_S512x32x1024_S2x8192x1024 (ix3 b ⟨q.val * 32 + u.val, by omega⟩ j) = y (ix3 ⟨b.val * 256 + q.val, by omega⟩ u j) := by
  pointwise
  refine congrArg (fun n => y (ix3 n u j)) (Fin.ext ?_)
  show b.val * 256 + (q.val * 32 + u.val) / 32 = b.val * 256 + q.val
  omega

theorem res_at (n : Fin 512) (u : Fin 32) (j : Fin 1024) : (res m c : FVec Ideal S512x32x1024 .f32) (ix3 n u j) = tokenAt m c (rowB n) (rowL n u) j :=
  (point m c (pt u) n j)

/-- The array the copies make, by token, is the result. -/
theorem order_back : shapeCast S2x8192x1024 (res m c : FVec Ideal S512x32x1024 .f32) shapeCasts_S512x32x1024_S2x8192x1024 = resultAt m c := by
  funext i
  obtain ⟨b, l, j, rfl⟩ : ∃ (b : Fin 2) (l : Fin 8192) (j : Fin 1024), i = ix3 b l j := ⟨i 0, i 1, i 2, by blk_ext⟩
  obtain ⟨q, u, rfl⟩ : ∃ (q : Fin 256) (u : Fin 32), l = ⟨q.val * 32 + u.val, by omega⟩ := ⟨⟨l.val / 32, by omega⟩, ⟨l.val % 32, by omega⟩, Fin.ext (by show l.val = l.val / 32 * 32 + l.val % 32; omega)⟩
  refine (back_at _ b q u j).trans ((res_at m c _ u j).trans ?_)
  unfold resultAt
  have hb := b.isLt
  have hq := q.isLt
  refine congrArg₂ (fun b l => tokenAt m c b l j) (Fin.ext ?_) (Fin.ext ?_)
  · show (b.val * 256 + q.val) / 256 = b.val
    omega
  · show (b.val * 256 + q.val) % 256 * 32 + u.val = q.val * 32 + u.val
    omega

/-- The result buffer when the program ends. -/
theorem tail : fin m c main_v6 = resultAt m c := by
  refine Eq.trans ?_ (order_back m c)
  unfold fin
  simp only [List.flatten_cons, List.flatten_nil, List.append_nil, hostOps1]
  after_results
  have e : Pipeline.withArrays spec0 c (Pipeline.withR (V0 m c) R0 c (resG m c)) (fun w => (dats m 0 c).arrAt w cfg0.N) (Proc.devRef .tc main_v5) = res m c :=
    (Pipeline.withArrays_of_ne spec0 c _ _ main_v5 (by decide)).trans ((Pipeline.withR_of_mem _ R0 c _ main_v5 (by decide)).trans (dif_pos rfl))
  rw [← e]
  rfl

variable (ρ : Dev nD → PrngReg)

/-- The run: the result buffer ends at every token's row after the half step and the norm. -/
theorem run : θ_run defs (onTc (τ := τ) (main (F := Ideal))) ⟨m, fun _ => 0, ρ⟩ (fun r => ∀ c : Dev nD,
    r.2.mem ((c.tc : Thread nD τ).loc main_v6) = resultAt m c) :=
  θ_run_mono (run_main m ρ) fun r h c => (h.1 c main_v6 (by decide)).trans (tail m c)

end Cert.LastIdeal.Value

end
end
-- ==== Proof.LastRef.lean ====
/- What the last half step's reference computes, read at one entry: the norm of the per-token function `Spec.ffnAt` of that
   token's row and of layer 3's weights. -/
module

public import proofs.«01_k».proof.Proof.Gen.LastRefIdeal.Read
public import proofs.«01_k».proof.Proof.FfnSpec
public import Idealize.ShloMosaic.Lib.Pipeline.ValueKit
public import Idealize.ShloMosaic.Lib.Pointwise

@[expose] public section

set_option maxRecDepth 16384

noncomputable section

namespace Cert.LastRefIdeal.Value

open Idealize.ShloMosaic Idealize.ShloMosaic.TcCoe Idealize.SL.Sem
open Cert.LastRefIdeal Cert.LastRefIdeal.Gen Cert.LastRefIdeal.Read Cert.Spec

variable (x0 : FVec Ideal S2x8192x1024 .f32) (x1 : FVec Ideal S4x1024 .f32) (x2 x3 : FVec Ideal S4x1024x2816 .f32)
  (x4 : FVec Ideal S4x2816x1024 .f32) (b : Fin 2) (l : Fin 8192)

/-- The normed row. -/
theorem norm_at (k : Fin 1024) :
    val_main_v14 (F := Ideal) x0 x1 (ix3 b l k) = rmsAt (fun i => x0 (ix3 b l i)) (fun i => x1 (ix2 3 i)) k := by
  unfold rmsAt
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- A hidden feature. -/
theorem hid_at (f : Fin 2816) :
    val_main_v24 (F := Ideal) x0 x1 x2 x3 (ix3 b l f) = hidAt (rmsAt (fun i => x0 (ix3 b l i)) (fun i => x1 (ix2 3 i)))
      (fun k f => x2 (ix3 3 k f)) (fun k f => x3 (ix3 3 k f)) f := by
  unfold hidAt gateAt Ideal.logistic
  pointwise [val_main_v24, val_main_v23, val_main_v22, val_main_v21, val_main_v18, val_main_v17, val_main_v16, val_main_v15,
    val_main_call0_v5, val_main_call0_v4, val_main_call0_v3, val_main_call0_v2, val_main_call0_v1, val_main_call0_v0,
    val_main_call0_cst, val_main_call0_cst_0]
  simp only [norm_at]

/-- The half step. -/
theorem half_at (j : Fin 1024) :
    val_main_v28 (F := Ideal) x0 x1 x2 x3 x4 (ix3 b l j) = ffnAt (fun k => x0 (ix3 b l k)) (fun i => x1 (ix2 3 i))
      (fun k f => x2 (ix3 3 k f)) (fun k f => x3 (ix3 3 k f)) (fun f j => x4 (ix3 3 f j)) j := by
  unfold ffnAt
  pointwise [val_main_v28, val_main_v27, val_main_v26, val_main_v25, val_main_v20, val_main_v19, val_main_cst_2]
  simp only [hid_at]

/-- The reference's result. -/
theorem ref_at (x5 : FVec Ideal S1024 .f32) (j : Fin 1024) :
    val_main_v41 (F := Ideal) x0 x1 x2 x3 x4 x5 (ix3 b l j) = rmsAt (ffnAt (fun k => x0 (ix3 b l k)) (fun i => x1 (ix2 3 i))
      (fun k f => x2 (ix3 3 k f)) (fun k f => x3 (ix3 3 k f)) (fun f j => x4 (ix3 3 f j))) (fun i => x5 (ix1 i)) j := by
  have e := funext (half_at x0 x1 x2 x3 x4 b l)
  rw [← e]
  unfold rmsAt
  pointwise [val_main_v41, val_main_v40, val_main_v39, val_main_v38, val_main_v37, val_main_v36, val_main_v35, val_main_v34, val_main_v33, val_main_v32, val_main_v31, val_main_v30, val_main_v29, val_main_cst_3, val_main_cst_4, val_main_cst_5]

end Cert.LastRefIdeal.Value

end
end
-- ==== Proof.LastEq.lean ====
/- The last half step's reference and its kernel give the same result from the same arguments. -/
module

public import proofs.«01_k».proof.Proof.LastArray
public import proofs.«01_k».proof.Proof.LastRef

@[expose] public section

set_option maxRecDepth 16384

noncomputable section

namespace Cert.LastEq

open Idealize.ShloMosaic Idealize.ShloMosaic.TcCoe Idealize.SL.Sem

variable (m : (ℓ : Loc Cert.LastIdeal.nD Cert.LastIdeal.τ Cert.LastIdeal.sig) → Buf (Elt Ideal) ℓ)
  (m' : (ℓ : Loc Cert.LastRefIdeal.nD Cert.LastRefIdeal.τ Cert.LastRefIdeal.sig) → Buf (Elt Ideal) ℓ) (c : Dev Cert.LastIdeal.nD)

/-- The reference's result is the kernel's, where the arguments agree. -/
theorem result_eq
    (h0 : m' ((c.tc : Thread Cert.LastRefIdeal.nD Cert.LastRefIdeal.τ).loc Cert.LastRefIdeal.main_arg0) = m ((c.tc : Thread Cert.LastIdeal.nD Cert.LastIdeal.τ).loc Cert.LastIdeal.main_arg0))
    (h1 : m' ((c.tc : Thread Cert.LastRefIdeal.nD Cert.LastRefIdeal.τ).loc Cert.LastRefIdeal.main_arg1) = m ((c.tc : Thread Cert.LastIdeal.nD Cert.LastIdeal.τ).loc Cert.LastIdeal.main_arg1))
    (h2 : m' ((c.tc : Thread Cert.LastRefIdeal.nD Cert.LastRefIdeal.τ).loc Cert.LastRefIdeal.main_arg2) = m ((c.tc : Thread Cert.LastIdeal.nD Cert.LastIdeal.τ).loc Cert.LastIdeal.main_arg2))
    (h3 : m' ((c.tc : Thread Cert.LastRefIdeal.nD Cert.LastRefIdeal.τ).loc Cert.LastRefIdeal.main_arg3) = m ((c.tc : Thread Cert.LastIdeal.nD Cert.LastIdeal.τ).loc Cert.LastIdeal.main_arg3))
    (h4 : m' ((c.tc : Thread Cert.LastRefIdeal.nD Cert.LastRefIdeal.τ).loc Cert.LastRefIdeal.main_arg4) = m ((c.tc : Thread Cert.LastIdeal.nD Cert.LastIdeal.τ).loc Cert.LastIdeal.main_arg4))
    (h5 : m' ((c.tc : Thread Cert.LastRefIdeal.nD Cert.LastRefIdeal.τ).loc Cert.LastRefIdeal.main_arg5) = m ((c.tc : Thread Cert.LastIdeal.nD Cert.LastIdeal.τ).loc Cert.LastIdeal.main_arg5)) :
    Cert.LastRefIdeal.Read.val_main_v41 (F := Ideal) (m' ((c.tc : Thread Cert.LastRefIdeal.nD Cert.LastRefIdeal.τ).loc Cert.LastRefIdeal.main_arg0)) (m' ((c.tc : Thread Cert.LastRefIdeal.nD Cert.LastRefIdeal.τ).loc Cert.LastRefIdeal.main_arg1)) (m' ((c.tc : Thread Cert.LastRefIdeal.nD Cert.LastRefIdeal.τ).loc Cert.LastRefIdeal.main_arg2)) (m' ((c.tc : Thread Cert.LastRefIdeal.nD Cert.LastRefIdeal.τ).loc Cert.LastRefIdeal.main_arg3)) (m' ((c.tc : Thread Cert.LastRefIdeal.nD Cert.LastRefIdeal.τ).loc Cert.LastRefIdeal.main_arg4)) (m' ((c.tc : Thread Cert.LastRefIdeal.nD Cert.LastRefIdeal.τ).loc Cert.LastRefIdeal.main_arg5)) = Cert.LastIdeal.Value.resultAt m c := by
  funext i
  obtain ⟨b, l, j, rfl⟩ : ∃ (b : Fin 2) (l : Fin 8192) (j : Fin 1024), i = ix3 b l j := ⟨i 0, i 1, i 2, by blk_ext⟩
  refine (Cert.LastRefIdeal.Value.ref_at _ _ _ _ _ b l _ j).trans ?_
  rw [h0, h1, h2, h3, h4, h5]
  rfl

end Cert.LastEq

end
end
-- ==== Proof.InprojSpec.lean ====
/- The first projection of the mixer: a token's row, normed, against the columns of the weight. -/
module

public import proofs.«01_k».proof.Proof.Spec

@[expose] public section

set_option maxRecDepth 16384

noncomputable section

namespace Cert.Spec

/-- A normed row against one column of the weight. -/
def inAt (x g w : Fin 1024 → EReal) : EReal := ∑ k : Fin 1024, rmsAt x g k * w k

end Cert.Spec

end
end
-- ==== Proof.InprojBlock.lean ====
/- What the projection's body leaves in each of its five output blocks: row `r` of the block of tokens, normed, against the rows of the transposed weight that output takes. -/
module

public import proofs.«01_k».proof.Proof.InprojSpec
public import proofs.«01_k».proof.Proof.Gen.InprojIdeal.Frame
public import Idealize.ShloMosaic.Lib.Pipeline.ValueKit
public import Idealize.ShloMosaic.Lib.Pointwise

@[expose] public section

set_option maxRecDepth 16384

noncomputable section

namespace Cert.InprojIdeal.Value

open Idealize.ShloMosaic Idealize.ShloMosaic.TcCoe Idealize.SL.Sem
open Cert.InprojIdeal Cert.InprojIdeal.Gen Cert.Spec

theorem norm4 (x : Vec Ideal S512x1024 .f32) (g : Vec Ideal S1x1x1024 .f32) (r : Fin 512) (j : Fin 1024) :
    (k0_pay4 x g : FVec Ideal S512x1024 .bf16) (ix2 r j) = rmsAt (fun k => x (ix2 r k)) (fun k => g (ix3 0 0 k)) j := by
  unfold rmsAt
  pointwise [k0_pay4]

/-- The scan's columns come out transposed: the weight's rows are the product's rows. -/
theorem pay5_at (x : Vec Ideal S512x1024 .f32) (g : Vec Ideal S1x1x1024 .f32) (w : Vec Ideal S1x512x1024 .f32) (i r : Fin 512) :
    k0_pay5 x g w (ix3 0 i r) = inAt (fun k => x (ix2 r k)) (fun k => g (ix3 0 0 k)) (fun k => w (ix3 0 i k)) := by
  unfold inAt
  simp only [← norm4, mul_comm _ (w _)]
  generalize hh : k0_pay4 x g = h
  unfold k0_pay5
  rw [hh]
  pointwise

theorem pay6_at (x : Vec Ideal S512x1024 .f32) (g : Vec Ideal S1x1x1024 .f32) (w : Vec Ideal S1x1024x1024 .f32) (r : Fin 512) (j : Fin 1024) :
    k0_pay6 x g w (ix2 r j) = inAt (fun k => x (ix2 r k)) (fun k => g (ix3 0 0 k)) (fun k => w (ix3 0 j k)) := by
  unfold inAt
  simp only [← norm4]
  generalize hh : k0_pay4 x g = h
  unfold k0_pay6
  rw [hh]
  pointwise

theorem pay1_at (x : Vec Ideal S512x1024 .f32) (g : Vec Ideal S1x1x1024 .f32) (w : Vec Ideal S1x1024x1024 .f32) (r : Fin 512) (j : Fin 1024) :
    k0_pay1 (k0_pay4 x g) (k0_pay7 w) (constant S512x1024 .f32 0x00000000#32) (ix2 r j)
      = inAt (fun k => x (ix2 r k)) (fun k => g (ix3 0 0 k)) (fun k => w (ix3 0 j k)) := by
  unfold inAt
  simp only [← norm4]
  generalize k0_pay4 x g = h
  pointwise [k0_pay1, k0_pay7]

theorem pay2_at (x : Vec Ideal S512x1024 .f32) (g : Vec Ideal S1x1x1024 .f32) (w : Vec Ideal S1x1024x1024 .f32) (r : Fin 512) (j : Fin 1024) :
    k0_pay2 (k0_pay4 x g) w (ix2 r j) = inAt (fun k => x (ix2 r k)) (fun k => g (ix3 0 0 k)) (fun k => w (ix3 0 j k)) := by
  unfold inAt
  simp only [← norm4]
  generalize k0_pay4 x g = h
  pointwise [k0_pay2]

/-- The mask of the first eight columns. -/
theorem mask_at : ∀ j : Fin 128, IntOp.cmpi CmpIPredicate.slt (BitVec.ofNat 32 j.val) 8#32 = if j.val < 8 then 1#1 else 0#1 := by
  decide +kernel

/-- The gates' block: the columns past the eighth hold no product. -/
theorem pay3_at (x : Vec Ideal S512x1024 .f32) (g : Vec Ideal S1x1x1024 .f32) (w : Vec Ideal S1x128x1024 .f32) (d : Vec Ideal S1x1x128 .f32) (r : Fin 512) (j : Fin 128) :
    k0_pay3 (k0_pay4 x g) w d (ix2 r j)
      = (if j.val < 8 then inAt (fun k => x (ix2 r k)) (fun k => g (ix3 0 0 k)) (fun k => w (ix3 0 j k)) else 0) + d (ix3 0 0 j) := by
  unfold inAt
  simp only [← norm4]
  generalize k0_pay4 x g = h
  pointwise [k0_pay3]
  rw [mask_at]
  by_cases hj : j.val < 8
  · rw [if_pos hj, if_pos hj]
    rfl
  · rw [if_neg hj, if_neg hj]
    rfl

theorem scan_block (c : Dev nD) (i : grid0.Coords) (arg1 : Memref sig .tc .vmem S512x1024 .f32) (harg1 : arg1.IsWhole) (arg2 : Memref sig .tc .vmem S1x1x1024 .f32) (harg2 : arg2.IsWhole)
    (arg3 : Memref sig .tc .vmem S1x3712x1024 .f32) (harg3 : arg3.IsWhole) (arg4 : Memref sig .tc .vmem S1x1x128 .f32) (harg4 : arg4.IsWhole)
    (arg5 : Memref sig .tc .vmem S1x512x512 .f32) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S512x1024 .f32) (harg8 : arg8.IsWhole)
    (arg9 : Memref sig .tc .vmem S512x128 .f32) (harg9 : arg9.IsWhole)
    (x0 : Vec Ideal S512x1024 .f32) (x1 : Vec Ideal S1x1x1024 .f32) (x2 : Vec Ideal S1x3712x1024 .f32) (x3 : Vec Ideal S1x1x128 .f32) (r : Fin 512) (j : Fin 512) :
    out0_A_4 c i arg1 harg1 arg2 harg2 arg3 harg3 arg4 harg4 arg5 harg5 arg6 harg6 arg7 harg7 arg8 harg8 arg9 harg9 x0 x1 x2 x3 (ix3 0 j r)
      = inAt (fun k => x0 (ix2 r k)) (fun k => x1 (ix3 0 0 k)) (fun k => x2 (ix3 0 ⟨0 + j.val, by omega⟩ k)) := by
  frame_out
  rw [pay5_at]
  pointwise

theorem inner_block (c : Dev nD) (i : grid0.Coords) (arg1 : Memref sig .tc .vmem S512x1024 .f32) (harg1 : arg1.IsWhole) (arg2 : Memref sig .tc .vmem S1x1x1024 .f32) (harg2 : arg2.IsWhole)
    (arg3 : Memref sig .tc .vmem S1x3712x1024 .f32) (harg3 : arg3.IsWhole) (arg4 : Memref sig .tc .vmem S1x1x128 .f32) (harg4 : arg4.IsWhole)
    (arg5 : Memref sig .tc .vmem S1x512x512 .f32) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S512x1024 .f32) (harg8 : arg8.IsWhole)
    (arg9 : Memref sig .tc .vmem S512x128 .f32) (harg9 : arg9.IsWhole)
    (x0 : Vec Ideal S512x1024 .f32) (x1 : Vec Ideal S1x1x1024 .f32) (x2 : Vec Ideal S1x3712x1024 .f32) (x3 : Vec Ideal S1x1x128 .f32) (r : Fin 512) (j : Fin 1024) :
    out0_A_5 c i arg1 harg1 arg2 harg2 arg3 harg3 arg4 harg4 arg5 harg5 arg6 harg6 arg7 harg7 arg8 harg8 arg9 harg9 x0 x1 x2 x3 (ix2 r j)
      = inAt (fun k => x0 (ix2 r k)) (fun k => x1 (ix3 0 0 k)) (fun k => x2 (ix3 0 ⟨512 + j.val, by omega⟩ k)) := by
  frame_out
  rw [pay6_at]
  pointwise

theorem value_block (c : Dev nD) (i : grid0.Coords) (arg1 : Memref sig .tc .vmem S512x1024 .f32) (harg1 : arg1.IsWhole) (arg2 : Memref sig .tc .vmem S1x1x1024 .f32) (harg2 : arg2.IsWhole)
    (arg3 : Memref sig .tc .vmem S1x3712x1024 .f32) (harg3 : arg3.IsWhole) (arg4 : Memref sig .tc .vmem S1x1x128 .f32) (harg4 : arg4.IsWhole)
    (arg5 : Memref sig .tc .vmem S1x512x512 .f32) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S512x1024 .f32) (harg8 : arg8.IsWhole)
    (arg9 : Memref sig .tc .vmem S512x128 .f32) (harg9 : arg9.IsWhole)
    (x0 : Vec Ideal S512x1024 .f32) (x1 : Vec Ideal S1x1x1024 .f32) (x2 : Vec Ideal S1x3712x1024 .f32) (x3 : Vec Ideal S1x1x128 .f32) (r : Fin 512) (j : Fin 1024) :
    out0_A_6 c i arg1 harg1 arg2 harg2 arg3 harg3 arg4 harg4 arg5 harg5 arg6 harg6 arg7 harg7 arg8 harg8 arg9 harg9 x0 x1 x2 x3 (ix2 r j)
      = inAt (fun k => x0 (ix2 r k)) (fun k => x1 (ix3 0 0 k)) (fun k => x2 (ix3 0 ⟨1536 + j.val, by omega⟩ k)) := by
  frame_out
  rw [pay1_at]
  pointwise

theorem out_block (c : Dev nD) (i : grid0.Coords) (arg1 : Memref sig .tc .vmem S512x1024 .f32) (harg1 : arg1.IsWhole) (arg2 : Memref sig .tc .vmem S1x1x1024 .f32) (harg2 : arg2.IsWhole)
    (arg3 : Memref sig .tc .vmem S1x3712x1024 .f32) (harg3 : arg3.IsWhole) (arg4 : Memref sig .tc .vmem S1x1x128 .f32) (harg4 : arg4.IsWhole)
    (arg5 : Memref sig .tc .vmem S1x512x512 .f32) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S512x1024 .f32) (harg8 : arg8.IsWhole)
    (arg9 : Memref sig .tc .vmem S512x128 .f32) (harg9 : arg9.IsWhole)
    (x0 : Vec Ideal S512x1024 .f32) (x1 : Vec Ideal S1x1x1024 .f32) (x2 : Vec Ideal S1x3712x1024 .f32) (x3 : Vec Ideal S1x1x128 .f32) (r : Fin 512) (j : Fin 1024) :
    out0_A_7 c i arg1 harg1 arg2 harg2 arg3 harg3 arg4 harg4 arg5 harg5 arg6 harg6 arg7 harg7 arg8 harg8 arg9 harg9 x0 x1 x2 x3 (ix2 r j)
      = inAt (fun k => x0 (ix2 r k)) (fun k => x1 (ix3 0 0 k)) (fun k => x2 (ix3 0 ⟨2560 + j.val, by omega⟩ k)) := by
  frame_out
  rw [pay2_at]
  pointwise

theorem gate_block (c : Dev nD) (i : grid0.Coords) (arg1 : Memref sig .tc .vmem S512x1024 .f32) (harg1 : arg1.IsWhole) (arg2 : Memref sig .tc .vmem S1x1x1024 .f32) (harg2 : arg2.IsWhole)
    (arg3 : Memref sig .tc .vmem S1x3712x1024 .f32) (harg3 : arg3.IsWhole) (arg4 : Memref sig .tc .vmem S1x1x128 .f32) (harg4 : arg4.IsWhole)
    (arg5 : Memref sig .tc .vmem S1x512x512 .f32) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S512x1024 .f32) (harg8 : arg8.IsWhole)
    (arg9 : Memref sig .tc .vmem S512x128 .f32) (harg9 : arg9.IsWhole)
    (x0 : Vec Ideal S512x1024 .f32) (x1 : Vec Ideal S1x1x1024 .f32) (x2 : Vec Ideal S1x3712x1024 .f32) (x3 : Vec Ideal S1x1x128 .f32) (r : Fin 512) (j : Fin 128) :
    out0_A_8 c i arg1 harg1 arg2 harg2 arg3 harg3 arg4 harg4 arg5 harg5 arg6 harg6 arg7 harg7 arg8 harg8 arg9 harg9 x0 x1 x2 x3 (ix2 r j)
      = (if j.val < 8 then inAt (fun k => x0 (ix2 r k)) (fun k => x1 (ix3 0 0 k)) (fun k => x2 (ix3 0 ⟨3584 + j.val, by omega⟩ k)) else 0) + x3 (ix3 0 0 j) := by
  frame_out
  rw [pay3_at]
  pointwise

end Cert.InprojIdeal.Value

end
end
-- ==== Proof.InprojReads.lean ====
/- What the projection's windows hold at a grid point, read back to the arguments, and so what each of its five output
   blocks ends with. Row `r` of the block at point `t` is the token at place `(r % 256) * 32 + t` of batch row `r / 256`. -/
module

public import proofs.«01_k».proof.Proof.InprojBlock

@[expose] public section

set_option maxRecDepth 16384

noncomputable section

namespace Cert.InprojIdeal.Value

open Idealize.ShloMosaic Idealize.ShloMosaic.TcCoe Idealize.SL.Sem
open Cert.InprojIdeal Cert.InprojIdeal.Gen Cert.Spec

variable (m : (ℓ : Loc nD τ sig) → Buf (Elt Ideal) ℓ) (c : Dev nD) (t : Fin cfg0.N)

/-- The batch row of a block's row. -/
def tokB (r : Fin 512) : Fin 2 := ⟨r.val / 256, by omega⟩

/-- The place in the sequence of a block's row. -/
def tokL (t : Fin cfg0.N) (r : Fin 512) : Fin 8192 :=
  ⟨(r.val % 256) * 32 + t.val, by have : t.val < 32 := t.isLt; omega⟩

/-- Column `n` of the product at token `(b, l)`, from the arguments. -/
def tokenAt (b : Fin 2) (l : Fin 8192) (n : Fin 5640) : EReal :=
  inAt (fun k => m ((c : Thread nD τ).loc main_arg0) (ix3 b l k)) (fun k => m ((c : Thread nD τ).loc main_arg1) (ix2 3 k))
    (fun k => m ((c : Thread nD τ).loc main_arg2) (ix3 3 k n))

/-- Every window's block index, in closed form. -/
theorem idx : ∀ t : Fin cfg0.N, win0_0.index t = ![t.val, 0] ∧ win0_1.index t = ![3, 0, 0] ∧ win0_2.index t = ![3, 0, 0]
    ∧ win0_3.index t = ![3, 0, 0] ∧ win0_4.index t = ![t.val, 0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- Row `r` of the block at point `t`, as a row of the whole array. -/
def rowOf (t : Fin cfg0.N) (r : Fin 512) : Fin 16384 := ⟨t.val * 512 + r.val, by have : t.val < 32 := t.isLt; omega⟩

/-- The tokens ordered by their place in a chunk of 32, read at a row. -/
theorem order_at (x : FVec Ideal S2x8192x1024 .f32) (r : Fin 512) (k : Fin 1024) :
    shapeCast S16384x1024 (transpose S32x512x1024 [1, 0, 2] (shapeCast S512x32x1024 x shapeCasts_S2x8192x1024_S512x32x1024)
      transposes_S512x32x1024_S32x512x1024_1_0_2) shapeCasts_S32x512x1024_S16384x1024 (ix2 (rowOf t r) k)
      = x (ix3 (tokB r) (tokL t r) k) := by
  pointwise [rowOf, tokB, tokL]

/-- The bias of the gates, padded to the width of a block. -/
def biasPad : FVec Ideal S4x128 .f32 :=
  pad S4x128 ![0, 0] ![0, 120] ![0, 0] (m ((c : Thread nD τ).loc main_arg3)) (sitofp .f32 (constantI S_ 32 0#32)) pads_S4x8_S4x128_000_01200 h_S_

theorem entry0 : V m c main_v2 = shapeCast S16384x1024 (transpose S32x512x1024 [1, 0, 2]
    (shapeCast S512x32x1024 (m ((c : Thread nD τ).loc main_arg0)) shapeCasts_S2x8192x1024_S512x32x1024)
    transposes_S512x32x1024_S32x512x1024_1_0_2) shapeCasts_S32x512x1024_S16384x1024 := by
  unfold V V0
  simp only [List.flatten_cons, List.flatten_nil, List.append_nil, hostOps0, hostOps0_1, hostOps0_2, List.cons_append, List.nil_append]
  after_results
  try rfl

theorem entry1 : V m c main_v6 = broadcastInDim S4x1x1024 ![0, 2] bcast_S4x1024_S4x1x1024_0_2 (m ((c : Thread nD τ).loc main_arg1)) := by
  unfold V V0
  simp only [List.flatten_cons, List.flatten_nil, List.append_nil, hostOps0, hostOps0_1, hostOps0_2, List.cons_append, List.nil_append]
  after_results
  try rfl

theorem entry2 : V m c main_v5 = transpose S4x5640x1024 [0, 2, 1] (m ((c : Thread nD τ).loc main_arg2)) transposes_S4x1024x5640_S4x5640x1024_0_2_1 := by
  unfold V V0
  simp only [List.flatten_cons, List.flatten_nil, List.append_nil, hostOps0, hostOps0_1, hostOps0_2, List.cons_append, List.nil_append]
  after_results
  try rfl

theorem entry3 : V m c main_v4 = broadcastInDim S4x1x128 ![0, 2] bcast_S4x128_S4x1x128_0_2 (biasPad m c) := by
  unfold V V0
  simp only [List.flatten_cons, List.flatten_nil, List.append_nil, hostOps0, hostOps0_1, hostOps0_2, List.cons_append, List.nil_append]
  after_results
  try rfl

theorem read0 (r : Fin 512) (k : Fin 1024) : iblk m c 0 t (ix2 r k) = m ((c : Thread nD τ).loc main_arg0) (ix3 (tokB r) (tokL t r) k) := by
  have e : iblk m c 0 t (ix2 r k) = V m c main_v2 (ix2 (rowOf t r) k) := by blk_ext [iblk, idx t, rowOf]
  rw [e, entry0]
  exact order_at t _ r k

theorem read1 (k : Fin 1024) : iblk m c 1 t (ix3 0 0 k) = m ((c : Thread nD τ).loc main_arg1) (ix2 3 k) := by
  have e : iblk m c 1 t (ix3 0 0 k) = V m c main_v6 (ix3 (3 : Fin 4) (0 : Fin 1) k) := by blk_ext [iblk, idx t]
  rw [e, entry1]
  pointwise

theorem read2 (n : Fin 3712) (k : Fin 1024) : X0_2 m c t (ix3 0 n k) = m ((c : Thread nD τ).loc main_arg2) (ix3 3 k ⟨n.val, by omega⟩) := by
  have e : X0_2 m c t (ix3 0 n k) = V m c main_v5 (ix3 (3 : Fin 4) (⟨n.val, by omega⟩ : Fin 5640) k) := by
    unfold X0_2 Pipeline.Window.fill
    rw [dif_pos (moved0_2 t (ix3 0 n k))]
    blk_ext [iblk, idx t]
  rw [e, entry2]
  pointwise

theorem read3 (n : Fin 128) : iblk m c 3 t (ix3 0 0 n) = biasPad m c (ix2 3 n) := by
  have e : iblk m c 3 t (ix3 0 0 n) = V m c main_v4 (ix3 (3 : Fin 4) (0 : Fin 1) n) := by blk_ext [iblk, idx t]
  rw [e, entry3]
  generalize biasPad m c = p
  pointwise

/-- The bias at the columns that are not padding. -/
theorem bias_at (n : Fin 8) : biasPad m c (ix2 3 ⟨n.val, by omega⟩) = m ((c : Thread nD τ).loc main_arg3) (ix2 3 n) := by
  pointwise [biasPad]
  refine dif_pos fun a => ?_
  match a with
  | ⟨0, _⟩ => exact ⟨Nat.zero_le _, Nat.mod_one _, (by decide : (3 - 0) / (0 + 1) < 4)⟩
  | ⟨1, _⟩ => exact ⟨Nat.zero_le _, Nat.mod_one _, (Nat.div_one _).trans_lt n.isLt⟩

theorem scan_point (r : Fin 512) (j : Fin 512) : (outsAt0 m c t).1 (ix3 0 j r)
    = tokenAt m c (tokB r) (tokL t r) ⟨0 + j.val, by omega⟩ := by
  unfold outsAt0 tokenAt
  dsimp only
  rw [scan_block]
  simp only [read0, read1, read2, read3]

theorem inner_point (r : Fin 512) (j : Fin 1024) : (outsAt0 m c t).2.1 (ix2 r j)
    = tokenAt m c (tokB r) (tokL t r) ⟨512 + j.val, by omega⟩ := by
  unfold outsAt0 tokenAt
  dsimp only
  rw [inner_block]
  simp only [read0, read1, read2, read3]

theorem value_point (r : Fin 512) (j : Fin 1024) : (outsAt0 m c t).2.2.1 (ix2 r j)
    = tokenAt m c (tokB r) (tokL t r) ⟨1536 + j.val, by omega⟩ := by
  unfold outsAt0 tokenAt
  dsimp only
  rw [value_block]
  simp only [read0, read1, read2, read3]

theorem out_point (r : Fin 512) (j : Fin 1024) : (outsAt0 m c t).2.2.2.1 (ix2 r j)
    = tokenAt m c (tokB r) (tokL t r) ⟨2560 + j.val, by omega⟩ := by
  unfold outsAt0 tokenAt
  dsimp only
  rw [out_block]
  simp only [read0, read1, read2, read3]

theorem gate_point (r : Fin 512) (j : Fin 128) : (outsAt0 m c t).2.2.2.2 (ix2 r j)
    = (if j.val < 8 then tokenAt m c (tokB r) (tokL t r) ⟨3584 + j.val, by omega⟩ else 0) + biasPad m c (ix2 3 j) := by
  unfold outsAt0 tokenAt
  dsimp only
  rw [gate_block]
  simp only [read0, read1, read2, read3]

end Cert.InprojIdeal.Value

end
end
-- ==== Proof.InprojArray.lean ====
/- The projection's five output arrays after the grid, and its five results: the host's reordering of the arrays puts every
   token's row back in its place. -/
module

public import proofs.«01_k».proof.Proof.InprojReads

@[expose] public section

set_option maxRecDepth 16384

noncomputable section

namespace Cert.InprojIdeal.Value

open Idealize.ShloMosaic Idealize.ShloMosaic.TcCoe Idealize.SL.Sem
open Cert.InprojIdeal Cert.InprojIdeal.Gen Cert.Spec

variable (m : (ℓ : Loc nD τ sig) → Buf (Elt Ideal) ℓ) (c : Dev nD) (t : Fin cfg0.N)

/-- The batch row of a row of an array. -/
def rowB (i : Fin 16384) : Fin 2 := tokB ⟨i.val % 512, Nat.mod_lt _ (by decide)⟩

/-- Its place in the sequence. -/
def rowL (i : Fin 16384) : Fin 8192 := tokL (⟨i.val / 512, by have : i.val < 16384 := i.isLt; show i.val / 512 < 32; omega⟩ : Fin cfg0.N) ⟨i.val % 512, Nat.mod_lt _ (by decide)⟩

theorem rowB_of (r : Fin 512) : rowB (rowOf t r) = tokB r := by
  refine congrArg tokB (Fin.ext ?_)
  show (t.val * 512 + r.val) % 512 = r.val
  have := r.isLt
  omega

theorem rowL_of (r : Fin 512) : rowL (rowOf t r) = tokL t r := by
  have := r.isLt
  refine congrArg₂ tokL (Fin.ext ?_) (Fin.ext ?_)
  · show (t.val * 512 + r.val) / 512 = t.val
    omega
  · show (t.val * 512 + r.val) % 512 = r.val
    omega

/-- The row of an array where the token `(b, l)` lies. -/
def rowAt (b : Fin 2) (l : Fin 8192) : Fin 16384 := ⟨l.val % 32 * 512 + (b.val * 256 + l.val / 32), by omega⟩

theorem rowB_at (b : Fin 2) (l : Fin 8192) : rowB (rowAt b l) = b := by
  have hl := l.isLt
  have hb := b.isLt
  have h1 : l.val % 32 < 32 := Nat.mod_lt _ (by decide)
  have h2 : l.val / 32 < 256 := by omega
  refine Fin.ext ?_
  show (l.val % 32 * 512 + (b.val * 256 + l.val / 32)) % 512 / 256 = b.val
  generalize l.val % 32 = r at *
  generalize l.val / 32 = q at *
  have e : r * 512 + (b.val * 256 + q) = 512 * r + (b.val * 256 + q) := by omega
  rw [e, Nat.mul_add_mod]
  omega

theorem rowL_at (b : Fin 2) (l : Fin 8192) : rowL (rowAt b l) = l := by
  have hl := l.isLt
  have hb := b.isLt
  have h1 : l.val % 32 < 32 := Nat.mod_lt _ (by decide)
  have h2 : l.val / 32 < 256 := by omega
  have h3 := Nat.div_add_mod l.val 32
  refine Fin.ext ?_
  show (l.val % 32 * 512 + (b.val * 256 + l.val / 32)) % 512 % 256 * 32 + (l.val % 32 * 512 + (b.val * 256 + l.val / 32)) / 512 = l.val
  generalize l.val % 32 = r at *
  generalize l.val / 32 = q at *
  have e0 : r * 512 + (b.val * 256 + q) = 512 * r + (b.val * 256 + q) := by omega
  have e : (r * 512 + (b.val * 256 + q)) % 512 % 256 = q := by
    rw [e0, Nat.mul_add_mod]
    omega
  have e' : (r * 512 + (b.val * 256 + q)) / 512 = r := by omega
  rw [e, e']
  omega

/-- Slab `i 0` of the first output holds its tokens as columns. -/
def slabAt (i : S32x512x512.Idx) : EReal :=
  tokenAt m c (tokB (i 2)) (tokL (⟨(i 0).val, (i 0).isLt⟩ : Fin cfg0.N) (i 2)) ⟨0 + (i 1).val, by have : (i 1).val < 512 := (i 1).isLt; omega⟩

def innerArray (i : S16384x1024.Idx) : EReal :=
  tokenAt m c (rowB (i 0)) (rowL (i 0)) ⟨512 + (i 1).val, by have : (i 1).val < 1024 := (i 1).isLt; omega⟩

def valueArray (i : S16384x1024.Idx) : EReal :=
  tokenAt m c (rowB (i 0)) (rowL (i 0)) ⟨1536 + (i 1).val, by have : (i 1).val < 1024 := (i 1).isLt; omega⟩

def outArray (i : S16384x1024.Idx) : EReal :=
  tokenAt m c (rowB (i 0)) (rowL (i 0)) ⟨2560 + (i 1).val, by have : (i 1).val < 1024 := (i 1).isLt; omega⟩

/-- One column of the gates' array. -/
def gateCol (b : Fin 2) (l : Fin 8192) (n : Fin 128) : EReal :=
  (if n.val < 8 then tokenAt m c b l ⟨3584 + n.val, by omega⟩ else 0) + biasPad m c (ix2 3 n)

def gateArray (i : S16384x128.Idx) : EReal := gateCol m c (rowB (i 0)) (rowL (i 0)) (i 1)

theorem scan_final : (dats m 0 c).arrAt 4 (cfgs 0).N = slabAt m c := by
  refine (dats m 0 c).arrAt_eq_of_covers 4 _ (by decide +kernel) fun t hf y => ?_
  blk_simp
  rw [after0_4]
  obtain ⟨j, r, rfl⟩ : ∃ (j : Fin 512) (r : Fin 512), y = ix3 (0 : Fin 1) j r := ⟨y 1, y 2, by blk_ext⟩
  rw [scan_point]
  have e : ((cfg0.win 4).blk t).view.emb (ix3 0 j r) = (ix3 (⟨t.val, t.isLt⟩ : Fin 32) j r : S32x512x512.Idx) := by blk_ext [idx t]
  exact (congrArg (slabAt m c) e).symm

theorem inner_final : (dats m 0 c).arrAt 5 (cfgs 0).N = innerArray m c := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, by blk_ext⟩
  rw [inner_point, ← rowB_of t r, ← rowL_of t r]
  have e : ((cfg0.win 5).blk t).view.emb (ix2 r j) = (ix2 (rowOf t r) j : S16384x1024.Idx) := by blk_ext [idx t, rowOf]
  exact (congrArg (innerArray m c) e).symm

theorem value_final : (dats m 0 c).arrAt 6 (cfgs 0).N = valueArray m c := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, by blk_ext⟩
  rw [value_point, ← rowB_of t r, ← rowL_of t r]
  have e : ((cfg0.win 6).blk t).view.emb (ix2 r j) = (ix2 (rowOf t r) j : S16384x1024.Idx) := by blk_ext [idx t, rowOf]
  exact (congrArg (valueArray m c) e).symm

theorem out_final : (dats m 0 c).arrAt 7 (cfgs 0).N = outArray m c := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, by blk_ext⟩
  rw [out_point, ← rowB_of t r, ← rowL_of t r]
  have e : ((cfg0.win 7).blk t).view.emb (ix2 r j) = (ix2 (rowOf t r) j : S16384x1024.Idx) := by blk_ext [idx t, rowOf]
  exact (congrArg (outArray m c) e).symm

theorem gate_final : (dats m 0 c).arrAt 8 (cfgs 0).N = gateArray m c := by
  refine (dats m 0 c).arrAt_eq_of_covers 8 _ (by decide +kernel) fun t hf y => ?_
  blk_simp
  rw [after0_8]
  obtain ⟨r, j, rfl⟩ : ∃ (r : Fin 512) (j : Fin 128), y = ix2 r j := ⟨y 0, y 1, by blk_ext⟩
  rw [gate_point, ← rowB_of t r, ← rowL_of t r]
  have e : ((cfg0.win 8).blk t).view.emb (ix2 r j) = (ix2 (rowOf t r) j : S16384x128.Idx) := by blk_ext [idx t, rowOf]
  exact (congrArg (gateArray m c) e).symm

def scanResult : S2x8192x512.Idx → EReal := fun i => tokenAt m c (i 0) (i 1) ⟨0 + (i 2).val, by have : (i 2).val < 512 := (i 2).isLt; omega⟩

def innerResult : S2x8192x1024.Idx → EReal := fun i => tokenAt m c (i 0) (i 1) ⟨512 + (i 2).val, by have : (i 2).val < 1024 := (i 2).isLt; omega⟩

def valueResult : S2x8192x1024.Idx → EReal := fun i => tokenAt m c (i 0) (i 1) ⟨1536 + (i 2).val, by have : (i 2).val < 1024 := (i 2).isLt; omega⟩

def outResult : S2x8192x1024.Idx → EReal := fun i => tokenAt m c (i 0) (i 1) ⟨2560 + (i 2).val, by have : (i 2).val < 1024 := (i 2).isLt; omega⟩

def gateResult : S2x8192x8.Idx → EReal := fun i =>
  tokenAt m c (i 0) (i 1) ⟨3584 + (i 2).val, by have : (i 2).val < 8 := (i 2).isLt; omega⟩ + m ((c : Thread nD τ).loc main_arg3) (ix2 3 (i 2))

/-- The host's reordering of an array, read at a token. -/
theorem back_at (x : FVec Ideal S16384x1024 .f32) (b : Fin 2) (l : Fin 8192) (j : Fin 1024) :
    shapeCast S2x8192x1024 (transpose S512x32x1024 [1, 0, 2] (shapeCast S32x512x1024 x shapeCasts_S16384x1024_S32x512x1024)
      transposes_S32x512x1024_S512x32x1024_1_0_2) shapeCasts_S512x32x1024_S2x8192x1024 (ix3 b l j) = x (ix2 (rowAt b l) j) := by
  pointwise [rowAt]

theorem gate_back_at (x : FVec Ideal S16384x128 .f32) (b : Fin 2) (l : Fin 8192) (j : Fin 8) :
    extractStridedSlice S2x8192x8 ![0, 0, 0] (shapeCast S2x8192x128 (transpose S512x32x128 [1, 0, 2] (shapeCast S32x512x128 x shapeCasts_S16384x128_S32x512x128)
      transposes_S32x512x128_S512x32x128_1_0_2) shapeCasts_S512x32x128_S2x8192x128) slices_S2x8192x128_S2x8192x8_0_0_0 (ix3 b l j)
      = x (ix2 (rowAt b l) ⟨j.val, by omega⟩) := by
  pointwise [rowAt]

theorem scan_back_at (x : FVec Ideal S32x512x512 .f32) (b : Fin 2) (l : Fin 8192) (j : Fin 512) :
    shapeCast S2x8192x512 (transpose S512x32x512 [2, 0, 1] x transposes_S32x512x512_S512x32x512_2_0_1) shapeCasts_S512x32x512_S2x8192x512 (ix3 b l j)
      = x (ix3 (⟨l.val % 32, Nat.mod_lt _ (by decide)⟩ : Fin 32) j (⟨b.val * 256 + l.val / 32, by omega⟩ : Fin 512)) := by
  pointwise

theorem inner_back : shapeCast S2x8192x1024 (transpose S512x32x1024 [1, 0, 2] (shapeCast S32x512x1024 (innerArray m c : FVec Ideal S16384x1024 .f32) shapeCasts_S16384x1024_S32x512x1024)
      transposes_S32x512x1024_S512x32x1024_1_0_2) shapeCasts_S512x32x1024_S2x8192x1024 = innerResult m c := by
  funext i
  obtain ⟨b, l, j, rfl⟩ : ∃ (b : Fin 2) (l : Fin 8192) (j : Fin 1024), i = ix3 b l j := ⟨i 0, i 1, i 2, by blk_ext⟩
  rw [back_at]
  show tokenAt m c (rowB (rowAt b l)) (rowL (rowAt b l)) _ = tokenAt m c b l _
  rw [rowB_at, rowL_at]
  rfl

theorem value_back : shapeCast S2x8192x1024 (transpose S512x32x1024 [1, 0, 2] (shapeCast S32x512x1024 (valueArray m c : FVec Ideal S16384x1024 .f32) shapeCasts_S16384x1024_S32x512x1024)
      transposes_S32x512x1024_S512x32x1024_1_0_2) shapeCasts_S512x32x1024_S2x8192x1024 = valueResult m c := by
  funext i
  obtain ⟨b, l, j, rfl⟩ : ∃ (b : Fin 2) (l : Fin 8192) (j : Fin 1024), i = ix3 b l j := ⟨i 0, i 1, i 2, by blk_ext⟩
  rw [back_at]
  show tokenAt m c (rowB (rowAt b l)) (rowL (rowAt b l)) _ = tokenAt m c b l _
  rw [rowB_at, rowL_at]
  rfl

theorem out_back : shapeCast S2x8192x1024 (transpose S512x32x1024 [1, 0, 2] (shapeCast S32x512x1024 (outArray m c : FVec Ideal S16384x1024 .f32) shapeCasts_S16384x1024_S32x512x1024)
      transposes_S32x512x1024_S512x32x1024_1_0_2) shapeCasts_S512x32x1024_S2x8192x1024 = outResult m c := by
  funext i
  obtain ⟨b, l, j, rfl⟩ : ∃ (b : Fin 2) (l : Fin 8192) (j : Fin 1024), i = ix3 b l j := ⟨i 0, i 1, i 2, by blk_ext⟩
  rw [back_at]
  show tokenAt m c (rowB (rowAt b l)) (rowL (rowAt b l)) _ = tokenAt m c b l _
  rw [rowB_at, rowL_at]
  rfl

theorem scan_back : shapeCast S2x8192x512 (transpose S512x32x512 [2, 0, 1] (slabAt m c : FVec Ideal S32x512x512 .f32) transposes_S32x512x512_S512x32x512_2_0_1) shapeCasts_S512x32x512_S2x8192x512
    = scanResult m c := by
  funext i
  obtain ⟨b, l, j, rfl⟩ : ∃ (b : Fin 2) (l : Fin 8192) (j : Fin 512), i = ix3 b l j := ⟨i 0, i 1, i 2, by blk_ext⟩
  rw [scan_back_at]
  have hl := l.isLt
  have hb := b.isLt
  have h1 : l.val % 32 < 32 := Nat.mod_lt _ (by decide)
  have h2 : l.val / 32 < 256 := by omega
  have h3 := Nat.div_add_mod l.val 32
  have eB : tokB (⟨b.val * 256 + l.val / 32, by omega⟩ : Fin 512) = b := Fin.ext (by
    show (b.val * 256 + l.val / 32) / 256 = b.val
    generalize l.val / 32 = q at *
    omega)
  have eL : tokL (⟨l.val % 32, h1⟩ : Fin cfg0.N) (⟨b.val * 256 + l.val / 32, by omega⟩ : Fin 512) = l := Fin.ext (by
    show (b.val * 256 + l.val / 32) % 256 * 32 + l.val % 32 = l.val
    have e : (b.val * 256 + l.val / 32) % 256 = l.val / 32 := by
      clear eB
      generalize l.val / 32 = q at *
      omega
    rw [e]
    omega)
  show tokenAt m c (tokB (⟨b.val * 256 + l.val / 32, by omega⟩ : Fin 512)) (tokL (⟨l.val % 32, h1⟩ : Fin cfg0.N) (⟨b.val * 256 + l.val / 32, by omega⟩ : Fin 512)) _ = tokenAt m c b l _
  rw [eB, eL]
  rfl

theorem gate_back : extractStridedSlice S2x8192x8 ![0, 0, 0] (shapeCast S2x8192x128 (transpose S512x32x128 [1, 0, 2] (shapeCast S32x512x128 (gateArray m c : FVec Ideal S16384x128 .f32) shapeCasts_S16384x128_S32x512x128)
      transposes_S32x512x128_S512x32x128_1_0_2) shapeCasts_S512x32x128_S2x8192x128) slices_S2x8192x128_S2x8192x8_0_0_0 = gateResult m c := by
  funext i
  obtain ⟨b, l, j, rfl⟩ : ∃ (b : Fin 2) (l : Fin 8192) (j : Fin 8), i = ix3 b l j := ⟨i 0, i 1, i 2, by blk_ext⟩
  rw [gate_back_at]
  show gateCol m c (rowB (rowAt b l)) (rowL (rowAt b l)) ⟨j.val, _⟩ = _
  rw [rowB_at, rowL_at]
  unfold gateCol
  rw [bias_at, if_pos (show j.val < 8 from j.isLt)]
  rfl

theorem scan_tail : Pipeline.afterTail₀ cfgs (dats m) 0 (V0 m) [hostOps1] c main_v9 = scanResult m c := by
  unfold Pipeline.afterTail₀
  simp only [List.flatten_cons, List.flatten_nil, List.append_nil, hostOps1]
  after_results
  have e := (Pipeline.withArrays_arr spec0 (by decide) c (V0 m c) (fun w => (dats m 0 c).arrAt w (cfgs 0).N) 4).trans (scan_final m c)
  refine Eq.trans ?_ (scan_back m c)
  rw [← e]
  rfl

theorem inner_tail : Pipeline.afterTail₀ cfgs (dats m) 0 (V0 m) [hostOps1] c main_v12 = innerResult m c := by
  unfold Pipeline.afterTail₀
  simp only [List.flatten_cons, List.flatten_nil, List.append_nil, hostOps1]
  after_results
  have e := (Pipeline.withArrays_arr spec0 (by decide) c (V0 m c) (fun w => (dats m 0 c).arrAt w (cfgs 0).N) 5).trans (inner_final m c)
  refine Eq.trans ?_ (inner_back m c)
  rw [← e]
  rfl

theorem value_tail : Pipeline.afterTail₀ cfgs (dats m) 0 (V0 m) [hostOps1] c main_v15 = valueResult m c := by
  unfold Pipeline.afterTail₀
  simp only [List.flatten_cons, List.flatten_nil, List.append_nil, hostOps1]
  after_results
  have e := (Pipeline.withArrays_arr spec0 (by decide) c (V0 m c) (fun w => (dats m 0 c).arrAt w (cfgs 0).N) 6).trans (value_final m c)
  refine Eq.trans ?_ (value_back m c)
  rw [← e]
  rfl

theorem out_tail : Pipeline.afterTail₀ cfgs (dats m) 0 (V0 m) [hostOps1] c main_v18 = outResult m c := by
  unfold Pipeline.afterTail₀
  simp only [List.flatten_cons, List.flatten_nil, List.append_nil, hostOps1]
  after_results
  have e := (Pipeline.withArrays_arr spec0 (by decide) c (V0 m c) (fun w => (dats m 0 c).arrAt w (cfgs 0).N) 7).trans (out_final m c)
  refine Eq.trans ?_ (out_back m c)
  rw [← e]
  rfl

theorem gate_tail : Pipeline.afterTail₀ cfgs (dats m) 0 (V0 m) [hostOps1] c main_v22 = gateResult m c := by
  unfold Pipeline.afterTail₀
  simp only [List.flatten_cons, List.flatten_nil, List.append_nil, hostOps1]
  after_results
  have e := (Pipeline.withArrays_arr spec0 (by decide) c (V0 m c) (fun w => (dats m 0 c).arrAt w (cfgs 0).N) 8).trans (gate_final m c)
  refine Eq.trans ?_ (gate_back m c)
  rw [← e]
  rfl

variable (ρ : Dev nD → PrngReg)

/-- The run: the five result buffers end at the ranges of columns of the product. -/
theorem run : θ_run defs (onTc (τ := τ) (main (F := Ideal))) ⟨m, fun _ => 0, ρ⟩ (fun r => ∀ c : Dev nD,
    r.2.mem ((c.tc : Thread nD τ).loc main_v9) = scanResult m c ∧ r.2.mem ((c.tc : Thread nD τ).loc main_v12) = innerResult m c
      ∧ r.2.mem ((c.tc : Thread nD τ).loc main_v15) = valueResult m c ∧ r.2.mem ((c.tc : Thread nD τ).loc main_v18) = outResult m c
      ∧ r.2.mem ((c.tc : Thread nD τ).loc main_v22) = gateResult m c) :=
  θ_run_mono (run_main m ρ) fun r h c =>
    ⟨((h c).2 main_v9 (by decide)).trans (scan_tail m c), ((h c).2 main_v12 (by decide)).trans (inner_tail m c),
      ((h c).2 main_v15 (by decide)).trans (value_tail m c), ((h c).2 main_v18 (by decide)).trans (out_tail m c),
      ((h c).2 main_v22 (by decide)).trans (gate_tail m c)⟩

end Cert.InprojIdeal.Value

end
end
-- ==== Proof.InprojRef.lean ====
/- The projection's reference, read at one token: each result is a range of columns of one product. -/
module

public import proofs.«01_k».proof.Proof.InprojSpec
public import proofs.«01_k».proof.Proof.Gen.InprojRefIdeal.Read
public import Idealize.ShloMosaic.Lib.Pipeline.ValueKit
public import Idealize.ShloMosaic.Lib.Pointwise

@[expose] public section

set_option maxRecDepth 16384

noncomputable section

namespace Cert.InprojRefIdeal.Value

open Idealize.ShloMosaic Idealize.ShloMosaic.TcCoe Idealize.SL.Sem
open Cert.InprojRefIdeal Cert.InprojRefIdeal.Gen Cert.InprojRefIdeal.Read Cert.Spec

variable (x0 : FVec Ideal S2x8192x1024 .f32) (x1 : FVec Ideal S4x1024 .f32) (x2 : FVec Ideal S4x1024x5640 .f32)
  (x3 : FVec Ideal S4x8 .f32) (b : Fin 2) (l : Fin 8192)

/-- The normed row. -/
theorem norm_at (k : Fin 1024) :
    val_main_v14 (F := Ideal) x0 x1 (ix3 b l k) = rmsAt (fun i => x0 (ix3 b l i)) (fun i => x1 (ix2 3 i)) k := by
  unfold rmsAt
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The product, every column. -/
theorem proj_at (n : Fin 5640) :
    val_main_v17 (F := Ideal) x0 x1 x2 (ix3 b l n) = inAt (fun i => x0 (ix3 b l i)) (fun i => x1 (ix2 3 i)) (fun k => x2 (ix3 3 k n)) := by
  unfold inAt
  pointwise [val_main_v17, val_main_v16, val_main_v15]
  simp only [norm_at]

theorem scan_at (j : Fin 512) : val_main_v18 (F := Ideal) x0 x1 x2 (ix3 b l j)
    = inAt (fun i => x0 (ix3 b l i)) (fun i => x1 (ix2 3 i)) (fun k => x2 (ix3 3 k ⟨0 + j.val, by omega⟩)) := by
  refine Eq.trans ?_ (proj_at x0 x1 x2 b l ⟨0 + j.val, by omega⟩)
  pointwise [val_main_v18]

theorem inner_at (j : Fin 1024) : val_main_v19 (F := Ideal) x0 x1 x2 (ix3 b l j)
    = inAt (fun i => x0 (ix3 b l i)) (fun i => x1 (ix2 3 i)) (fun k => x2 (ix3 3 k ⟨512 + j.val, by omega⟩)) := by
  refine Eq.trans ?_ (proj_at x0 x1 x2 b l ⟨512 + j.val, by omega⟩)
  pointwise [val_main_v19]

theorem value_at (j : Fin 1024) : val_main_v20 (F := Ideal) x0 x1 x2 (ix3 b l j)
    = inAt (fun i => x0 (ix3 b l i)) (fun i => x1 (ix2 3 i)) (fun k => x2 (ix3 3 k ⟨1536 + j.val, by omega⟩)) := by
  refine Eq.trans ?_ (proj_at x0 x1 x2 b l ⟨1536 + j.val, by omega⟩)
  pointwise [val_main_v20]

theorem out_at (j : Fin 1024) : val_main_v21 (F := Ideal) x0 x1 x2 (ix3 b l j)
    = inAt (fun i => x0 (ix3 b l i)) (fun i => x1 (ix2 3 i)) (fun k => x2 (ix3 3 k ⟨2560 + j.val, by omega⟩)) := by
  refine Eq.trans ?_ (proj_at x0 x1 x2 b l ⟨2560 + j.val, by omega⟩)
  pointwise [val_main_v21]

theorem gate_at (j : Fin 8) : val_main_v27 (F := Ideal) x0 x1 x2 x3 (ix3 b l j)
    = inAt (fun i => x0 (ix3 b l i)) (fun i => x1 (ix2 3 i)) (fun k => x2 (ix3 3 k ⟨3584 + j.val, by omega⟩)) + x3 (ix2 3 j) := by
  rw [← proj_at x0 x1 x2 b l ⟨3584 + j.val, by omega⟩]
  pointwise [val_main_v27, val_main_v22, val_main_v26, val_main_v25, val_main_v24, val_main_v23]

end Cert.InprojRefIdeal.Value

end
end
-- ==== Proof.InprojEq.lean ====
/- The projection's reference and its kernel give the same five results from the same arguments. -/
module

public import proofs.«01_k».proof.Proof.InprojArray
public import proofs.«01_k».proof.Proof.InprojRef

@[expose] public section

set_option maxRecDepth 16384

noncomputable section

namespace Cert.InprojEq

open Idealize.ShloMosaic Idealize.ShloMosaic.TcCoe Idealize.SL.Sem

variable (m : (ℓ : Loc Cert.InprojIdeal.nD Cert.InprojIdeal.τ Cert.InprojIdeal.sig) → Buf (Elt Ideal) ℓ)
  (m' : (ℓ : Loc Cert.InprojRefIdeal.nD Cert.InprojRefIdeal.τ Cert.InprojRefIdeal.sig) → Buf (Elt Ideal) ℓ) (c : Dev Cert.InprojIdeal.nD)

/-- The scan's columns. -/
theorem scan_eq
    (h0 : m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0))
    (h1 : m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1))
    (h2 : m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) :
    Cert.InprojRefIdeal.Read.val_main_v18 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = Cert.InprojIdeal.Value.scanResult m c := by
  funext i
  obtain ⟨b, l, j, rfl⟩ : ∃ (b : Fin 2) (l : Fin 8192) (j : Fin 512), i = ix3 b l j := ⟨i 0, i 1, i 2, by blk_ext⟩
  refine (Cert.InprojRefIdeal.Value.scan_at _ _ _ b l j).trans ?_
  rw [h0, h1, h2]
  rfl

/-- The inner branch's columns. -/
theorem inner_eq
    (h0 : m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0))
    (h1 : m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1))
    (h2 : m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) :
    Cert.InprojRefIdeal.Read.val_main_v19 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = Cert.InprojIdeal.Value.innerResult m c := by
  funext i
  obtain ⟨b, l, j, rfl⟩ : ∃ (b : Fin 2) (l : Fin 8192) (j : Fin 1024), i = ix3 b l j := ⟨i 0, i 1, i 2, by blk_ext⟩
  refine (Cert.InprojRefIdeal.Value.inner_at _ _ _ b l j).trans ?_
  rw [h0, h1, h2]
  rfl

/-- The values' columns. -/
theorem value_eq
    (h0 : m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0))
    (h1 : m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1))
    (h2 : m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) :
    Cert.InprojRefIdeal.Read.val_main_v20 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = Cert.InprojIdeal.Value.valueResult m c := by
  funext i
  obtain ⟨b, l, j, rfl⟩ : ∃ (b : Fin 2) (l : Fin 8192) (j : Fin 1024), i = ix3 b l j := ⟨i 0, i 1, i 2, by blk_ext⟩
  refine (Cert.InprojRefIdeal.Value.value_at _ _ _ b l j).trans ?_
  rw [h0, h1, h2]
  rfl

/-- The output gate's columns. -/
theorem out_eq
    (h0 : m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0))
    (h1 : m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1))
    (h2 : m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) :
    Cert.InprojRefIdeal.Read.val_main_v21 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = Cert.InprojIdeal.Value.outResult m c := by
  funext i
  obtain ⟨b, l, j, rfl⟩ : ∃ (b : Fin 2) (l : Fin 8192) (j : Fin 1024), i = ix3 b l j := ⟨i 0, i 1, i 2, by blk_ext⟩
  refine (Cert.InprojRefIdeal.Value.out_at _ _ _ b l j).trans ?_
  rw [h0, h1, h2]
  rfl

/-- The gates' columns. -/
theorem gate_eq
    (h0 : m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0))
    (h1 : m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1))
    (h2 : m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2))
    (h3 : m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) :
    Cert.InprojRefIdeal.Read.val_main_v27 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) = Cert.InprojIdeal.Value.gateResult m c := by
  funext i
  obtain ⟨b, l, j, rfl⟩ : ∃ (b : Fin 2) (l : Fin 8192) (j : Fin 8), i = ix3 b l j := ⟨i 0, i 1, i 2, by blk_ext⟩
  refine (Cert.InprojRefIdeal.Value.gate_at _ _ _ _ b l j).trans ?_
  rw [h0, h1, h2, h3]
  rfl

end Cert.InprojEq

end
end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstRefIdeal
public import proofs.«01_k».proof.Proof.Gen.FirstRefIdeal.Run
public import proofs.«01_k».proof.Proof.Gen.FirstRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastRefIdeal
public import proofs.«01_k».proof.Proof.Gen.LastRefIdeal.Run
public import proofs.«01_k».proof.Proof.Gen.LastRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import Idealize.ShloMosaic.Adequacy
public import Idealize.ShloMosaic.Init
public import proofs.«01_k».proof.Proof.MergeEq
public import proofs.«01_k».proof.Proof.FfnEq
public import proofs.«01_k».proof.Proof.FirstSame
public import proofs.«01_k».proof.Proof.FirstEq
public import proofs.«01_k».proof.Proof.LastBody
public import proofs.«01_k».proof.Proof.LastEq
public import proofs.«01_k».proof.Proof.InprojEq

@[expose] public section

noncomputable section

namespace Cert.Proof

open Idealize.ShloMosaic Idealize.SL.Sem

/-- The merge: over the extended reals the kernel's result is the reference's. -/
theorem merge_algebraic [Cert.MergeIdeal.Facts] [Cert.MergeRefIdeal.Facts] : Cert.algebraic_MergeIdeal_MergeRefIdeal := by
  intro m g m' g' _ hag
  refine ⟨fun c => Cert.MergeIdeal.Value.resultAt m c, ?_, ?_⟩
  · exact θ_run_mono (θ_run_and (Cert.MergeIdeal.Value.run m g) (Cert.MergeIdeal.Gen.unchanged m g)) fun r h c => ⟨h.1 c, h.2 c⟩
  · refine θ_run_mono (Cert.MergeRefIdeal.Value.run m' g') fun r h c => ⟨(h c).1.trans ?_, (h c).2⟩
    obtain ⟨h0, h1, h2, h3, h4, h5, h6, h7, h8, h9, h10, h11⟩ := hag c
    exact Cert.MergeEq.result_eq m m' c h0 h1 h2 h3 h4 h5 h6 h7 h8 h9 h10 h11

/-- The merge's reference, which holds no semaphore, ends with its arguments unchanged. -/
theorem merge_reference_frame [Cert.MergeRefIdeal.Facts] : Cert.quiescent_MergeRefIdeal := by
  intro m g _
  refine θ_run_mono (Cert.MergeRefIdeal.Value.run m g) fun r h => ⟨fun c => (h c).2, ?_⟩
  funext s
  obtain ⟨p, x⟩ := s
  cases x with
  | reg s => exact nomatch s
  | dma s => exact nomatch s

/-- The feed-forward half step: over the extended reals the kernel's result is the reference's. -/
theorem ffn_algebraic [Cert.FfnIdeal.Facts] [Cert.FfnRefIdeal.Facts] : Cert.algebraic_FfnIdeal_FfnRefIdeal := by
  intro m g m' g' _ hag
  refine ⟨fun c => Cert.FfnIdeal.Value.resultAt m c, ?_, ?_⟩
  · exact θ_run_mono (θ_run_and (Cert.FfnIdeal.Value.run m g) (Cert.FfnIdeal.Gen.unchanged m g)) fun r h c => ⟨h.1 c, h.2 c⟩
  · refine θ_run_mono (Cert.FfnRefIdeal.Value.run m' g') fun r h c => ⟨(h c).1.trans ?_, (h c).2⟩
    obtain ⟨h0, h1, h2, h3, h4, _⟩ := hag c
    exact (Cert.FfnRefIdeal.Read.val_main_v28_eq _ _ _ _ _).trans (Cert.FfnEq.result_eq m m' c h0 h1 h2 h3 h4)

/-- The half step's reference, which holds no semaphore, ends with its arguments unchanged. -/
theorem ffn_reference_frame [Cert.FfnRefIdeal.Facts] : Cert.quiescent_FfnRefIdeal := by
  intro m g _
  refine θ_run_mono (Cert.FfnRefIdeal.Value.run m g) fun r h => ⟨fun c => (h c).2, ?_⟩
  funext s
  obtain ⟨p, x⟩ := s
  cases x with
  | reg s => exact nomatch s
  | dma s => exact nomatch s

/-- The first half step: over the extended reals the kernel's result is the reference's. -/
theorem first_algebraic [Cert.FirstIdeal.Facts] [Cert.FirstRefIdeal.Facts] : Cert.algebraic_FirstIdeal_FirstRefIdeal := by
  intro m g m' g' _ hag
  refine ⟨fun c => Cert.FirstIdeal.Value.resultAt m c, ?_, ?_⟩
  · exact θ_run_mono (θ_run_and (Cert.FirstIdeal.Value.run m g) (Cert.FirstIdeal.Rd.frame_args m g)) fun r h c => ⟨h.1 c, h.2.1 c⟩
  · refine θ_run_mono (Cert.FirstRefIdeal.Value.run m' g') fun r h c => ⟨(h c).1.trans ?_, (h c).2⟩
    obtain ⟨h0, h1, h2, h3, h4, _⟩ := hag c
    exact (Cert.FirstRefIdeal.Read.val_main_v28_eq _ _ _ _ _).trans (Cert.FirstEq.result_eq m m' c h0 h1 h2 h3 h4)

/-- The first half step's reference, which holds no semaphore, ends with its arguments unchanged. -/
theorem first_reference_frame [Cert.FirstRefIdeal.Facts] : Cert.quiescent_FirstRefIdeal := by
  intro m g _
  refine θ_run_mono (Cert.FirstRefIdeal.Value.run m g) fun r h => ⟨fun c => (h c).2, ?_⟩
  funext s
  obtain ⟨p, x⟩ := s
  cases x with
  | reg s => exact nomatch s
  | dma s => exact nomatch s

/-- The last half step and the last norm: over the extended reals the kernel's result is the reference's. -/
theorem last_algebraic [Cert.LastIdeal.Facts] [Cert.LastRefIdeal.Facts] : Cert.algebraic_LastIdeal_LastRefIdeal := by
  intro m g m' g' _ hag
  refine ⟨fun c => Cert.LastIdeal.Value.resultAt m c, ?_, ?_⟩
  · exact θ_run_mono (θ_run_and (Cert.LastIdeal.Value.run m g) (Cert.LastIdeal.Wb.frame_args m g)) fun r h c => ⟨h.1 c, h.2.1 c⟩
  · refine θ_run_mono (Cert.LastRefIdeal.Value.run m' g') fun r h c => ⟨(h c).1.trans ?_, (h c).2⟩
    obtain ⟨h0, h1, h2, h3, h4, h5⟩ := hag c
    exact (Cert.LastRefIdeal.Read.val_main_v41_eq _ _).trans (Cert.LastEq.result_eq m m' c h0 h1 h2 h3 h4 h5)

/-- Its reference, which holds no semaphore, ends with its arguments unchanged. -/
theorem last_reference_frame [Cert.LastRefIdeal.Facts] : Cert.quiescent_LastRefIdeal := by
  intro m g _
  refine θ_run_mono (Cert.LastRefIdeal.Value.run m g) fun r h => ⟨fun c => (h c).2, ?_⟩
  funext s
  obtain ⟨p, x⟩ := s
  cases x with
  | reg s => exact nomatch s
  | dma s => exact nomatch s

/-- The projection: over the extended reals the kernel's five results are the reference's. -/
theorem inproj_algebraic [Cert.InprojIdeal.Facts] [Cert.InprojRefIdeal.Facts] : Cert.algebraic_InprojIdeal_InprojRefIdeal := by
  intro m g m' g' _ hag
  refine ⟨fun c => Cert.InprojIdeal.Value.scanResult m c, fun c => Cert.InprojIdeal.Value.innerResult m c,
    fun c => Cert.InprojIdeal.Value.valueResult m c, fun c => Cert.InprojIdeal.Value.outResult m c,
    fun c => Cert.InprojIdeal.Value.gateResult m c, ?_, ?_⟩
  · exact θ_run_mono (θ_run_and (Cert.InprojIdeal.Value.run m g) (Cert.InprojIdeal.Gen.unchanged m g)) fun r h c =>
      ⟨(h.1 c).1, (h.1 c).2.1, (h.1 c).2.2.1, (h.1 c).2.2.2.1, (h.1 c).2.2.2.2, h.2 c⟩
  · refine θ_run_mono (Cert.InprojRefIdeal.Value.run m' g') fun r h c => ?_
    obtain ⟨h0, h1, h2, h3⟩ := hag c
    obtain ⟨r0, r1, r2, r3, r4, hr⟩ := h c
    exact ⟨r0.trans ((Cert.InprojRefIdeal.Read.val_main_v18_eq _ _ _).trans (Cert.InprojEq.scan_eq m m' c h0 h1 h2)),
      r1.trans ((Cert.InprojRefIdeal.Read.val_main_v19_eq _ _ _).trans (Cert.InprojEq.inner_eq m m' c h0 h1 h2)),
      r2.trans ((Cert.InprojRefIdeal.Read.val_main_v20_eq _ _ _).trans (Cert.InprojEq.value_eq m m' c h0 h1 h2)),
      r3.trans ((Cert.InprojRefIdeal.Read.val_main_v21_eq _ _ _).trans (Cert.InprojEq.out_eq m m' c h0 h1 h2)),
      r4.trans ((Cert.InprojRefIdeal.Read.val_main_v27_eq _ _ _ _).trans (Cert.InprojEq.gate_eq m m' c h0 h1 h2 h3)), hr⟩

/-- The projection's reference, which holds no semaphore, ends with its arguments unchanged. -/
theorem inproj_reference_frame [Cert.InprojRefIdeal.Facts] : Cert.quiescent_InprojRefIdeal := by
  intro m g _
  refine θ_run_mono (Cert.InprojRefIdeal.Value.run m g) fun r h => ⟨fun c => (h c).2.2.2.2.2, ?_⟩
  funext s
  obtain ⟨p, x⟩ := s
  cases x with
  | reg s => exact nomatch s
  | dma s => exact nomatch s

theorem claim : Cert.Claim := ⟨Cert.Merge.Gen.facts, Cert.MergeIdeal.Gen.facts, Cert.MergeRefIdeal.Gen.facts, Cert.Ffn.Gen.facts, Cert.FfnIdeal.Gen.facts, Cert.FfnRefIdeal.Gen.facts, Cert.First.Gen.facts, Cert.FirstIdeal.Gen.facts, Cert.FirstRefIdeal.Gen.facts, Cert.Last.Gen.facts, Cert.LastIdeal.Gen.facts, Cert.LastRefIdeal.Gen.facts, Cert.Inproj.Gen.facts, Cert.InprojIdeal.Gen.facts, Cert.InprojRefIdeal.Gen.facts,
  fun m g _ => Cert.Merge.Gen.frame m g, fun m g _ => Cert.MergeIdeal.Gen.frame m g, merge_reference_frame,
  fun m g _ => Cert.Ffn.Gen.frame m g, fun m g _ => Cert.FfnIdeal.Gen.frame m g, ffn_reference_frame,
  Cert.First.Same.frame_args, fun m g _ => Cert.FirstIdeal.Rd.frame_args m g, first_reference_frame,
  fun m g _ => Cert.Last.Wb.frame_args m g, fun m g _ => Cert.LastIdeal.Wb.frame_args m g, last_reference_frame,
  fun m g _ => Cert.Inproj.Gen.frame m g, fun m g _ => Cert.InprojIdeal.Gen.frame m g, inproj_reference_frame,
  trivial, merge_algebraic, trivial, ffn_algebraic, trivial, first_algebraic, trivial, last_algebraic, trivial, inproj_algebraic⟩

end Cert.Proof

end
end
